-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_finite [hPre_finite : Cert.Pre_finite.Facts] (m : (ℓ : Loc Cert.SsdIdeal.nD Cert.SsdIdeal.τ Cert.SsdIdeal.sig) → Buf (Elt Ideal) ℓ) : Prop :=
  ∀ c : Dev Cert.SsdIdeal.nD,
    (Cert.Pre_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6)) (m ((c.tc : Thread Cert.SsdIdeal.nD Cert.SsdIdeal.τ).loc Cert.SsdIdeal.main_arg7))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_finite [hPre_finite : Cert.Pre_finite.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6)) (m ((c.tc : Thread Cert.SsdRefIdeal.nD Cert.SsdRefIdeal.τ).loc Cert.SsdRefIdeal.main_arg7))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_gains [hPre_gains : Cert.Pre_gains.Facts] (m : (ℓ : Loc Cert.PrepIdeal.nD Cert.PrepIdeal.τ Cert.PrepIdeal.sig) → Buf (Elt Ideal) ℓ) : Prop :=
  ∀ c : Dev Cert.PrepIdeal.nD,
    (Cert.Pre_gains.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_gains [hPre_gains : Cert.Pre_gains.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_gains.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2))) = (fun _ => 1#1)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ r.2.sem = fun _ => 0)

def quiescent_SsdIdeal_pre_finite [hSsdIdeal : Cert.SsdIdeal.Facts] [hPre_finite : Cert.Pre_finite.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_finite m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7))
      ∧ r.2.sem = fun _ => 0)

def quiescent_SsdRefIdeal_pre_finite [hSsdRefIdeal : Cert.SsdRefIdeal.Facts] [hPre_finite : Cert.Pre_finite.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_finite m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepIdeal_pre_gains [hPrepIdeal : Cert.PrepIdeal.Facts] [hPre_gains : Cert.Pre_gains.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_gains m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def quiescent_PrepRefIdeal_pre_gains [hPrepRefIdeal : Cert.PrepRefIdeal.Facts] [hPre_gains : Cert.Pre_gains.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_gains m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def preserves_Ssd_SsdIdeal : Prop :=
  IdealRules.named_const.Statement Cert.SsdIdeal.κ "neg_log2e" .f32 0xBFB8AA3B#32 ((-((Real.log 2)⁻¹) : ℝ) : EReal)
  ∧ IdealRules.named_const.Statement Cert.SsdIdeal.κ "log2e" .f32 0x3FB8AA3B#32 (((Real.log 2)⁻¹ : ℝ) : EReal)
  ∧ IdealRules.named_const.Statement Cert.SsdIdeal.κ "mask" .f32 0xF149F2CA#32 ⊥

def algebraic_SsdIdeal_SsdRefIdeal_pre_finite [hSsdIdeal : Cert.SsdIdeal.Facts] [hSsdRefIdeal : Cert.SsdRefIdeal.Facts] [hPre_finite : Cert.Pre_finite.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_finite m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)) →
    ∃ (v0 : (c : Dev Cert.SsdIdeal.nD) → Buf (Elt Ideal) ((c.tc : Thread Cert.SsdIdeal.nD Cert.SsdIdeal.τ).loc Cert.SsdIdeal.main_v41)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v41) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v115) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v9_0)) (v1 : (c : Dev Cert.InProjIdeal.nD) → Buf (Elt Ideal) ((c.tc : Thread Cert.InProjIdeal.nD Cert.InProjIdeal.τ).loc Cert.InProjIdeal.main_v9_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9_0) = v0 c
          ∧ r.2.mem ((c.tc : Thread Cert.InProjIdeal.nD Cert.InProjIdeal.τ).loc Cert.InProjIdeal.main_v9_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v21) = v0 c
          ∧ r.2.mem ((c.tc : Thread Cert.InProjRefIdeal.nD Cert.InProjRefIdeal.τ).loc Cert.InProjRefIdeal.main_v23) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)) →
    ∃ (v0 : (c : Dev Cert.TailIdeal.nD) → Buf (Elt Ideal) ((c.tc : Thread Cert.TailIdeal.nD Cert.TailIdeal.τ).loc Cert.TailIdeal.main_v13)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v13) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v71) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13))

def preserves_Prep_PrepIdeal : Prop :=
  True

def algebraic_PrepIdeal_PrepRefIdeal_pre_gains [hPrepIdeal : Cert.PrepIdeal.Facts] [hPrepRefIdeal : Cert.PrepRefIdeal.Facts] [hPre_gains : Cert.Pre_gains.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_gains m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v8_0)) (v1 : (c : Dev Cert.PrepIdeal.nD) → Buf (Elt Ideal) ((c.tc : Thread Cert.PrepIdeal.nD Cert.PrepIdeal.τ).loc Cert.PrepIdeal.main_v8_1)) (v2 : (c : Dev Cert.PrepIdeal.nD) → Buf (Elt Ideal) ((c.tc : Thread Cert.PrepIdeal.nD Cert.PrepIdeal.τ).loc Cert.PrepIdeal.main_v8_2)) (v3 : (c : Dev Cert.PrepIdeal.nD) → Buf (Elt Ideal) ((c.tc : Thread Cert.PrepIdeal.nD Cert.PrepIdeal.τ).loc Cert.PrepIdeal.main_v8_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v8_0) = v0 c
          ∧ r.2.mem ((c.tc : Thread Cert.PrepIdeal.nD Cert.PrepIdeal.τ).loc Cert.PrepIdeal.main_v8_1) = v1 c
          ∧ r.2.mem ((c.tc : Thread Cert.PrepIdeal.nD Cert.PrepIdeal.τ).loc Cert.PrepIdeal.main_v8_2) = v2 c
          ∧ r.2.mem ((c.tc : Thread Cert.PrepIdeal.nD Cert.PrepIdeal.τ).loc Cert.PrepIdeal.main_v8_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v79) = v0 c
          ∧ r.2.mem ((c.tc : Thread Cert.PrepRefIdeal.nD Cert.PrepRefIdeal.τ).loc Cert.PrepRefIdeal.main_v81) = v1 c
          ∧ r.2.mem ((c.tc : Thread Cert.PrepRefIdeal.nD Cert.PrepRefIdeal.τ).loc Cert.PrepRefIdeal.main_v74) = v2 c
          ∧ r.2.mem ((c.tc : Thread Cert.PrepRefIdeal.nD Cert.PrepRefIdeal.τ).loc Cert.PrepRefIdeal.main_v77) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2))

def Claim : Prop :=
  ∃ (hSsd : Cert.Ssd.Facts) (hSsdIdeal : Cert.SsdIdeal.Facts) (hSsdRefIdeal : Cert.SsdRefIdeal.Facts) (hInProj : Cert.InProj.Facts) (hInProjIdeal : Cert.InProjIdeal.Facts) (hInProjRefIdeal : Cert.InProjRefIdeal.Facts) (hTail : Cert.Tail.Facts) (hTailIdeal : Cert.TailIdeal.Facts) (hTailRefIdeal : Cert.TailRefIdeal.Facts) (hPrep : Cert.Prep.Facts) (hPrepIdeal : Cert.PrepIdeal.Facts) (hPrepRefIdeal : Cert.PrepRefIdeal.Facts) (hPre_finite : Cert.Pre_finite.Facts) (hPre_gains : Cert.Pre_gains.Facts),
    quiescent_Ssd (hSsd := hSsd)
    ∧ quiescent_SsdIdeal (hSsdIdeal := hSsdIdeal)
    ∧ quiescent_SsdIdeal_pre_finite (hSsdIdeal := hSsdIdeal) (hPre_finite := hPre_finite)
    ∧ quiescent_SsdRefIdeal (hSsdRefIdeal := hSsdRefIdeal)
    ∧ quiescent_SsdRefIdeal_pre_finite (hSsdRefIdeal := hSsdRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_Tail (hTail := hTail)
    ∧ quiescent_TailIdeal (hTailIdeal := hTailIdeal)
    ∧ quiescent_TailRefIdeal (hTailRefIdeal := hTailRefIdeal)
    ∧ quiescent_Prep (hPrep := hPrep)
    ∧ quiescent_PrepIdeal (hPrepIdeal := hPrepIdeal)
    ∧ quiescent_PrepIdeal_pre_gains (hPrepIdeal := hPrepIdeal) (hPre_gains := hPre_gains)
    ∧ quiescent_PrepRefIdeal (hPrepRefIdeal := hPrepRefIdeal)
    ∧ quiescent_PrepRefIdeal_pre_gains (hPrepRefIdeal := hPrepRefIdeal) (hPre_gains := hPre_gains)
    ∧ preserves_Ssd_SsdIdeal
    ∧ algebraic_SsdIdeal_SsdRefIdeal_pre_finite (hSsdIdeal := hSsdIdeal) (hSsdRefIdeal := hSsdRefIdeal) (hPre_finite := hPre_finite)
    ∧ preserves_InProj_InProjIdeal
    ∧ algebraic_InProjIdeal_InProjRefIdeal (hInProjIdeal := hInProjIdeal) (hInProjRefIdeal := hInProjRefIdeal)
    ∧ preserves_Tail_TailIdeal
    ∧ algebraic_TailIdeal_TailRefIdeal (hTailIdeal := hTailIdeal) (hTailRefIdeal := hTailRefIdeal)
    ∧ preserves_Prep_PrepIdeal
    ∧ algebraic_PrepIdeal_PrepRefIdeal_pre_gains (hPrepIdeal := hPrepIdeal) (hPrepRefIdeal := hPrepRefIdeal) (hPre_gains := hPre_gains)
-- ==== Pre_finite.lean ====
abbrev S2x8192x10240 : Shape := ⟨3, ![2, 8192, 10240]⟩
abbrev S2x8192x128 : Shape := ⟨3, ![2, 8192, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩

class Facts : Prop where
  bitsLt_bf16_f32 : FTy.bits .bf16 < FTy.bits .f32
  bcast_S_S2x8192x10240 : S_.BroadcastsInDim S2x8192x10240 (![] : Fin 0 → Fin S2x8192x10240.rank)
  reducesTo_S2x8192x10240_S_d0_1_2 : S2x8192x10240.ReducesTo [0, 1, 2] S_
  h_S_ : 0 < S_.numel
  bcast_S_S2x8192x128 : S_.BroadcastsInDim S2x8192x128 (![] : Fin 0 → Fin S2x8192x128.rank)
  reducesTo_S2x8192x128_S_d0_1_2 : S2x8192x128.ReducesTo [0, 1, 2] S_
  bcast_S_S4x3072 : S_.BroadcastsInDim S4x3072 (![] : Fin 0 → Fin S4x3072.rank)
  reducesTo_S4x3072_S_d0_1 : S4x3072.ReducesTo [0, 1] S_
  bcast_S_S3072 : S_.BroadcastsInDim S3072 (![] : Fin 0 → Fin S3072.rank)
  reducesTo_S3072_S_d0 : S3072.ReducesTo [0] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_arg5 : FVec F S32 .f32) (main_v14 : IVec S_ 1) (main_v15 : FVec F S3072 .f32) (main_v16 : FVec F S3072 .f32) : IVec S_ 1 :=
  let main_v17 : IVec S3072 1 := cmpf .olt main_v15 main_v16
  let main_c_5 : IVec S_ 1 := constantI S_ 1 1#1
  let main_v18 : IVec S_ 1 := (fun x v => Host.reduce IntOp.andi x v reducesTo_S3072_S_d0 h_S_) main_v17 main_c_5
  let main_v19 : IVec S_ 1 := andi main_v14 main_v18
  let main_v20 : FVec F S32 .f32 := Host.absf main_arg4
  let main_cst_6 : FVec F S_ .f32 := constant S_ .f32 0x7F800000#32
  let main_v21 : FVec F S32 .f32 := broadcastInDim S32 ![] bcast_S_S32 main_cst_6
  let main_v22 : IVec S32 1 := cmpf .olt main_v20 main_v21
  let main_c_7 : IVec S_ 1 := constantI S_ 1 1#1
  let main_v23 : IVec S_ 1 := (fun x v => Host.reduce IntOp.andi x v reducesTo_S32_S_d0 h_S_) main_v22 main_c_7
  let main_v24 : IVec S_ 1 := andi main_v19 main_v23
  let main_v25 : FVec F S32 .f32 := Host.absf main_arg5
  let main_cst_8 : FVec F S_ .f32 := constant S_ .f32 0x7F800000#32
  let main_v26 : FVec F S32 .f32 := broadcastInDim S32 ![] bcast_S_S32 main_cst_8
  let main_v27 : IVec S32 1 := cmpf .olt main_v25 main_v26
  let main_c_9 : IVec S_ 1 := constantI S_ 1 1#1
  let main_v28 : IVec S_ 1 := (fun x v => Host.reduce IntOp.andi x v reducesTo_S32_S_d0 h_S_) main_v27 main_c_9
  let main_v29 : IVec S_ 1 := andi main_v24 main_v28
  main_v29

def fn {F : FTy → Type} [FloatOps F] (main_arg0 : FVec F S2x8192x10240 .bf16) (main_arg1 : FVec F S2x8192x128 .f32) (main_arg2 : FVec F S4x3072 .f32) (main_arg3 : FVec F S3072 .f32) (main_arg4 : FVec F S32 .f32) (main_arg5 : FVec F S32 .f32) (main_arg6 : FVec F S32 .f32) (main_arg7 : FVec F S2048 .f32) : IVec S_ 1 :=
  let main_v0 : FVec F S2x8192x10240 .f32 := (extf .f32 · bitsLt_bf16_f32) main_arg0
  let main_v1 : FVec F S2x8192x10240 .f32 := Host.absf main_v0
  let main_cst : FVec F S_ .f32 := constant S_ .f32 0x7F800000#32
  let main_v2 : FVec F S2x8192x10240 .f32 := broadcastInDim S2x8192x10240 ![] bcast_S_S2x8192x10240 main_cst
  let main_v3 : IVec S2x8192x10240 1 := cmpf .olt main_v1 main_v2
  let main_c : IVec S_ 1 := constantI S_ 1 1#1
  let main_v4 : IVec S_ 1 := (fun x v => Host.reduce IntOp.andi x v reducesTo_S2x8192x10240_S_d0_1_2 h_S_) main_v3 main_c
  let main_v5 : FVec F S2x8192x128 .f32 := Host.absf main_arg1
  let main_cst_0 : FVec F S_ .f32 := constant S_ .f32 0x7F800000#32
  let main_v6 : FVec F S2x8192x128 .f32 := broadcastInDim S2x8192x128 ![] bcast_S_S2x8192x128 main_cst_0
  let main_v7 : IVec S2x8192x128 1 := cmpf .olt main_v5 main_v6
  let main_c_1 : IVec S_ 1 := constantI S_ 1 1#1
  let main_v8 : IVec S_ 1 := (fun x v => Host.reduce IntOp.andi x v reducesTo_S2x8192x128_S_d0_1_2 h_S_) main_v7 main_c_1
  let main_v9 : IVec S_ 1 := andi main_v4 main_v8
  let main_v10 : FVec F S4x3072 .f32 := Host.absf main_arg2
  let main_cst_2 : FVec F S_ .f32 := constant S_ .f32 0x7F800000#32
  let main_v11 : FVec F S4x3072 .f32 := broadcastInDim S4x3072 ![] bcast_S_S4x3072 main_cst_2
  let main_v12 : IVec S4x3072 1 := cmpf .olt main_v10 main_v11
  let main_c_3 : IVec S_ 1 := constantI S_ 1 1#1
  let main_v13 : IVec S_ 1 := (fun x v => Host.reduce IntOp.andi x v reducesTo_S4x3072_S_d0_1 h_S_) main_v12 main_c_3
  let main_v14 : IVec S_ 1 := andi main_v9 main_v13
  let main_v15 : FVec F S3072 .f32 := Host.absf main_arg3
  let main_cst_4 : FVec F S_ .f32 := constant S_ .f32 0x7F800000#32
  let main_v16 : FVec F S3072 .f32 := broadcastInDim S3072 ![] bcast_S_S3072 main_cst_4
  fn_part1 (F := F) main_arg4 main_arg5 main_v14 main_v15 main_v16
-- ==== Pre_gains.lean ====
abbrev S2x8192x10240 : Shape := ⟨3, ![2, 8192, 10240]⟩
abbrev S64 : Shape := ⟨1, ![64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S2x8192x10240 .bf16) (main_arg1 : FVec F S64 .f32) (main_arg2 : FVec F S64 .f32) : IVec S_ 1 :=
  let main_v0 : FVec F S64 .f32 := Host.absf main_arg1
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Ssd.lean ====
abbrev S2x8192x10240 : Shape := ⟨3, ![2, 8192, 10240]⟩
abbrev S2x8192x128 : Shape := ⟨3, ![2, 8192, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S4x24x128 : Shape := ⟨3, ![4, 24, 128]⟩
abbrev S24x4x128 : Shape := ⟨3, ![24, 4, 128]⟩
abbrev S1x3072 : Shape := ⟨2, ![1, 3072]⟩
abbrev S1x24x128 : Shape := ⟨3, ![1, 24, 128]⟩
abbrev S24x1x128 : Shape := ⟨3, ![24, 1, 128]⟩
abbrev S1x32 : Shape := ⟨2, ![1, 32]⟩
abbrev S3x32 : Shape := ⟨2, ![3, 32]⟩
abbrev S96 : Shape := ⟨1, ![96]⟩
abbrev S_ : Shape := ⟨0, ![]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S128x4096 : Shape := ⟨2, ![128, 4096]⟩
abbrev S128x4x1024 : Shape := ⟨3, ![128, 4, 1024]⟩
abbrev S4x128x1024 : Shape := ⟨3, ![4, 128, 1024]⟩
abbrev S128x2048 : Shape := ⟨2, ![128, 2048]⟩
abbrev S128x4x512 : Shape := ⟨3, ![128, 4, 512]⟩
abbrev S4x128x512 : Shape := ⟨3, ![4, 128, 512]⟩
abbrev S2x8192x2048 : Shape := ⟨3, ![2, 8192, 2048]⟩
abbrev S1x256x3072 : Shape := ⟨3, ![1, 256, 3072]⟩
abbrev S1x256x2048 : Shape := ⟨3, ![1, 256, 2048]⟩
abbrev S1x256x128 : Shape := ⟨3, ![1, 256, 128]⟩
abbrev S24x136x128 : Shape := ⟨3, ![24, 136, 128]⟩
abbrev S24x128x128 : Shape := ⟨3, ![24, 128, 128]⟩
abbrev S16x128x128 : Shape := ⟨3, ![16, 128, 128]⟩
abbrev S128x128 : Shape := ⟨2, ![128, 128]⟩
abbrev S16x256x128 : Shape := ⟨3, ![16, 256, 128]⟩
abbrev S16x128x256 : Shape := ⟨3, ![16, 128, 256]⟩
abbrev S24x8x128 : Shape := ⟨3, ![24, 8, 128]⟩
abbrev S1x128x128 : Shape := ⟨3, ![1, 128, 128]⟩
abbrev S1x128x3072 : Shape := ⟨3, ![1, 128, 3072]⟩
abbrev S128x3072 : Shape := ⟨2, ![128, 3072]⟩
abbrev S1x4x128 : Shape := ⟨3, ![1, 4, 128]⟩
abbrev S4x128 : Shape := ⟨2, ![4, 128]⟩
abbrev S1x1x128 : Shape := ⟨3, ![1, 1, 128]⟩
abbrev S1x8x128 : Shape := ⟨3, ![1, 8, 128]⟩
abbrev S8x128 : Shape := ⟨2, ![8, 128]⟩
abbrev S1x128x1024 : Shape := ⟨3, ![1, 128, 1024]⟩
abbrev S128x1024 : Shape := ⟨2, ![128, 1024]⟩
abbrev S1x128x512 : Shape := ⟨3, ![1, 128, 512]⟩
abbrev S128x512 : Shape := ⟨2, ![128, 512]⟩
abbrev S256x128 : Shape := ⟨2, ![256, 128]⟩
abbrev S1x1 : Shape := ⟨2, ![1, 1]⟩
abbrev S128x256 : Shape := ⟨2, ![128, 256]⟩
abbrev S1x128x256 : Shape := ⟨3, ![1, 128, 256]⟩
abbrev S128x1 : Shape := ⟨2, ![128, 1]⟩
abbrev S1x128x2048 : Shape := ⟨3, ![1, 128, 2048]⟩

abbrev nBuf : Space → Nat
  | .hbm => 132
  | .vmem => 25
  | .smem => 0
  | _ => 0

abbrev hbmTy0_0 (i : Nat) : BufTy := match i % 128 with
  | 0 => ⟨S2x8192x10240, .bf16⟩
  | 1 => ⟨S2x8192x128, .f32⟩
  | 2 => ⟨S4x3072, .f32⟩
  | 3 => ⟨S3072, .f32⟩
  | 4 => ⟨S32, .f32⟩
  | 5 => ⟨S32, .f32⟩
  | 6 => ⟨S32, .f32⟩
  | 7 => ⟨S2048, .f32⟩
  | 8 => ⟨S4x24x128, .f32⟩
  | 9 => ⟨S24x4x128, .f32⟩
  | 10 => ⟨S1x3072, .f32⟩
  | 11 => ⟨S1x24x128, .f32⟩
  | 12 => ⟨S24x1x128, .f32⟩
  | 13 => ⟨S1x32, .f32⟩
  | 14 => ⟨S3x32, .f32⟩
  | 15 => ⟨S96, .f32⟩
  | 16 => ⟨S_, .i32⟩
  | 17 => ⟨S_, .f32⟩
  | 18 => ⟨S128, .f32⟩
  | 19 => ⟨S1x128, .f32⟩
  | 20 => ⟨S1x32, .f32⟩
  | 21 => ⟨S3x32, .f32⟩
  | 22 => ⟨S96, .f32⟩
  | 23 => ⟨S_, .i32⟩
  | 24 => ⟨S_, .f32⟩
  | 25 => ⟨S128, .f32⟩
  | 26 => ⟨S1x128, .f32⟩
  | 27 => ⟨S32x64, .f32⟩
  | 28 => ⟨S2048, .f32⟩
  | 29 => ⟨S1x2048, .f32⟩
  | 30 => ⟨S1x2048, .f32⟩
  | 31 => ⟨S128x4096, .i32⟩
  | 32 => ⟨S128x4096, .i32⟩
  | 33 => ⟨S_, .i32⟩
  | 34 => ⟨S128x4096, .i32⟩
  | 35 => ⟨S128x4096, .i1⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S128x4096, .i32⟩
  | 43 => ⟨S128x4096, .i32⟩
  | 44 => ⟨S_, .i32⟩
  | 45 => ⟨S128x4096, .i32⟩
  | 46 => ⟨S128x4096, .i1⟩
  | 47 => ⟨S_, .i32⟩
  | 48 => ⟨S128x4096, .i32⟩
  | 49 => ⟨S128x4096, .i1⟩
  | 50 => ⟨S_, .i32⟩
  | 51 => ⟨S_, .i1⟩
  | 52 => ⟨S128x4096, .i1⟩
  | 53 => ⟨S128x4096, .i1⟩
  | 54 => ⟨S128x4096, .i1⟩
  | 55 => ⟨S128x4096, .i32⟩
  | 56 => ⟨S128x4096, .i32⟩
  | 57 => ⟨S128x4096, .i32⟩
  | 58 => ⟨S_, .i32⟩
  | 59 => ⟨S_, .i32⟩
  | 60 => ⟨S128x4096, .i32⟩
  | 61 => ⟨S128x4096, .i32⟩
  | 62 => ⟨S128x4096, .i32⟩
  | 63 => ⟨S_, .i32⟩
  | 64 => ⟨S128x4096, .i32⟩
  | 65 => ⟨S128x4096, .i1⟩
  | 66 => ⟨S128x4096, .i32⟩
  | 67 => ⟨S128x4096, .i32⟩
  | 68 => ⟨S_, .i32⟩
  | 69 => ⟨S128x4096, .i32⟩
  | 70 => ⟨S128x4096, .i1⟩
  | 71 => ⟨S128x4096, .i1⟩
  | 72 => ⟨S_, .i32⟩
  | 73 => ⟨S128x4096, .i32⟩
  | 74 => ⟨S128x4096, .i32⟩
  | 75 => ⟨S128x4096, .i32⟩
  | 76 => ⟨S128x4096, .i1⟩
  | 77 => ⟨S128x4096, .i1⟩
  | 78 => ⟨S128x4096, .bf16⟩
  | 79 => ⟨S128x4x1024, .bf16⟩
  | 80 => ⟨S4x128x1024, .bf16⟩
  | 81 => ⟨S128x2048, .i32⟩
  | 82 => ⟨S128x2048, .i32⟩
  | 83 => ⟨S_, .i32⟩
  | 84 => ⟨S128x2048, .i32⟩
  | 85 => ⟨S128x2048, .i1⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S128x2048, .i32⟩
  | 93 => ⟨S128x2048, .i32⟩
  | 94 => ⟨S_, .i32⟩
  | 95 => ⟨S128x2048, .i32⟩
  | 96 => ⟨S128x2048, .i1⟩
  | 97 => ⟨S_, .i32⟩
  | 98 => ⟨S128x2048, .i32⟩
  | 99 => ⟨S128x2048, .i1⟩
  | 100 => ⟨S_, .i32⟩
  | 101 => ⟨S_, .i1⟩
  | 102 => ⟨S128x2048, .i1⟩
  | 103 => ⟨S128x2048, .i1⟩
  | 104 => ⟨S128x2048, .i1⟩
  | 105 => ⟨S128x2048, .i32⟩
  | 106 => ⟨S128x2048, .i32⟩
  | 107 => ⟨S128x2048, .i32⟩
  | 108 => ⟨S_, .i32⟩
  | 109 => ⟨S_, .i32⟩
  | 110 => ⟨S128x2048, .i32⟩
  | 111 => ⟨S128x2048, .i32⟩
  | 112 => ⟨S128x2048, .i32⟩
  | 113 => ⟨S_, .i32⟩
  | 114 => ⟨S128x2048, .i32⟩
  | 115 => ⟨S128x2048, .i1⟩
  | 116 => ⟨S128x2048, .i32⟩
  | 117 => ⟨S128x2048, .i32⟩
  | 118 => ⟨S_, .i32⟩
  | 119 => ⟨S128x2048, .i32⟩
  | 120 => ⟨S128x2048, .i1⟩
  | 121 => ⟨S128x2048, .i1⟩
  | 122 => ⟨S_, .i32⟩
  | 123 => ⟨S128x2048, .i32⟩
  | 124 => ⟨S128x2048, .i32⟩
  | 125 => ⟨S128x2048, .i32⟩
  | 126 => ⟨S128x2048, .i1⟩
  | 127 => ⟨S128x2048, .i1⟩
  | _ => ⟨S2x8192x10240, .bf16⟩

abbrev hbmTy0_1 (i : Nat) : BufTy := match i % 128 with
  | 0 => ⟨S128x2048, .bf16⟩
  | 1 => ⟨S128x4x512, .bf16⟩
  | 2 => ⟨S4x128x512, .bf16⟩
  | 3 => ⟨S2x8192x2048, .bf16⟩
  | _ => ⟨S2x8192x10240, .bf16⟩

abbrev hbmTy (i : Nat) : BufTy := match i / 128 with
  | 0 => hbmTy0_0 i
  | 1 => hbmTy0_1 i
  | _ => ⟨S2x8192x10240, .bf16⟩

abbrev bufTy : (tb : Table) → Fin (tcTables nBuf tb) → BufTy
  | .hbm, ⟨i, _⟩ => hbmTy i
  | .local _ .vmem, ⟨0, _⟩ => ⟨S1x256x3072, .bf16⟩
  | .local _ .vmem, ⟨1, _⟩ => ⟨S1x256x3072, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x128, .f32⟩
  | .local _ .vmem, ⟨5, _⟩ => ⟨S1x256x128, .f32⟩
  | .local _ .vmem, ⟨6, _⟩ => ⟨S24x4x128, .f32⟩
  | .local _ .vmem, ⟨7, _⟩ => ⟨S24x1x128, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S4x128x1024, .bf16⟩
  | .local _ .vmem, ⟨13, _⟩ => ⟨S4x128x512, .bf16⟩
  | .local _ .vmem, ⟨14, _⟩ => ⟨S1x256x2048, .bf16⟩
  | .local _ .vmem, ⟨15, _⟩ => ⟨S1x256x2048, .bf16⟩
  | .local _ .vmem, ⟨16, _⟩ => ⟨S24x136x128, .f32⟩
  | .local _ .vmem, ⟨17, _⟩ => ⟨S24x128x128, .f32⟩
  | .local _ .vmem, ⟨18, _⟩ => ⟨S16x128x128, .f32⟩
  | .local _ .vmem, ⟨19, _⟩ => ⟨S16x128x128, .f32⟩
  | .local _ .vmem, ⟨20, _⟩ => ⟨S128x128, .f32⟩
  | .local _ .vmem, ⟨21, _⟩ => ⟨S128x128, .f32⟩
  | .local _ .vmem, ⟨22, _⟩ => ⟨S16x256x128, .bf16⟩
  | .local _ .vmem, ⟨23, _⟩ => ⟨S16x128x256, .bf16⟩
  | .local _ .vmem, ⟨24, _⟩ => ⟨S16x128x256, .bf16⟩
  | _, _ => ⟨S2x8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_call2_v0 : Ref sig .tc := ⟨.hbm, 37, rfl⟩
abbrev main_call2_c : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_c_1 : Ref sig .tc := ⟨.hbm, 44, rfl⟩
abbrev main_call2_v5 : Ref sig .tc := ⟨.hbm, 45, rfl⟩
abbrev main_call2_v6 : Ref sig .tc := ⟨.hbm, 46, rfl⟩
abbrev main_call2_c_2 : Ref sig .tc := ⟨.hbm, 47, rfl⟩
abbrev main_call2_v7 : Ref sig .tc := ⟨.hbm, 48, rfl⟩
abbrev main_call2_v8 : Ref sig .tc := ⟨.hbm, 49, rfl⟩
abbrev main_call2_c_3 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_v23 : Ref sig .tc := ⟨.hbm, 57, rfl⟩
abbrev main_c_3 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_c : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_0 : Ref sig .tc := ⟨.hbm, 72, rfl⟩
abbrev main_call3_v12 : Ref sig .tc := ⟨.hbm, 73, rfl⟩
abbrev main_call3_v13 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_c_4 : Ref sig .tc := ⟨.hbm, 83, rfl⟩
abbrev main_v32 : Ref sig .tc := ⟨.hbm, 84, rfl⟩
abbrev main_v33 : Ref sig .tc := ⟨.hbm, 85, rfl⟩
abbrev main_c_5 : Ref sig .tc := ⟨.hbm, 86, rfl⟩
abbrev main_call4_v0 : Ref sig .tc := ⟨.hbm, 87, rfl⟩
abbrev main_call4_c : Ref sig .tc := ⟨.hbm, 88, rfl⟩
abbrev main_call4_v1 : Ref sig .tc := ⟨.hbm, 89, rfl⟩
abbrev main_call4_c_0 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_c_1 : Ref sig .tc := ⟨.hbm, 94, rfl⟩
abbrev main_call4_v5 : Ref sig .tc := ⟨.hbm, 95, rfl⟩
abbrev main_call4_v6 : Ref sig .tc := ⟨.hbm, 96, rfl⟩
abbrev main_call4_c_2 : Ref sig .tc := ⟨.hbm, 97, rfl⟩
abbrev main_call4_v7 : Ref sig .tc := ⟨.hbm, 98, rfl⟩
abbrev main_call4_v8 : Ref sig .tc := ⟨.hbm, 99, rfl⟩
abbrev main_call4_c_3 : Ref sig .tc := ⟨.hbm, 100, rfl⟩
abbrev main_call4_v9 : Ref sig .tc := ⟨.hbm, 101, rfl⟩
abbrev main_call4_v10 : Ref sig .tc := ⟨.hbm, 102, rfl⟩
abbrev main_call4_v11 : Ref sig .tc := ⟨.hbm, 103, rfl⟩
abbrev main_call4_v12 : Ref sig .tc := ⟨.hbm, 104, rfl⟩
abbrev main_call4_v13 : Ref sig .tc := ⟨.hbm, 105, rfl⟩
abbrev main_call4_v14 : Ref sig .tc := ⟨.hbm, 106, rfl⟩
abbrev main_v34 : Ref sig .tc := ⟨.hbm, 107, rfl⟩
abbrev main_c_6 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_v6 : Ref sig .tc := ⟨.hbm, 115, rfl⟩
abbrev main_call5_v7 : Ref sig .tc := ⟨.hbm, 116, rfl⟩
abbrev main_call5_v8 : Ref sig .tc := ⟨.hbm, 117, rfl⟩
abbrev main_call5_c : Ref sig .tc := ⟨.hbm, 118, rfl⟩
abbrev main_call5_v9 : Ref sig .tc := ⟨.hbm, 119, rfl⟩
abbrev main_call5_v10 : Ref sig .tc := ⟨.hbm, 120, rfl⟩
abbrev main_call5_v11 : Ref sig .tc := ⟨.hbm, 121, rfl⟩
abbrev main_call5_c_0 : Ref sig .tc := ⟨.hbm, 122, rfl⟩
abbrev main_call5_v12 : Ref sig .tc := ⟨.hbm, 123, rfl⟩
abbrev main_call5_v13 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S24x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S24x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== SsdIdeal.lean ====
variable {F : FTy → Type} [FloatOps F] [Named F]
def κ : String → Option EReal := fun
  | "log2e" => some (((Real.log 2)⁻¹ : ℝ) : EReal)
  | "mask" => some ⊥
  | "neg_log2e" => some ((-((Real.log 2)⁻¹) : ℝ) : EReal)
  | _ => none
-- ==== SsdRefIdeal.lean ====
abbrev S2x8192x10240 : Shape := ⟨3, ![2, 8192, 10240]⟩
abbrev S2x8192x128 : Shape := ⟨3, ![2, 8192, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S2x8192x3072 : Shape := ⟨3, ![2, 8192, 3072]⟩
abbrev S2x8192x2048 : Shape := ⟨3, ![2, 8192, 2048]⟩
abbrev S2x8192x32 : Shape := ⟨3, ![2, 8192, 32]⟩
abbrev S_ : Shape := ⟨0, ![]⟩
abbrev S2x8195x3072 : Shape := ⟨3, ![2, 8195, 3072]⟩
abbrev S1x3072 : Shape := ⟨2, ![1, 3072]⟩
abbrev S1x1x3072 : Shape := ⟨3, ![1, 1, 3072]⟩
abbrev S2x8192x4x8x64 : Shape := ⟨5, ![2, 8192, 4, 8, 64]⟩
abbrev S2x8192x512 : Shape := ⟨3, ![2, 8192, 512]⟩
abbrev S2x8192x4x128 : Shape := ⟨4, ![2, 8192, 4, 128]⟩
abbrev S1x1x32 : Shape := ⟨3, ![1, 1, 32]⟩
abbrev S2x32x8192 : Shape := ⟨3, ![2, 32, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x32x8192x1 : Shape := ⟨4, ![2, 32, 8192, 1]⟩
abbrev S2x32x1x8192 : Shape := ⟨4, ![2, 32, 1, 8192]⟩
abbrev S2x32x8192x8192 : Shape := ⟨4, ![2, 32, 8192, 8192]⟩
abbrev S2x4x8x8192x8192 : Shape := ⟨5, ![2, 4, 8, 8192, 8192]⟩
abbrev S2x8192x4x8 : Shape := ⟨4, ![2, 8192, 4, 8]⟩
abbrev S2x8192x4x8x1 : Shape := ⟨5, ![2, 8192, 4, 8, 1]⟩
abbrev S2x4x8192x8192 : Shape := ⟨4, ![2, 4, 8192, 8192]⟩
abbrev S2x4x1x8192x8192 : Shape := ⟨5, ![2, 4, 1, 8192, 8192]⟩
abbrev S2x4x8x64x8192 : Shape := ⟨5, ![2, 4, 8, 64, 8192]⟩
abbrev S4x8 : Shape := ⟨2, ![4, 8]⟩
abbrev S4x8x1 : Shape := ⟨3, ![4, 8, 1]⟩
abbrev S1x1x4x8x1 : Shape := ⟨5, ![1, 1, 4, 8, 1]⟩
abbrev S2x8192x4x512 : Shape := ⟨4, ![2, 8192, 4, 512]⟩
abbrev S2x8192x4 : Shape := ⟨3, ![2, 8192, 4]⟩
abbrev S2x8192x4x1 : Shape := ⟨4, ![2, 8192, 4, 1]⟩
abbrev S1x1x2048 : Shape := ⟨3, ![1, 1, 2048]⟩

abbrev nBuf : Space → Nat
  | .hbm => 152
  | .vmem => 0
  | .smem => 0
  | _ => 0

abbrev hbmTy0_0 (i : Nat) : BufTy := match i % 128 with
  | 0 => ⟨S2x8192x10240, .bf16⟩
  | 1 => ⟨S2x8192x128, .f32⟩
  | 2 => ⟨S4x3072, .f32⟩
  | 3 => ⟨S3072, .f32⟩
  | 4 => ⟨S32, .f32⟩
  | 5 => ⟨S32, .f32⟩
  | 6 => ⟨S32, .f32⟩
  | 7 => ⟨S2048, .f32⟩
  | 8 => ⟨S2x8192x3072, .bf16⟩
  | 9 => ⟨S2x8192x3072, .f32⟩
  | 10 => ⟨S2x8192x2048, .bf16⟩
  | 11 => ⟨S2x8192x2048, .f32⟩
  | 12 => ⟨S2x8192x32, .f32⟩
  | 13 => ⟨S_, .i32⟩
  | 14 => ⟨S_, .f32⟩
  | 15 => ⟨S2x8195x3072, .f32⟩
  | 16 => ⟨S2x8192x3072, .f32⟩
  | 17 => ⟨S1x3072, .f32⟩
  | 18 => ⟨S3072, .f32⟩
  | 19 => ⟨S1x1x3072, .f32⟩
  | 20 => ⟨S2x8192x3072, .f32⟩
  | 21 => ⟨S2x8192x3072, .f32⟩
  | 22 => ⟨S2x8192x3072, .f32⟩
  | 23 => ⟨S1x3072, .f32⟩
  | 24 => ⟨S3072, .f32⟩
  | 25 => ⟨S1x1x3072, .f32⟩
  | 26 => ⟨S2x8192x3072, .f32⟩
  | 27 => ⟨S2x8192x3072, .f32⟩
  | 28 => ⟨S2x8192x3072, .f32⟩
  | 29 => ⟨S2x8192x3072, .f32⟩
  | 30 => ⟨S1x3072, .f32⟩
  | 31 => ⟨S3072, .f32⟩
  | 32 => ⟨S1x1x3072, .f32⟩
  | 33 => ⟨S2x8192x3072, .f32⟩
  | 34 => ⟨S2x8192x3072, .f32⟩
  | 35 => ⟨S2x8192x3072, .f32⟩
  | 36 => ⟨S2x8192x3072, .f32⟩
  | 37 => ⟨S1x3072, .f32⟩
  | 38 => ⟨S3072, .f32⟩
  | 39 => ⟨S1x1x3072, .f32⟩
  | 40 => ⟨S2x8192x3072, .f32⟩
  | 41 => ⟨S2x8192x3072, .f32⟩
  | 42 => ⟨S2x8192x3072, .f32⟩
  | 43 => ⟨S1x1x3072, .f32⟩
  | 44 => ⟨S2x8192x3072, .f32⟩
  | 45 => ⟨S2x8192x3072, .f32⟩
  | 46 => ⟨S2x8192x3072, .f32⟩
  | 47 => ⟨S2x8192x3072, .f32⟩
  | 48 => ⟨S_, .f32⟩
  | 49 => ⟨S2x8192x3072, .f32⟩
  | 50 => ⟨S2x8192x3072, .f32⟩
  | 51 => ⟨S_, .f32⟩
  | 52 => ⟨S2x8192x3072, .f32⟩
  | 53 => ⟨S2x8192x3072, .f32⟩
  | 54 => ⟨S2x8192x3072, .f32⟩
  | 55 => ⟨S2x8192x2048, .f32⟩
  | 56 => ⟨S2x8192x4x8x64, .f32⟩
  | 57 => ⟨S2x8192x512, .f32⟩
  | 58 => ⟨S2x8192x4x128, .f32⟩
  | 59 => ⟨S2x8192x512, .f32⟩
  | 60 => ⟨S2x8192x4x128, .f32⟩
  | 61 => ⟨S1x1x32, .f32⟩
  | 62 => ⟨S2x8192x32, .f32⟩
  | 63 => ⟨S2x8192x32, .f32⟩
  | 64 => ⟨S_, .f32⟩
  | 65 => ⟨S2x8192x32, .f32⟩
  | 66 => ⟨S2x8192x32, .f32⟩
  | 67 => ⟨S2x8192x32, .f32⟩
  | 68 => ⟨S2x8192x32, .f32⟩
  | 69 => ⟨S2x8192x32, .i1⟩
  | 70 => ⟨S2x8192x32, .f32⟩
  | 71 => ⟨S2x8192x32, .f32⟩
  | 72 => ⟨S2x8192x32, .f32⟩
  | 73 => ⟨S2x8192x32, .f32⟩
  | 74 => ⟨S2x8192x32, .f32⟩
  | 75 => ⟨S2x8192x32, .f32⟩
  | 76 => ⟨S2x8192x32, .f32⟩
  | 77 => ⟨S2x8192x32, .f32⟩
  | 78 => ⟨S32, .f32⟩
  | 79 => ⟨S32, .f32⟩
  | 80 => ⟨S1x1x32, .f32⟩
  | 81 => ⟨S2x8192x32, .f32⟩
  | 82 => ⟨S2x8192x32, .f32⟩
  | 83 => ⟨S_, .f32⟩
  | 84 => ⟨S_, .f32⟩
  | 85 => ⟨S2x8192x32, .f32⟩
  | 86 => ⟨S2x32x8192, .f32⟩
  | 87 => ⟨S8192, .i32⟩
  | 88 => ⟨S8192x1, .i32⟩
  | 89 => ⟨S8192, .i32⟩
  | 90 => ⟨S1x8192, .i32⟩
  | 91 => ⟨S8192x8192, .i32⟩
  | 92 => ⟨S8192x8192, .i32⟩
  | 93 => ⟨S8192x8192, .i1⟩
  | 94 => ⟨S2x32x8192x1, .f32⟩
  | 95 => ⟨S2x32x1x8192, .f32⟩
  | 96 => ⟨S2x32x8192x8192, .f32⟩
  | 97 => ⟨S2x32x8192x8192, .f32⟩
  | 98 => ⟨S2x32x8192x8192, .f32⟩
  | 99 => ⟨S_, .f32⟩
  | 100 => ⟨S_, .f32⟩
  | 101 => ⟨S2x32x8192x8192, .i1⟩
  | 102 => ⟨S2x32x8192x8192, .f32⟩
  | 103 => ⟨S2x32x8192x8192, .f32⟩
  | 104 => ⟨S2x32x8192x8192, .f32⟩
  | 105 => ⟨S2x4x8x8192x8192, .f32⟩
  | 106 => ⟨S2x8192x4x8, .f32⟩
  | 107 => ⟨S2x8192x4x8x1, .f32⟩
  | 108 => ⟨S2x8192x4x8x64, .f32⟩
  | 109 => ⟨S2x8192x4x8x64, .f32⟩
  | 110 => ⟨S2x4x8192x8192, .f32⟩
  | 111 => ⟨S2x4x1x8192x8192, .f32⟩
  | 112 => ⟨S2x4x8x8192x8192, .f32⟩
  | 113 => ⟨S2x4x8x8192x8192, .f32⟩
  | 114 => ⟨S2x4x8x64x8192, .f32⟩
  | 115 => ⟨S2x8192x4x8x64, .f32⟩
  | 116 => ⟨S4x8, .f32⟩
  | 117 => ⟨S4x8x1, .f32⟩
  | 118 => ⟨S1x1x4x8x1, .f32⟩
  | 119 => ⟨S2x8192x4x8x64, .f32⟩
  | 120 => ⟨S2x8192x4x8x64, .f32⟩
  | 121 => ⟨S2x8192x4x8x64, .f32⟩
  | 122 => ⟨S2x8192x2048, .f32⟩
  | 123 => ⟨S2x8192x2048, .f32⟩
  | 124 => ⟨S2x8192x2048, .f32⟩
  | 125 => ⟨S_, .f32⟩
  | 126 => ⟨S2x8192x2048, .f32⟩
  | 127 => ⟨S2x8192x2048, .f32⟩
  | _ => ⟨S2x8192x10240, .bf16⟩

abbrev hbmTy0_1 (i : Nat) : BufTy := match i % 128 with
  | 0 => ⟨S_, .f32⟩
  | 1 => ⟨S2x8192x2048, .f32⟩
  | 2 => ⟨S2x8192x2048, .f32⟩
  | 3 => ⟨S2x8192x2048, .f32⟩
  | 4 => ⟨S2x8192x2048, .f32⟩
  | 5 => ⟨S2x8192x4x512, .f32⟩
  | 6 => ⟨S2x8192x4x512, .f32⟩
  | 7 => ⟨S_, .f32⟩
  | 8 => ⟨S2x8192x4, .f32⟩
  | 9 => ⟨S2x8192x4x1, .f32⟩
  | 10 => ⟨S_, .f32⟩
  | 11 => ⟨S2x8192x4x1, .f32⟩
  | 12 => ⟨S2x8192x4x1, .f32⟩
  | 13 => ⟨S_, .f32⟩
  | 14 => ⟨S2x8192x4x1, .f32⟩
  | 15 => ⟨S2x8192x4x1, .f32⟩
  | 16 => ⟨S2x8192x4x1, .f32⟩
  | 17 => ⟨S2x8192x4x512, .f32⟩
  | 18 => ⟨S2x8192x4x512, .f32⟩
  | 19 => ⟨S2x8192x2048, .f32⟩
  | 20 => ⟨S1x1x2048, .f32⟩
  | 21 => ⟨S2x8192x2048, .f32⟩
  | 22 => ⟨S2x8192x2048, .f32⟩
  | 23 => ⟨S2x8192x2048, .bf16⟩
  | _ => ⟨S2x8192x10240, .bf16⟩

abbrev hbmTy (i : Nat) : BufTy := match i / 128 with
  | 0 => hbmTy0_0 i
  | 1 => hbmTy0_1 i
  | _ => ⟨S2x8192x10240, .bf16⟩

abbrev bufTy : (tb : Table) → Fin (tcTables nBuf tb) → BufTy
  | .hbm, ⟨i, _⟩ => hbmTy i
  | _, _ => ⟨S2x8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst : Ref sig .tc := ⟨.hbm, 48, rfl⟩
abbrev main_v38 : Ref sig .tc := ⟨.hbm, 49, rfl⟩
abbrev main_v39 : Ref sig .tc := ⟨.hbm, 50, rfl⟩
abbrev main_cst_0 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call2_call0_cst : Ref sig .tc := ⟨.hbm, 83, rfl⟩
abbrev main_call2_call0_v0 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_1 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_2 : Ref sig .tc := ⟨.hbm, 125, rfl⟩
abbrev main_v94 : Ref sig .tc := ⟨.hbm, 126, rfl⟩
abbrev main_v95 : Ref sig .tc := ⟨.hbm, 127, rfl⟩
abbrev main_cst_3 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_4 : Ref sig .tc := ⟨.hbm, 135, rfl⟩
abbrev main_v102 : Ref sig .tc := ⟨.hbm, 136, rfl⟩
abbrev main_v103 : Ref sig .tc := ⟨.hbm, 137, rfl⟩
abbrev main_cst_5 : Ref sig .tc := ⟨.hbm, 138, rfl⟩
abbrev main_v104 : Ref sig .tc := ⟨.hbm, 139, rfl⟩
abbrev main_v105 : Ref sig .tc := ⟨.hbm, 140, rfl⟩
abbrev main_cst_6 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩

abbrev nD : Nat := 1
abbrev τ : Topo := Topo.v7x

variable {F : FTy → Type} [FloatOps F]
-- ==== InProj.lean ====
abbrev S2x8192x1024 : Shape := ⟨3, ![2, 8192, 1024]⟩
abbrev S1024 : Shape := ⟨1, ![1024]⟩
abbrev S1024x10272 : Shape := ⟨2, ![1024, 10272]⟩
abbrev S10272x1024 : Shape := ⟨2, ![10272, 1024]⟩
abbrev S1024x32 : Shape := ⟨2, ![1024, 32]⟩
abbrev S1x1024x1x32 : Shape := ⟨4, ![1, 1024, 1, 32]⟩
abbrev S1x1024x3x32 : Shape := ⟨4, ![1, 1024, 3, 32]⟩
abbrev S1024x96 : Shape := ⟨2, ![1024, 96]⟩
abbrev S_ : Shape := ⟨0, ![]⟩
abbrev S1024x128 : Shape := ⟨2, ![1024, 128]⟩
abbrev S16384x1024 : Shape := ⟨2, ![16384, 1024]⟩
abbrev S1x1024 : Shape := ⟨2, ![1, 1024]⟩
abbrev S16384x10240 : Shape := ⟨2, ![16384, 10240]⟩
abbrev S16384x128 : Shape := ⟨2, ![16384, 128]⟩
abbrev S2048x1024 : Shape := ⟨2, ![2048, 1024]⟩
abbrev S1024x1024 : Shape := ⟨2, ![1024, 1024]⟩
abbrev S2048x128 : Shape := ⟨2, ![2048, 128]⟩
abbrev S2048 : Shape := ⟨1, ![2048]⟩
abbrev S2048x1 : Shape := ⟨2, ![2048, 1]⟩

abbrev nBuf : Space → Nat
  | .hbm => 16
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x10272, .f32⟩
  | .hbm, ⟨3, _⟩ => ⟨S10272x1024, .f32⟩
  | .hbm, ⟨4, _⟩ => ⟨S1024x32, .f32⟩
  | .hbm, ⟨5, _⟩ => ⟨S1x1024x1x32, .f32⟩
  | .hbm, ⟨6, _⟩ => ⟨S1x1024x3x32, .f32⟩
  | .hbm, ⟨7, _⟩ => ⟨S1024x96, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S16384x1024, .f32⟩
  | .hbm, ⟨13, _⟩ => ⟨S1x1024, .f32⟩
  | .hbm, ⟨14, _⟩ => ⟨S16384x10240, .bf16⟩
  | .hbm, ⟨15, _⟩ => ⟨S16384x128, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x128, .bf16⟩
  | .local _ .vmem, ⟨6, _⟩ => ⟨S2048x1024, .bf16⟩
  | .local _ .vmem, ⟨7, _⟩ => ⟨S2048x1024, .bf16⟩
  | .local _ .vmem, ⟨8, _⟩ => ⟨S2048x128, .f32⟩
  | .local _ .vmem, ⟨9, _⟩ => ⟨S2048x128, .f32⟩
  | .local _ .vmem, ⟨10, _⟩ => ⟨S2048x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 10], ![false, false]⟩

def k0_mult1 (i : grid0.Coords) : BitVec 32 :=
  let arg1 : BitVec 32 := BitVec.ofNat 32 (i 1).val
  let c8_i32 : BitVec 32 := 8#32
  let v16 : BitVec 1 := Scalar.cmpi .eq arg1 c8_i32
  let c8224_i32 : BitVec 32 := 8224#32
  let c7_i32 : BitVec 32 := 7#32
  let v14 : BitVec 1 := Scalar.cmpi .eq arg1 c7_i32
  let c4096_i32 : BitVec 32 := 4096#32
  let c6_i32 : BitVec 32 := 6#32
  let v12 : BitVec 1 := Scalar.cmpi .eq arg1 c6_i32
  let c3072_i32 : BitVec 32 := 3072#32
  let c5_i32 : BitVec 32 := 5#32
  let v10 : BitVec 1 := Scalar.cmpi .eq arg1 c5_i32
  let c7168_i32 : BitVec 32 := 7168#32
  let c4_i32 : BitVec 32 := 4#32
  let v8 : BitVec 1 := Scalar.cmpi .eq arg1 c4_i32
  let c6144_i32 : BitVec 32 := 6144#32
  let c3_i32 : BitVec 32 := 3#32
  let v6 : BitVec 1 := Scalar.cmpi .eq arg1 c3_i32
  let c5120_i32 : BitVec 32 := 5120#32
  let c2_i32 : BitVec 32 := 2#32
  let v4 : BitVec 1 := Scalar.cmpi .eq arg1 c2_i32
  let c2048_i32 : BitVec 32 := 2048#32
  let c1_i32 : BitVec 32 := 1#32
  let v2 : BitVec 1 := Scalar.cmpi .eq arg1 c1_i32
  let c1024_i32 : BitVec 32 := 1024#32
  let c0_i32 : BitVec 32 := 0#32
  let v0 : BitVec 1 := Scalar.cmpi .eq arg1 c0_i32
  let c0_i32_0 : BitVec 32 := 0#32
  let c9248_i32 : BitVec 32 := 9248#32
  let v1 : BitVec 32 := Scalar.select v0 c0_i32_0 c9248_i32
  let v3 : BitVec 32 := Scalar.select v2 c1024_i32 v1
  let v5 : BitVec 32 := Scalar.select v4 c2048_i32 v3
  let v7 : BitVec 32 := Scalar.select v6 c5120_i32 v5
  let v9 : BitVec 32 := Scalar.select v8 c6144_i32 v7
  let v11 : BitVec 32 := Scalar.select v10 c7168_i32 v9
  let v13 : BitVec 32 := Scalar.select v12 c3072_i32 v11
  let v15 : BitVec 32 := Scalar.select v14 c4096_i32 v13
  let v17 : BitVec 32 := Scalar.select v16 c8224_i32 v15
  v17
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c0_i32_0 : BitVec 32 := 0#32
  let c9248_i32 : BitVec 32 := 9248#32
  let v1 : BitVec 32 := Scalar.select v0 c0_i32_0 c9248_i32
  let c1_i32 : BitVec 32 := 1#32
  let v2 : BitVec 1 := Scalar.cmpi .eq arg1 c1_i32
  let c1024_i32 : BitVec 32 := 1024#32
  let v3 : BitVec 32 := Scalar.select v2 c1024_i32 v1
  let c2_i32 : BitVec 32 := 2#32
  let v4 : BitVec 1 := Scalar.cmpi .eq arg1 c2_i32
  let c2048_i32 : BitVec 32 := 2048#32
  let v5 : BitVec 32 := Scalar.select v4 c2048_i32 v3
  let c3_i32 : BitVec 32 := 3#32
  let v6 : BitVec 1 := Scalar.cmpi .eq arg1 c3_i32
  let c5120_i32 : BitVec 32 := 5120#32
  let v7 : BitVec 32 := Scalar.select v6 c5120_i32 v5
  let c4_i32 : BitVec 32 := 4#32
  let v8 : BitVec 1 := Scalar.cmpi .eq arg1 c4_i32
  let c6144_i32 : BitVec 32 := 6144#32
  let v9 : BitVec 32 := Scalar.select v8 c6144_i32 v7
  let c5_i32 : BitVec 32 := 5#32
  let v10 : BitVec 1 := Scalar.cmpi .eq arg1 c5_i32
  let c7168_i32 : BitVec 32 := 7168#32
  let v11 : BitVec 32 := Scalar.select v10 c7168_i32 v9
  let c6_i32 : BitVec 32 := 6#32
  let v12 : BitVec 1 := Scalar.cmpi .eq arg1 c6_i32
  let c3072_i32 : BitVec 32 := 3072#32
  let v13 : BitVec 32 := Scalar.select v12 c3072_i32 v11
  let c7_i32 : BitVec 32 := 7#32
  let v14 : BitVec 1 := Scalar.cmpi .eq arg1 c7_i32
  let c4096_i32 : BitVec 32 := 4096#32
  let v15 : BitVec 32 := Scalar.select v14 c4096_i32 v13
  let c8_i32 : BitVec 32 := 8#32
  let v16 : BitVec 1 := Scalar.cmpi .eq arg1 c8_i32
  let c8224_i32 : BitVec 32 := 8224#32
  let v17 : BitVec 32 := Scalar.select v16 c8224_i32 v15
  let v18 : BitVec 32 := v17
  let c0_i32_1 : BitVec 32 := 0#32
  let c0_i32_2 : BitVec 32 := 0#32
  ![v18.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProjRefIdeal.lean ====
abbrev S2x8192x1024 : Shape := ⟨3, ![2, 8192, 1024]⟩
abbrev S1024 : Shape := ⟨1, ![1024]⟩
abbrev S1024x10272 : Shape := ⟨2, ![1024, 10272]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x10272 : Shape := ⟨2, ![16384, 10272]⟩
abbrev S16384x3072 : Shape := ⟨2, ![16384, 3072]⟩
abbrev S16384x2048 : Shape := ⟨2, ![16384, 2048]⟩
abbrev S16384x32 : Shape := ⟨2, ![16384, 32]⟩
abbrev S16384x10240 : Shape := ⟨2, ![16384, 10240]⟩
abbrev S16384x128 : Shape := ⟨2, ![16384, 128]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x10272, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x10272, .f32⟩
  | .hbm, ⟨21, _⟩ => ⟨S16384x3072, .f32⟩
  | .hbm, ⟨22, _⟩ => ⟨S16384x2048, .f32⟩
  | .hbm, ⟨23, _⟩ => ⟨S16384x3072, .f32⟩
  | .hbm, ⟨24, _⟩ => ⟨S16384x32, .f32⟩
  | .hbm, ⟨25, _⟩ => ⟨S16384x2048, .f32⟩
  | .hbm, ⟨26, _⟩ => ⟨S16384x10240, .f32⟩
  | .hbm, ⟨27, _⟩ => ⟨S16384x10240, .bf16⟩
  | .hbm, ⟨28, _⟩ => ⟨S_, .f32⟩
  | .hbm, ⟨29, _⟩ => ⟨S16384x32, .f32⟩
  | .hbm, ⟨30, _⟩ => ⟨S16384x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Tail.lean ====
abbrev S2x8192x1024 : Shape := ⟨3, ![2, 8192, 1024]⟩
abbrev S2x8192x2048 : Shape := ⟨3, ![2, 8192, 2048]⟩
abbrev S16384x10240 : Shape := ⟨2, ![16384, 10240]⟩
abbrev S2x8192x256 : Shape := ⟨3, ![2, 8192, 256]⟩
abbrev S1024x1024 : Shape := ⟨2, ![1024, 1024]⟩
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S16384x1024 : Shape := ⟨2, ![16384, 1024]⟩
abbrev S16384x2048 : Shape := ⟨2, ![16384, 2048]⟩
abbrev S1x1024 : Shape := ⟨2, ![1, 1024]⟩
abbrev S16384x256 : Shape := ⟨2, ![16384, 256]⟩
abbrev S512x1024 : Shape := ⟨2, ![512, 1024]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 28
  | .vmem => 23
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x2048, .bf16⟩
  | .hbm, ⟨2, _⟩ => ⟨S16384x10240, .bf16⟩
  | .hbm, ⟨3, _⟩ => ⟨S2x8192x1024, .f32⟩
  | .hbm, ⟨4, _⟩ => ⟨S2x8192x256, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S1024x1024, .f32⟩
  | .hbm, ⟨13, _⟩ => ⟨S256x1024, .f32⟩
  | .hbm, ⟨14, _⟩ => ⟨S16384x1024, .bf16⟩
  | .hbm, ⟨15, _⟩ => ⟨S16384x2048, .bf16⟩
  | .hbm, ⟨16, _⟩ => ⟨S16384x1024, .f32⟩
  | .hbm, ⟨17, _⟩ => ⟨S1024x1024, .bf16⟩
  | .hbm, ⟨18, _⟩ => ⟨S2048x1024, .bf16⟩
  | .hbm, ⟨19, _⟩ => ⟨S1024x1024, .bf16⟩
  | .hbm, ⟨20, _⟩ => ⟨S1x1024, .f32⟩
  | .hbm, ⟨21, _⟩ => ⟨S1024x5632, .bf16⟩
  | .hbm, ⟨22, _⟩ => ⟨S2816x1024, .bf16⟩
  | .hbm, ⟨23, _⟩ => ⟨S16384x256, .f32⟩
  | .hbm, ⟨24, _⟩ => ⟨S1x1024, .f32⟩
  | .hbm, ⟨25, _⟩ => ⟨S1024x1024, .bf16⟩
  | .hbm, ⟨26, _⟩ => ⟨S256x1024, .bf16⟩
  | .hbm, ⟨27, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x5632, .bf16⟩
  | .local _ .vmem, ⟨15, _⟩ => ⟨S2816x1024, .bf16⟩
  | .local _ .vmem, ⟨16, _⟩ => ⟨S512x256, .f32⟩
  | .local _ .vmem, ⟨17, _⟩ => ⟨S512x256, .f32⟩
  | .local _ .vmem, ⟨18, _⟩ => ⟨S1x1024, .f32⟩
  | .local _ .vmem, ⟨19, _⟩ => ⟨S1024x1024, .bf16⟩
  | .local _ .vmem, ⟨20, _⟩ => ⟨S256x1024, .bf16⟩
  | .local _ .vmem, ⟨21, _⟩ => ⟨S512x1024, .f32⟩
  | .local _ .vmem, ⟨22, _⟩ => ⟨S512x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== TailRefIdeal.lean ====
abbrev S2x8192x1024 : Shape := ⟨3, ![2, 8192, 1024]⟩
abbrev S2x8192x2048 : Shape := ⟨3, ![2, 8192, 2048]⟩
abbrev S16384x10240 : Shape := ⟨2, ![16384, 10240]⟩
abbrev S2x8192x256 : Shape := ⟨3, ![2, 8192, 256]⟩
abbrev S1024x1024 : Shape := ⟨2, ![1024, 1024]⟩
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S16384x1024 : Shape := ⟨2, ![16384, 1024]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩
abbrev S16384x256 : Shape := ⟨2, ![16384, 256]⟩

abbrev nBuf : Space → Nat
  | .hbm => 106
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x2048, .bf16⟩
  | .hbm, ⟨2, _⟩ => ⟨S16384x10240, .bf16⟩
  | .hbm, ⟨3, _⟩ => ⟨S2x8192x1024, .f32⟩
  | .hbm, ⟨4, _⟩ => ⟨S2x8192x256, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S1024x1024, .f32⟩
  | .hbm, ⟨13, _⟩ => ⟨S256x1024, .f32⟩
  | .hbm, ⟨14, _⟩ => ⟨S16384x1024, .bf16⟩
  | .hbm, ⟨15, _⟩ => ⟨S16384x1024, .f32⟩
  | .hbm, ⟨16, _⟩ => ⟨S16384x1024, .bf16⟩
  | .hbm, ⟨17, _⟩ => ⟨S16384x1024, .f32⟩
  | .hbm, ⟨18, _⟩ => ⟨S16384x1024, .bf16⟩
  | .hbm, ⟨19, _⟩ => ⟨S16384x1024, .f32⟩
  | .hbm, ⟨20, _⟩ => ⟨S16384x1024, .f32⟩
  | .hbm, ⟨21, _⟩ => ⟨S16384x2048, .bf16⟩
  | .hbm, ⟨22, _⟩ => ⟨S16384x2048, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S16384x5632, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S16384x2816, .f32⟩
  | .hbm, ⟨67, _⟩ => ⟨S_, .f32⟩
  | .hbm, ⟨68, _⟩ => ⟨S16384x2816, .f32⟩
  | .hbm, ⟨69, _⟩ => ⟨S16384x2816, .f32⟩
  | .hbm, ⟨70, _⟩ => ⟨S_, .f32⟩
  | .hbm, ⟨71, _⟩ => ⟨S16384x2816, .f32⟩
  | .hbm, ⟨72, _⟩ => ⟨S16384x2816, .f32⟩
  | .hbm, ⟨73, _⟩ => ⟨S16384x2816, .f32⟩
  | .hbm, ⟨74, _⟩ => ⟨S16384x2816, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x1, .f32⟩
  | .hbm, ⟨88, _⟩ => ⟨S16384x1024, .f32⟩
  | .hbm, ⟨89, _⟩ => ⟨S16384x1024, .f32⟩
  | .hbm, ⟨90, _⟩ => ⟨S1x1024, .f32⟩
  | .hbm, ⟨91, _⟩ => ⟨S16384x1024, .f32⟩
  | .hbm, ⟨92, _⟩ => ⟨S16384x1024, .f32⟩
  | .hbm, ⟨93, _⟩ => ⟨S16384x256, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S_, .f32⟩
  | .hbm, ⟨99, _⟩ => ⟨S16384x1024, .f32⟩
  | .hbm, ⟨100, _⟩ => ⟨S16384x1024, .f32⟩
  | .hbm, ⟨101, _⟩ => ⟨S_, .f32⟩
  | .hbm, ⟨102, _⟩ => ⟨S16384x1024, .f32⟩
  | .hbm, ⟨103, _⟩ => ⟨S16384x1024, .f32⟩
  | .hbm, ⟨104, _⟩ => ⟨S16384x1024, .f32⟩
  | .hbm, ⟨105, _⟩ => ⟨S16384x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_6 : Ref sig .tc := ⟨.hbm, 78, rfl⟩
abbrev main_v49 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_9 : Ref sig .tc := ⟨.hbm, 98, rfl⟩
abbrev main_v66 : Ref sig .tc := ⟨.hbm, 99, rfl⟩
abbrev main_v67 : Ref sig .tc := ⟨.hbm, 100, rfl⟩
abbrev main_cst_10 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]
-- ==== Prep.lean ====
abbrev S2x8192x10240 : Shape := ⟨3, ![2, 8192, 10240]⟩
abbrev S64 : Shape := ⟨1, ![64]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S2x8192x1024 : Shape := ⟨3, ![2, 8192, 1024]⟩
abbrev S2x16x32x32x256 : Shape := ⟨5, ![2, 16, 32, 32, 256]⟩
abbrev S2x8x32x128x256 : Shape := ⟨5, ![2, 8, 32, 128, 256]⟩
abbrev S1x256x1024 : Shape := ⟨3, ![1, 256, 1024]⟩
abbrev S1x16x1x32x256 : Shape := ⟨5, ![1, 16, 1, 32, 256]⟩
abbrev S1x8x1x128x256 : Shape := ⟨5, ![1, 8, 1, 128, 256]⟩
abbrev S32x1024 : Shape := ⟨2, ![32, 1024]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024x256 : Shape := ⟨2, ![1024, 256]⟩
abbrev S8x128x256 : Shape := ⟨3, ![8, 128, 256]⟩
abbrev S32x256 : Shape := ⟨2, ![32, 256]⟩
abbrev S32x128 : Shape := ⟨2, ![32, 128]⟩
abbrev S128x128 : Shape := ⟨2, ![128, 128]⟩
abbrev S128x256 : Shape := ⟨2, ![128, 256]⟩
abbrev S64x128 : Shape := ⟨2, ![64, 128]⟩
abbrev S64x256 : Shape := ⟨2, ![64, 256]⟩
abbrev S1x256 : Shape := ⟨2, ![1, 256]⟩
abbrev S1x1x1x32x256 : Shape := ⟨5, ![1, 1, 1, 32, 256]⟩

abbrev nBuf : Space → Nat
  | .hbm => 15
  | .vmem => 17
  | .smem => 0
  | _ => 0

abbrev bufTy : (tb : Table) → Fin (tcTables nBuf tb) → BufTy
  | .hbm, ⟨0, _⟩ => ⟨S2x8192x10240, .bf16⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S16x64, .f32⟩
  | .hbm, ⟨5, _⟩ => ⟨S1024, .f32⟩
  | .hbm, ⟨6, _⟩ => ⟨S1x1024, .f32⟩
  | .hbm, ⟨7, _⟩ => ⟨S1x64, .f32⟩
  | .hbm, ⟨8, _⟩ => ⟨S16x64, .f32⟩
  | .hbm, ⟨9, _⟩ => ⟨S1024, .f32⟩
  | .hbm, ⟨10, _⟩ => ⟨S1x1024, .f32⟩
  | .hbm, ⟨11, _⟩ => ⟨S2x8192x1024, .bf16⟩
  | .hbm, ⟨12, _⟩ => ⟨S2x8192x1024, .bf16⟩
  | .hbm, ⟨13, _⟩ => ⟨S2x16x32x32x256, .f32⟩
  | .hbm, ⟨14, _⟩ => ⟨S2x8x32x128x256, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1024, .f32⟩
  | .local _ .vmem, ⟨7, _⟩ => ⟨S1x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x16x1x32x256, .f32⟩
  | .local _ .vmem, ⟨13, _⟩ => ⟨S1x16x1x32x256, .f32⟩
  | .local _ .vmem, ⟨14, _⟩ => ⟨S1x8x1x128x256, .bf16⟩
  | .local _ .vmem, ⟨15, _⟩ => ⟨S1x8x1x128x256, .bf16⟩
  | .local _ .vmem, ⟨16, _⟩ => ⟨S32x1024, .f32⟩
  | _, _ => ⟨S2x8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev main_v8_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 32], ![false, false]⟩

def k0_off1 (i : grid0.Coords) : Fin 2 → Nat :=
  let arg1 : BitVec 32 := BitVec.ofNat 32 (i 1).val
  let v1546 : Index := Scalar.indexCast arg1
  let c0_509 : Index := 0#32
  ![v1546.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PrepRefIdeal.lean ====
abbrev S2x8192x10240 : Shape := ⟨3, ![2, 8192, 10240]⟩
abbrev S64 : Shape := ⟨1, ![64]⟩
abbrev S2x8192x1024 : Shape := ⟨3, ![2, 8192, 1024]⟩
abbrev S2x8192x16x64 : Shape := ⟨4, ![2, 8192, 16, 64]⟩
abbrev S_ : Shape := ⟨0, ![]⟩
abbrev S2x8192x16 : Shape := ⟨3, ![2, 8192, 16]⟩
abbrev S2x8192x16x1 : Shape := ⟨4, ![2, 8192, 16, 1]⟩
abbrev S1x1x1x64 : Shape := ⟨4, ![1, 1, 1, 64]⟩
abbrev S2x32x256x16x64 : Shape := ⟨5, ![2, 32, 256, 16, 64]⟩
abbrev S2x32x16x64 : Shape := ⟨4, ![2, 32, 16, 64]⟩
abbrev S2x16x32x256x32 : Shape := ⟨5, ![2, 16, 32, 256, 32]⟩
abbrev S2x16x32x32x256 : Shape := ⟨5, ![2, 16, 32, 32, 256]⟩
abbrev S32 : Shape := ⟨1, ![32]⟩
abbrev S1x32 : Shape := ⟨2, ![1, 32]⟩
abbrev S32x1 : Shape := ⟨2, ![32, 1]⟩
abbrev S32x32 : Shape := ⟨2, ![32, 32]⟩
abbrev S1x1x32x32x1 : Shape := ⟨5, ![1, 1, 32, 32, 1]⟩
abbrev S2x16x32x1x32x256 : Shape := ⟨6, ![2, 16, 32, 1, 32, 256]⟩
abbrev S2x16x32x32x1x256 : Shape := ⟨6, ![2, 16, 32, 32, 1, 256]⟩
abbrev S2x16x32x32x32x256 : Shape := ⟨6, ![2, 16, 32, 32, 32, 256]⟩
abbrev S1x1x1x32x32x1 : Shape := ⟨6, ![1, 1, 1, 32, 32, 1]⟩
abbrev S2x32x256x8x128 : Shape := ⟨5, ![2, 32, 256, 8, 128]⟩
abbrev S2x8x32x128x256 : Shape := ⟨5, ![2, 8, 32, 128, 256]⟩

abbrev nBuf : Space → Nat
  | .hbm => 100
  | .vmem => 0
  | .smem => 0
  | _ => 0

abbrev bufTy : (tb : Table) → Fin (tcTables nBuf tb) → BufTy
  | .hbm, ⟨0, _⟩ => ⟨S2x8192x10240, .bf16⟩
  | .hbm, ⟨1, _⟩ => ⟨S64, .f32⟩
  | .hbm, ⟨2, _⟩ => ⟨S64, .f32⟩
  | .hbm, ⟨3, _⟩ => ⟨S2x8192x1024, .bf16⟩
  | .hbm, ⟨4, _⟩ => ⟨S2x8192x1024, .f32⟩
  | .hbm, ⟨5, _⟩ => ⟨S2x8192x16x64, .f32⟩
  | .hbm, ⟨6, _⟩ => ⟨S2x8192x16x64, .f32⟩
  | .hbm, ⟨7, _⟩ => ⟨S_, .f32⟩
  | .hbm, ⟨8, _⟩ => ⟨S2x8192x16, .f32⟩
  | .hbm, ⟨9, _⟩ => ⟨S2x8192x16x1, .f32⟩
  | .hbm, ⟨10, _⟩ => ⟨S_, .f32⟩
  | .hbm, ⟨11, _⟩ => ⟨S2x8192x16x1, .f32⟩
  | .hbm, ⟨12, _⟩ => ⟨S2x8192x16x1, .f32⟩
  | .hbm, ⟨13, _⟩ => ⟨S_, .f32⟩
  | .hbm, ⟨14, _⟩ => ⟨S2x8192x16x1, .f32⟩
  | .hbm, ⟨15, _⟩ => ⟨S2x8192x16x1, .f32⟩
  | .hbm, ⟨16, _⟩ => ⟨S2x8192x16x1, .f32⟩
  | .hbm, ⟨17, _⟩ => ⟨S2x8192x16x64, .f32⟩
  | .hbm, ⟨18, _⟩ => ⟨S2x8192x16x64, .f32⟩
  | .hbm, ⟨19, _⟩ => ⟨S1x1x1x64, .f32⟩
  | .hbm, ⟨20, _⟩ => ⟨S2x8192x16x64, .f32⟩
  | .hbm, ⟨21, _⟩ => ⟨S2x8192x16x64, .f32⟩
  | .hbm, ⟨22, _⟩ => ⟨S_, .f32⟩
  | .hbm, ⟨23, _⟩ => ⟨S2x8192x16x64, .f32⟩
  | .hbm, ⟨24, _⟩ => ⟨S2x8192x16x64, .f32⟩
  | .hbm, ⟨25, _⟩ => ⟨S2x8192x1024, .bf16⟩
  | .hbm, ⟨26, _⟩ => ⟨S2x8192x1024, .f32⟩
  | .hbm, ⟨27, _⟩ => ⟨S2x8192x16x64, .f32⟩
  | .hbm, ⟨28, _⟩ => ⟨S2x8192x16x64, .f32⟩
  | .hbm, ⟨29, _⟩ => ⟨S_, .f32⟩
  | .hbm, ⟨30, _⟩ => ⟨S2x8192x16, .f32⟩
  | .hbm, ⟨31, _⟩ => ⟨S2x8192x16x1, .f32⟩
  | .hbm, ⟨32, _⟩ => ⟨S_, .f32⟩
  | .hbm, ⟨33, _⟩ => ⟨S2x8192x16x1, .f32⟩
  | .hbm, ⟨34, _⟩ => ⟨S2x8192x16x1, .f32⟩
  | .hbm, ⟨35, _⟩ => ⟨S_, .f32⟩
  | .hbm, ⟨36, _⟩ => ⟨S2x8192x16x1, .f32⟩
  | .hbm, ⟨37, _⟩ => ⟨S2x8192x16x1, .f32⟩
  | .hbm, ⟨38, _⟩ => ⟨S2x8192x16x1, .f32⟩
  | .hbm, ⟨39, _⟩ => ⟨S2x8192x16x64, .f32⟩
  | .hbm, ⟨40, _⟩ => ⟨S2x8192x16x64, .f32⟩
  | .hbm, ⟨41, _⟩ => ⟨S1x1x1x64, .f32⟩
  | .hbm, ⟨42, _⟩ => ⟨S2x8192x16x64, .f32⟩
  | .hbm, ⟨43, _⟩ => ⟨S2x8192x16x64, .f32⟩
  | .hbm, ⟨44, _⟩ => ⟨S2x32x256x16x64, .f32⟩
  | .hbm, ⟨45, _⟩ => ⟨S_, .f32⟩
  | .hbm, ⟨46, _⟩ => ⟨S2x32x16x64, .f32⟩
  | .hbm, ⟨47, _⟩ => ⟨S_, .f32⟩
  | .hbm, ⟨48, _⟩ => ⟨S2x32x16x64, .f32⟩
  | .hbm, ⟨49, _⟩ => ⟨S2x32x16x64, .f32⟩
  | .hbm, ⟨50, _⟩ => ⟨S2x32x256x16x64, .f32⟩
  | .hbm, ⟨51, _⟩ => ⟨S2x16x32x256x32, .f32⟩
  | .hbm, ⟨52, _⟩ => ⟨S2x16x32x32x256, .f32⟩
  | .hbm, ⟨53, _⟩ => ⟨S32, .i32⟩
  | .hbm, ⟨54, _⟩ => ⟨S1x32, .i32⟩
  | .hbm, ⟨55, _⟩ => ⟨S32x1, .i32⟩
  | .hbm, ⟨56, _⟩ => ⟨S32x32, .i32⟩
  | .hbm, ⟨57, _⟩ => ⟨S32x32, .i32⟩
  | .hbm, ⟨58, _⟩ => ⟨S32x32, .i1⟩
  | .hbm, ⟨59, _⟩ => ⟨S1x1x32x32x1, .i1⟩
  | .hbm, ⟨60, _⟩ => ⟨S_, .f32⟩
  | .hbm, ⟨61, _⟩ => ⟨S_, .f32⟩
  | .hbm, ⟨62, _⟩ => ⟨S2x16x32x32x256, .i1⟩
  | .hbm, ⟨63, _⟩ => ⟨S2x16x32x32x256, .f32⟩
  | .hbm, ⟨64, _⟩ => ⟨S2x16x32x32x256, .f32⟩
  | .hbm, ⟨65, _⟩ => ⟨S2x16x32x1x32x256, .f32⟩
  | .hbm, ⟨66, _⟩ => ⟨S2x16x32x32x1x256, .f32⟩
  | .hbm, ⟨67, _⟩ => ⟨S2x16x32x32x32x256, .f32⟩
  | .hbm, ⟨68, _⟩ => ⟨S2x16x32x32x32x256, .f32⟩
  | .hbm, ⟨69, _⟩ => ⟨S2x16x32x32x32x256, .i1⟩
  | .hbm, ⟨70, _⟩ => ⟨S2x16x32x1x32x256, .f32⟩
  | .hbm, ⟨71, _⟩ => ⟨S2x16x32x32x1x256, .f32⟩
  | .hbm, ⟨72, _⟩ => ⟨S2x16x32x32x32x256, .f32⟩
  | .hbm, ⟨73, _⟩ => ⟨S2x16x32x32x32x256, .f32⟩
  | .hbm, ⟨74, _⟩ => ⟨S2x16x32x32x32x256, .i1⟩
  | .hbm, ⟨75, _⟩ => ⟨S1x32, .i32⟩
  | .hbm, ⟨76, _⟩ => ⟨S32x1, .i32⟩
  | .hbm, ⟨77, _⟩ => ⟨S32x32, .i32⟩
  | .hbm, ⟨78, _⟩ => ⟨S32x32, .i32⟩
  | .hbm, ⟨79, _⟩ => ⟨S32x32, .i1⟩
  | .hbm, ⟨80, _⟩ => ⟨S1x1x1x32x32x1, .i1⟩
  | .hbm, ⟨81, _⟩ => ⟨S2x16x32x32x32x256, .i1⟩
  | .hbm, ⟨82, _⟩ => ⟨S2x16x32x32x32x256, .i1⟩
  | .hbm, ⟨83, _⟩ => ⟨S2x16x32x32x32x256, .i1⟩
  | .hbm, ⟨84, _⟩ => ⟨S2x16x32x32x32x256, .f32⟩
  | .hbm, ⟨85, _⟩ => ⟨S_, .f32⟩
  | .hbm, ⟨86, _⟩ => ⟨S2x16x32x32x256, .f32⟩
  | .hbm, ⟨87, _⟩ => ⟨S_, .f32⟩
  | .hbm, ⟨88, _⟩ => ⟨S2x16x32x32x256, .f32⟩
  | .hbm, ⟨89, _⟩ => ⟨S2x16x32x32x256, .i1⟩
  | .hbm, ⟨90, _⟩ => ⟨S2x16x32x32x256, .i1⟩
  | .hbm, ⟨91, _⟩ => ⟨S2x16x32x32x256, .i1⟩
  | .hbm, ⟨92, _⟩ => ⟨S2x16x32x32x256, .f32⟩
  | .hbm, ⟨93, _⟩ => ⟨S2x8192x1024, .bf16⟩
  | .hbm, ⟨94, _⟩ => ⟨S2x32x256x8x128, .bf16⟩
  | .hbm, ⟨95, _⟩ => ⟨S2x8x32x128x256, .bf16⟩
  | .hbm, ⟨96, _⟩ => ⟨S2x8192x1024, .f32⟩
  | .hbm, ⟨97, _⟩ => ⟨S2x8192x1024, .bf16⟩
  | .hbm, ⟨98, _⟩ => ⟨S2x8192x1024, .f32⟩
  | .hbm, ⟨99, _⟩ => ⟨S2x8192x1024, .bf16⟩
  | _, _ => ⟨S2x8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]
-- ==== Proof.SsdProg.lean ====
/- The scan's body written with its repetitions as functions of the block, the pair of heads, the group and the chunk, and the printed body as that program. -/
module

public import proofs.«01_k».proof.Proof.Gen.SsdIdeal.Skeleton
public import Idealize.ShloMosaic.Lib.Tactic

@[expose] public section

set_option maxRecDepth 16384

noncomputable section

namespace Cert.SsdIdeal.Chunk

open Cert.SsdIdeal Cert.SsdIdeal.Gen
open Idealize.ShloMosaic Idealize.SL.Sem Idealize.ShloMosaic.Tactic

variable {F : FTy → Type} [FloatOps F] [Named F]

/-! ## Offsets in range -/

theorem inE {b r : ℕ} (hb : b < 24) (hr : r + 128 ≤ 136) : ∀ a, (![b, r, 0] : Fin 3 → ℕ) a + S1x128x128.size a ≤ S24x136x128.size a := by
  intro a; fin_cases a
  · show b + 1 ≤ 24; omega
  · show r + 128 ≤ 136; omega
  · exact Nat.le_refl _
theorem inE8 {b r : ℕ} (hb : b < 24) (hr : r + 8 ≤ 136) : ∀ a, (![b, r, 0] : Fin 3 → ℕ) a + S1x8x128.size a ≤ S24x136x128.size a := by
  intro a; fin_cases a
  · show b + 1 ≤ 24; omega
  · show r + 8 ≤ 136; omega
  · exact Nat.le_refl _
theorem inW {b : ℕ} (hb : b < 24) : ∀ a, (![b, 0, 0] : Fin 3 → ℕ) a + S1x4x128.size a ≤ S24x4x128.size a := by
  intro a; fin_cases a
  · show b + 1 ≤ 24; omega
  all_goals exact Nat.le_refl _
theorem inB {b : ℕ} (hb : b < 24) : ∀ a, (![b, 0, 0] : Fin 3 → ℕ) a + S1x1x128.size a ≤ S24x1x128.size a := by
  intro a; fin_cases a
  · show b + 1 ≤ 24; omega
  all_goals exact Nat.le_refl _
theorem inA {b : ℕ} (hb : b < 24) : ∀ a, (![b, 0, 0] : Fin 3 → ℕ) a + S1x128x128.size a ≤ S24x128x128.size a := by
  intro a; fin_cases a
  · show b + 1 ≤ 24; omega
  all_goals exact Nat.le_refl _
theorem inS {j : ℕ} (hj : j < 16) : ∀ a, (![j, 0, 0] : Fin 3 → ℕ) a + S1x128x128.size a ≤ S16x128x128.size a := by
  intro a; fin_cases a
  · show j + 1 ≤ 16; omega
  all_goals exact Nat.le_refl _
theorem inR {j : ℕ} (hj : j < 16) : ∀ a, (![j, 0, 0] : Fin 3 → ℕ) a + S1x256x128.size a ≤ S16x256x128.size a := by
  intro a; fin_cases a
  · show j + 1 ≤ 16; omega
  all_goals exact Nat.le_refl _
theorem inL {j : ℕ} (hj : j < 16) : ∀ a, (![j, 0, 0] : Fin 3 → ℕ) a + S1x128x256.size a ≤ S16x128x256.size a := by
  intro a; fin_cases a
  · show j + 1 ≤ 16; omega
  all_goals exact Nat.le_refl _
theorem inT {h : ℕ} (hh : h < 32) : ∀ a, (![h, 0] : Fin 2 → ℕ) a + S1x128.size a ≤ S128x128.size a := by
  intro a; fin_cases a
  · show h + 1 ≤ 128; omega
  all_goals exact Nat.le_refl _
theorem inV {j : ℕ} (hj : j < 16) : ∀ a, (![0, 128 * j] : Fin 2 → ℕ) a + S1x128.size a ≤ S1x2048.size a := by
  intro a; fin_cases a
  · exact Nat.le_refl _
  · show 128 * j + 128 ≤ 2048; omega
theorem inX {b : ℕ} (hb : b < 24) : ∀ a, (![0, 128 * b] : Fin 2 → ℕ) a + S128x128.size a ≤ S128x3072.size a := by
  intro a; fin_cases a
  · exact Nat.le_refl _
  · show 128 * b + 128 ≤ 3072; omega
theorem inZ {j : ℕ} (hj : j < 16) : ∀ a, (![0, 128 * j] : Fin 2 → ℕ) a + S128x128.size a ≤ S128x2048.size a := by
  intro a; fin_cases a
  · exact Nat.le_refl _
  · show 128 * j + 128 ≤ 2048; omega
theorem inO {s j : ℕ} (hs : s < 2) (hj : j < 16) : ∀ a, (![0, 128 * s, 128 * j] : Fin 3 → ℕ) a + S1x128x128.size a ≤ S1x256x2048.size a := by
  intro a; fin_cases a
  · exact Nat.le_refl _
  · show 128 * s + 128 ≤ 256; omega
  · show 128 * j + 128 ≤ 2048; omega
theorem inXs {s : ℕ} (hs : s < 2) : ∀ a, (![0, 128 * s, 0] : Fin 3 → ℕ) a + S1x128x3072.size a ≤ S1x256x3072.size a := by
  intro a; fin_cases a
  · exact Nat.le_refl _
  · show 128 * s + 128 ≤ 256; omega
  · exact Nat.le_refl _
theorem inZs {s : ℕ} (hs : s < 2) : ∀ a, (![0, 128 * s, 0] : Fin 3 → ℕ) a + S1x128x2048.size a ≤ S1x256x2048.size a := by
  intro a; fin_cases a
  · exact Nat.le_refl _
  · show 128 * s + 128 ≤ 256; omega
  · exact Nat.le_refl _
theorem inD {s : ℕ} (hs : s < 2) : ∀ a, (![0, 128 * s, 0] : Fin 3 → ℕ) a + S1x128x128.size a ≤ S1x256x128.size a := by
  intro a; fin_cases a
  · exact Nat.le_refl _
  · show 128 * s + 128 ≤ 256; omega
  · exact Nat.le_refl _
theorem inC {g : ℕ} (hg : g < 4) : ∀ a, (![g, 0, 0] : Fin 3 → ℕ) a + S1x128x1024.size a ≤ S4x128x1024.size a := by
  intro a; fin_cases a
  · show g + 1 ≤ 4; omega
  all_goals exact Nat.le_refl _
theorem inC5 {g : ℕ} (hg : g < 4) : ∀ a, (![g, 0, 0] : Fin 3 → ℕ) a + S1x128x512.size a ≤ S4x128x512.size a := by
  intro a; fin_cases a
  · show g + 1 ≤ 4; omega
  all_goals exact Nat.le_refl _
theorem sl8 : ∀ k : Fin 8, S128x1024.Slices ![0, 128 * k.val] S128x128 := by decide
theorem sl4 : ∀ k : Fin 4, S128x512.Slices ![0, 128 * k.val] S128x128 := by decide
theorem pkR : ∀ j : Fin 16, (Rect.unit (s := S16x256x128) ![j.val, 0, 0] S1x256x128.size (inR j.isLt)).PackedRows (EltTy.packing .bf16) := by decide
theorem pkL : ∀ j : Fin 16, (Rect.unit (s := S16x128x256) ![j.val, 0, 0] S1x128x256.size (inL j.isLt)).PackedRows (EltTy.packing .bf16) := by decide
theorem pkO : ∀ (s : Fin 2) (j : Fin 16), (Rect.unit (s := S1x256x2048) ![0, 128 * s.val, 128 * j.val] S1x128x128.size (inO s.isLt j.isLt)).PackedRows (EltTy.packing .bf16) := by decide

/-! ## The buffers -/

/-- The body's buffers: the windows and the scratch. -/
structure Refs where
  x : Memref sig .tc .vmem S1x256x3072 .bf16
  z : Memref sig .tc .vmem S1x256x2048 .bf16
  d : Memref sig .tc .vmem S1x256x128 .f32
  w : Memref sig .tc .vmem S24x4x128 .f32
  b : Memref sig .tc .vmem S24x1x128 .f32
  t : Memref sig .tc .vmem S1x128 .f32
  a : Memref sig .tc .vmem S1x128 .f32
  k : Memref sig .tc .vmem S1x2048 .f32
  n : Memref sig .tc .vmem S1x2048 .f32
  c : Memref sig .tc .vmem S4x128x1024 .bf16
  u : Memref sig .tc .vmem S4x128x512 .bf16
  o : Memref sig .tc .vmem S1x256x2048 .bf16
  ho : o.IsWhole
  ext : Memref sig .tc .vmem S24x136x128 .f32
  act : Memref sig .tc .vmem S24x128x128 .f32
  st : Memref sig .tc .vmem S16x128x128 .f32
  y : Memref sig .tc .vmem S16x128x128 .f32
  cs : Memref sig .tc .vmem S128x128 .f32
  ld : Memref sig .tc .vmem S128x128 .f32
  rhs : Memref sig .tc .vmem S16x256x128 .bf16
  hrhs : rhs.IsWhole
  ly : Memref sig .tc .vmem S16x128x256 .bf16
  hly : ly.IsWhole
  ls : Memref sig .tc .vmem S16x128x256 .bf16
  hls : ls.IsWhole

abbrev P (α : Type) := Prog (TpuEff nD τ sig (Elt F) Λ₀ .tc) α

/-! ## The values -/

def zeros : FVec F S128x128 .f32 := broadcast S128x128 (Scalar.ofBits .f32 0x00000000#32)
def ones : FVec F S128x128 .f32 := broadcast S128x128 (Scalar.ofBits .f32 0x3F800000#32)
def row (v : FVec F S1x128 .f32) : FVec F S128x128 .f32 := broadcastTo S128x128 v broadcasts_S1x128_S128x128
def flat (v : Vec F S1x128x128 .f32) : FVec F S128x128 .f32 := shapeCast S128x128 v shapeCasts_S1x128x128_S128x128
def boxed (v : FVec F S128x128 .f32) : FVec F S1x128x128 .f32 := shapeCast S1x128x128 v shapeCasts_S128x128_S1x128x128
def flat1 (v : Vec F S1x128 .f32) : FVec F S1x128 .f32 := shapeCast S1x128 v shapeCasts_S1x128_S1x128
/-- `v` times its logistic function. -/
def silu (v : FVec F S128x128 .f32) : FVec F S128x128 .f32 := mulf v (divf ones (addf ones (exp (subf zeros v))))
/-- The causal positions of a chunk. -/
def tri : IVec S128x128 1 := cmpi .sle (iota .tc S128x128 32 [1] iota_S128x128_d1_w32) (iota .tc S128x128 32 [0] iota_S128x128_d0_w32)
/-- The lanes of a pair's first head. -/
def isA : IVec S1x128 1 := cmpi .slt (iota .tc S1x128 32 [1] iota_S1x128_d1_w32) (broadcast S1x128 64#32)
def isLt32 : IVec S1x128 1 := cmpi .slt (iota .tc S1x128 32 [1] iota_S1x128_d1_w32) (broadcast S1x128 32#32)
def wide (v : IVec S1x128 1) : IVec S128x128 1 := broadcastTo S128x128 (shapeCast S1x128 v shapeCasts_S1x128_S1x128) broadcasts_S1x128_S128x128
/-- The step sizes of a chunk. -/
def stepV (d : Vec F S1x128x128 .f32) (t : Vec F S1x128 .f32) : FVec F S128x128 .f32 :=
  let i := addf (flat d) (row (flat1 t))
  addf (maximumf i zeros) (log (addf ones (exp (subf zeros (absf i)))))
/-- The running sums of the decay exponents. -/
def accV (d : Vec F S1x128x128 .f32) (t a : Vec F S1x128 .f32) : FVec F S128x128 .f32 :=
  matmul dot_S128x128_S128x128_S128x128_1_0_0_1_n_n (some .fp32) (sitofp .f32 (extui 32 tri natLt_1_32))
    (mulf (stepV d t) (row (mulf (broadcast S1x128 (Named.named κ "neg_log2e" 0xBFB8AA3B#32)) (exp (flat1 a)))))
    (constant S128x128 .f32 0x00000000#32)
def turned (v : FVec F S128x128 .f32) : FVec F S128x128 .f32 :=
  shapeCast S128x128 (transpose S128x128 [1, 0] v transposes_S128x128_p1_0_S128x128) shapeCasts_S128x128_S128x128
def logV (d : Vec F S1x128x128 .f32) (t : Vec F S1x128 .f32) : FVec F S128x128 .f32 :=
  mulf (log (stepV d t)) (broadcast S128x128 (Named.named κ "log2e" 0x3FB8AA3B#32))
/-- A value as a narrow part and two remainders, by thirds of the lanes. -/
def parts (v : FVec F S128x128 .f32) : FVec F S128x128 .bf16 :=
  let hi := truncf .bf16 v bitsLt_bf16_f32
  let r := subf v (extf .f32 hi bitsLt_bf16_f32)
  let mid := truncf .bf16 r bitsLt_bf16_f32
  let lo := truncf .bf16 (subf r (extf .f32 mid bitsLt_bf16_f32)) bitsLt_bf16_f32
  select (wide isLt32) hi (select (wide isA) mid lo)
def convV (w : Vec F S1x4x128 .f32) (b : Vec F S1x1x128 .f32) (e5 e6 e7 e8 : Vec F S1x128x128 .f32) : FVec F S128x128 .f32 :=
  let ws := shapeCast S4x128 w shapeCasts_S1x4x128_S4x128
  let v0 := addf (row (shapeCast S1x128 b shapeCasts_S1x1x128_S1x128)) (mulf (row (extractStridedSlice S1x128 ![0, 0] ws slices_S4x128_o0_0_S1x128)) (flat e5))
  let v1 := addf v0 (mulf (row (extractStridedSlice S1x128 ![1, 0] ws slices_S4x128_o1_0_S1x128)) (flat e6))
  let v2 := addf v1 (mulf (row (extractStridedSlice S1x128 ![2, 0] ws slices_S4x128_o2_0_S1x128)) (flat e7))
  addf v2 (mulf (row (extractStridedSlice S1x128 ![3, 0] ws slices_S4x128_o3_0_S1x128)) (flat e8))
def nar (v : FVec F S128x128 .f32) : FVec F S128x128 .bf16 := truncf .bf16 v bitsLt_bf16_f32
def scoreV (b c : Vec F S1x128x128 .f32) : FVec F S128x128 .f32 :=
  matmul dot_S128x128_S128x128_S128x128_1_1_0_0_n_n none (nar (flat c)) (nar (flat b)) (constant S128x128 .f32 0x00000000#32)
def expandV (p : FVec F S128x128 .bf16) (c : Vec F S1x128x1024 .bf16) : FVec F S128x1024 .f32 :=
  matmul dot_S128x128_S128x1024_S128x1024_1_0_0_1_n_n none p (shapeCast S128x1024 c shapeCasts_S1x128x1024_S128x1024) (constant S128x1024 .f32 0x00000000#32)
def expand5V (p : FVec F S128x128 .bf16) (u : Vec F S1x128x512 .bf16) : FVec F S128x512 .f32 :=
  matmul dot_S128x128_S128x512_S128x512_1_0_0_1_n_n none p (shapeCast S128x512 u shapeCasts_S1x128x512_S128x512) (constant S128x512 .f32 0x00000000#32)
def prevV (s0 s1 s2 s3 : Vec F S1x128x128 .f32) : FVec F S128x512 .bf16 :=
  truncf .bf16 (concatenate S128x512 1 [⟨S128x128, flat s0⟩, ⟨S128x128, flat s1⟩, ⟨S128x128, flat s2⟩, ⟨S128x128, flat s3⟩] concatenates_S128x128_S128x128_S128x128_S128x128_S128x512_d1) bitsLt_bf16_f32
def offV (c : Vec F S1x128x128 .f32) (prev : FVec F S128x512 .bf16) (wst : FVec F S128x512 .f32) : FVec F S128x512 .f32 :=
  mulf (matmul dot_S128x128_S128x512_S128x512_1_0_0_1_n_n none (nar (flat c)) prev (constant S128x512 .f32 0x00000000#32)) wst
def zeroB : FVec F S128x128 .bf16 := broadcast S128x128 (Scalar.ofBits .bf16 0x0000#16)
def rhsV (x : Vec F S1x128x128 .f32) : FVec F S1x256x128 .bf16 :=
  shapeCast S1x256x128 (concatenate S256x128 0 [⟨S128x128, select (wide isA) (nar (flat x)) zeroB⟩, ⟨S128x128, select (wide isA) zeroB (nar (flat x))⟩] concatenates_S128x128_S128x128_S256x128_d0) shapeCasts_S256x128_S1x256x128
def lhsY (cm : FVec F S128x1024 .f32) (cb : FVec F S128x128 .f32) (k : ℕ) (hk : k < 8) (ar lr : Vec F S1x128 .f32) : FVec F S128x128 .bf16 :=
  nar (mulf (exp2 (select tri (subf (extractStridedSlice S128x128 ![0, 128 * k] cm (sl8 ⟨k, hk⟩)) (row (subf ar lr))) (broadcast S128x128 (Named.named κ "mask" 0xF149F2CA#32)))) cb)
def totV (ar : Vec F S1x128 .f32) : FVec F S1x1 .f32 := extractStridedSlice S1x1 ![0, 127] ar slices_S1x128_o0_127_S1x1
def lhsS (bt : FVec F S128x128 .f32) (ar lr : Vec F S1x128 .f32) : FVec F S128x128 .bf16 :=
  nar (mulf bt (row (exp2 (subf (broadcastTo S1x128 (totV ar) broadcasts_S1x1_S1x128) (subf ar lr)))))
def pairV (p q : FVec F S128x128 .bf16) : FVec F S1x128x256 .bf16 :=
  shapeCast S1x128x256 (concatenate S128x256 1 [⟨S128x128, p⟩, ⟨S128x128, q⟩] concatenates_S128x128_S128x128_S128x256_d1) shapeCasts_S128x256_S1x128x256
def decV (a0 a1 : Vec F S1x128 .f32) : FVec F S1x128 .f32 :=
  select isA (broadcastTo S1x128 (shapeCast S1x1 (exp2 (totV a0)) shapeCasts_S1x1_S1x1) broadcasts_S1x1_S1x128) (broadcastTo S1x128 (shapeCast S1x1 (exp2 (totV a1)) shapeCasts_S1x1_S1x1) broadcasts_S1x1_S1x128)
def prodV (l : Vec F S1x128x256 .bf16) (r : Vec F S1x256x128 .bf16) : FVec F S128x128 .f32 :=
  matmul dot_S128x256_S256x128_S128x128_1_0_0_1_n_n none (shapeCast S128x256 l shapeCasts_S1x128x256_S128x256) (shapeCast S256x128 r shapeCasts_S1x256x128_S256x128) (constant S128x128 .f32 0x00000000#32)
def yV (l : Vec F S1x128x256 .bf16) (r : Vec F S1x256x128 .bf16) (off : FVec F S128x512 .f32) (k : ℕ) (hk : k < 4) : FVec F S1x128x128 .f32 :=
  boxed (addf (prodV l r) (extractStridedSlice S128x128 ![0, 128 * k] off (sl4 ⟨k, hk⟩)))
def stV (s : Vec F S1x128x128 .f32) (dec : FVec F S1x128 .f32) (l : Vec F S1x128x256 .bf16) (r : Vec F S1x256x128 .bf16) : FVec F S1x128x128 .f32 :=
  boxed (addf (mulf (flat s) (row dec)) (prodV l r))
def gatedV (z : Vec F S128x128 .bf16) (y : Vec F S1x128x128 .f32) (k : Vec F S1x128 .f32) (x : Vec F S1x128x128 .f32) : FVec F S128x128 .f32 :=
  mulf (addf (flat y) (mulf (row (flat1 k)) (flat x))) (silu (extf .f32 z bitsLt_bf16_f32))
def ssq (a : FVec F S128x1 .f32) (v : FVec F S128x128 .f32) : FVec F S128x1 .f32 :=
  addf a (shapeCast S128x1 (multiReduction .add [1] S128 (mulf v v) 0x00000000#32 reduces_S128x128_S128 (.inl rfl) rfl) shapeCasts_S128_S128x1)
def scaleV (v0 v1 v2 v3 : FVec F S128x128 .f32) : FVec F S128x1 .f32 :=
  rsqrt (addf (mulf (ssq (ssq (ssq (ssq (broadcast S128x1 (Scalar.ofBits .f32 0x00000000#32)) v0) v1) v2) v3) (broadcast S128x1 (Scalar.ofBits .f32 0x3B000000#32))) (broadcast S128x1 (Scalar.ofBits .f32 0x358637BD#32)))
def outV (v : FVec F S128x128 .f32) (sc : FVec F S128x1 .f32) (n : Vec F S1x128 .f32) : Vec F S1x128x128 .bf16 :=
  shapeCast S1x128x128 (nar (mulf (mulf v (broadcastTo S128x128 sc broadcasts_S128x1_S128x128)) (row (flat1 n)))) shapeCasts_S128x128_S1x128x128

/-! ## The program -/

variable (R : Refs)

/-- The convolution and its activation at block `b` of chunk `s`. -/
def conv (s : ℕ) (hs : s < 2) (b : ℕ) (hb : b < 24) : P (F := F) PUnit := do
  let xv : Vec F S128x128 .bf16 ← Prog.lift (.load ((R.x.slice (Rect.unit (s := S1x256x3072) ![0, 128 * s, 0] S1x128x3072.size (inXs hs)) (fun _ => rfl)).squeeze S128x3072 squeezes_S1x128x3072_S128x3072) (Rect.unit (s := S128x3072) ![0, 128 * b] S128x128.size (inX hb)).toLoadRect (View.loadsAt_vmem h_S128x128))
  let _ ← Prog.lift (.load R.ext (Rect.unit (s := S24x136x128) ![b, 8, 0] S1x128x128.size (inE hb (by decide))).toLoadRect (View.loadsAt_vmem h_S1x128x128))
  Prog.lift (.store R.ext (Rect.unit (s := S24x136x128) ![b, 8, 0] S1x128x128.size (inE hb (by decide))) (boxed (extf .f32 xv bitsLt_bf16_f32)) Finset.univ (View.stores_vmem_bits_univ h_S1x128x128 rfl) (.inl rfl))
  let wv : Vec F S1x4x128 .f32 ← Prog.lift (.load R.w (Rect.unit (s := S24x4x128) ![b, 0, 0] S1x4x128.size (inW hb)).toLoadRect (View.loadsAt_vmem h_S1x4x128))
  let bv : Vec F S1x1x128 .f32 ← Prog.lift (.load R.b (Rect.unit (s := S24x1x128) ![b, 0, 0] S1x1x128.size (inB hb)).toLoadRect (View.loadsAt_vmem h_S1x1x128))
  let e5 : Vec F S1x128x128 .f32 ← Prog.lift (.load R.ext (Rect.unit (s := S24x136x128) ![b, 5, 0] S1x128x128.size (inE hb (by decide))).toLoadRect (View.loadsAt_vmem h_S1x128x128))
  let e6 : Vec F S1x128x128 .f32 ← Prog.lift (.load R.ext (Rect.unit (s := S24x136x128) ![b, 6, 0] S1x128x128.size (inE hb (by decide))).toLoadRect (View.loadsAt_vmem h_S1x128x128))
  let e7 : Vec F S1x128x128 .f32 ← Prog.lift (.load R.ext (Rect.unit (s := S24x136x128) ![b, 7, 0] S1x128x128.size (inE hb (by decide))).toLoadRect (View.loadsAt_vmem h_S1x128x128))
  let e8 : Vec F S1x128x128 .f32 ← Prog.lift (.load R.ext (Rect.unit (s := S24x136x128) ![b, 8, 0] S1x128x128.size (inE hb (by decide))).toLoadRect (View.loadsAt_vmem h_S1x128x128))
  let tv : Vec F S1x8x128 .f32 ← Prog.lift (.load R.ext (Rect.unit (s := S24x136x128) ![b, 128, 0] S1x8x128.size (inE8 hb (by decide))).toLoadRect (View.loadsAt_vmem h_S1x8x128))
  let _ ← Prog.lift (.load R.ext (Rect.unit (s := S24x136x128) ![b, 0, 0] S1x8x128.size (inE8 hb (by decide))).toLoadRect (View.loadsAt_vmem h_S1x8x128))
  Prog.lift (.store R.ext (Rect.unit (s := S24x136x128) ![b, 0, 0] S1x8x128.size (inE8 hb (by decide))) (shapeCast S1x8x128 (shapeCast S8x128 tv shapeCasts_S1x8x128_S8x128) shapeCasts_S8x128_S1x8x128) Finset.univ (View.stores_vmem_bits_univ h_S1x8x128 rfl) (.inl rfl))
  let _ ← Prog.lift (.load R.act (Rect.unit (s := S24x128x128) ![b, 0, 0] S1x128x128.size (inA hb)).toLoadRect (View.loadsAt_vmem h_S1x128x128))
  Prog.lift (.store R.act (Rect.unit (s := S24x128x128) ![b, 0, 0] S1x128x128.size (inA hb)) (boxed (silu (convV wv bv e5 e6 e7 e8))) Finset.univ (View.stores_vmem_bits_univ h_S1x128x128 rfl) (.inl rfl))

def loadA (b : ℕ) (hb : b < 24) : P (F := F) (Vec F S1x128x128 .f32) :=
  Prog.lift (.load R.act (Rect.unit (s := S24x128x128) ![b, 0, 0] S1x128x128.size (inA hb)).toLoadRect (View.loadsAt_vmem h_S1x128x128))
def loadS (j : ℕ) (hj : j < 16) : P (F := F) (Vec F S1x128x128 .f32) :=
  Prog.lift (.load R.st (Rect.unit (s := S16x128x128) ![j, 0, 0] S1x128x128.size (inS hj)).toLoadRect (View.loadsAt_vmem h_S1x128x128))
def loadY (j : ℕ) (hj : j < 16) : P (F := F) (Vec F S1x128x128 .f32) :=
  Prog.lift (.load R.y (Rect.unit (s := S16x128x128) ![j, 0, 0] S1x128x128.size (inS hj)).toLoadRect (View.loadsAt_vmem h_S1x128x128))
def loadR (j : ℕ) (hj : j < 16) : P (F := F) (Vec F S1x256x128 .bf16) :=
  Prog.lift (.load R.rhs (Rect.unit (s := S16x256x128) ![j, 0, 0] S1x256x128.size (inR hj)).toLoadRect (View.loadsAt_vmem h_S1x256x128))
def loadLy (j : ℕ) (hj : j < 16) : P (F := F) (Vec F S1x128x256 .bf16) :=
  Prog.lift (.load R.ly (Rect.unit (s := S16x128x256) ![j, 0, 0] S1x128x256.size (inL hj)).toLoadRect (View.loadsAt_vmem h_S1x128x256))
def loadLs (j : ℕ) (hj : j < 16) : P (F := F) (Vec F S1x128x256 .bf16) :=
  Prog.lift (.load R.ls (Rect.unit (s := S16x128x256) ![j, 0, 0] S1x128x256.size (inL hj)).toLoadRect (View.loadsAt_vmem h_S1x128x256))
def loadC (h : ℕ) (hh : h < 32) : P (F := F) (Vec F S1x128 .f32) :=
  Prog.lift (.load R.cs (Rect.unit (s := S128x128) ![h, 0] S1x128.size (inT hh)).toLoadRect (View.loadsAt_vmem h_S1x128))
def loadD (h : ℕ) (hh : h < 32) : P (F := F) (Vec F S1x128 .f32) :=
  Prog.lift (.load R.ld (Rect.unit (s := S128x128) ![h, 0] S1x128.size (inT hh)).toLoadRect (View.loadsAt_vmem h_S1x128))

/-- The factors of pair `k` of group `g`; returns the pair's decay. -/
def pair (g : ℕ) (hg : g < 4) (cm : FVec F S128x1024 .f32) (cb bt : FVec F S128x128 .f32) (k : ℕ) (hk : k < 4) : P (F := F) (FVec F S1x128 .f32) := do
  let xv ← loadA R (4 * g + k) (by omega)
  let _ ← loadR R (4 * g + k) (by omega)
  Prog.lift (.store R.rhs (Rect.unit (s := S16x256x128) ![4 * g + k, 0, 0] S1x256x128.size (inR (by omega))) (rhsV xv) Finset.univ (View.stores_vmem h_S1x256x128 (R.hrhs.storeExact_slice rfl _ (pkR ⟨4 * g + k, by omega⟩)) (fun _ => rfl)) (.inl rfl))
  let a0 ← loadC R (8 * g + 2 * k) (by omega)
  let l0 ← loadD R (8 * g + 2 * k) (by omega)
  let a1 ← loadC R (8 * g + 2 * k + 1) (by omega)
  let l1 ← loadD R (8 * g + 2 * k + 1) (by omega)
  let _ ← loadLy R (4 * g + k) (by omega)
  Prog.lift (.store R.ly (Rect.unit (s := S16x128x256) ![4 * g + k, 0, 0] S1x128x256.size (inL (by omega))) (pairV (lhsY cm cb (2 * k) (by omega) a0 l0) (lhsY cm cb (2 * k + 1) (by omega) a1 l1)) Finset.univ (View.stores_vmem h_S1x128x256 (R.hly.storeExact_slice rfl _ (pkL ⟨4 * g + k, by omega⟩)) (fun _ => rfl)) (.inl rfl))
  let _ ← loadLs R (4 * g + k) (by omega)
  Prog.lift (.store R.ls (Rect.unit (s := S16x128x256) ![4 * g + k, 0, 0] S1x128x256.size (inL (by omega))) (pairV (lhsS bt a0 l0) (lhsS bt a1 l1)) Finset.univ (View.stores_vmem h_S1x128x256 (R.hls.storeExact_slice rfl _ (pkL ⟨4 * g + k, by omega⟩)) (fun _ => rfl)) (.inl rfl))
  pure (decV a0 a1)

/-- The mixed values of pair `k` of group `g`. -/
def mixY (g : ℕ) (hg : g < 4) (off : FVec F S128x512 .f32) (k : ℕ) (hk : k < 4) : P (F := F) PUnit := do
  let l ← loadLy R (4 * g + k) (by omega)
  let r ← loadR R (4 * g + k) (by omega)
  let _ ← loadY R (4 * g + k) (by omega)
  Prog.lift (.store R.y (Rect.unit (s := S16x128x128) ![4 * g + k, 0, 0] S1x128x128.size (inS (by omega))) (yV l r off k hk) Finset.univ (View.stores_vmem_bits_univ h_S1x128x128 rfl) (.inl rfl))

/-- The carried state of pair `k` of group `g`. -/
def mixS (g : ℕ) (hg : g < 4) (k : ℕ) (hk : k < 4) (dec : FVec F S1x128 .f32) : P (F := F) PUnit := do
  let s ← loadS R (4 * g + k) (by omega)
  let l ← loadLs R (4 * g + k) (by omega)
  let r ← loadR R (4 * g + k) (by omega)
  let _ ← loadS R (4 * g + k) (by omega)
  Prog.lift (.store R.st (Rect.unit (s := S16x128x128) ![4 * g + k, 0, 0] S1x128x128.size (inS (by omega))) (stV s dec l r) Finset.univ (View.stores_vmem_bits_univ h_S1x128x128 rfl) (.inl rfl))

/-- The gated values of pair `j`. -/
def gated (s : ℕ) (hs : s < 2) (j : ℕ) (hj : j < 16) : P (F := F) (FVec F S128x128 .f32) := do
  let zv : Vec F S128x128 .bf16 ← Prog.lift (.load ((R.z.slice (Rect.unit (s := S1x256x2048) ![0, 128 * s, 0] S1x128x2048.size (inZs hs)) (fun _ => rfl)).squeeze S128x2048 squeezes_S1x128x2048_S128x2048) (Rect.unit (s := S128x2048) ![0, 128 * j] S128x128.size (inZ hj)).toLoadRect (View.loadsAt_vmem h_S128x128))
  let yv ← loadY R j hj
  let kv : Vec F S1x128 .f32 ← Prog.lift (.load R.k (Rect.unit (s := S1x2048) ![0, 128 * j] S1x128.size (inV hj)).toLoadRect (View.loadsAt_vmem h_S1x128))
  let xv ← loadA R j (by omega)
  pure (gatedV zv yv kv xv)

/-- The stored output of pair `j`. -/
def emit (s : ℕ) (hs : s < 2) (j : ℕ) (hj : j < 16) (v : FVec F S128x128 .f32) (sc : FVec F S128x1 .f32) : P (F := F) PUnit := do
  let nv : Vec F S1x128 .f32 ← Prog.lift (.load R.n (Rect.unit (s := S1x2048) ![0, 128 * j] S1x128.size (inV hj)).toLoadRect (View.loadsAt_vmem h_S1x128))
  let _ ← Prog.lift (.load ((R.o.slice (Rect.unit (s := S1x256x2048) ![0, 128 * s, 0] S1x128x2048.size (inZs hs)) (fun _ => rfl)).squeeze S128x2048 squeezes_S1x128x2048_S128x2048) (Rect.unit (s := S128x2048) ![0, 128 * j] S128x128.size (inZ hj)).toLoadRect (View.loadsAt_vmem h_S128x128))
  Prog.lift (.store R.o (Rect.unit (s := S1x256x2048) ![0, 128 * s, 128 * j] S1x128x128.size (inO hs hj)) (outV v sc nv) Finset.univ (View.stores_vmem h_S1x128x128 (R.ho.storeExact_slice rfl _ (pkO ⟨s, hs⟩ ⟨j, hj⟩)) (fun _ => rfl)) (.inl rfl))

/-- Group `g` of chunk `s`. -/
def group (s : ℕ) (hs : s < 2) (ap wp : FVec F S128x128 .bf16) (g : ℕ) (hg : g < 4) : P (F := F) PUnit := do
  conv R s hs (4 * g) (by omega)
  conv R s hs (4 * g + 1) (by omega)
  conv R s hs (4 * g + 2) (by omega)
  conv R s hs (4 * g + 3) (by omega)
  conv R s hs (16 + g) (by omega)
  conv R s hs (20 + g) (by omega)
  let bv ← loadA R (16 + g) (by omega)
  let cv ← loadA R (20 + g) (by omega)
  let ec : Vec F S1x128x1024 .bf16 ← Prog.lift (.load R.c (Rect.unit (s := S4x128x1024) ![g, 0, 0] S1x128x1024.size (inC hg)).toLoadRect (View.loadsAt_vmem h_S1x128x1024))
  let ew : Vec F S1x128x512 .bf16 ← Prog.lift (.load R.u (Rect.unit (s := S4x128x512) ![g, 0, 0] S1x128x512.size (inC5 hg)).toLoadRect (View.loadsAt_vmem h_S1x128x512))
  let s0 ← loadS R (4 * g) (by omega)
  let s1 ← loadS R (4 * g + 1) (by omega)
  let s2 ← loadS R (4 * g + 2) (by omega)
  let s3 ← loadS R (4 * g + 3) (by omega)
  let cv' ← loadA R (20 + g) (by omega)
  let d0 ← pair R g hg (expandV ap ec) (scoreV bv cv) (transpose S128x128 [1, 0] (flat bv) transposes_S128x128_p1_0_S128x128) 0 (by decide)
  let d1 ← pair R g hg (expandV ap ec) (scoreV bv cv) (transpose S128x128 [1, 0] (flat bv) transposes_S128x128_p1_0_S128x128) 1 (by decide)
  let d2 ← pair R g hg (expandV ap ec) (scoreV bv cv) (transpose S128x128 [1, 0] (flat bv) transposes_S128x128_p1_0_S128x128) 2 (by decide)
  let d3 ← pair R g hg (expandV ap ec) (scoreV bv cv) (transpose S128x128 [1, 0] (flat bv) transposes_S128x128_p1_0_S128x128) 3 (by decide)
  mixY R g hg (offV cv' (prevV s0 s1 s2 s3) (expand5V wp ew)) 0 (by decide)
  mixY R g hg (offV cv' (prevV s0 s1 s2 s3) (expand5V wp ew)) 1 (by decide)
  mixY R g hg (offV cv' (prevV s0 s1 s2 s3) (expand5V wp ew)) 2 (by decide)
  mixY R g hg (offV cv' (prevV s0 s1 s2 s3) (expand5V wp ew)) 3 (by decide)
  mixS R g hg 0 (by decide) d0
  mixS R g hg 1 (by decide) d1
  mixS R g hg 2 (by decide) d2
  mixS R g hg 3 (by decide) d3
  let v0 ← gated R s hs (4 * g) (by omega)
  let v1 ← gated R s hs (4 * g + 1) (by omega)
  let v2 ← gated R s hs (4 * g + 2) (by omega)
  let v3 ← gated R s hs (4 * g + 3) (by omega)
  emit R s hs (4 * g) (by omega) v0 (scaleV v0 v1 v2 v3)
  emit R s hs (4 * g + 1) (by omega) v1 (scaleV v0 v1 v2 v3)
  emit R s hs (4 * g + 2) (by omega) v2 (scaleV v0 v1 v2 v3)
  emit R s hs (4 * g + 3) (by omega) v3 (scaleV v0 v1 v2 v3)

/-- Chunk `s`'s exponents, and what they give to its groups. -/
def head (s : ℕ) (hs : s < 2) : P (F := F) (FVec F S128x128 .bf16 × FVec F S128x128 .bf16) := do
  let dv : Vec F S1x128x128 .f32 ← Prog.lift (.load R.d (Rect.unit (s := S1x256x128) ![0, 128 * s, 0] S1x128x128.size (inD hs)).toLoadRect (View.loadsAt_vmem h_S1x128x128))
  let tv : Vec F S1x128 .f32 ← Prog.lift (.load R.t (Rect.unit (s := S1x128) ![0, 0] S1x128.size inb_S1x128_S1x128_0_0).toLoadRect (View.loadsAt_vmem h_S1x128))
  let av : Vec F S1x128 .f32 ← Prog.lift (.load R.a (Rect.unit (s := S1x128) ![0, 0] S1x128.size inb_S1x128_S1x128_0_0).toLoadRect (View.loadsAt_vmem h_S1x128))
  let _ ← Prog.lift (.load R.cs (Rect.unit (s := S128x128) ![0, 0] S128x128.size inb_S128x128_S128x128_0_0).toLoadRect (View.loadsAt_vmem h_S128x128))
  Prog.lift (.store R.cs (Rect.unit (s := S128x128) ![0, 0] S128x128.size inb_S128x128_S128x128_0_0) (turned (accV dv tv av)) Finset.univ (View.stores_vmem_bits_univ h_S128x128 rfl) (.inl rfl))
  let _ ← Prog.lift (.load R.ld (Rect.unit (s := S128x128) ![0, 0] S128x128.size inb_S128x128_S128x128_0_0).toLoadRect (View.loadsAt_vmem h_S128x128))
  Prog.lift (.store R.ld (Rect.unit (s := S128x128) ![0, 0] S128x128.size inb_S128x128_S128x128_0_0) (turned (logV dv tv)) Finset.univ (View.stores_vmem_bits_univ h_S128x128 rfl) (.inl rfl))
  pure (parts (accV dv tv av), parts (exp2 (accV dv tv av)))

/-- Chunk `s` of a point. -/
def chunk (s : ℕ) (hs : s < 2) : P (F := F) PUnit := do
  let p ← head R s hs
  group R s hs p.1 p.2 0 (by decide)
  group R s hs p.1 p.2 1 (by decide)
  group R s hs p.1 p.2 2 (by decide)
  group R s hs p.1 p.2 3 (by decide)

/-- Both chunks of a point. -/
def chunks : P (F := F) PUnit := do
  chunk R 0 (by decide)
  chunk R 1 (by decide)

/-- The first point of a sequence clears what is carried. -/
def reset : P (F := F) PUnit := do
  let _ ← Prog.lift (.load R.ext (Rect.unit (s := S24x136x128) ![0, 0, 0] S24x8x128.size inb_S24x136x128_S24x8x128_0_0_0).toLoadRect (View.loadsAt_vmem h_S24x8x128))
  Prog.lift (.store R.ext (Rect.unit (s := S24x136x128) ![0, 0, 0] S24x8x128.size inb_S24x136x128_S24x8x128_0_0_0) (shapeCast S24x8x128 (broadcast S24x8x128 (Scalar.ofBits .f32 0x00000000#32 : F .f32)) shapeCasts_S24x8x128_S24x8x128) Finset.univ (View.stores_vmem_bits_univ h_S24x8x128 rfl) (.inl rfl))
  let _ ← Prog.lift (.load R.st (Rect.unit (s := S16x128x128) ![0, 0, 0] S16x128x128.size inb_S16x128x128_S16x128x128_0_0_0).toLoadRect (View.loadsAt_vmem h_S16x128x128))
  Prog.lift (.store R.st (Rect.unit (s := S16x128x128) ![0, 0, 0] S16x128x128.size inb_S16x128x128_S16x128x128_0_0_0) (shapeCast S16x128x128 (broadcast S16x128x128 (Scalar.ofBits .f32 0x00000000#32 : F .f32)) shapeCasts_S16x128x128_S16x128x128) Finset.univ (View.stores_vmem_bits_univ h_S16x128x128 rfl) (.inl rfl))

/-- Whether a point is a sequence's first. -/
abbrev first (i : grid0.Coords) : Prop :=
  Scalar.cmpi .ne (Scalar.extui (Scalar.cmpi .eq (BitVec.ofNat 32 (i 1).val) 0#32) : BitVec 32) 0#32 = 1#1

/-- The printed body is the two chunks, after the reset at a sequence's first point. -/
theorem prog_eq (i : grid0.Coords) (R : Refs) (hx : R.x.IsWhole) (hz : R.z.IsWhole) (hd : R.d.IsWhole) (hw : R.w.IsWhole) (hb : R.b.IsWhole) (ht : R.t.IsWhole) (ha : R.a.IsWhole) (hk : R.k.IsWhole) (hn : R.n.IsWhole) (hc : R.c.IsWhole) (hu : R.u.IsWhole) (he : R.ext.IsWhole) (hact : R.act.IsWhole) (hst : R.st.IsWhole) (hy : R.y.IsWhole) (hcs : R.cs.IsWhole) (hld : R.ld.IsWhole) :
    cc0_ssd (F := F) i R.x hx R.z hz R.d hd R.w hw R.b hb R.t ht R.a ha R.k hk R.n hn R.c hc R.u hu R.o R.ho R.ext he R.act hact R.st hst R.y hy R.cs hcs R.ld hld R.rhs R.hrhs R.ly R.hly R.ls R.hls = (if first i then (do reset R; chunks R) else chunks R) := by
  delta cc0_ssd k0_part196 k0_part1
  refine (Prog.bind_assoc (E := TpuEff nD τ sig (Elt F) Λ₀ .tc) _ _ _).trans ?_
  by_cases h : first i
  · rw [if_pos h]
    refine (congrArg (fun D => D >>= _) (dif_pos h)).trans ?_
    sl_kernel_rfl
  · rw [if_neg h]
    refine (congrArg (fun D => D >>= _) (dif_neg h)).trans ?_
    sl_kernel_rfl

end Cert.SsdIdeal.Chunk

end
-- ==== Proof.SsdSpec.lean ====
/- The scan's body as a function of its buffers' contents: what every load reads and every store leaves. -/
module

public import proofs.«01_k».proof.Proof.SsdProg
public import proofs.«01_k».proof.Proof.Gen.SsdIdeal.Points
public import Idealize.ShloMosaic.Lib.VecWindow
public import Idealize.ShloMosaic.Lib.Exec
public import Idealize.ShloMosaic.Lib.Pipeline.FrameBody
public import Idealize.ShloMosaic.Lib.Pipeline.Value

@[expose] public section

set_option maxRecDepth 16384

noncomputable section

namespace Cert.SsdIdeal.Chunk

open Cert.SsdIdeal Cert.SsdIdeal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the body's buffers hold. -/
structure St (F : FTy → Type) where
  x : Vec F S1x256x3072 .bf16
  z : Vec F S1x256x2048 .bf16
  d : Vec F S1x256x128 .f32
  w : Vec F S24x4x128 .f32
  b : Vec F S24x1x128 .f32
  t : Vec F S1x128 .f32
  a : Vec F S1x128 .f32
  k : Vec F S1x2048 .f32
  n : Vec F S1x2048 .f32
  c : Vec F S4x128x1024 .bf16
  u : Vec F S4x128x512 .bf16
  o : Vec F S1x256x2048 .bf16
  ext : Vec F S24x136x128 .f32
  act : Vec F S24x128x128 .f32
  st : Vec F S16x128x128 .f32
  y : Vec F S16x128x128 .f32
  cs : Vec F S128x128 .f32
  ld : Vec F S128x128 .f32
  rhs : Vec F S16x256x128 .bf16
  ly : Vec F S16x128x256 .bf16
  ls : Vec F S16x128x256 .bf16

/-- A core owns every buffer, at these contents. -/
def own (c : Dev nD) (R : Refs) (S : St F) : sProp 𝕄 :=
  iprop(owns (c : Thread nD τ) R.x fullShare S.x ∗ owns (c : Thread nD τ) R.z fullShare S.z ∗ owns (c : Thread nD τ) R.d fullShare S.d ∗ owns (c : Thread nD τ) R.w fullShare S.w ∗ owns (c : Thread nD τ) R.b fullShare S.b ∗ owns (c : Thread nD τ) R.t fullShare S.t ∗ owns (c : Thread nD τ) R.a fullShare S.a ∗ owns (c : Thread nD τ) R.k fullShare S.k ∗ owns (c : Thread nD τ) R.n fullShare S.n ∗ owns (c : Thread nD τ) R.c fullShare S.c ∗ owns (c : Thread nD τ) R.u fullShare S.u ∗ owns (c : Thread nD τ) R.o fullShare S.o ∗ owns (c : Thread nD τ) R.ext fullShare S.ext ∗ owns (c : Thread nD τ) R.act fullShare S.act ∗ owns (c : Thread nD τ) R.st fullShare S.st ∗ owns (c : Thread nD τ) R.y fullShare S.y ∗ owns (c : Thread nD τ) R.cs fullShare S.cs ∗ owns (c : Thread nD τ) R.ld fullShare S.ld ∗ owns (c : Thread nD τ) R.rhs fullShare S.rhs ∗ owns (c : Thread nD τ) R.ly fullShare S.ly ∗ owns (c : Thread nD τ) R.ls fullShare S.ls)

/-- A core can give up one buffer of a kind and take it back at any contents. -/
def Focus (c : Dev nD) (R : Refs) {s : Shape} {e : EltTy} (m : Memref sig .tc .vmem s e) (get : St F → Vec F s e) (set : St F → Vec F s e → St F) : Prop :=
  ∀ S, (own c R S : sProp 𝕄) ⊢ iprop(owns (c : Thread nD τ) m fullShare (get S) ∗ ∀ X, owns (c : Thread nD τ) m fullShare X -∗ own c R (set S X))

theorem focus_x (c : Dev nD) (R : Refs) : Focus (F := F) c R R.x St.x (fun S X => { S with x := X }) := by
  intro S; unfold own
  iintro ⟨H0, H1, H2, H3, H4, H5, H6, H7, H8, H9, H10, H11, H12, H13, H14, H15, H16, H17, H18, H19, H20⟩
  isplitl [H0]; · iexact H0
  iintro %X G
  isplitl [G]; · iexact G
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20
theorem focus_z (c : Dev nD) (R : Refs) : Focus (F := F) c R R.z St.z (fun S X => { S with z := X }) := by
  intro S; unfold own
  iintro ⟨H0, H1, H2, H3, H4, H5, H6, H7, H8, H9, H10, H11, H12, H13, H14, H15, H16, H17, H18, H19, H20⟩
  isplitl [H1]; · iexact H1
  iintro %X G
  isplitl [H0]; · iexact H0
  isplitl [G]; · iexact G
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20
theorem focus_d (c : Dev nD) (R : Refs) : Focus (F := F) c R R.d St.d (fun S X => { S with d := X }) := by
  intro S; unfold own
  iintro ⟨H0, H1, H2, H3, H4, H5, H6, H7, H8, H9, H10, H11, H12, H13, H14, H15, H16, H17, H18, H19, H20⟩
  isplitl [H2]; · iexact H2
  iintro %X G
  isplitl [H0]; · iexact H0
  isplitl [H1]; · iexact H1
  isplitl [G]; · iexact G
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20
theorem focus_w (c : Dev nD) (R : Refs) : Focus (F := F) c R R.w St.w (fun S X => { S with w := X }) := by
  intro S; unfold own
  iintro ⟨H0, H1, H2, H3, H4, H5, H6, H7, H8, H9, H10, H11, H12, H13, H14, H15, H16, H17, H18, H19, H20⟩
  isplitl [H3]; · iexact H3
  iintro %X G
  isplitl [H0]; · iexact H0
  isplitl [H1]; · iexact H1
  isplitl [H2]; · iexact H2
  isplitl [G]; · iexact G
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20
theorem focus_b (c : Dev nD) (R : Refs) : Focus (F := F) c R R.b St.b (fun S X => { S with b := X }) := by
  intro S; unfold own
  iintro ⟨H0, H1, H2, H3, H4, H5, H6, H7, H8, H9, H10, H11, H12, H13, H14, H15, H16, H17, H18, H19, H20⟩
  isplitl [H4]; · iexact H4
  iintro %X G
  isplitl [H0]; · iexact H0
  isplitl [H1]; · iexact H1
  isplitl [H2]; · iexact H2
  isplitl [H3]; · iexact H3
  isplitl [G]; · iexact G
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20
theorem focus_t (c : Dev nD) (R : Refs) : Focus (F := F) c R R.t St.t (fun S X => { S with t := X }) := by
  intro S; unfold own
  iintro ⟨H0, H1, H2, H3, H4, H5, H6, H7, H8, H9, H10, H11, H12, H13, H14, H15, H16, H17, H18, H19, H20⟩
  isplitl [H5]; · iexact H5
  iintro %X G
  isplitl [H0]; · iexact H0
  isplitl [H1]; · iexact H1
  isplitl [H2]; · iexact H2
  isplitl [H3]; · iexact H3
  isplitl [H4]; · iexact H4
  isplitl [G]; · iexact G
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20
theorem focus_a (c : Dev nD) (R : Refs) : Focus (F := F) c R R.a St.a (fun S X => { S with a := X }) := by
  intro S; unfold own
  iintro ⟨H0, H1, H2, H3, H4, H5, H6, H7, H8, H9, H10, H11, H12, H13, H14, H15, H16, H17, H18, H19, H20⟩
  isplitl [H6]; · iexact H6
  iintro %X G
  isplitl [H0]; · iexact H0
  isplitl [H1]; · iexact H1
  isplitl [H2]; · iexact H2
  isplitl [H3]; · iexact H3
  isplitl [H4]; · iexact H4
  isplitl [H5]; · iexact H5
  isplitl [G]; · iexact G
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20
theorem focus_k (c : Dev nD) (R : Refs) : Focus (F := F) c R R.k St.k (fun S X => { S with k := X }) := by
  intro S; unfold own
  iintro ⟨H0, H1, H2, H3, H4, H5, H6, H7, H8, H9, H10, H11, H12, H13, H14, H15, H16, H17, H18, H19, H20⟩
  isplitl [H7]; · iexact H7
  iintro %X G
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [G]; · iexact G
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20
theorem focus_n (c : Dev nD) (R : Refs) : Focus (F := F) c R R.n St.n (fun S X => { S with n := X }) := by
  intro S; unfold own
  iintro ⟨H0, H1, H2, H3, H4, H5, H6, H7, H8, H9, H10, H11, H12, H13, H14, H15, H16, H17, H18, H19, H20⟩
  isplitl [H8]; · iexact H8
  iintro %X G
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G]; · iexact G
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20
theorem focus_c (c : Dev nD) (R : Refs) : Focus (F := F) c R R.c St.c (fun S X => { S with c := X }) := by
  intro S; unfold own
  iintro ⟨H0, H1, H2, H3, H4, H5, H6, H7, H8, H9, H10, H11, H12, H13, H14, H15, H16, H17, H18, H19, H20⟩
  isplitl [H9]; · iexact H9
  iintro %X G
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G]; · iexact G
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20
theorem focus_u (c : Dev nD) (R : Refs) : Focus (F := F) c R R.u St.u (fun S X => { S with u := X }) := by
  intro S; unfold own
  iintro ⟨H0, H1, H2, H3, H4, H5, H6, H7, H8, H9, H10, H11, H12, H13, H14, H15, H16, H17, H18, H19, H20⟩
  isplitl [H10]; · iexact H10
  iintro %X G
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [G]; · iexact G
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20
theorem focus_o (c : Dev nD) (R : Refs) : Focus (F := F) c R R.o St.o (fun S X => { S with o := X }) := by
  intro S; unfold own
  iintro ⟨H0, H1, H2, H3, H4, H5, H6, H7, H8, H9, H10, H11, H12, H13, H14, H15, H16, H17, H18, H19, H20⟩
  isplitl [H11]; · iexact H11
  iintro %X G
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [G]; · iexact G
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20
theorem focus_ext (c : Dev nD) (R : Refs) : Focus (F := F) c R R.ext St.ext (fun S X => { S with ext := X }) := by
  intro S; unfold own
  iintro ⟨H0, H1, H2, H3, H4, H5, H6, H7, H8, H9, H10, H11, H12, H13, H14, H15, H16, H17, H18, H19, H20⟩
  isplitl [H12]; · iexact H12
  iintro %X G
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [G]; · iexact G
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20
theorem focus_act (c : Dev nD) (R : Refs) : Focus (F := F) c R R.act St.act (fun S X => { S with act := X }) := by
  intro S; unfold own
  iintro ⟨H0, H1, H2, H3, H4, H5, H6, H7, H8, H9, H10, H11, H12, H13, H14, H15, H16, H17, H18, H19, H20⟩
  isplitl [H13]; · iexact H13
  iintro %X G
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [G]; · iexact G
  isplitl [H14]; · iexact H14
  isplitl [H15]; · iexact H15
  isplitl [H16]; · iexact H16
  isplitl [H17]; · iexact H17
  isplitl [H18]; · iexact H18
  isplitl [H19]; · iexact H19
  iexact H20
theorem focus_st (c : Dev nD) (R : Refs) : Focus (F := F) c R R.st St.st (fun S X => { S with st := X }) := by
  intro S; unfold own
  iintro ⟨H0, H1, H2, H3, H4, H5, H6, H7, H8, H9, H10, H11, H12, H13, H14, H15, H16, H17, H18, H19, H20⟩
  isplitl [H14]; · iexact H14
  iintro %X G
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [G]; · iexact G
  isplitl [H15]; · iexact H15
  isplitl [H16]; · iexact H16
  isplitl [H17]; · iexact H17
  isplitl [H18]; · iexact H18
  isplitl [H19]; · iexact H19
  iexact H20
theorem focus_y (c : Dev nD) (R : Refs) : Focus (F := F) c R R.y St.y (fun S X => { S with y := X }) := by
  intro S; unfold own
  iintro ⟨H0, H1, H2, H3, H4, H5, H6, H7, H8, H9, H10, H11, H12, H13, H14, H15, H16, H17, H18, H19, H20⟩
  isplitl [H15]; · iexact H15
  iintro %X G
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [G]; · iexact G
  isplitl [H16]; · iexact H16
  isplitl [H17]; · iexact H17
  isplitl [H18]; · iexact H18
  isplitl [H19]; · iexact H19
  iexact H20
theorem focus_cs (c : Dev nD) (R : Refs) : Focus (F := F) c R R.cs St.cs (fun S X => { S with cs := X }) := by
  intro S; unfold own
  iintro ⟨H0, H1, H2, H3, H4, H5, H6, H7, H8, H9, H10, H11, H12, H13, H14, H15, H16, H17, H18, H19, H20⟩
  isplitl [H16]; · iexact H16
  iintro %X G
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [G]; · iexact G
  isplitl [H17]; · iexact H17
  isplitl [H18]; · iexact H18
  isplitl [H19]; · iexact H19
  iexact H20
theorem focus_ld (c : Dev nD) (R : Refs) : Focus (F := F) c R R.ld St.ld (fun S X => { S with ld := X }) := by
  intro S; unfold own
  iintro ⟨H0, H1, H2, H3, H4, H5, H6, H7, H8, H9, H10, H11, H12, H13, H14, H15, H16, H17, H18, H19, H20⟩
  isplitl [H17]; · iexact H17
  iintro %X G
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [G]; · iexact G
  isplitl [H18]; · iexact H18
  isplitl [H19]; · iexact H19
  iexact H20
theorem focus_rhs (c : Dev nD) (R : Refs) : Focus (F := F) c R R.rhs St.rhs (fun S X => { S with rhs := X }) := by
  intro S; unfold own
  iintro ⟨H0, H1, H2, H3, H4, H5, H6, H7, H8, H9, H10, H11, H12, H13, H14, H15, H16, H17, H18, H19, H20⟩
  isplitl [H18]; · iexact H18
  iintro %X G
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [G]; · iexact G
  isplitl [H19]; · iexact H19
  iexact H20
theorem focus_ly (c : Dev nD) (R : Refs) : Focus (F := F) c R R.ly St.ly (fun S X => { S with ly := X }) := by
  intro S; unfold own
  iintro ⟨H0, H1, H2, H3, H4, H5, H6, H7, H8, H9, H10, H11, H12, H13, H14, H15, H16, H17, H18, H19, H20⟩
  isplitl [H19]; · iexact H19
  iintro %X G
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [G]; · iexact G
  iexact H20
theorem focus_ls (c : Dev nD) (R : Refs) : Focus (F := F) c R R.ls St.ls (fun S X => { S with ls := X }) := by
  intro S; unfold own
  iintro ⟨H0, H1, H2, H3, H4, H5, H6, H7, H8, H9, H10, H11, H12, H13, H14, H15, H16, H17, H18, H19, H20⟩
  isplitl [H20]; · iexact H20
  iintro %X G
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact G

/-- Run from any contents, the program returns and leaves what the function says. -/
def Spec (c : Dev nD) (R : Refs) {α : Type} (p : P (F := F) α) (f : St F → α × St F) : Prop :=
  ∀ (S : St F) (E : Set ℕ) (K : α → sProp 𝕄),
    iprop(own c R S ∗ (own c R (f S).2 -∗ K (f S).1)) ⊢ wp Idealize.ShloMosaic.frame (wpE (defs₀ (F := F)) Variants.none c none) E p K

variable {c : Dev nD} {R : Refs}

theorem Spec.ret {α : Type} (a : α) : Spec (F := F) c R (pure a) (fun S => (a, S)) := by
  intro S E K
  refine BIBase.Entails.trans ?_ (le_wp_ret _ _ _ a K)
  iintro ⟨H, Hk⟩
  iapply Hk
  iexact H

theorem Spec.bind {α β : Type} {p : P (F := F) α} {k : α → P (F := F) β} {f : St F → α × St F} {g : α → St F → β × St F}
    (hp : Spec c R p f) (hk : ∀ a, Spec c R (k a) (g a)) : Spec c R (p >>= k) (fun S => g (f S).1 (f S).2) := by
  intro S E K
  rw [wp_bind]
  refine BIBase.Entails.trans ?_ (hp S E _)
  iintro ⟨H, Hk⟩
  isplitl [H]; · iexact H
  iintro G
  iapply (hk (f S).1 (f S).2 E K)
  isplitl [G]; · iexact G
  iexact Hk

theorem Spec.load {s : Shape} {e : EltTy} {m : Memref sig .tc .vmem s e} {get : St F → Vec F s e} {set : St F → Vec F s e → St F}
    (hf : Focus c R m get set) (hs : ∀ S, set S (get S) = S) {off size : Fin s.rank → ℕ} (inb : ∀ a, off a + size a ≤ s.size a)
    (hl : m.view.LoadsAt (Rect.unit off size inb).toLoadRect) :
    Spec (F := F) c R (Prog.lift (.load m (Rect.unit off size inb).toLoadRect hl)) (fun S => (window (get S) off size inb, S)) := by
  intro S E K
  refine (Laws.sep_mono_left (hf S)).trans ?_
  unfold owns
  iintro ⟨⟨⟨%f, %e, H⟩, G⟩, Hk⟩
  iapply (wp_load Variants.none (c : Thread nD τ) none E (Q := K) (hl := hl) (f := f) (View.setOn_subset_set _ _)) $$ H
  iintro H
  iapply (le_wp_ret _ _ _ _ K)
  rw [View.readAt_unit m.view f inb rfl inb, e]
  iapply Hk
  ihave G2 := G $$ %(get S)
  rw [hs S]
  iapply G2
  iexists f
  isplitr; · ipureintro; exact e
  iexact H

theorem Spec.loadSq {s : Shape} {e : EltTy} {m : Memref sig .tc .vmem s e} {get : St F → Vec F s e} {set : St F → Vec F s e → St F}
    (hf : Focus c R m get set) (hs : ∀ S, set S (get S) = S) {off size : Fin s.rank → ℕ} (inb : ∀ a, off a + size a ≤ s.size a)
    {s' : Shape} (hr) (hq : (Rect.unit off size inb).shape.Squeezes s') (hc : (Rect.unit off size inb).shape.ShapeCasts s')
    {off' size' : Fin s'.rank → ℕ} (inb' : ∀ a, off' a + size' a ≤ s'.size a) (hl) :
    Spec (F := F) c R (Prog.lift (.load ((m.slice (Rect.unit off size inb) hr).squeeze s' hq) (Rect.unit off' size' inb').toLoadRect hl))
      (fun S => (window (shapeCast s' (window (get S) off size inb) hc) off' size' inb', S)) := by
  intro S E K
  refine (Laws.sep_mono_left (hf S)).trans ?_
  unfold owns
  iintro ⟨⟨⟨%f, %e, H⟩, G⟩, Hk⟩
  iapply (wp_load Variants.none (c : Thread nD τ) none E (Q := K) (hl := hl) (f := f) (q := fullShare) (S := m.view.set)
    ((View.setOn_subset_set _ _).trans (by rw [Memref.set_view_squeeze]; exact View.set_slice_subset _ _))) $$ H
  iintro H
  iapply (le_wp_ret _ _ _ _ K)
  rw [View.readAt_unit ((m.slice (Rect.unit off size inb) hr).squeeze s' hq).view f inb' rfl inb', Memref.read_squeeze_slice m _ hr hq hc f, View.readAt_unit m.view f inb rfl inb, e]
  iapply Hk
  ihave G2 := G $$ %(get S)
  rw [hs S]
  iapply G2
  iexists f
  isplitr; · ipureintro; exact e
  iexact H

theorem Spec.store {s : Shape} {e : EltTy} {m : Memref sig .tc .vmem s e} {get : St F → Vec F s e} {set : St F → Vec F s e → St F}
    (hf : Focus c R m get set) {off size : Fin s.rank → ℕ} (inb : ∀ a, off a + size a ≤ s.size a) (w : (Rect.unit off size inb).shape.Idx → Elt F e) (hx hm) :
    Spec (F := F) c R (Prog.lift (.store m (Rect.unit off size inb) w Finset.univ hx hm)) (fun S => (⟨⟩, set S (put (get S) off size w))) := by
  intro S E K
  refine (Laws.sep_mono_left (hf S)).trans ?_
  unfold owns
  iintro ⟨⟨⟨%f, %e, H⟩, G⟩, Hk⟩
  iapply (wp_store_writes₀ Variants.none (c : Thread nD τ) none E (Q := K) (w := w) (hx := hx) (hm := hm) (f := f) (S := m.view.set) (View.set_slice_subset _ _)) $$ H
  iintro H
  iapply (le_wp_ret _ _ _ _ K)
  iapply Hk
  iapply G
  iexists _
  isplitr
  swap; · iexact H
  ipureintro
  rw [View.read_writes_cons_put m.view f inb w [] rfl, View.writes_nil, e]

end Cert.SsdIdeal.Chunk

end
-- ==== Proof.SsdSem.lean ====
/- The stages of the scan's body as functions of the buffers' contents. -/
module

public import proofs.«01_k».proof.Proof.SsdSpec

@[expose] public section

set_option maxRecDepth 16384

noncomputable section

namespace Cert.SsdIdeal.Chunk

open Cert.SsdIdeal Cert.SsdIdeal.Gen
open Idealize.ShloMosaic Idealize.ShloMosaic.TcCoe Idealize.ShloMosaic.Tactic Idealize.ShloMosaic.VecWindow
open Idealize.SL.Sem

variable {F : FTy → Type} [FloatOps F] [Named F] {c : Dev nD} {R : Refs}

theorem Spec.congr {α : Type} {p : P (F := F) α} {f g : St F → α × St F} (h : Spec c R p f) (e : ∀ S, f S = g S) : Spec c R p g :=
  (funext e : f = g) ▸ h

theorem castX : (Rect.unit (s := S1x256x3072) ![0, 0, 0] S1x128x3072.size (inXs (s := 0) (by decide))).shape.ShapeCasts S128x3072 := by decide
theorem castZ : (Rect.unit (s := S1x256x2048) ![0, 0, 0] S1x128x2048.size (inZs (s := 0) (by decide))).shape.ShapeCasts S128x2048 := by decide

/-! ## Reads -/

def gX (S : St F) (s : ℕ) (hs : s < 2) (b : ℕ) (hb : b < 24) : Vec F S128x128 .bf16 :=
  window (shapeCast S128x3072 (window S.x ![0, 128 * s, 0] S1x128x3072.size (inXs hs)) castX) ![0, 128 * b] S128x128.size (inX hb)
def gZ (S : St F) (s : ℕ) (hs : s < 2) (j : ℕ) (hj : j < 16) : Vec F S128x128 .bf16 :=
  window (shapeCast S128x2048 (window S.z ![0, 128 * s, 0] S1x128x2048.size (inZs hs)) castZ) ![0, 128 * j] S128x128.size (inZ hj)
def gA (S : St F) (b : ℕ) (hb : b < 24) : Vec F S1x128x128 .f32 := window S.act ![b, 0, 0] S1x128x128.size (inA hb)
def gS (S : St F) (j : ℕ) (hj : j < 16) : Vec F S1x128x128 .f32 := window S.st ![j, 0, 0] S1x128x128.size (inS hj)
def gY (S : St F) (j : ℕ) (hj : j < 16) : Vec F S1x128x128 .f32 := window S.y ![j, 0, 0] S1x128x128.size (inS hj)
def gR (S : St F) (j : ℕ) (hj : j < 16) : Vec F S1x256x128 .bf16 := window S.rhs ![j, 0, 0] S1x256x128.size (inR hj)
def gLy (S : St F) (j : ℕ) (hj : j < 16) : Vec F S1x128x256 .bf16 := window S.ly ![j, 0, 0] S1x128x256.size (inL hj)
def gLs (S : St F) (j : ℕ) (hj : j < 16) : Vec F S1x128x256 .bf16 := window S.ls ![j, 0, 0] S1x128x256.size (inL hj)
def gC (S : St F) (h : ℕ) (hh : h < 32) : Vec F S1x128 .f32 := window S.cs ![h, 0] S1x128.size (inT hh)
def gD (S : St F) (h : ℕ) (hh : h < 32) : Vec F S1x128 .f32 := window S.ld ![h, 0] S1x128.size (inT hh)
def gE (S : St F) (b r : ℕ) (hb : b < 24) (hr : r + 128 ≤ 136) : Vec F S1x128x128 .f32 := window S.ext ![b, r, 0] S1x128x128.size (inE hb hr)
def gE8 (S : St F) (b r : ℕ) (hb : b < 24) (hr : r + 8 ≤ 136) : Vec F S1x8x128 .f32 := window S.ext ![b, r, 0] S1x8x128.size (inE8 hb hr)
def gW (S : St F) (b : ℕ) (hb : b < 24) : Vec F S1x4x128 .f32 := window S.w ![b, 0, 0] S1x4x128.size (inW hb)
def gB (S : St F) (b : ℕ) (hb : b < 24) : Vec F S1x1x128 .f32 := window S.b ![b, 0, 0] S1x1x128.size (inB hb)
def gK (S : St F) (j : ℕ) (hj : j < 16) : Vec F S1x128 .f32 := window S.k ![0, 128 * j] S1x128.size (inV hj)
def gN (S : St F) (j : ℕ) (hj : j < 16) : Vec F S1x128 .f32 := window S.n ![0, 128 * j] S1x128.size (inV hj)
def gEc (S : St F) (g : ℕ) (hg : g < 4) : Vec F S1x128x1024 .bf16 := window S.c ![g, 0, 0] S1x128x1024.size (inC hg)
def gEw (S : St F) (g : ℕ) (hg : g < 4) : Vec F S1x128x512 .bf16 := window S.u ![g, 0, 0] S1x128x512.size (inC5 hg)
def gDt (S : St F) (s : ℕ) (hs : s < 2) : Vec F S1x128x128 .f32 := window S.d ![0, 128 * s, 0] S1x128x128.size (inD hs)
def gT (S : St F) : Vec F S1x128 .f32 := window S.t ![0, 0] S1x128.size inb_S1x128_S1x128_0_0
def gAl (S : St F) : Vec F S1x128 .f32 := window S.a ![0, 0] S1x128.size inb_S1x128_S1x128_0_0

/-! ## The stages -/

/-- The window of a block with the chunk's rows in it. -/
def fillF (s : ℕ) (hs : s < 2) (b : ℕ) (hb : b < 24) (S : St F) : St F :=
  { S with ext := put S.ext ![b, 8, 0] S1x128x128.size (boxed (extf .f32 (gX S s hs b hb) bitsLt_bf16_f32)) }
/-- The last rows moved to the front. -/
def moveF (b : ℕ) (hb : b < 24) (S : St F) : St F :=
  { S with ext := put S.ext ![b, 0, 0] S1x8x128.size (shapeCast S1x8x128 (shapeCast S8x128 (gE8 S b 128 hb (by decide)) shapeCasts_S1x8x128_S8x128) shapeCasts_S8x128_S1x8x128) }
/-- The activation of a block whose window is filled. -/
def actV (b : ℕ) (hb : b < 24) (S : St F) : FVec F S128x128 .f32 :=
  silu (convV (gW S b hb) (gB S b hb) (gE S b 5 hb (by decide)) (gE S b 6 hb (by decide)) (gE S b 7 hb (by decide)) (gE S b 8 hb (by decide)))
def convF (s : ℕ) (hs : s < 2) (b : ℕ) (hb : b < 24) (S : St F) : St F :=
  { moveF b hb (fillF s hs b hb S) with act := put S.act ![b, 0, 0] S1x128x128.size (boxed (actV b hb (fillF s hs b hb S))) }

theorem spec_conv (s : ℕ) (hs : s < 2) (b : ℕ) (hb : b < 24) : Spec c R (conv R s hs b hb) (fun S : St F => (⟨⟩, convF s hs b hb S)) :=
  Spec.congr (Spec.bind (Spec.loadSq (focus_x c R) (fun _ => rfl) (inXs hs) _ _ castX _ _) fun xv =>
    Spec.bind (Spec.load (focus_ext c R) (fun _ => rfl) _ _) fun _ =>
    Spec.bind (Spec.store (focus_ext c R) _ _ _ _) fun _ =>
    Spec.bind (Spec.load (focus_w c R) (fun _ => rfl) _ _) fun wv =>
    Spec.bind (Spec.load (focus_b c R) (fun _ => rfl) _ _) fun bv =>
    Spec.bind (Spec.load (focus_ext c R) (fun _ => rfl) _ _) fun e5 =>
    Spec.bind (Spec.load (focus_ext c R) (fun _ => rfl) _ _) fun e6 =>
    Spec.bind (Spec.load (focus_ext c R) (fun _ => rfl) _ _) fun e7 =>
    Spec.bind (Spec.load (focus_ext c R) (fun _ => rfl) _ _) fun e8 =>
    Spec.bind (Spec.load (focus_ext c R) (fun _ => rfl) _ _) fun tv =>
    Spec.bind (Spec.load (focus_ext c R) (fun _ => rfl) _ _) fun _ =>
    Spec.bind (Spec.store (focus_ext c R) _ _ _ _) fun _ =>
    Spec.bind (Spec.load (focus_act c R) (fun _ => rfl) _ _) fun _ =>
    Spec.store (focus_act c R) _ _ _ _) (fun S => rfl)

theorem spec_A (b : ℕ) (hb : b < 24) : Spec c R (loadA R b hb) (fun S : St F => (gA S b hb, S)) := Spec.load (focus_act c R) (fun _ => rfl) _ _
theorem spec_S (j : ℕ) (hj : j < 16) : Spec c R (loadS R j hj) (fun S : St F => (gS S j hj, S)) := Spec.load (focus_st c R) (fun _ => rfl) _ _
theorem spec_Y (j : ℕ) (hj : j < 16) : Spec c R (loadY R j hj) (fun S : St F => (gY S j hj, S)) := Spec.load (focus_y c R) (fun _ => rfl) _ _
theorem spec_R (j : ℕ) (hj : j < 16) : Spec c R (loadR R j hj) (fun S : St F => (gR S j hj, S)) := Spec.load (focus_rhs c R) (fun _ => rfl) _ _
theorem spec_Ly (j : ℕ) (hj : j < 16) : Spec c R (loadLy R j hj) (fun S : St F => (gLy S j hj, S)) := Spec.load (focus_ly c R) (fun _ => rfl) _ _
theorem spec_Ls (j : ℕ) (hj : j < 16) : Spec c R (loadLs R j hj) (fun S : St F => (gLs S j hj, S)) := Spec.load (focus_ls c R) (fun _ => rfl) _ _
theorem spec_C (h : ℕ) (hh : h < 32) : Spec c R (loadC R h hh) (fun S : St F => (gC S h hh, S)) := Spec.load (focus_cs c R) (fun _ => rfl) _ _
theorem spec_D (h : ℕ) (hh : h < 32) : Spec c R (loadD R h hh) (fun S : St F => (gD S h hh, S)) := Spec.load (focus_ld c R) (fun _ => rfl) _ _

/-- The pair's factors in their buffers. -/
def pairF (g : ℕ) (hg : g < 4) (cm : FVec F S128x1024 .f32) (cb bt : FVec F S128x128 .f32) (k : ℕ) (hk : k < 4) (S : St F) : St F :=
  { S with
    rhs := put S.rhs ![4 * g + k, 0, 0] S1x256x128.size (rhsV (gA S (4 * g + k) (by omega)))
    ly := put S.ly ![4 * g + k, 0, 0] S1x128x256.size (pairV (lhsY cm cb (2 * k) (by omega) (gC S (8 * g + 2 * k) (by omega)) (gD S (8 * g + 2 * k) (by omega))) (lhsY cm cb (2 * k + 1) (by omega) (gC S (8 * g + 2 * k + 1) (by omega)) (gD S (8 * g + 2 * k + 1) (by omega))))
    ls := put S.ls ![4 * g + k, 0, 0] S1x128x256.size (pairV (lhsS bt (gC S (8 * g + 2 * k) (by omega)) (gD S (8 * g + 2 * k) (by omega))) (lhsS bt (gC S (8 * g + 2 * k + 1) (by omega)) (gD S (8 * g + 2 * k + 1) (by omega)))) }
/-- The pair's decay over the chunk. -/
def decF (g : ℕ) (hg : g < 4) (k : ℕ) (hk : k < 4) (S : St F) : FVec F S1x128 .f32 := decV (gC S (8 * g + 2 * k) (by omega)) (gC S (8 * g + 2 * k + 1) (by omega))

theorem spec_pair (g : ℕ) (hg : g < 4) (cm : FVec F S128x1024 .f32) (cb bt : FVec F S128x128 .f32) (k : ℕ) (hk : k < 4) :
    Spec c R (pair R g hg cm cb bt k hk) (fun S : St F => (decF g hg k hk S, pairF g hg cm cb bt k hk S)) :=
  Spec.congr (Spec.bind (spec_A _ _) fun xv => Spec.bind (spec_R _ _) fun _ => Spec.bind (Spec.store (focus_rhs c R) _ _ _ _) fun _ =>
    Spec.bind (spec_C _ _) fun a0 => Spec.bind (spec_D _ _) fun l0 => Spec.bind (spec_C _ _) fun a1 => Spec.bind (spec_D _ _) fun l1 =>
    Spec.bind (spec_Ly _ _) fun _ => Spec.bind (Spec.store (focus_ly c R) _ _ _ _) fun _ =>
    Spec.bind (spec_Ls _ _) fun _ => Spec.bind (Spec.store (focus_ls c R) _ _ _ _) fun _ => Spec.ret _) (fun S => rfl)

def mixYF (g : ℕ) (hg : g < 4) (off : FVec F S128x512 .f32) (k : ℕ) (hk : k < 4) (S : St F) : St F :=
  { S with y := put S.y ![4 * g + k, 0, 0] S1x128x128.size (yV (gLy S (4 * g + k) (by omega)) (gR S (4 * g + k) (by omega)) off k hk) }
theorem spec_mixY (g : ℕ) (hg : g < 4) (off : FVec F S128x512 .f32) (k : ℕ) (hk : k < 4) :
    Spec c R (mixY R g hg off k hk) (fun S : St F => (⟨⟩, mixYF g hg off k hk S)) :=
  Spec.congr (Spec.bind (spec_Ly _ _) fun l => Spec.bind (spec_R _ _) fun r => Spec.bind (spec_Y _ _) fun _ => Spec.store (focus_y c R) _ _ _ _) (fun S => rfl)

def mixSF (g : ℕ) (hg : g < 4) (k : ℕ) (hk : k < 4) (dec : FVec F S1x128 .f32) (S : St F) : St F :=
  { S with st := put S.st ![4 * g + k, 0, 0] S1x128x128.size (stV (gS S (4 * g + k) (by omega)) dec (gLs S (4 * g + k) (by omega)) (gR S (4 * g + k) (by omega))) }
theorem spec_mixS (g : ℕ) (hg : g < 4) (k : ℕ) (hk : k < 4) (dec : FVec F S1x128 .f32) :
    Spec c R (mixS R g hg k hk dec) (fun S : St F => (⟨⟩, mixSF g hg k hk dec S)) :=
  Spec.congr (Spec.bind (spec_S _ _) fun s => Spec.bind (spec_Ls _ _) fun l => Spec.bind (spec_R _ _) fun r => Spec.bind (spec_S _ _) fun _ => Spec.store (focus_st c R) _ _ _ _) (fun S => rfl)

def gatedF (s : ℕ) (hs : s < 2) (j : ℕ) (hj : j < 16) (S : St F) : FVec F S128x128 .f32 :=
  gatedV (gZ S s hs j hj) (gY S j hj) (gK S j hj) (gA S j (by omega))
theorem spec_gated (s : ℕ) (hs : s < 2) (j : ℕ) (hj : j < 16) : Spec c R (gated R s hs j hj) (fun S : St F => (gatedF s hs j hj S, S)) :=
  Spec.congr (Spec.bind (Spec.loadSq (focus_z c R) (fun _ => rfl) (inZs hs) _ _ castZ _ _) fun z => Spec.bind (spec_Y _ _) fun y =>
    Spec.bind (Spec.load (focus_k c R) (fun _ => rfl) _ _) fun k => Spec.bind (spec_A _ _) fun x => Spec.ret _) (fun S => rfl)

def emitF (s : ℕ) (hs : s < 2) (j : ℕ) (hj : j < 16) (v : FVec F S128x128 .f32) (sc : FVec F S128x1 .f32) (S : St F) : St F :=
  { S with o := put S.o ![0, 128 * s, 128 * j] S1x128x128.size (outV v sc (gN S j hj)) }
theorem spec_emit (s : ℕ) (hs : s < 2) (j : ℕ) (hj : j < 16) (v : FVec F S128x128 .f32) (sc : FVec F S128x1 .f32) :
    Spec c R (emit R s hs j hj v sc) (fun S : St F => (⟨⟩, emitF s hs j hj v sc S)) :=
  Spec.congr (Spec.bind (Spec.load (focus_n c R) (fun _ => rfl) _ _) fun n =>
    Spec.bind (Spec.loadSq (focus_o c R) (fun _ => rfl) (inZs hs) _ _ castZ _ _) fun _ => Spec.store (focus_o c R) _ _ _ _) (fun S => rfl)

/-- A group's activations. -/
def convsF (s : ℕ) (hs : s < 2) (g : ℕ) (hg : g < 4) (S : St F) : St F :=
  convF s hs (20 + g) (by omega) (convF s hs (16 + g) (by omega) (convF s hs (4 * g + 3) (by omega) (convF s hs (4 * g + 2) (by omega)
    (convF s hs (4 * g + 1) (by omega) (convF s hs (4 * g) (by omega) S)))))
def scF (g : ℕ) (hg : g < 4) (S : St F) : FVec F S128x128 .f32 := scoreV (gA S (16 + g) (by omega)) (gA S (20 + g) (by omega))
def btF (g : ℕ) (hg : g < 4) (S : St F) : FVec F S128x128 .f32 := transpose S128x128 [1, 0] (flat (gA S (16 + g) (by omega))) transposes_S128x128_p1_0_S128x128
def offF (wp : FVec F S128x128 .bf16) (g : ℕ) (hg : g < 4) (S : St F) : FVec F S128x512 .f32 :=
  offV (gA S (20 + g) (by omega)) (prevV (gS S (4 * g) (by omega)) (gS S (4 * g + 1) (by omega)) (gS S (4 * g + 2) (by omega)) (gS S (4 * g + 3) (by omega)))
    (expand5V wp (gEw S g hg))
/-- A group's factors. -/
def pairsF (ap : FVec F S128x128 .bf16) (g : ℕ) (hg : g < 4) (S : St F) : St F :=
  pairF g hg (expandV ap (gEc S g hg)) (scF g hg S) (btF g hg S) 3 (by decide) (pairF g hg (expandV ap (gEc S g hg)) (scF g hg S) (btF g hg S) 2 (by decide)
    (pairF g hg (expandV ap (gEc S g hg)) (scF g hg S) (btF g hg S) 1 (by decide) (pairF g hg (expandV ap (gEc S g hg)) (scF g hg S) (btF g hg S) 0 (by decide) S)))
/-- A group's mixed values. -/
def mixYsF (off : FVec F S128x512 .f32) (g : ℕ) (hg : g < 4) (S : St F) : St F :=
  mixYF g hg off 3 (by decide) (mixYF g hg off 2 (by decide) (mixYF g hg off 1 (by decide) (mixYF g hg off 0 (by decide) S)))
/-- A group's states. -/
def mixSsF (g : ℕ) (hg : g < 4) (S : St F) : St F :=
  mixSF g hg 3 (by decide) (decF g hg 3 (by decide) S) (mixSF g hg 2 (by decide) (decF g hg 2 (by decide) S)
    (mixSF g hg 1 (by decide) (decF g hg 1 (by decide) S) (mixSF g hg 0 (by decide) (decF g hg 0 (by decide) S) S)))
def scaleF (s : ℕ) (hs : s < 2) (g : ℕ) (hg : g < 4) (S : St F) : FVec F S128x1 .f32 :=
  scaleV (gatedF s hs (4 * g) (by omega) S) (gatedF s hs (4 * g + 1) (by omega) S) (gatedF s hs (4 * g + 2) (by omega) S) (gatedF s hs (4 * g + 3) (by omega) S)
/-- A group's output. -/
def emitsF (s : ℕ) (hs : s < 2) (g : ℕ) (hg : g < 4) (S : St F) : St F :=
  emitF s hs (4 * g + 3) (by omega) (gatedF s hs (4 * g + 3) (by omega) S) (scaleF s hs g hg S) (emitF s hs (4 * g + 2) (by omega) (gatedF s hs (4 * g + 2) (by omega) S) (scaleF s hs g hg S)
    (emitF s hs (4 * g + 1) (by omega) (gatedF s hs (4 * g + 1) (by omega) S) (scaleF s hs g hg S) (emitF s hs (4 * g) (by omega) (gatedF s hs (4 * g) (by omega) S) (scaleF s hs g hg S) S)))
def groupF (s : ℕ) (hs : s < 2) (ap wp : FVec F S128x128 .bf16) (g : ℕ) (hg : g < 4) (S : St F) : St F :=
  emitsF s hs g hg (mixSsF g hg (mixYsF (offF wp g hg (convsF s hs g hg S)) g hg (pairsF ap g hg (convsF s hs g hg S))))

theorem spec_group (s : ℕ) (hs : s < 2) (ap wp : FVec F S128x128 .bf16) (g : ℕ) (hg : g < 4) :
    Spec c R (group R s hs ap wp g hg) (fun S : St F => (⟨⟩, groupF s hs ap wp g hg S)) := by
  refine Spec.congr (Spec.bind (spec_conv _ _ _ _) fun _ => Spec.bind (spec_conv _ _ _ _) fun _ => Spec.bind (spec_conv _ _ _ _) fun _ =>
    Spec.bind (spec_conv _ _ _ _) fun _ => Spec.bind (spec_conv _ _ _ _) fun _ => Spec.bind (spec_conv _ _ _ _) fun _ =>
    Spec.bind (spec_A _ _) fun bv => Spec.bind (spec_A _ _) fun cv =>
    Spec.bind (Spec.load (focus_c c R) (fun _ => rfl) _ _) fun ec => Spec.bind (Spec.load (focus_u c R) (fun _ => rfl) _ _) fun ew =>
    Spec.bind (spec_S _ _) fun s0 => Spec.bind (spec_S _ _) fun s1 => Spec.bind (spec_S _ _) fun s2 => Spec.bind (spec_S _ _) fun s3 =>
    Spec.bind (spec_A _ _) fun cv' =>
    Spec.bind (spec_pair _ _ _ _ _ _ _) fun d0 => Spec.bind (spec_pair _ _ _ _ _ _ _) fun d1 =>
    Spec.bind (spec_pair _ _ _ _ _ _ _) fun d2 => Spec.bind (spec_pair _ _ _ _ _ _ _) fun d3 =>
    Spec.bind (spec_mixY _ _ _ _ _) fun _ => Spec.bind (spec_mixY _ _ _ _ _) fun _ => Spec.bind (spec_mixY _ _ _ _ _) fun _ => Spec.bind (spec_mixY _ _ _ _ _) fun _ =>
    Spec.bind (spec_mixS _ _ _ _ _) fun _ => Spec.bind (spec_mixS _ _ _ _ _) fun _ => Spec.bind (spec_mixS _ _ _ _ _) fun _ => Spec.bind (spec_mixS _ _ _ _ _) fun _ =>
    Spec.bind (spec_gated _ _ _ _) fun v0 => Spec.bind (spec_gated _ _ _ _) fun v1 => Spec.bind (spec_gated _ _ _ _) fun v2 => Spec.bind (spec_gated _ _ _ _) fun v3 =>
    Spec.bind (spec_emit _ _ _ _ _ _) fun _ => Spec.bind (spec_emit _ _ _ _ _ _) fun _ => Spec.bind (spec_emit _ _ _ _ _ _) fun _ => spec_emit _ _ _ _ _ _) ?_
  intro S
  sl_kernel_rfl

/-- A chunk's exponents in their buffers. -/
def headF (s : ℕ) (hs : s < 2) (S : St F) : St F :=
  { S with cs := put S.cs ![0, 0] S128x128.size (turned (accV (gDt S s hs) (gT S) (gAl S)))
           ld := put S.ld ![0, 0] S128x128.size (turned (logV (gDt S s hs) (gT S))) }
def accF (s : ℕ) (hs : s < 2) (S : St F) : FVec F S128x128 .f32 := accV (gDt S s hs) (gT S) (gAl S)

theorem spec_head (s : ℕ) (hs : s < 2) : Spec c R (head R s hs) (fun S : St F => ((parts (accF s hs S), parts (exp2 (accF s hs S))), headF s hs S)) :=
  Spec.congr (Spec.bind (Spec.load (focus_d c R) (fun _ => rfl) _ _) fun d => Spec.bind (Spec.load (focus_t c R) (fun _ => rfl) _ _) fun t =>
    Spec.bind (Spec.load (focus_a c R) (fun _ => rfl) _ _) fun a => Spec.bind (Spec.load (focus_cs c R) (fun _ => rfl) _ _) fun _ =>
    Spec.bind (Spec.store (focus_cs c R) _ _ _ _) fun _ => Spec.bind (Spec.load (focus_ld c R) (fun _ => rfl) _ _) fun _ =>
    Spec.bind (Spec.store (focus_ld c R) _ _ _ _) fun _ => Spec.ret _) (fun S => rfl)

/-- A chunk. -/
def chunkF (s : ℕ) (hs : s < 2) (S : St F) : St F :=
  groupF s hs (parts (accF s hs S)) (parts (exp2 (accF s hs S))) 3 (by decide) (groupF s hs (parts (accF s hs S)) (parts (exp2 (accF s hs S))) 2 (by decide)
    (groupF s hs (parts (accF s hs S)) (parts (exp2 (accF s hs S))) 1 (by decide) (groupF s hs (parts (accF s hs S)) (parts (exp2 (accF s hs S))) 0 (by decide) (headF s hs S))))

theorem spec_chunk (s : ℕ) (hs : s < 2) : Spec c R (chunk R s hs) (fun S : St F => (⟨⟩, chunkF s hs S)) :=
  Spec.congr (Spec.bind (spec_head _ _) fun p => Spec.bind (spec_group _ _ _ _ _ _) fun _ => Spec.bind (spec_group _ _ _ _ _ _) fun _ =>
    Spec.bind (spec_group _ _ _ _ _ _) fun _ => spec_group _ _ _ _ _ _) (fun S => rfl)

def resetF (S : St F) : St F :=
  { S with ext := put S.ext ![0, 0, 0] S24x8x128.size (shapeCast S24x8x128 (broadcast S24x8x128 (Scalar.ofBits .f32 0x00000000#32 : F .f32)) shapeCasts_S24x8x128_S24x8x128)
           st := put S.st ![0, 0, 0] S16x128x128.size (shapeCast S16x128x128 (broadcast S16x128x128 (Scalar.ofBits .f32 0x00000000#32 : F .f32)) shapeCasts_S16x128x128_S16x128x128) }

theorem spec_reset : Spec c R (reset R) (fun S : St F => (⟨⟩, resetF S)) :=
  Spec.congr (Spec.bind (Spec.load (focus_ext c R) (fun _ => rfl) _ _) fun _ => Spec.bind (Spec.store (focus_ext c R) _ _ _ _) fun _ =>
    Spec.bind (Spec.load (focus_st c R) (fun _ => rfl) _ _) fun _ => Spec.store (focus_st c R) _ _ _ _) (fun S => rfl)

/-- A point other than a sequence's first. -/
theorem spec_chunks : Spec c R (chunks R) (fun S : St F => (⟨⟩, chunkF 1 (by decide) (chunkF 0 (by decide) S))) :=
  Spec.congr (Spec.bind (spec_chunk _ _) fun _ => spec_chunk _ _) (fun S => rfl)
/-- A sequence's first point. -/
theorem spec_first : Spec c R (do reset R; chunks R) (fun S : St F => (⟨⟩, chunkF 1 (by decide) (chunkF 0 (by decide) (resetF S)))) :=
  Spec.congr (Spec.bind spec_reset fun _ => spec_chunks) (fun S => rfl)

end Cert.SsdIdeal.Chunk

end
-- ==== Proof.SsdState.lean ====
/- What a group and a chunk of the scan leave in the buffers that are read later. -/
module

public import proofs.«01_k».proof.Proof.SsdSem
public import Idealize.ShloMosaic.Lib.Pointwise.Index
public import Idealize.ShloMosaic.Lib.Pipeline.Value

@[expose] public section

set_option maxRecDepth 16384

noncomputable section

namespace Cert.SsdIdeal.Chunk

open Cert.SsdIdeal Cert.SsdIdeal.Gen
open Idealize.ShloMosaic Idealize.ShloMosaic.TcCoe Idealize.ShloMosaic.Tactic Idealize.ShloMosaic.VecWindow
open Idealize.SL.Sem

variable {F : FTy → Type} [FloatOps F] [Named F]

/-- A put leaves an element alone whose leading index is another. -/
theorem put_apart {s : Shape} {α : Type} (x : s.Idx → α) (off size : Fin s.rank → ℕ) (w : ((a : Fin s.rank) → Fin (size a)) → α) (y : s.Idx) (a : Fin s.rank)
    (h : (y a).val < off a ∨ off a + size a ≤ (y a).val) : put x off size w y = x y :=
  dif_neg fun hh => by have := hh a; omega

/-- Two puts of one payload agree where what was there before does. -/
theorem put_agree {s : Shape} {α : Type} (x x' : s.Idx → α) (off size : Fin s.rank → ℕ) (w : ((a : Fin s.rank) → Fin (size a)) → α) (y : s.Idx) (h : x y = x' y) :
    put x off size w y = put x' off size w y := by
  unfold put
  by_cases hh : ∀ a, off a ≤ (y a).val ∧ (y a).val < off a + size a
  · rw [dif_pos hh, dif_pos hh]
  · rw [dif_neg hh, dif_neg hh, h]

/-- The activation of a block of chunk `s`, from what the buffers hold before the block's turn. -/
def aV (s : ℕ) (hs : s < 2) (b : ℕ) (hb : b < 24) (S : St F) : FVec F S128x128 .f32 := actV b hb (fillF s hs b hb S)

section
variable (s : ℕ) (hs : s < 2)

theorem gA_conv (b : ℕ) (hb : b < 24) (S : St F) : gA (convF s hs b hb S) b hb = boxed (aV s hs b hb S) := window_put_same _ _ _ _ _
theorem gA_conv_ne (b b' : ℕ) (hb : b < 24) (hb' : b' < 24) (h : b' ≠ b) (S : St F) : gA (convF s hs b hb S) b' hb' = gA S b' hb' :=
  window_put_of_disjoint _ _ _ _ _ _ _ 0 (by show b' + 1 ≤ b ∨ b + 1 ≤ b'; omega)

theorem ext_conv_ne (b : ℕ) (hb : b < 24) (S : St F) (y : S24x136x128.Idx) (h : (y 0).val ≠ b) : (convF s hs b hb S).ext y = S.ext y := by
  refine (put_apart _ _ _ _ y 0 ?_).trans (put_apart _ _ _ _ y 0 ?_)
  · show (y 0).val < b ∨ b + 1 ≤ (y 0).val; omega
  · show (y 0).val < b ∨ b + 1 ≤ (y 0).val; omega

theorem gE_fill_congr (b r : ℕ) (hb : b < 24) (hr : r + 128 ≤ 136) (S S' : St F) (hx : S'.x = S.x) (h : ∀ y : S24x136x128.Idx, (y 0).val = b → S'.ext y = S.ext y) :
    gE (fillF s hs b hb S') b r hb hr = gE (fillF s hs b hb S) b r hb hr := by
  funext y
  show put S'.ext _ _ _ _ = put S.ext _ _ _ _
  unfold gX
  rw [hx]
  refine put_agree _ _ _ _ _ _ (h _ ?_)
  show b + 1 * (y 0).val = b
  have : (y 0).val < 1 := (y 0).isLt
  omega

theorem convV_congr {w w' : Vec F S1x4x128 .f32} {b b' : Vec F S1x1x128 .f32} {e5 e6 e7 e8 f5 f6 f7 f8 : Vec F S1x128x128 .f32} (hw : w' = w) (hb : b' = b)
    (h5 : f5 = e5) (h6 : f6 = e6) (h7 : f7 = e7) (h8 : f8 = e8) : convV w' b' f5 f6 f7 f8 = convV w b e5 e6 e7 e8 := by subst hw hb h5 h6 h7 h8; rfl

/-- An element of a window. -/
theorem win3 {α : Type} {n0 n1 n2 m0 m1 m2 : ℕ} (x : (⟨3, ![n0, n1, n2]⟩ : Shape).Idx → α) (a b c : ℕ)
    (inb : ∀ i, (![a, b, c] : Fin 3 → ℕ) i + (![m0, m1, m2] : Fin 3 → ℕ) i ≤ (![n0, n1, n2] : Fin 3 → ℕ) i) (i : Fin m0) (j : Fin m1) (k : Fin m2)
    (p : Fin n0) (q : Fin n1) (r : Fin n2) (hp : p.val = a + i.val) (hq : q.val = b + j.val) (hr : r.val = c + k.val) :
    window x ![a, b, c] ![m0, m1, m2] inb (ix3 i j k) = x (ix3 p q r) := by
  unfold window
  congr 1
  funext t; apply Fin.ext
  match t with
  | ⟨0, _⟩ => show a + 1 * i.val = p.val; omega
  | ⟨1, _⟩ => show b + 1 * j.val = q.val; omega
  | ⟨2, _⟩ => show c + 1 * k.val = r.val; omega

theorem gW_congr (b : ℕ) (hb : b < 24) (S S' : St F) (h : S'.w = S.w) : gW S' b hb = gW S b hb := by unfold gW; rw [h]
theorem gB_congr (b : ℕ) (hb : b < 24) (S S' : St F) (h : S'.b = S.b) : gB S' b hb = gB S b hb := by unfold gB; rw [h]

theorem aV_congr (b : ℕ) (hb : b < 24) (S S' : St F) (hx : S'.x = S.x) (hw : S'.w = S.w) (hb' : S'.b = S.b)
    (h : ∀ y : S24x136x128.Idx, (y 0).val = b → S'.ext y = S.ext y) : aV s hs b hb S' = aV s hs b hb S := by
  have hw2 : (fillF s hs b hb S').w = (fillF s hs b hb S).w := by unfold fillF; exact hw
  have hb2 : (fillF s hs b hb S').b = (fillF s hs b hb S).b := by unfold fillF; exact hb'
  unfold aV actV
  refine congrArg (f := silu) ?_
  refine convV_congr ?_ ?_ ?_ ?_ ?_ ?_
  · exact gW_congr b hb (fillF s hs b hb S) (fillF s hs b hb S') hw2
  · exact gB_congr b hb (fillF s hs b hb S) (fillF s hs b hb S') hb2
  · exact gE_fill_congr s hs b 5 hb _ S S' hx h
  · exact gE_fill_congr s hs b 6 hb _ S S' hx h
  · exact gE_fill_congr s hs b 7 hb _ S S' hx h
  · exact gE_fill_congr s hs b 8 hb _ S S' hx h

theorem aV_conv_ne (b b' : ℕ) (hb : b < 24) (hb' : b' < 24) (h : b' ≠ b) (S : St F) : aV s hs b' hb' (convF s hs b hb S) = aV s hs b' hb' S :=
  aV_congr s hs b' hb' S _ rfl rfl rfl fun y hy => ext_conv_ne s hs b hb S y (by omega)

/-- The blocks of a group. -/
def inGroup (g b : ℕ) : Prop := (4 * g ≤ b ∧ b < 4 * g + 4) ∨ b = 16 + g ∨ b = 20 + g

/-- A group's activations after its convolutions. -/
theorem gA_convs (g : ℕ) (hg : g < 4) (S : St F) (b : ℕ) (hb : b < 24) (h : inGroup g b) : gA (convsF s hs g hg S) b hb = boxed (aV s hs b hb S) := by
  unfold convsF
  unfold inGroup at h
  by_cases h5 : b = 20 + g
  · subst h5
    refine (gA_conv s hs _ _ _).trans (congrArg boxed ?_)
    rw [aV_conv_ne, aV_conv_ne, aV_conv_ne, aV_conv_ne, aV_conv_ne] <;> omega
  rw [gA_conv_ne _ _ _ _ _ _ h5]
  by_cases h4 : b = 16 + g
  · subst h4
    refine (gA_conv s hs _ _ _).trans (congrArg boxed ?_)
    rw [aV_conv_ne, aV_conv_ne, aV_conv_ne, aV_conv_ne] <;> omega
  rw [gA_conv_ne _ _ _ _ _ _ h4]
  by_cases h3 : b = 4 * g + 3
  · subst h3
    refine (gA_conv s hs _ _ _).trans (congrArg boxed ?_)
    rw [aV_conv_ne, aV_conv_ne, aV_conv_ne] <;> omega
  rw [gA_conv_ne _ _ _ _ _ _ h3]
  by_cases h2 : b = 4 * g + 2
  · subst h2
    refine (gA_conv s hs _ _ _).trans (congrArg boxed ?_)
    rw [aV_conv_ne, aV_conv_ne] <;> omega
  rw [gA_conv_ne _ _ _ _ _ _ h2]
  by_cases h1 : b = 4 * g + 1
  · subst h1
    refine (gA_conv s hs _ _ _).trans (congrArg boxed ?_)
    rw [aV_conv_ne] <;> omega
  rw [gA_conv_ne _ _ _ _ _ _ h1]
  have h0 : b = 4 * g := by omega
  subst h0
  rw [gA_conv]

/-- The rows kept for the next chunk: after its convolution a block's are the chunk's last. -/
theorem ext_conv (b : ℕ) (hb : b < 24) (S : St F) (r : Fin 8) (q : Fin 128) :
    (convF s hs b hb S).ext (ix3 (⟨b, hb⟩ : Fin 24) (⟨r.val, by omega⟩ : Fin 136) q) = boxed (extf .f32 (gX S s hs b hb) bitsLt_bf16_f32) (ix3 (0 : Fin 1) (⟨120 + r.val, by omega⟩ : Fin 128) q) := by
  have h1 := congrFun (window_put_same (fillF s hs b hb S).ext ![b, 0, 0] S1x8x128.size (inE8 hb (by decide)) (shapeCast S1x8x128 (shapeCast S8x128 (gE8 (fillF s hs b hb S) b 128 hb (by decide)) shapeCasts_S1x8x128_S8x128) shapeCasts_S8x128_S1x8x128)) (ix3 (0 : Fin 1) r q)
  have h2 := congrFun (window_put_same S.ext ![b, 8, 0] S1x128x128.size (inE hb (by decide)) (boxed (extf .f32 (gX S s hs b hb) bitsLt_bf16_f32))) (ix3 (0 : Fin 1) (⟨120 + r.val, by omega⟩ : Fin 128) q)
  refine (win3 (n0 := 24) (n1 := 136) (n2 := 128) (m0 := 1) (m1 := 8) (m2 := 128) (convF s hs b hb S).ext b 0 0 (inE8 hb (by decide)) 0 r q _ _ _ rfl (Nat.zero_add _).symm (Nat.zero_add _).symm).symm.trans (h1.trans ?_)
  rw [shapeCast_shapeCast]
  refine Eq.trans ?_ h2
  refine (win3 (n0 := 24) (n1 := 136) (n2 := 128) (m0 := 1) (m1 := 8) (m2 := 128) (fillF s hs b hb S).ext b 128 0 (inE8 hb (by decide)) 0 r q ⟨b, hb⟩ ⟨128 + r.val, by omega⟩ q rfl rfl (Nat.zero_add _).symm).trans
    (win3 (n0 := 24) (n1 := 136) (n2 := 128) (m0 := 1) (m1 := 128) (m2 := 128) (fillF s hs b hb S).ext b 8 0 (inE hb (by decide)) 0 ⟨120 + r.val, by omega⟩ q ⟨b, hb⟩ ⟨128 + r.val, by omega⟩ q rfl (by show 128 + r.val = 8 + (120 + r.val); omega) (Nat.zero_add _).symm).symm

theorem ext_conv' (b : ℕ) (hb : b < 24) (S S₀ : St F) (e : S.x = S₀.x) (r : Fin 8) (q : Fin 128) :
    (convF s hs b hb S).ext (ix3 (⟨b, hb⟩ : Fin 24) (⟨r.val, by omega⟩ : Fin 136) q) = boxed (extf .f32 (gX S₀ s hs b hb) bitsLt_bf16_f32) (ix3 (0 : Fin 1) (⟨120 + r.val, by omega⟩ : Fin 128) q) := by
  rw [ext_conv]; unfold gX; rw [e]
end

/-! ## A pair's factors -/

section
variable (g : ℕ) (hg : g < 4) (cm : FVec F S128x1024 .f32) (cb bt : FVec F S128x128 .f32)

theorem gR_pair (k : ℕ) (hk : k < 4) (S : St F) : gR (pairF g hg cm cb bt k hk S) (4 * g + k) (by omega) = rhsV (gA S (4 * g + k) (by omega)) := window_put_same _ _ _ _ _
theorem gLy_pair (k : ℕ) (hk : k < 4) (S : St F) : gLy (pairF g hg cm cb bt k hk S) (4 * g + k) (by omega) = pairV (lhsY cm cb (2 * k) (by omega) (gC S (8 * g + 2 * k) (by omega)) (gD S (8 * g + 2 * k) (by omega))) (lhsY cm cb (2 * k + 1) (by omega) (gC S (8 * g + 2 * k + 1) (by omega)) (gD S (8 * g + 2 * k + 1) (by omega))) := window_put_same _ _ _ _ _
theorem gLs_pair (k : ℕ) (hk : k < 4) (S : St F) : gLs (pairF g hg cm cb bt k hk S) (4 * g + k) (by omega) = pairV (lhsS bt (gC S (8 * g + 2 * k) (by omega)) (gD S (8 * g + 2 * k) (by omega))) (lhsS bt (gC S (8 * g + 2 * k + 1) (by omega)) (gD S (8 * g + 2 * k + 1) (by omega))) := window_put_same _ _ _ _ _
theorem gR_pair_ne (k : ℕ) (hk : k < 4) (S : St F) (j : ℕ) (hj : j < 16) (h : j ≠ 4 * g + k) : gR (pairF g hg cm cb bt k hk S) j hj = gR S j hj :=
  window_put_of_disjoint _ _ _ _ _ _ _ 0 (by show j + 1 ≤ 4 * g + k ∨ 4 * g + k + 1 ≤ j; omega)
theorem gLy_pair_ne (k : ℕ) (hk : k < 4) (S : St F) (j : ℕ) (hj : j < 16) (h : j ≠ 4 * g + k) : gLy (pairF g hg cm cb bt k hk S) j hj = gLy S j hj :=
  window_put_of_disjoint _ _ _ _ _ _ _ 0 (by show j + 1 ≤ 4 * g + k ∨ 4 * g + k + 1 ≤ j; omega)
theorem gLs_pair_ne (k : ℕ) (hk : k < 4) (S : St F) (j : ℕ) (hj : j < 16) (h : j ≠ 4 * g + k) : gLs (pairF g hg cm cb bt k hk S) j hj = gLs S j hj :=
  window_put_of_disjoint _ _ _ _ _ _ _ 0 (by show j + 1 ≤ 4 * g + k ∨ 4 * g + k + 1 ≤ j; omega)
end

/-! ## What a stage leaves alone -/

theorem conv_x (s : ℕ) (hs : s < 2) (b : ℕ) (hb : b < 24) (S : St F) : (convF s hs b hb S).x = S.x := by unfold convF moveF fillF; rfl
theorem conv_z (s : ℕ) (hs : s < 2) (b : ℕ) (hb : b < 24) (S : St F) : (convF s hs b hb S).z = S.z := by unfold convF moveF fillF; rfl
theorem conv_d (s : ℕ) (hs : s < 2) (b : ℕ) (hb : b < 24) (S : St F) : (convF s hs b hb S).d = S.d := by unfold convF moveF fillF; rfl
theorem conv_w (s : ℕ) (hs : s < 2) (b : ℕ) (hb : b < 24) (S : St F) : (convF s hs b hb S).w = S.w := by unfold convF moveF fillF; rfl
theorem conv_b (s : ℕ) (hs : s < 2) (b : ℕ) (hb : b < 24) (S : St F) : (convF s hs b hb S).b = S.b := by unfold convF moveF fillF; rfl
theorem conv_t (s : ℕ) (hs : s < 2) (b : ℕ) (hb : b < 24) (S : St F) : (convF s hs b hb S).t = S.t := by unfold convF moveF fillF; rfl
theorem conv_a (s : ℕ) (hs : s < 2) (b : ℕ) (hb : b < 24) (S : St F) : (convF s hs b hb S).a = S.a := by unfold convF moveF fillF; rfl
theorem conv_k (s : ℕ) (hs : s < 2) (b : ℕ) (hb : b < 24) (S : St F) : (convF s hs b hb S).k = S.k := by unfold convF moveF fillF; rfl
theorem conv_n (s : ℕ) (hs : s < 2) (b : ℕ) (hb : b < 24) (S : St F) : (convF s hs b hb S).n = S.n := by unfold convF moveF fillF; rfl
theorem conv_c (s : ℕ) (hs : s < 2) (b : ℕ) (hb : b < 24) (S : St F) : (convF s hs b hb S).c = S.c := by unfold convF moveF fillF; rfl
theorem conv_u (s : ℕ) (hs : s < 2) (b : ℕ) (hb : b < 24) (S : St F) : (convF s hs b hb S).u = S.u := by unfold convF moveF fillF; rfl
theorem conv_o (s : ℕ) (hs : s < 2) (b : ℕ) (hb : b < 24) (S : St F) : (convF s hs b hb S).o = S.o := by unfold convF moveF fillF; rfl
theorem conv_st (s : ℕ) (hs : s < 2) (b : ℕ) (hb : b < 24) (S : St F) : (convF s hs b hb S).st = S.st := by unfold convF moveF fillF; rfl
theorem conv_y (s : ℕ) (hs : s < 2) (b : ℕ) (hb : b < 24) (S : St F) : (convF s hs b hb S).y = S.y := by unfold convF moveF fillF; rfl
theorem conv_cs (s : ℕ) (hs : s < 2) (b : ℕ) (hb : b < 24) (S : St F) : (convF s hs b hb S).cs = S.cs := by unfold convF moveF fillF; rfl
theorem conv_ld (s : ℕ) (hs : s < 2) (b : ℕ) (hb : b < 24) (S : St F) : (convF s hs b hb S).ld = S.ld := by unfold convF moveF fillF; rfl
theorem conv_rhs (s : ℕ) (hs : s < 2) (b : ℕ) (hb : b < 24) (S : St F) : (convF s hs b hb S).rhs = S.rhs := by unfold convF moveF fillF; rfl
theorem conv_ly (s : ℕ) (hs : s < 2) (b : ℕ) (hb : b < 24) (S : St F) : (convF s hs b hb S).ly = S.ly := by unfold convF moveF fillF; rfl
theorem conv_ls (s : ℕ) (hs : s < 2) (b : ℕ) (hb : b < 24) (S : St F) : (convF s hs b hb S).ls = S.ls := by unfold convF moveF fillF; rfl
theorem pair_x (g : ℕ) (hg : g < 4) (cm : FVec F S128x1024 .f32) (cb bt : FVec F S128x128 .f32) (k : ℕ) (hk : k < 4) (S : St F) : (pairF g hg cm cb bt k hk S).x = S.x := by unfold pairF; rfl
theorem pair_z (g : ℕ) (hg : g < 4) (cm : FVec F S128x1024 .f32) (cb bt : FVec F S128x128 .f32) (k : ℕ) (hk : k < 4) (S : St F) : (pairF g hg cm cb bt k hk S).z = S.z := by unfold pairF; rfl
theorem pair_d (g : ℕ) (hg : g < 4) (cm : FVec F S128x1024 .f32) (cb bt : FVec F S128x128 .f32) (k : ℕ) (hk : k < 4) (S : St F) : (pairF g hg cm cb bt k hk S).d = S.d := by unfold pairF; rfl
theorem pair_w (g : ℕ) (hg : g < 4) (cm : FVec F S128x1024 .f32) (cb bt : FVec F S128x128 .f32) (k : ℕ) (hk : k < 4) (S : St F) : (pairF g hg cm cb bt k hk S).w = S.w := by unfold pairF; rfl
theorem pair_b (g : ℕ) (hg : g < 4) (cm : FVec F S128x1024 .f32) (cb bt : FVec F S128x128 .f32) (k : ℕ) (hk : k < 4) (S : St F) : (pairF g hg cm cb bt k hk S).b = S.b := by unfold pairF; rfl
theorem pair_t (g : ℕ) (hg : g < 4) (cm : FVec F S128x1024 .f32) (cb bt : FVec F S128x128 .f32) (k : ℕ) (hk : k < 4) (S : St F) : (pairF g hg cm cb bt k hk S).t = S.t := by unfold pairF; rfl
theorem pair_a (g : ℕ) (hg : g < 4) (cm : FVec F S128x1024 .f32) (cb bt : FVec F S128x128 .f32) (k : ℕ) (hk : k < 4) (S : St F) : (pairF g hg cm cb bt k hk S).a = S.a := by unfold pairF; rfl
theorem pair_k (g : ℕ) (hg : g < 4) (cm : FVec F S128x1024 .f32) (cb bt : FVec F S128x128 .f32) (k : ℕ) (hk : k < 4) (S : St F) : (pairF g hg cm cb bt k hk S).k = S.k := by unfold pairF; rfl
theorem pair_n (g : ℕ) (hg : g < 4) (cm : FVec F S128x1024 .f32) (cb bt : FVec F S128x128 .f32) (k : ℕ) (hk : k < 4) (S : St F) : (pairF g hg cm cb bt k hk S).n = S.n := by unfold pairF; rfl
theorem pair_c (g : ℕ) (hg : g < 4) (cm : FVec F S128x1024 .f32) (cb bt : FVec F S128x128 .f32) (k : ℕ) (hk : k < 4) (S : St F) : (pairF g hg cm cb bt k hk S).c = S.c := by unfold pairF; rfl
theorem pair_u (g : ℕ) (hg : g < 4) (cm : FVec F S128x1024 .f32) (cb bt : FVec F S128x128 .f32) (k : ℕ) (hk : k < 4) (S : St F) : (pairF g hg cm cb bt k hk S).u = S.u := by unfold pairF; rfl
theorem pair_o (g : ℕ) (hg : g < 4) (cm : FVec F S128x1024 .f32) (cb bt : FVec F S128x128 .f32) (k : ℕ) (hk : k < 4) (S : St F) : (pairF g hg cm cb bt k hk S).o = S.o := by unfold pairF; rfl
theorem pair_ext (g : ℕ) (hg : g < 4) (cm : FVec F S128x1024 .f32) (cb bt : FVec F S128x128 .f32) (k : ℕ) (hk : k < 4) (S : St F) : (pairF g hg cm cb bt k hk S).ext = S.ext := by unfold pairF; rfl
theorem pair_act (g : ℕ) (hg : g < 4) (cm : FVec F S128x1024 .f32) (cb bt : FVec F S128x128 .f32) (k : ℕ) (hk : k < 4) (S : St F) : (pairF g hg cm cb bt k hk S).act = S.act := by unfold pairF; rfl
theorem pair_st (g : ℕ) (hg : g < 4) (cm : FVec F S128x1024 .f32) (cb bt : FVec F S128x128 .f32) (k : ℕ) (hk : k < 4) (S : St F) : (pairF g hg cm cb bt k hk S).st = S.st := by unfold pairF; rfl
theorem pair_y (g : ℕ) (hg : g < 4) (cm : FVec F S128x1024 .f32) (cb bt : FVec F S128x128 .f32) (k : ℕ) (hk : k < 4) (S : St F) : (pairF g hg cm cb bt k hk S).y = S.y := by unfold pairF; rfl
theorem pair_cs (g : ℕ) (hg : g < 4) (cm : FVec F S128x1024 .f32) (cb bt : FVec F S128x128 .f32) (k : ℕ) (hk : k < 4) (S : St F) : (pairF g hg cm cb bt k hk S).cs = S.cs := by unfold pairF; rfl
theorem pair_ld (g : ℕ) (hg : g < 4) (cm : FVec F S128x1024 .f32) (cb bt : FVec F S128x128 .f32) (k : ℕ) (hk : k < 4) (S : St F) : (pairF g hg cm cb bt k hk S).ld = S.ld := by unfold pairF; rfl
theorem mixY_x (g : ℕ) (hg : g < 4) (off : FVec F S128x512 .f32) (k : ℕ) (hk : k < 4) (S : St F) : (mixYF g hg off k hk S).x = S.x := by unfold mixYF; rfl
theorem mixY_z (g : ℕ) (hg : g < 4) (off : FVec F S128x512 .f32) (k : ℕ) (hk : k < 4) (S : St F) : (mixYF g hg off k hk S).z = S.z := by unfold mixYF; rfl
theorem mixY_d (g : ℕ) (hg : g < 4) (off : FVec F S128x512 .f32) (k : ℕ) (hk : k < 4) (S : St F) : (mixYF g hg off k hk S).d = S.d := by unfold mixYF; rfl
theorem mixY_w (g : ℕ) (hg : g < 4) (off : FVec F S128x512 .f32) (k : ℕ) (hk : k < 4) (S : St F) : (mixYF g hg off k hk S).w = S.w := by unfold mixYF; rfl
theorem mixY_b (g : ℕ) (hg : g < 4) (off : FVec F S128x512 .f32) (k : ℕ) (hk : k < 4) (S : St F) : (mixYF g hg off k hk S).b = S.b := by unfold mixYF; rfl
theorem mixY_t (g : ℕ) (hg : g < 4) (off : FVec F S128x512 .f32) (k : ℕ) (hk : k < 4) (S : St F) : (mixYF g hg off k hk S).t = S.t := by unfold mixYF; rfl
theorem mixY_a (g : ℕ) (hg : g < 4) (off : FVec F S128x512 .f32) (k : ℕ) (hk : k < 4) (S : St F) : (mixYF g hg off k hk S).a = S.a := by unfold mixYF; rfl
theorem mixY_k (g : ℕ) (hg : g < 4) (off : FVec F S128x512 .f32) (k : ℕ) (hk : k < 4) (S : St F) : (mixYF g hg off k hk S).k = S.k := by unfold mixYF; rfl
theorem mixY_n (g : ℕ) (hg : g < 4) (off : FVec F S128x512 .f32) (k : ℕ) (hk : k < 4) (S : St F) : (mixYF g hg off k hk S).n = S.n := by unfold mixYF; rfl
theorem mixY_c (g : ℕ) (hg : g < 4) (off : FVec F S128x512 .f32) (k : ℕ) (hk : k < 4) (S : St F) : (mixYF g hg off k hk S).c = S.c := by unfold mixYF; rfl
theorem mixY_u (g : ℕ) (hg : g < 4) (off : FVec F S128x512 .f32) (k : ℕ) (hk : k < 4) (S : St F) : (mixYF g hg off k hk S).u = S.u := by unfold mixYF; rfl
theorem mixY_o (g : ℕ) (hg : g < 4) (off : FVec F S128x512 .f32) (k : ℕ) (hk : k < 4) (S : St F) : (mixYF g hg off k hk S).o = S.o := by unfold mixYF; rfl
theorem mixY_ext (g : ℕ) (hg : g < 4) (off : FVec F S128x512 .f32) (k : ℕ) (hk : k < 4) (S : St F) : (mixYF g hg off k hk S).ext = S.ext := by unfold mixYF; rfl
theorem mixY_act (g : ℕ) (hg : g < 4) (off : FVec F S128x512 .f32) (k : ℕ) (hk : k < 4) (S : St F) : (mixYF g hg off k hk S).act = S.act := by unfold mixYF; rfl
theorem mixY_st (g : ℕ) (hg : g < 4) (off : FVec F S128x512 .f32) (k : ℕ) (hk : k < 4) (S : St F) : (mixYF g hg off k hk S).st = S.st := by unfold mixYF; rfl
theorem mixY_cs (g : ℕ) (hg : g < 4) (off : FVec F S128x512 .f32) (k : ℕ) (hk : k < 4) (S : St F) : (mixYF g hg off k hk S).cs = S.cs := by unfold mixYF; rfl
theorem mixY_ld (g : ℕ) (hg : g < 4) (off : FVec F S128x512 .f32) (k : ℕ) (hk : k < 4) (S : St F) : (mixYF g hg off k hk S).ld = S.ld := by unfold mixYF; rfl
theorem mixY_rhs (g : ℕ) (hg : g < 4) (off : FVec F S128x512 .f32) (k : ℕ) (hk : k < 4) (S : St F) : (mixYF g hg off k hk S).rhs = S.rhs := by unfold mixYF; rfl
theorem mixY_ly (g : ℕ) (hg : g < 4) (off : FVec F S128x512 .f32) (k : ℕ) (hk : k < 4) (S : St F) : (mixYF g hg off k hk S).ly = S.ly := by unfold mixYF; rfl
theorem mixY_ls (g : ℕ) (hg : g < 4) (off : FVec F S128x512 .f32) (k : ℕ) (hk : k < 4) (S : St F) : (mixYF g hg off k hk S).ls = S.ls := by unfold mixYF; rfl
theorem mixS_x (g : ℕ) (hg : g < 4) (k : ℕ) (hk : k < 4) (dec : FVec F S1x128 .f32) (S : St F) : (mixSF g hg k hk dec S).x = S.x := by unfold mixSF; rfl
theorem mixS_z (g : ℕ) (hg : g < 4) (k : ℕ) (hk : k < 4) (dec : FVec F S1x128 .f32) (S : St F) : (mixSF g hg k hk dec S).z = S.z := by unfold mixSF; rfl
theorem mixS_d (g : ℕ) (hg : g < 4) (k : ℕ) (hk : k < 4) (dec : FVec F S1x128 .f32) (S : St F) : (mixSF g hg k hk dec S).d = S.d := by unfold mixSF; rfl
theorem mixS_w (g : ℕ) (hg : g < 4) (k : ℕ) (hk : k < 4) (dec : FVec F S1x128 .f32) (S : St F) : (mixSF g hg k hk dec S).w = S.w := by unfold mixSF; rfl
theorem mixS_b (g : ℕ) (hg : g < 4) (k : ℕ) (hk : k < 4) (dec : FVec F S1x128 .f32) (S : St F) : (mixSF g hg k hk dec S).b = S.b := by unfold mixSF; rfl
theorem mixS_t (g : ℕ) (hg : g < 4) (k : ℕ) (hk : k < 4) (dec : FVec F S1x128 .f32) (S : St F) : (mixSF g hg k hk dec S).t = S.t := by unfold mixSF; rfl
theorem mixS_a (g : ℕ) (hg : g < 4) (k : ℕ) (hk : k < 4) (dec : FVec F S1x128 .f32) (S : St F) : (mixSF g hg k hk dec S).a = S.a := by unfold mixSF; rfl
theorem mixS_k (g : ℕ) (hg : g < 4) (k : ℕ) (hk : k < 4) (dec : FVec F S1x128 .f32) (S : St F) : (mixSF g hg k hk dec S).k = S.k := by unfold mixSF; rfl
theorem mixS_n (g : ℕ) (hg : g < 4) (k : ℕ) (hk : k < 4) (dec : FVec F S1x128 .f32) (S : St F) : (mixSF g hg k hk dec S).n = S.n := by unfold mixSF; rfl
theorem mixS_c (g : ℕ) (hg : g < 4) (k : ℕ) (hk : k < 4) (dec : FVec F S1x128 .f32) (S : St F) : (mixSF g hg k hk dec S).c = S.c := by unfold mixSF; rfl
theorem mixS_u (g : ℕ) (hg : g < 4) (k : ℕ) (hk : k < 4) (dec : FVec F S1x128 .f32) (S : St F) : (mixSF g hg k hk dec S).u = S.u := by unfold mixSF; rfl
theorem mixS_o (g : ℕ) (hg : g < 4) (k : ℕ) (hk : k < 4) (dec : FVec F S1x128 .f32) (S : St F) : (mixSF g hg k hk dec S).o = S.o := by unfold mixSF; rfl
theorem mixS_ext (g : ℕ) (hg : g < 4) (k : ℕ) (hk : k < 4) (dec : FVec F S1x128 .f32) (S : St F) : (mixSF g hg k hk dec S).ext = S.ext := by unfold mixSF; rfl
theorem mixS_act (g : ℕ) (hg : g < 4) (k : ℕ) (hk : k < 4) (dec : FVec F S1x128 .f32) (S : St F) : (mixSF g hg k hk dec S).act = S.act := by unfold mixSF; rfl
theorem mixS_y (g : ℕ) (hg : g < 4) (k : ℕ) (hk : k < 4) (dec : FVec F S1x128 .f32) (S : St F) : (mixSF g hg k hk dec S).y = S.y := by unfold mixSF; rfl
theorem mixS_cs (g : ℕ) (hg : g < 4) (k : ℕ) (hk : k < 4) (dec : FVec F S1x128 .f32) (S : St F) : (mixSF g hg k hk dec S).cs = S.cs := by unfold mixSF; rfl
theorem mixS_ld (g : ℕ) (hg : g < 4) (k : ℕ) (hk : k < 4) (dec : FVec F S1x128 .f32) (S : St F) : (mixSF g hg k hk dec S).ld = S.ld := by unfold mixSF; rfl
theorem mixS_rhs (g : ℕ) (hg : g < 4) (k : ℕ) (hk : k < 4) (dec : FVec F S1x128 .f32) (S : St F) : (mixSF g hg k hk dec S).rhs = S.rhs := by unfold mixSF; rfl
theorem mixS_ly (g : ℕ) (hg : g < 4) (k : ℕ) (hk : k < 4) (dec : FVec F S1x128 .f32) (S : St F) : (mixSF g hg k hk dec S).ly = S.ly := by unfold mixSF; rfl
theorem mixS_ls (g : ℕ) (hg : g < 4) (k : ℕ) (hk : k < 4) (dec : FVec F S1x128 .f32) (S : St F) : (mixSF g hg k hk dec S).ls = S.ls := by unfold mixSF; rfl
theorem emit_x (s : ℕ) (hs : s < 2) (j : ℕ) (hj : j < 16) (v : FVec F S128x128 .f32) (sc : FVec F S128x1 .f32) (S : St F) : (emitF s hs j hj v sc S).x = S.x := by unfold emitF; rfl
theorem emit_z (s : ℕ) (hs : s < 2) (j : ℕ) (hj : j < 16) (v : FVec F S128x128 .f32) (sc : FVec F S128x1 .f32) (S : St F) : (emitF s hs j hj v sc S).z = S.z := by unfold emitF; rfl
theorem emit_d (s : ℕ) (hs : s < 2) (j : ℕ) (hj : j < 16) (v : FVec F S128x128 .f32) (sc : FVec F S128x1 .f32) (S : St F) : (emitF s hs j hj v sc S).d = S.d := by unfold emitF; rfl
theorem emit_w (s : ℕ) (hs : s < 2) (j : ℕ) (hj : j < 16) (v : FVec F S128x128 .f32) (sc : FVec F S128x1 .f32) (S : St F) : (emitF s hs j hj v sc S).w = S.w := by unfold emitF; rfl
theorem emit_b (s : ℕ) (hs : s < 2) (j : ℕ) (hj : j < 16) (v : FVec F S128x128 .f32) (sc : FVec F S128x1 .f32) (S : St F) : (emitF s hs j hj v sc S).b = S.b := by unfold emitF; rfl
theorem emit_t (s : ℕ) (hs : s < 2) (j : ℕ) (hj : j < 16) (v : FVec F S128x128 .f32) (sc : FVec F S128x1 .f32) (S : St F) : (emitF s hs j hj v sc S).t = S.t := by unfold emitF; rfl
theorem emit_a (s : ℕ) (hs : s < 2) (j : ℕ) (hj : j < 16) (v : FVec F S128x128 .f32) (sc : FVec F S128x1 .f32) (S : St F) : (emitF s hs j hj v sc S).a = S.a := by unfold emitF; rfl
theorem emit_k (s : ℕ) (hs : s < 2) (j : ℕ) (hj : j < 16) (v : FVec F S128x128 .f32) (sc : FVec F S128x1 .f32) (S : St F) : (emitF s hs j hj v sc S).k = S.k := by unfold emitF; rfl
theorem emit_n (s : ℕ) (hs : s < 2) (j : ℕ) (hj : j < 16) (v : FVec F S128x128 .f32) (sc : FVec F S128x1 .f32) (S : St F) : (emitF s hs j hj v sc S).n = S.n := by unfold emitF; rfl
theorem emit_c (s : ℕ) (hs : s < 2) (j : ℕ) (hj : j < 16) (v : FVec F S128x128 .f32) (sc : FVec F S128x1 .f32) (S : St F) : (emitF s hs j hj v sc S).c = S.c := by unfold emitF; rfl
theorem emit_u (s : ℕ) (hs : s < 2) (j : ℕ) (hj : j < 16) (v : FVec F S128x128 .f32) (sc : FVec F S128x1 .f32) (S : St F) : (emitF s hs j hj v sc S).u = S.u := by unfold emitF; rfl
theorem emit_ext (s : ℕ) (hs : s < 2) (j : ℕ) (hj : j < 16) (v : FVec F S128x128 .f32) (sc : FVec F S128x1 .f32) (S : St F) : (emitF s hs j hj v sc S).ext = S.ext := by unfold emitF; rfl
theorem emit_act (s : ℕ) (hs : s < 2) (j : ℕ) (hj : j < 16) (v : FVec F S128x128 .f32) (sc : FVec F S128x1 .f32) (S : St F) : (emitF s hs j hj v sc S).act = S.act := by unfold emitF; rfl
theorem emit_st (s : ℕ) (hs : s < 2) (j : ℕ) (hj : j < 16) (v : FVec F S128x128 .f32) (sc : FVec F S128x1 .f32) (S : St F) : (emitF s hs j hj v sc S).st = S.st := by unfold emitF; rfl
theorem emit_y (s : ℕ) (hs : s < 2) (j : ℕ) (hj : j < 16) (v : FVec F S128x128 .f32) (sc : FVec F S128x1 .f32) (S : St F) : (emitF s hs j hj v sc S).y = S.y := by unfold emitF; rfl
theorem emit_cs (s : ℕ) (hs : s < 2) (j : ℕ) (hj : j < 16) (v : FVec F S128x128 .f32) (sc : FVec F S128x1 .f32) (S : St F) : (emitF s hs j hj v sc S).cs = S.cs := by unfold emitF; rfl
theorem emit_ld (s : ℕ) (hs : s < 2) (j : ℕ) (hj : j < 16) (v : FVec F S128x128 .f32) (sc : FVec F S128x1 .f32) (S : St F) : (emitF s hs j hj v sc S).ld = S.ld := by unfold emitF; rfl
theorem emit_rhs (s : ℕ) (hs : s < 2) (j : ℕ) (hj : j < 16) (v : FVec F S128x128 .f32) (sc : FVec F S128x1 .f32) (S : St F) : (emitF s hs j hj v sc S).rhs = S.rhs := by unfold emitF; rfl
theorem emit_ly (s : ℕ) (hs : s < 2) (j : ℕ) (hj : j < 16) (v : FVec F S128x128 .f32) (sc : FVec F S128x1 .f32) (S : St F) : (emitF s hs j hj v sc S).ly = S.ly := by unfold emitF; rfl
theorem emit_ls (s : ℕ) (hs : s < 2) (j : ℕ) (hj : j < 16) (v : FVec F S128x128 .f32) (sc : FVec F S128x1 .f32) (S : St F) : (emitF s hs j hj v sc S).ls = S.ls := by unfold emitF; rfl
theorem convs_x (s : ℕ) (hs : s < 2) (g : ℕ) (hg : g < 4) (S : St F) : (convsF s hs g hg S).x = S.x := by unfold convsF; rw [conv_x, conv_x, conv_x, conv_x, conv_x, conv_x]
theorem convs_z (s : ℕ) (hs : s < 2) (g : ℕ) (hg : g < 4) (S : St F) : (convsF s hs g hg S).z = S.z := by unfold convsF; rw [conv_z, conv_z, conv_z, conv_z, conv_z, conv_z]
theorem convs_d (s : ℕ) (hs : s < 2) (g : ℕ) (hg : g < 4) (S : St F) : (convsF s hs g hg S).d = S.d := by unfold convsF; rw [conv_d, conv_d, conv_d, conv_d, conv_d, conv_d]
theorem convs_w (s : ℕ) (hs : s < 2) (g : ℕ) (hg : g < 4) (S : St F) : (convsF s hs g hg S).w = S.w := by unfold convsF; rw [conv_w, conv_w, conv_w, conv_w, conv_w, conv_w]
theorem convs_b (s : ℕ) (hs : s < 2) (g : ℕ) (hg : g < 4) (S : St F) : (convsF s hs g hg S).b = S.b := by unfold convsF; rw [conv_b, conv_b, conv_b, conv_b, conv_b, conv_b]
theorem convs_t (s : ℕ) (hs : s < 2) (g : ℕ) (hg : g < 4) (S : St F) : (convsF s hs g hg S).t = S.t := by unfold convsF; rw [conv_t, conv_t, conv_t, conv_t, conv_t, conv_t]
theorem convs_a (s : ℕ) (hs : s < 2) (g : ℕ) (hg : g < 4) (S : St F) : (convsF s hs g hg S).a = S.a := by unfold convsF; rw [conv_a, conv_a, conv_a, conv_a, conv_a, conv_a]
theorem convs_k (s : ℕ) (hs : s < 2) (g : ℕ) (hg : g < 4) (S : St F) : (convsF s hs g hg S).k = S.k := by unfold convsF; rw [conv_k, conv_k, conv_k, conv_k, conv_k, conv_k]
theorem convs_n (s : ℕ) (hs : s < 2) (g : ℕ) (hg : g < 4) (S : St F) : (convsF s hs g hg S).n = S.n := by unfold convsF; rw [conv_n, conv_n, conv_n, conv_n, conv_n, conv_n]
theorem convs_c (s : ℕ) (hs : s < 2) (g : ℕ) (hg : g < 4) (S : St F) : (convsF s hs g hg S).c = S.c := by unfold convsF; rw [conv_c, conv_c, conv_c, conv_c, conv_c, conv_c]
theorem convs_u (s : ℕ) (hs : s < 2) (g : ℕ) (hg : g < 4) (S : St F) : (convsF s hs g hg S).u = S.u := by unfold convsF; rw [conv_u, conv_u, conv_u, conv_u, conv_u, conv_u]
theorem convs_o (s : ℕ) (hs : s < 2) (g : ℕ) (hg : g < 4) (S : St F) : (convsF s hs g hg S).o = S.o := by unfold convsF; rw [conv_o, conv_o, conv_o, conv_o, conv_o, conv_o]
theorem convs_st (s : ℕ) (hs : s < 2) (g : ℕ) (hg : g < 4) (S : St F) : (convsF s hs g hg S).st = S.st := by unfold convsF; rw [conv_st, conv_st, conv_st, conv_st, conv_st, conv_st]
theorem convs_y (s : ℕ) (hs : s < 2) (g : ℕ) (hg : g < 4) (S : St F) : (convsF s hs g hg S).y = S.y := by unfold convsF; rw [conv_y, conv_y, conv_y, conv_y, conv_y, conv_y]
theorem convs_cs (s : ℕ) (hs : s < 2) (g : ℕ) (hg : g < 4) (S : St F) : (convsF s hs g hg S).cs = S.cs := by unfold convsF; rw [conv_cs, conv_cs, conv_cs, conv_cs, conv_cs, conv_cs]
theorem convs_ld (s : ℕ) (hs : s < 2) (g : ℕ) (hg : g < 4) (S : St F) : (convsF s hs g hg S).ld = S.ld := by unfold convsF; rw [conv_ld, conv_ld, conv_ld, conv_ld, conv_ld, conv_ld]
theorem convs_rhs (s : ℕ) (hs : s < 2) (g : ℕ) (hg : g < 4) (S : St F) : (convsF s hs g hg S).rhs = S.rhs := by unfold convsF; rw [conv_rhs, conv_rhs, conv_rhs, conv_rhs, conv_rhs, conv_rhs]
theorem convs_ly (s : ℕ) (hs : s < 2) (g : ℕ) (hg : g < 4) (S : St F) : (convsF s hs g hg S).ly = S.ly := by unfold convsF; rw [conv_ly, conv_ly, conv_ly, conv_ly, conv_ly, conv_ly]
theorem convs_ls (s : ℕ) (hs : s < 2) (g : ℕ) (hg : g < 4) (S : St F) : (convsF s hs g hg S).ls = S.ls := by unfold convsF; rw [conv_ls, conv_ls, conv_ls, conv_ls, conv_ls, conv_ls]
theorem pairs_x (ap : FVec F S128x128 .bf16) (g : ℕ) (hg : g < 4) (S : St F) : (pairsF ap g hg S).x = S.x := by unfold pairsF; rw [pair_x, pair_x, pair_x, pair_x]
theorem pairs_z (ap : FVec F S128x128 .bf16) (g : ℕ) (hg : g < 4) (S : St F) : (pairsF ap g hg S).z = S.z := by unfold pairsF; rw [pair_z, pair_z, pair_z, pair_z]
theorem pairs_d (ap : FVec F S128x128 .bf16) (g : ℕ) (hg : g < 4) (S : St F) : (pairsF ap g hg S).d = S.d := by unfold pairsF; rw [pair_d, pair_d, pair_d, pair_d]
theorem pairs_w (ap : FVec F S128x128 .bf16) (g : ℕ) (hg : g < 4) (S : St F) : (pairsF ap g hg S).w = S.w := by unfold pairsF; rw [pair_w, pair_w, pair_w, pair_w]
theorem pairs_b (ap : FVec F S128x128 .bf16) (g : ℕ) (hg : g < 4) (S : St F) : (pairsF ap g hg S).b = S.b := by unfold pairsF; rw [pair_b, pair_b, pair_b, pair_b]
theorem pairs_t (ap : FVec F S128x128 .bf16) (g : ℕ) (hg : g < 4) (S : St F) : (pairsF ap g hg S).t = S.t := by unfold pairsF; rw [pair_t, pair_t, pair_t, pair_t]
theorem pairs_a (ap : FVec F S128x128 .bf16) (g : ℕ) (hg : g < 4) (S : St F) : (pairsF ap g hg S).a = S.a := by unfold pairsF; rw [pair_a, pair_a, pair_a, pair_a]
theorem pairs_k (ap : FVec F S128x128 .bf16) (g : ℕ) (hg : g < 4) (S : St F) : (pairsF ap g hg S).k = S.k := by unfold pairsF; rw [pair_k, pair_k, pair_k, pair_k]
theorem pairs_n (ap : FVec F S128x128 .bf16) (g : ℕ) (hg : g < 4) (S : St F) : (pairsF ap g hg S).n = S.n := by unfold pairsF; rw [pair_n, pair_n, pair_n, pair_n]
theorem pairs_c (ap : FVec F S128x128 .bf16) (g : ℕ) (hg : g < 4) (S : St F) : (pairsF ap g hg S).c = S.c := by unfold pairsF; rw [pair_c, pair_c, pair_c, pair_c]
theorem pairs_u (ap : FVec F S128x128 .bf16) (g : ℕ) (hg : g < 4) (S : St F) : (pairsF ap g hg S).u = S.u := by unfold pairsF; rw [pair_u, pair_u, pair_u, pair_u]
theorem pairs_o (ap : FVec F S128x128 .bf16) (g : ℕ) (hg : g < 4) (S : St F) : (pairsF ap g hg S).o = S.o := by unfold pairsF; rw [pair_o, pair_o, pair_o, pair_o]
theorem pairs_ext (ap : FVec F S128x128 .bf16) (g : ℕ) (hg : g < 4) (S : St F) : (pairsF ap g hg S).ext = S.ext := by unfold pairsF; rw [pair_ext, pair_ext, pair_ext, pair_ext]
theorem pairs_act (ap : FVec F S128x128 .bf16) (g : ℕ) (hg : g < 4) (S : St F) : (pairsF ap g hg S).act = S.act := by unfold pairsF; rw [pair_act, pair_act, pair_act, pair_act]
theorem pairs_st (ap : FVec F S128x128 .bf16) (g : ℕ) (hg : g < 4) (S : St F) : (pairsF ap g hg S).st = S.st := by unfold pairsF; rw [pair_st, pair_st, pair_st, pair_st]
theorem pairs_y (ap : FVec F S128x128 .bf16) (g : ℕ) (hg : g < 4) (S : St F) : (pairsF ap g hg S).y = S.y := by unfold pairsF; rw [pair_y, pair_y, pair_y, pair_y]
theorem pairs_cs (ap : FVec F S128x128 .bf16) (g : ℕ) (hg : g < 4) (S : St F) : (pairsF ap g hg S).cs = S.cs := by unfold pairsF; rw [pair_cs, pair_cs, pair_cs, pair_cs]
theorem pairs_ld (ap : FVec F S128x128 .bf16) (g : ℕ) (hg : g < 4) (S : St F) : (pairsF ap g hg S).ld = S.ld := by unfold pairsF; rw [pair_ld, pair_ld, pair_ld, pair_ld]
theorem mixYs_x (off : FVec F S128x512 .f32) (g : ℕ) (hg : g < 4) (S : St F) : (mixYsF off g hg S).x = S.x := by unfold mixYsF; rw [mixY_x, mixY_x, mixY_x, mixY_x]
theorem mixYs_z (off : FVec F S128x512 .f32) (g : ℕ) (hg : g < 4) (S : St F) : (mixYsF off g hg S).z = S.z := by unfold mixYsF; rw [mixY_z, mixY_z, mixY_z, mixY_z]
theorem mixYs_d (off : FVec F S128x512 .f32) (g : ℕ) (hg : g < 4) (S : St F) : (mixYsF off g hg S).d = S.d := by unfold mixYsF; rw [mixY_d, mixY_d, mixY_d, mixY_d]
theorem mixYs_w (off : FVec F S128x512 .f32) (g : ℕ) (hg : g < 4) (S : St F) : (mixYsF off g hg S).w = S.w := by unfold mixYsF; rw [mixY_w, mixY_w, mixY_w, mixY_w]
theorem mixYs_b (off : FVec F S128x512 .f32) (g : ℕ) (hg : g < 4) (S : St F) : (mixYsF off g hg S).b = S.b := by unfold mixYsF; rw [mixY_b, mixY_b, mixY_b, mixY_b]
theorem mixYs_t (off : FVec F S128x512 .f32) (g : ℕ) (hg : g < 4) (S : St F) : (mixYsF off g hg S).t = S.t := by unfold mixYsF; rw [mixY_t, mixY_t, mixY_t, mixY_t]
theorem mixYs_a (off : FVec F S128x512 .f32) (g : ℕ) (hg : g < 4) (S : St F) : (mixYsF off g hg S).a = S.a := by unfold mixYsF; rw [mixY_a, mixY_a, mixY_a, mixY_a]
theorem mixYs_k (off : FVec F S128x512 .f32) (g : ℕ) (hg : g < 4) (S : St F) : (mixYsF off g hg S).k = S.k := by unfold mixYsF; rw [mixY_k, mixY_k, mixY_k, mixY_k]
theorem mixYs_n (off : FVec F S128x512 .f32) (g : ℕ) (hg : g < 4) (S : St F) : (mixYsF off g hg S).n = S.n := by unfold mixYsF; rw [mixY_n, mixY_n, mixY_n, mixY_n]
theorem mixYs_c (off : FVec F S128x512 .f32) (g : ℕ) (hg : g < 4) (S : St F) : (mixYsF off g hg S).c = S.c := by unfold mixYsF; rw [mixY_c, mixY_c, mixY_c, mixY_c]
theorem mixYs_u (off : FVec F S128x512 .f32) (g : ℕ) (hg : g < 4) (S : St F) : (mixYsF off g hg S).u = S.u := by unfold mixYsF; rw [mixY_u, mixY_u, mixY_u, mixY_u]
theorem mixYs_o (off : FVec F S128x512 .f32) (g : ℕ) (hg : g < 4) (S : St F) : (mixYsF off g hg S).o = S.o := by unfold mixYsF; rw [mixY_o, mixY_o, mixY_o, mixY_o]
theorem mixYs_ext (off : FVec F S128x512 .f32) (g : ℕ) (hg : g < 4) (S : St F) : (mixYsF off g hg S).ext = S.ext := by unfold mixYsF; rw [mixY_ext, mixY_ext, mixY_ext, mixY_ext]
theorem mixYs_act (off : FVec F S128x512 .f32) (g : ℕ) (hg : g < 4) (S : St F) : (mixYsF off g hg S).act = S.act := by unfold mixYsF; rw [mixY_act, mixY_act, mixY_act, mixY_act]
theorem mixYs_st (off : FVec F S128x512 .f32) (g : ℕ) (hg : g < 4) (S : St F) : (mixYsF off g hg S).st = S.st := by unfold mixYsF; rw [mixY_st, mixY_st, mixY_st, mixY_st]
theorem mixYs_cs (off : FVec F S128x512 .f32) (g : ℕ) (hg : g < 4) (S : St F) : (mixYsF off g hg S).cs = S.cs := by unfold mixYsF; rw [mixY_cs, mixY_cs, mixY_cs, mixY_cs]
theorem mixYs_ld (off : FVec F S128x512 .f32) (g : ℕ) (hg : g < 4) (S : St F) : (mixYsF off g hg S).ld = S.ld := by unfold mixYsF; rw [mixY_ld, mixY_ld, mixY_ld, mixY_ld]
theorem mixYs_rhs (off : FVec F S128x512 .f32) (g : ℕ) (hg : g < 4) (S : St F) : (mixYsF off g hg S).rhs = S.rhs := by unfold mixYsF; rw [mixY_rhs, mixY_rhs, mixY_rhs, mixY_rhs]
theorem mixYs_ly (off : FVec F S128x512 .f32) (g : ℕ) (hg : g < 4) (S : St F) : (mixYsF off g hg S).ly = S.ly := by unfold mixYsF; rw [mixY_ly, mixY_ly, mixY_ly, mixY_ly]
theorem mixYs_ls (off : FVec F S128x512 .f32) (g : ℕ) (hg : g < 4) (S : St F) : (mixYsF off g hg S).ls = S.ls := by unfold mixYsF; rw [mixY_ls, mixY_ls, mixY_ls, mixY_ls]
theorem mixSs_x (g : ℕ) (hg : g < 4) (S : St F) : (mixSsF g hg S).x = S.x := by unfold mixSsF; rw [mixS_x, mixS_x, mixS_x, mixS_x]
theorem mixSs_z (g : ℕ) (hg : g < 4) (S : St F) : (mixSsF g hg S).z = S.z := by unfold mixSsF; rw [mixS_z, mixS_z, mixS_z, mixS_z]
theorem mixSs_d (g : ℕ) (hg : g < 4) (S : St F) : (mixSsF g hg S).d = S.d := by unfold mixSsF; rw [mixS_d, mixS_d, mixS_d, mixS_d]
theorem mixSs_w (g : ℕ) (hg : g < 4) (S : St F) : (mixSsF g hg S).w = S.w := by unfold mixSsF; rw [mixS_w, mixS_w, mixS_w, mixS_w]
theorem mixSs_b (g : ℕ) (hg : g < 4) (S : St F) : (mixSsF g hg S).b = S.b := by unfold mixSsF; rw [mixS_b, mixS_b, mixS_b, mixS_b]
theorem mixSs_t (g : ℕ) (hg : g < 4) (S : St F) : (mixSsF g hg S).t = S.t := by unfold mixSsF; rw [mixS_t, mixS_t, mixS_t, mixS_t]
theorem mixSs_a (g : ℕ) (hg : g < 4) (S : St F) : (mixSsF g hg S).a = S.a := by unfold mixSsF; rw [mixS_a, mixS_a, mixS_a, mixS_a]
theorem mixSs_k (g : ℕ) (hg : g < 4) (S : St F) : (mixSsF g hg S).k = S.k := by unfold mixSsF; rw [mixS_k, mixS_k, mixS_k, mixS_k]
theorem mixSs_n (g : ℕ) (hg : g < 4) (S : St F) : (mixSsF g hg S).n = S.n := by unfold mixSsF; rw [mixS_n, mixS_n, mixS_n, mixS_n]
theorem mixSs_c (g : ℕ) (hg : g < 4) (S : St F) : (mixSsF g hg S).c = S.c := by unfold mixSsF; rw [mixS_c, mixS_c, mixS_c, mixS_c]
theorem mixSs_u (g : ℕ) (hg : g < 4) (S : St F) : (mixSsF g hg S).u = S.u := by unfold mixSsF; rw [mixS_u, mixS_u, mixS_u, mixS_u]
theorem mixSs_o (g : ℕ) (hg : g < 4) (S : St F) : (mixSsF g hg S).o = S.o := by unfold mixSsF; rw [mixS_o, mixS_o, mixS_o, mixS_o]
theorem mixSs_ext (g : ℕ) (hg : g < 4) (S : St F) : (mixSsF g hg S).ext = S.ext := by unfold mixSsF; rw [mixS_ext, mixS_ext, mixS_ext, mixS_ext]
theorem mixSs_act (g : ℕ) (hg : g < 4) (S : St F) : (mixSsF g hg S).act = S.act := by unfold mixSsF; rw [mixS_act, mixS_act, mixS_act, mixS_act]
theorem mixSs_y (g : ℕ) (hg : g < 4) (S : St F) : (mixSsF g hg S).y = S.y := by unfold mixSsF; rw [mixS_y, mixS_y, mixS_y, mixS_y]
theorem mixSs_cs (g : ℕ) (hg : g < 4) (S : St F) : (mixSsF g hg S).cs = S.cs := by unfold mixSsF; rw [mixS_cs, mixS_cs, mixS_cs, mixS_cs]
theorem mixSs_ld (g : ℕ) (hg : g < 4) (S : St F) : (mixSsF g hg S).ld = S.ld := by unfold mixSsF; rw [mixS_ld, mixS_ld, mixS_ld, mixS_ld]
theorem mixSs_rhs (g : ℕ) (hg : g < 4) (S : St F) : (mixSsF g hg S).rhs = S.rhs := by unfold mixSsF; rw [mixS_rhs, mixS_rhs, mixS_rhs, mixS_rhs]
theorem mixSs_ly (g : ℕ) (hg : g < 4) (S : St F) : (mixSsF g hg S).ly = S.ly := by unfold mixSsF; rw [mixS_ly, mixS_ly, mixS_ly, mixS_ly]
theorem mixSs_ls (g : ℕ) (hg : g < 4) (S : St F) : (mixSsF g hg S).ls = S.ls := by unfold mixSsF; rw [mixS_ls, mixS_ls, mixS_ls, mixS_ls]
theorem emits_x (s : ℕ) (hs : s < 2) (g : ℕ) (hg : g < 4) (S : St F) : (emitsF s hs g hg S).x = S.x := by unfold emitsF; rw [emit_x, emit_x, emit_x, emit_x]
theorem emits_z (s : ℕ) (hs : s < 2) (g : ℕ) (hg : g < 4) (S : St F) : (emitsF s hs g hg S).z = S.z := by unfold emitsF; rw [emit_z, emit_z, emit_z, emit_z]
theorem emits_d (s : ℕ) (hs : s < 2) (g : ℕ) (hg : g < 4) (S : St F) : (emitsF s hs g hg S).d = S.d := by unfold emitsF; rw [emit_d, emit_d, emit_d, emit_d]
theorem emits_w (s : ℕ) (hs : s < 2) (g : ℕ) (hg : g < 4) (S : St F) : (emitsF s hs g hg S).w = S.w := by unfold emitsF; rw [emit_w, emit_w, emit_w, emit_w]
theorem emits_b (s : ℕ) (hs : s < 2) (g : ℕ) (hg : g < 4) (S : St F) : (emitsF s hs g hg S).b = S.b := by unfold emitsF; rw [emit_b, emit_b, emit_b, emit_b]
theorem emits_t (s : ℕ) (hs : s < 2) (g : ℕ) (hg : g < 4) (S : St F) : (emitsF s hs g hg S).t = S.t := by unfold emitsF; rw [emit_t, emit_t, emit_t, emit_t]
theorem emits_a (s : ℕ) (hs : s < 2) (g : ℕ) (hg : g < 4) (S : St F) : (emitsF s hs g hg S).a = S.a := by unfold emitsF; rw [emit_a, emit_a, emit_a, emit_a]
theorem emits_k (s : ℕ) (hs : s < 2) (g : ℕ) (hg : g < 4) (S : St F) : (emitsF s hs g hg S).k = S.k := by unfold emitsF; rw [emit_k, emit_k, emit_k, emit_k]
theorem emits_n (s : ℕ) (hs : s < 2) (g : ℕ) (hg : g < 4) (S : St F) : (emitsF s hs g hg S).n = S.n := by unfold emitsF; rw [emit_n, emit_n, emit_n, emit_n]
theorem emits_c (s : ℕ) (hs : s < 2) (g : ℕ) (hg : g < 4) (S : St F) : (emitsF s hs g hg S).c = S.c := by unfold emitsF; rw [emit_c, emit_c, emit_c, emit_c]
theorem emits_u (s : ℕ) (hs : s < 2) (g : ℕ) (hg : g < 4) (S : St F) : (emitsF s hs g hg S).u = S.u := by unfold emitsF; rw [emit_u, emit_u, emit_u, emit_u]
theorem emits_ext (s : ℕ) (hs : s < 2) (g : ℕ) (hg : g < 4) (S : St F) : (emitsF s hs g hg S).ext = S.ext := by unfold emitsF; rw [emit_ext, emit_ext, emit_ext, emit_ext]
theorem emits_act (s : ℕ) (hs : s < 2) (g : ℕ) (hg : g < 4) (S : St F) : (emitsF s hs g hg S).act = S.act := by unfold emitsF; rw [emit_act, emit_act, emit_act, emit_act]
theorem emits_st (s : ℕ) (hs : s < 2) (g : ℕ) (hg : g < 4) (S : St F) : (emitsF s hs g hg S).st = S.st := by unfold emitsF; rw [emit_st, emit_st, emit_st, emit_st]
theorem emits_y (s : ℕ) (hs : s < 2) (g : ℕ) (hg : g < 4) (S : St F) : (emitsF s hs g hg S).y = S.y := by unfold emitsF; rw [emit_y, emit_y, emit_y, emit_y]
theorem emits_cs (s : ℕ) (hs : s < 2) (g : ℕ) (hg : g < 4) (S : St F) : (emitsF s hs g hg S).cs = S.cs := by unfold emitsF; rw [emit_cs, emit_cs, emit_cs, emit_cs]
theorem emits_ld (s : ℕ) (hs : s < 2) (g : ℕ) (hg : g < 4) (S : St F) : (emitsF s hs g hg S).ld = S.ld := by unfold emitsF; rw [emit_ld, emit_ld, emit_ld, emit_ld]
theorem emits_rhs (s : ℕ) (hs : s < 2) (g : ℕ) (hg : g < 4) (S : St F) : (emitsF s hs g hg S).rhs = S.rhs := by unfold emitsF; rw [emit_rhs, emit_rhs, emit_rhs, emit_rhs]
theorem emits_ly (s : ℕ) (hs : s < 2) (g : ℕ) (hg : g < 4) (S : St F) : (emitsF s hs g hg S).ly = S.ly := by unfold emitsF; rw [emit_ly, emit_ly, emit_ly, emit_ly]
theorem emits_ls (s : ℕ) (hs : s < 2) (g : ℕ) (hg : g < 4) (S : St F) : (emitsF s hs g hg S).ls = S.ls := by unfold emitsF; rw [emit_ls, emit_ls, emit_ls, emit_ls]
theorem group_x (s : ℕ) (hs : s < 2) (ap wp : FVec F S128x128 .bf16) (g : ℕ) (hg : g < 4) (S : St F) : (groupF s hs ap wp g hg S).x = S.x := by unfold groupF; rw [emits_x, mixSs_x, mixYs_x, pairs_x, convs_x]
theorem group_z (s : ℕ) (hs : s < 2) (ap wp : FVec F S128x128 .bf16) (g : ℕ) (hg : g < 4) (S : St F) : (groupF s hs ap wp g hg S).z = S.z := by unfold groupF; rw [emits_z, mixSs_z, mixYs_z, pairs_z, convs_z]
theorem group_d (s : ℕ) (hs : s < 2) (ap wp : FVec F S128x128 .bf16) (g : ℕ) (hg : g < 4) (S : St F) : (groupF s hs ap wp g hg S).d = S.d := by unfold groupF; rw [emits_d, mixSs_d, mixYs_d, pairs_d, convs_d]
theorem group_w (s : ℕ) (hs : s < 2) (ap wp : FVec F S128x128 .bf16) (g : ℕ) (hg : g < 4) (S : St F) : (groupF s hs ap wp g hg S).w = S.w := by unfold groupF; rw [emits_w, mixSs_w, mixYs_w, pairs_w, convs_w]
theorem group_b (s : ℕ) (hs : s < 2) (ap wp : FVec F S128x128 .bf16) (g : ℕ) (hg : g < 4) (S : St F) : (groupF s hs ap wp g hg S).b = S.b := by unfold groupF; rw [emits_b, mixSs_b, mixYs_b, pairs_b, convs_b]
theorem group_t (s : ℕ) (hs : s < 2) (ap wp : FVec F S128x128 .bf16) (g : ℕ) (hg : g < 4) (S : St F) : (groupF s hs ap wp g hg S).t = S.t := by unfold groupF; rw [emits_t, mixSs_t, mixYs_t, pairs_t, convs_t]
theorem group_a (s : ℕ) (hs : s < 2) (ap wp : FVec F S128x128 .bf16) (g : ℕ) (hg : g < 4) (S : St F) : (groupF s hs ap wp g hg S).a = S.a := by unfold groupF; rw [emits_a, mixSs_a, mixYs_a, pairs_a, convs_a]
theorem group_k (s : ℕ) (hs : s < 2) (ap wp : FVec F S128x128 .bf16) (g : ℕ) (hg : g < 4) (S : St F) : (groupF s hs ap wp g hg S).k = S.k := by unfold groupF; rw [emits_k, mixSs_k, mixYs_k, pairs_k, convs_k]
theorem group_n (s : ℕ) (hs : s < 2) (ap wp : FVec F S128x128 .bf16) (g : ℕ) (hg : g < 4) (S : St F) : (groupF s hs ap wp g hg S).n = S.n := by unfold groupF; rw [emits_n, mixSs_n, mixYs_n, pairs_n, convs_n]
theorem group_c (s : ℕ) (hs : s < 2) (ap wp : FVec F S128x128 .bf16) (g : ℕ) (hg : g < 4) (S : St F) : (groupF s hs ap wp g hg S).c = S.c := by unfold groupF; rw [emits_c, mixSs_c, mixYs_c, pairs_c, convs_c]
theorem group_u (s : ℕ) (hs : s < 2) (ap wp : FVec F S128x128 .bf16) (g : ℕ) (hg : g < 4) (S : St F) : (groupF s hs ap wp g hg S).u = S.u := by unfold groupF; rw [emits_u, mixSs_u, mixYs_u, pairs_u, convs_u]
theorem group_cs (s : ℕ) (hs : s < 2) (ap wp : FVec F S128x128 .bf16) (g : ℕ) (hg : g < 4) (S : St F) : (groupF s hs ap wp g hg S).cs = S.cs := by unfold groupF; rw [emits_cs, mixSs_cs, mixYs_cs, pairs_cs, convs_cs]
theorem group_ld (s : ℕ) (hs : s < 2) (ap wp : FVec F S128x128 .bf16) (g : ℕ) (hg : g < 4) (S : St F) : (groupF s hs ap wp g hg S).ld = S.ld := by unfold groupF; rw [emits_ld, mixSs_ld, mixYs_ld, pairs_ld, convs_ld]
theorem gZ_congr (s : ℕ) (hs : s < 2) (j : ℕ) (hj : j < 16) {S S' : St F} (e : S'.z = S.z) : gZ S' s hs j hj = gZ S s hs j hj := by unfold gZ; rw [e]
theorem gX_congr (s : ℕ) (hs : s < 2) (b : ℕ) (hb : b < 24) {S S' : St F} (e : S'.x = S.x) : gX S' s hs b hb = gX S s hs b hb := by unfold gX; rw [e]
theorem gA_congr (b : ℕ) (hb : b < 24) {S S' : St F} (e : S'.act = S.act) : gA S' b hb = gA S b hb := by unfold gA; rw [e]
theorem gS_congr (j : ℕ) (hj : j < 16) {S S' : St F} (e : S'.st = S.st) : gS S' j hj = gS S j hj := by unfold gS; rw [e]
theorem gY_congr (j : ℕ) (hj : j < 16) {S S' : St F} (e : S'.y = S.y) : gY S' j hj = gY S j hj := by unfold gY; rw [e]
theorem gR_congr (j : ℕ) (hj : j < 16) {S S' : St F} (e : S'.rhs = S.rhs) : gR S' j hj = gR S j hj := by unfold gR; rw [e]
theorem gLy_congr (j : ℕ) (hj : j < 16) {S S' : St F} (e : S'.ly = S.ly) : gLy S' j hj = gLy S j hj := by unfold gLy; rw [e]
theorem gLs_congr (j : ℕ) (hj : j < 16) {S S' : St F} (e : S'.ls = S.ls) : gLs S' j hj = gLs S j hj := by unfold gLs; rw [e]
theorem gC_congr (h : ℕ) (hh : h < 32) {S S' : St F} (e : S'.cs = S.cs) : gC S' h hh = gC S h hh := by unfold gC; rw [e]
theorem gD_congr (h : ℕ) (hh : h < 32) {S S' : St F} (e : S'.ld = S.ld) : gD S' h hh = gD S h hh := by unfold gD; rw [e]
theorem gK_congr (j : ℕ) (hj : j < 16) {S S' : St F} (e : S'.k = S.k) : gK S' j hj = gK S j hj := by unfold gK; rw [e]
theorem gN_congr (j : ℕ) (hj : j < 16) {S S' : St F} (e : S'.n = S.n) : gN S' j hj = gN S j hj := by unfold gN; rw [e]
theorem gEc_congr (g : ℕ) (hg : g < 4) {S S' : St F} (e : S'.c = S.c) : gEc S' g hg = gEc S g hg := by unfold gEc; rw [e]
theorem gEw_congr (g : ℕ) (hg : g < 4) {S S' : St F} (e : S'.u = S.u) : gEw S' g hg = gEw S g hg := by unfold gEw; rw [e]

end Cert.SsdIdeal.Chunk

end
-- ==== Proof.SsdGroup.lean ====
/- What a group of the scan leaves: the carried states, the kept rows and the stored block, from what the buffers held before it. -/
module

public import proofs.«01_k».proof.Proof.SsdState

@[expose] public section

set_option maxRecDepth 16384

noncomputable section

namespace Cert.SsdIdeal.Chunk

open Cert.SsdIdeal Cert.SsdIdeal.Gen
open Idealize.ShloMosaic Idealize.ShloMosaic.TcCoe Idealize.ShloMosaic.Tactic Idealize.ShloMosaic.VecWindow
open Idealize.SL.Sem

variable {F : FTy → Type} [FloatOps F] [Named F]

/-! ## The values of a group -/

section

/-- A block's activation as a buffer's window. -/
def aB (s : ℕ) (hs : s < 2) (S : St F) (b : ℕ) (hb : b < 24) : FVec F S1x128x128 .f32 := boxed (aV s hs b hb S)
def cbW (s : ℕ) (hs : s < 2) (g : ℕ) (hg : g < 4) (S : St F) : FVec F S128x128 .f32 := scoreV (aB s hs S (16 + g) (by omega)) (aB s hs S (20 + g) (by omega))
def btW (s : ℕ) (hs : s < 2) (g : ℕ) (hg : g < 4) (S : St F) : FVec F S128x128 .f32 := transpose S128x128 [1, 0] (flat (aB s hs S (16 + g) (by omega))) transposes_S128x128_p1_0_S128x128
def offW (s : ℕ) (hs : s < 2) (wp : FVec F S128x128 .bf16) (g : ℕ) (hg : g < 4) (S : St F) : FVec F S128x512 .f32 :=
  offV (aB s hs S (20 + g) (by omega)) (prevV (gS S (4 * g) (by omega)) (gS S (4 * g + 1) (by omega)) (gS S (4 * g + 2) (by omega)) (gS S (4 * g + 3) (by omega))) (expand5V wp (gEw S g hg))
def lyP (g : ℕ) (hg : g < 4) (S : St F) (k : ℕ) (hk : k < 4)  (cm : FVec F S128x1024 .f32) (cb : FVec F S128x128 .f32) : FVec F S1x128x256 .bf16 :=
  pairV (lhsY cm cb (2 * k) (by omega) (gC S (8 * g + 2 * k) (by omega)) (gD S (8 * g + 2 * k) (by omega))) (lhsY cm cb (2 * k + 1) (by omega) (gC S (8 * g + 2 * k + 1) (by omega)) (gD S (8 * g + 2 * k + 1) (by omega)))
def lsP (g : ℕ) (hg : g < 4) (S : St F) (k : ℕ) (hk : k < 4) (bt : FVec F S128x128 .f32) : FVec F S1x128x256 .bf16 :=
  pairV (lhsS bt (gC S (8 * g + 2 * k) (by omega)) (gD S (8 * g + 2 * k) (by omega))) (lhsS bt (gC S (8 * g + 2 * k + 1) (by omega)) (gD S (8 * g + 2 * k + 1) (by omega)))
def lyW (s : ℕ) (hs : s < 2) (ap : FVec F S128x128 .bf16) (g : ℕ) (hg : g < 4) (S : St F) (k : ℕ) (hk : k < 4) : FVec F S1x128x256 .bf16 := lyP g hg S k hk (expandV ap (gEc S g hg)) (cbW s hs g hg S)
def lsW (s : ℕ) (hs : s < 2) (g : ℕ) (hg : g < 4) (S : St F) (k : ℕ) (hk : k < 4) : FVec F S1x128x256 .bf16 := lsP g hg S k hk (btW s hs g hg S)
def rW (s : ℕ) (hs : s < 2) (g : ℕ) (hg : g < 4) (S : St F) (k : ℕ) (hk : k < 4) : FVec F S1x256x128 .bf16 := rhsV (aB s hs S (4 * g + k) (by omega))
/-- The carried state after the chunk. -/
def stW (s : ℕ) (hs : s < 2) (g : ℕ) (hg : g < 4) (S : St F) (k : ℕ) (hk : k < 4) : FVec F S1x128x128 .f32 := stV (gS S (4 * g + k) (by omega)) (decF g hg k hk S) (lsW s hs g hg S k hk) (rW s hs g hg S k hk)
def yW (s : ℕ) (hs : s < 2) (ap wp : FVec F S128x128 .bf16) (g : ℕ) (hg : g < 4) (S : St F) (k : ℕ) (hk : k < 4) : FVec F S1x128x128 .f32 := yV (lyW s hs ap g hg S k hk) (rW s hs g hg S k hk) (offW s hs wp g hg S) k hk
/-- The gated values of the pair. -/
def gtW (s : ℕ) (hs : s < 2) (ap wp : FVec F S128x128 .bf16) (g : ℕ) (hg : g < 4) (S : St F) (k : ℕ) (hk : k < 4) : FVec F S128x128 .f32 :=
  gatedV (gZ S s hs (4 * g + k) (by omega)) (yW s hs ap wp g hg S k hk) (gK S (4 * g + k) (by omega)) (aB s hs S (4 * g + k) (by omega))
def scW (s : ℕ) (hs : s < 2) (ap wp : FVec F S128x128 .bf16) (g : ℕ) (hg : g < 4) (S : St F) : FVec F S128x1 .f32 := scaleV (gtW s hs ap wp g hg S 0 (by decide)) (gtW s hs ap wp g hg S 1 (by decide)) (gtW s hs ap wp g hg S 2 (by decide)) (gtW s hs ap wp g hg S 3 (by decide))
def oW (s : ℕ) (hs : s < 2) (ap wp : FVec F S128x128 .bf16) (g : ℕ) (hg : g < 4) (S : St F) (k : ℕ) (hk : k < 4) : Vec F S1x128x128 .bf16 := outV (gtW s hs ap wp g hg S k hk) (scW s hs ap wp g hg S) (gN S (4 * g + k) (by omega))
end

/-! ## The factors -/

section
variable (g : ℕ) (hg : g < 4) (cm : FVec F S128x1024 .f32) (cb bt : FVec F S128x128 .f32) (k : ℕ) (hk : k < 4)

theorem gR_pair' (S S₀ : St F) (e : S.act = S₀.act) : gR (pairF g hg cm cb bt k hk S) (4 * g + k) (by omega) = rhsV (gA S₀ (4 * g + k) (by omega)) := by
  rw [gR_pair, gA_congr _ _ e]
theorem gLy_pair' (S S₀ : St F) (e : S.cs = S₀.cs) (e' : S.ld = S₀.ld) : gLy (pairF g hg cm cb bt k hk S) (4 * g + k) (by omega) = lyP g hg S₀ k hk cm cb := by
  rw [gLy_pair, gC_congr _ _ e, gC_congr _ _ e, gD_congr _ _ e', gD_congr _ _ e']; rfl
theorem gLs_pair' (S S₀ : St F) (e : S.cs = S₀.cs) (e' : S.ld = S₀.ld) : gLs (pairF g hg cm cb bt k hk S) (4 * g + k) (by omega) = lsP g hg S₀ k hk bt := by
  rw [gLs_pair, gC_congr _ _ e, gC_congr _ _ e, gD_congr _ _ e', gD_congr _ _ e']; rfl
end

section
variable (g : ℕ) (hg : g < 4) (S : St F)

theorem gR_pairs (ap : FVec F S128x128 .bf16) : ∀ (k : ℕ) (hk : k < 4), gR (pairsF ap g hg S) (4 * g + k) (by omega) = rhsV (gA S (4 * g + k) (by omega))
  | 0, _ => by unfold pairsF; rw [gR_pair_ne (h := by omega)]; rw [gR_pair_ne (h := by omega)]; rw [gR_pair_ne (h := by omega)]; exact gR_pair' g hg _ _ _ 0 (by decide) _ S rfl
  | 1, _ => by unfold pairsF; rw [gR_pair_ne (h := by omega)]; rw [gR_pair_ne (h := by omega)]; exact gR_pair' g hg _ _ _ 1 (by decide) _ S (by rw [pair_act])
  | 2, _ => by unfold pairsF; rw [gR_pair_ne (h := by omega)]; exact gR_pair' g hg _ _ _ 2 (by decide) _ S (by rw [pair_act, pair_act])
  | 3, _ => by unfold pairsF; exact gR_pair' g hg _ _ _ 3 (by decide) _ S (by rw [pair_act, pair_act, pair_act])
theorem gLy_pairs (ap : FVec F S128x128 .bf16) : ∀ (k : ℕ) (hk : k < 4), gLy (pairsF ap g hg S) (4 * g + k) (by omega) = lyP g hg S k hk (expandV ap (gEc S g hg)) (scF g hg S)
  | 0, _ => by unfold pairsF; rw [gLy_pair_ne (h := by omega)]; rw [gLy_pair_ne (h := by omega)]; rw [gLy_pair_ne (h := by omega)]; exact gLy_pair' g hg _ _ _ 0 (by decide) _ S rfl rfl
  | 1, _ => by unfold pairsF; rw [gLy_pair_ne (h := by omega)]; rw [gLy_pair_ne (h := by omega)]; exact gLy_pair' g hg _ _ _ 1 (by decide) _ S (by rw [pair_cs]) (by rw [pair_ld])
  | 2, _ => by unfold pairsF; rw [gLy_pair_ne (h := by omega)]; exact gLy_pair' g hg _ _ _ 2 (by decide) _ S (by rw [pair_cs, pair_cs]) (by rw [pair_ld, pair_ld])
  | 3, _ => by unfold pairsF; exact gLy_pair' g hg _ _ _ 3 (by decide) _ S (by rw [pair_cs, pair_cs, pair_cs]) (by rw [pair_ld, pair_ld, pair_ld])
theorem gLs_pairs (ap : FVec F S128x128 .bf16) : ∀ (k : ℕ) (hk : k < 4), gLs (pairsF ap g hg S) (4 * g + k) (by omega) = lsP g hg S k hk (btF g hg S)
  | 0, _ => by unfold pairsF; rw [gLs_pair_ne (h := by omega)]; rw [gLs_pair_ne (h := by omega)]; rw [gLs_pair_ne (h := by omega)]; exact gLs_pair' g hg _ _ _ 0 (by decide) _ S rfl rfl
  | 1, _ => by unfold pairsF; rw [gLs_pair_ne (h := by omega)]; rw [gLs_pair_ne (h := by omega)]; exact gLs_pair' g hg _ _ _ 1 (by decide) _ S (by rw [pair_cs]) (by rw [pair_ld])
  | 2, _ => by unfold pairsF; rw [gLs_pair_ne (h := by omega)]; exact gLs_pair' g hg _ _ _ 2 (by decide) _ S (by rw [pair_cs, pair_cs]) (by rw [pair_ld, pair_ld])
  | 3, _ => by unfold pairsF; exact gLs_pair' g hg _ _ _ 3 (by decide) _ S (by rw [pair_cs, pair_cs, pair_cs]) (by rw [pair_ld, pair_ld, pair_ld])
theorem gY_mix (off : FVec F S128x512 .f32) (k : ℕ) (hk : k < 4) (S S₀ : St F) (e : S.ly = S₀.ly) (e' : S.rhs = S₀.rhs) :
    gY (mixYF g hg off k hk S) (4 * g + k) (by omega) = yV (gLy S₀ (4 * g + k) (by omega)) (gR S₀ (4 * g + k) (by omega)) off k hk := by
  refine (window_put_same _ _ _ _ _).trans ?_
  rw [gLy_congr _ _ e, gR_congr _ _ e']
theorem gY_mix_ne (off : FVec F S128x512 .f32) (k : ℕ) (hk : k < 4) (S : St F) (j : ℕ) (hj : j < 16) (h : j ≠ 4 * g + k) : gY (mixYF g hg off k hk S) j hj = gY S j hj :=
  window_put_of_disjoint _ _ _ _ _ _ _ 0 (by show j + 1 ≤ 4 * g + k ∨ 4 * g + k + 1 ≤ j; omega)
theorem gY_mixs (off : FVec F S128x512 .f32) : ∀ (k : ℕ) (hk : k < 4), gY (mixYsF off g hg S) (4 * g + k) (by omega) = yV (gLy S (4 * g + k) (by omega)) (gR S (4 * g + k) (by omega)) off k hk
  | 0, _ => by unfold mixYsF; rw [gY_mix_ne (h := by omega)]; rw [gY_mix_ne (h := by omega)]; rw [gY_mix_ne (h := by omega)]; exact gY_mix g hg _ 0 (by decide) _ S rfl rfl
  | 1, _ => by unfold mixYsF; rw [gY_mix_ne (h := by omega)]; rw [gY_mix_ne (h := by omega)]; exact gY_mix g hg _ 1 (by decide) _ S (by rw [mixY_ly]) (by rw [mixY_rhs])
  | 2, _ => by unfold mixYsF; rw [gY_mix_ne (h := by omega)]; exact gY_mix g hg _ 2 (by decide) _ S (by rw [mixY_ly, mixY_ly]) (by rw [mixY_rhs, mixY_rhs])
  | 3, _ => by unfold mixYsF; exact gY_mix g hg _ 3 (by decide) _ S (by rw [mixY_ly, mixY_ly, mixY_ly]) (by rw [mixY_rhs, mixY_rhs, mixY_rhs])
theorem gS_mix_ne (k : ℕ) (hk : k < 4) (dec : FVec F S1x128 .f32) (S : St F) (j : ℕ) (hj : j < 16) (h : j ≠ 4 * g + k) : gS (mixSF g hg k hk dec S) j hj = gS S j hj :=
  window_put_of_disjoint _ _ _ _ _ _ _ 0 (by show j + 1 ≤ 4 * g + k ∨ 4 * g + k + 1 ≤ j; omega)
theorem gS_mix (k : ℕ) (hk : k < 4) (dec : FVec F S1x128 .f32) (S S₀ : St F) (e : gS S (4 * g + k) (by omega) = gS S₀ (4 * g + k) (by omega)) (e' : S.ls = S₀.ls) (e'' : S.rhs = S₀.rhs) :
    gS (mixSF g hg k hk dec S) (4 * g + k) (by omega) = stV (gS S₀ (4 * g + k) (by omega)) dec (gLs S₀ (4 * g + k) (by omega)) (gR S₀ (4 * g + k) (by omega)) := by
  refine (window_put_same _ _ _ _ _).trans ?_
  rw [e, gLs_congr _ _ e', gR_congr _ _ e'']
theorem gS_mixs : ∀ (k : ℕ) (hk : k < 4), gS (mixSsF g hg S) (4 * g + k) (by omega) = stV (gS S (4 * g + k) (by omega)) (decF g hg k hk S) (gLs S (4 * g + k) (by omega)) (gR S (4 * g + k) (by omega))
  | 0, _ => by unfold mixSsF; rw [gS_mix_ne (h := by omega)]; rw [gS_mix_ne (h := by omega)]; rw [gS_mix_ne (h := by omega)]; exact gS_mix g hg 0 (by decide) _ _ S rfl rfl rfl
  | 1, _ => by unfold mixSsF; rw [gS_mix_ne (h := by omega)]; rw [gS_mix_ne (h := by omega)]; exact gS_mix g hg 1 (by decide) _ _ S (by rw [gS_mix_ne (h := by omega)]) (by rw [mixS_ls]) (by rw [mixS_rhs])
  | 2, _ => by unfold mixSsF; rw [gS_mix_ne (h := by omega)]; exact gS_mix g hg 2 (by decide) _ _ S (by rw [gS_mix_ne (h := by omega)]; rw [gS_mix_ne (h := by omega)]) (by rw [mixS_ls, mixS_ls]) (by rw [mixS_rhs, mixS_rhs])
  | 3, _ => by unfold mixSsF; exact gS_mix g hg 3 (by decide) _ _ S (by rw [gS_mix_ne (h := by omega)]; rw [gS_mix_ne (h := by omega)]; rw [gS_mix_ne (h := by omega)]) (by rw [mixS_ls, mixS_ls, mixS_ls]) (by rw [mixS_rhs, mixS_rhs, mixS_rhs])
theorem gS_mixs_ne (j : ℕ) (hj : j < 16) (h : j < 4 * g ∨ 4 * g + 4 ≤ j) : gS (mixSsF g hg S) j hj = gS S j hj := by
  unfold mixSsF
  rw [gS_mix_ne (h := by omega), gS_mix_ne (h := by omega), gS_mix_ne (h := by omega), gS_mix_ne (h := by omega)]
/-- A block of the output's buffer. -/
def gO (S : St F) (s : ℕ) (hs : s < 2) (j : ℕ) (hj : j < 16) : Vec F S1x128x128 .bf16 := window S.o ![0, 128 * s, 128 * j] S1x128x128.size (inO hs hj)
theorem gO_emit (s : ℕ) (hs : s < 2) (j : ℕ) (hj : j < 16) (v : FVec F S128x128 .f32) (sc : FVec F S128x1 .f32) (S S₀ : St F) (e : S.n = S₀.n) :
    gO (emitF s hs j hj v sc S) s hs j hj = outV v sc (gN S₀ j hj) := by
  refine (window_put_same _ _ _ _ _).trans ?_
  rw [gN_congr _ _ e]
theorem gO_emit_ne (s s' : ℕ) (hs : s < 2) (hs' : s' < 2) (j j' : ℕ) (hj : j < 16) (hj' : j' < 16) (v : FVec F S128x128 .f32) (sc : FVec F S128x1 .f32) (S : St F) (h : s' ≠ s ∨ j' ≠ j) :
    gO (emitF s hs j hj v sc S) s' hs' j' hj' = gO S s' hs' j' hj' := by
  by_cases h1 : s' = s
  · exact window_put_of_disjoint _ _ _ _ _ _ _ 2 (by show 128 * j' + 128 ≤ 128 * j ∨ 128 * j + 128 ≤ 128 * j'; omega)
  · exact window_put_of_disjoint _ _ _ _ _ _ _ 1 (by show 128 * s' + 128 ≤ 128 * s ∨ 128 * s + 128 ≤ 128 * s'; omega)
theorem gO_emits (s : ℕ) (hs : s < 2) : ∀ (k : ℕ) (hk : k < 4), gO (emitsF s hs g hg S) s hs (4 * g + k) (by omega) = outV (gatedF s hs (4 * g + k) (by omega) S) (scaleF s hs g hg S) (gN S (4 * g + k) (by omega))
  | 0, _ => by unfold emitsF; rw [gO_emit_ne (h := by omega)]; rw [gO_emit_ne (h := by omega)]; rw [gO_emit_ne (h := by omega)]; exact gO_emit s hs _ _ _ _ _ S rfl
  | 1, _ => by unfold emitsF; rw [gO_emit_ne (h := by omega)]; rw [gO_emit_ne (h := by omega)]; exact gO_emit s hs _ _ _ _ _ S (by rw [emit_n])
  | 2, _ => by unfold emitsF; rw [gO_emit_ne (h := by omega)]; exact gO_emit s hs _ _ _ _ _ S (by rw [emit_n, emit_n])
  | 3, _ => by unfold emitsF; exact gO_emit s hs _ _ _ _ _ S (by rw [emit_n, emit_n, emit_n])
theorem gO_emits_ne (s s' : ℕ) (hs : s < 2) (hs' : s' < 2) (j : ℕ) (hj : j < 16) (h : s' ≠ s ∨ j < 4 * g ∨ 4 * g + 4 ≤ j) : gO (emitsF s hs g hg S) s' hs' j hj = gO S s' hs' j hj := by
  unfold emitsF
  rw [gO_emit_ne (h := by omega), gO_emit_ne (h := by omega), gO_emit_ne (h := by omega), gO_emit_ne (h := by omega)]
end

/-! ## A group -/

section
variable (s : ℕ) (hs : s < 2) (ap wp : FVec F S128x128 .bf16) (g : ℕ) (hg : g < 4) (S : St F)

theorem gA_grp (b : ℕ) (hb : b < 24) (h : inGroup g b) : gA (convsF s hs g hg S) b hb = aB s hs S b hb := gA_convs s hs g hg S b hb h
theorem scF_grp : scF g hg (convsF s hs g hg S) = cbW s hs g hg S := by
  unfold scF cbW; rw [gA_grp _ _ _ _ _ _ _ (by unfold inGroup; omega), gA_grp _ _ _ _ _ _ _ (by unfold inGroup; omega)]
theorem btF_grp : btF g hg (convsF s hs g hg S) = btW s hs g hg S := by
  unfold btF btW; rw [gA_grp _ _ _ _ _ _ _ (by unfold inGroup; omega)]
theorem offF_grp : offF wp g hg (convsF s hs g hg S) = offW s hs wp g hg S := by
  unfold offF offW
  rw [gA_grp _ _ _ _ _ _ _ (by unfold inGroup; omega), gS_congr _ _ (convs_st s hs g hg S), gS_congr _ _ (convs_st s hs g hg S), gS_congr _ _ (convs_st s hs g hg S), gS_congr _ _ (convs_st s hs g hg S), gEw_congr _ _ (convs_u s hs g hg S)]
theorem lyP_grp (k : ℕ) (hk : k < 4) (cm : FVec F S128x1024 .f32) (cb : FVec F S128x128 .f32) : lyP g hg (convsF s hs g hg S) k hk cm cb = lyP g hg S k hk cm cb := by
  unfold lyP; rw [gC_congr _ _ (convs_cs s hs g hg S), gC_congr _ _ (convs_cs s hs g hg S), gD_congr _ _ (convs_ld s hs g hg S), gD_congr _ _ (convs_ld s hs g hg S)]
theorem lsP_grp (k : ℕ) (hk : k < 4) (bt : FVec F S128x128 .f32) : lsP g hg (convsF s hs g hg S) k hk bt = lsP g hg S k hk bt := by
  unfold lsP; rw [gC_congr _ _ (convs_cs s hs g hg S), gC_congr _ _ (convs_cs s hs g hg S), gD_congr _ _ (convs_ld s hs g hg S), gD_congr _ _ (convs_ld s hs g hg S)]
theorem gR_grp (k : ℕ) (hk : k < 4) : gR (pairsF ap g hg (convsF s hs g hg S)) (4 * g + k) (by omega) = rW s hs g hg S k hk := by
  rw [gR_pairs g hg _ ap k hk, gA_grp _ _ _ _ _ _ _ (by unfold inGroup; omega)]; rfl
theorem gLy_grp (k : ℕ) (hk : k < 4) : gLy (pairsF ap g hg (convsF s hs g hg S)) (4 * g + k) (by omega) = lyW s hs ap g hg S k hk := by
  rw [gLy_pairs g hg _ ap k hk, lyP_grp, scF_grp, gEc_congr _ _ (convs_c s hs g hg S)]; rfl
theorem gLs_grp (k : ℕ) (hk : k < 4) : gLs (pairsF ap g hg (convsF s hs g hg S)) (4 * g + k) (by omega) = lsW s hs g hg S k hk := by
  rw [gLs_pairs g hg _ ap k hk, lsP_grp, btF_grp]; rfl

/-- The states a group carries on. -/
theorem gS_group (k : ℕ) (hk : k < 4) : gS (groupF s hs ap wp g hg S) (4 * g + k) (by omega) = stW s hs g hg S k hk := by
  unfold groupF
  rw [gS_congr _ _ (emits_st s hs g hg _), gS_mixs g hg _ k hk, gS_congr _ _ (mixYs_st _ g hg _), gS_congr _ _ (pairs_st ap g hg _), gS_congr _ _ (convs_st s hs g hg S),
    gLs_congr _ _ (mixYs_ls _ g hg _), gR_congr _ _ (mixYs_rhs _ g hg _), gLs_grp (hk := hk), gR_grp (hk := hk)]
  unfold decF stW
  rw [gC_congr _ _ (mixYs_cs _ g hg _), gC_congr _ _ (mixYs_cs _ g hg _), gC_congr _ _ (pairs_cs ap g hg _), gC_congr _ _ (pairs_cs ap g hg _), gC_congr _ _ (convs_cs s hs g hg S), gC_congr _ _ (convs_cs s hs g hg S)]
  rfl
/-- The states of other groups stay. -/
theorem gS_group_ne (j : ℕ) (hj : j < 16) (h : j < 4 * g ∨ 4 * g + 4 ≤ j) : gS (groupF s hs ap wp g hg S) j hj = gS S j hj := by
  unfold groupF
  rw [gS_congr _ _ (emits_st s hs g hg _), gS_mixs_ne g hg _ j hj h, gS_congr _ _ (mixYs_st _ g hg _), gS_congr _ _ (pairs_st ap g hg _), gS_congr _ _ (convs_st s hs g hg S)]

theorem gated_grp (k : ℕ) (hk : k < 4) : gatedF s hs (4 * g + k) (by omega) (mixSsF g hg (mixYsF (offF wp g hg (convsF s hs g hg S)) g hg (pairsF ap g hg (convsF s hs g hg S)))) = gtW s hs ap wp g hg S k hk := by
  unfold gatedF gtW
  rw [gZ_congr _ _ _ _ ((mixSs_z g hg _).trans ((mixYs_z _ g hg _).trans ((pairs_z ap g hg _).trans (convs_z s hs g hg S)))),
    gK_congr _ _ ((mixSs_k g hg _).trans ((mixYs_k _ g hg _).trans ((pairs_k ap g hg _).trans (convs_k s hs g hg S)))),
    gA_congr _ _ ((mixSs_act g hg _).trans ((mixYs_act _ g hg _).trans (pairs_act ap g hg _))), gA_grp _ _ _ _ _ _ _ (by unfold inGroup; omega),
    gY_congr _ _ (mixSs_y g hg _), gY_mixs g hg _ _ k hk, gLy_grp (hk := hk), gR_grp (hk := hk), offF_grp]
  rfl
/-- What a group stores. -/
theorem gO_group (k : ℕ) (hk : k < 4) : gO (groupF s hs ap wp g hg S) s hs (4 * g + k) (by omega) = oW s hs ap wp g hg S k hk := by
  unfold groupF
  rw [gO_emits g hg _ s hs k hk, gated_grp (hk := hk), gN_congr _ _ ((mixSs_n g hg _).trans ((mixYs_n _ g hg _).trans ((pairs_n ap g hg _).trans (convs_n s hs g hg S))))]
  unfold oW
  refine congrArg (fun e => outV _ e _) ?_
  unfold scaleF scW
  rw [← gated_grp s hs ap wp g hg S 0 (by decide), ← gated_grp s hs ap wp g hg S 1 (by decide), ← gated_grp s hs ap wp g hg S 2 (by decide), ← gated_grp s hs ap wp g hg S 3 (by decide)]
  rfl
/-- What other groups and the other chunk stored stays. -/
theorem gO_group_ne (s' : ℕ) (hs' : s' < 2) (j : ℕ) (hj : j < 16) (h : s' ≠ s ∨ j < 4 * g ∨ 4 * g + 4 ≤ j) : gO (groupF s hs ap wp g hg S) s' hs' j hj = gO S s' hs' j hj := by
  unfold groupF
  rw [gO_emits_ne g hg _ s s' hs hs' j hj h]
  unfold gO
  rw [(mixSs_o g hg _).trans ((mixYs_o _ g hg _).trans ((pairs_o ap g hg _).trans (convs_o s hs g hg S)))]
theorem ext_group (y : S24x136x128.Idx) : (groupF s hs ap wp g hg S).ext y = (convsF s hs g hg S).ext y := by
  unfold groupF
  rw [(emits_ext s hs g hg _).trans ((mixSs_ext g hg _).trans ((mixYs_ext _ g hg _).trans (pairs_ext ap g hg _)))]
/-- The kept rows of other groups stay. -/
theorem ext_group_ne (y : S24x136x128.Idx) (h : ¬ inGroup g (y 0).val) : (groupF s hs ap wp g hg S).ext y = S.ext y := by
  rw [ext_group]
  unfold inGroup at h
  unfold convsF
  rw [ext_conv_ne (h := by omega), ext_conv_ne (h := by omega), ext_conv_ne (h := by omega), ext_conv_ne (h := by omega), ext_conv_ne (h := by omega), ext_conv_ne (h := by omega)]
/-- The rows a group keeps for the next chunk. -/
theorem ext_group_eq (b : ℕ) (hb : b < 24) (h : inGroup g b) (r : Fin 8) (q : Fin 128) : (groupF s hs ap wp g hg S).ext (ix3 (⟨b, hb⟩ : Fin 24) (⟨r.val, by omega⟩ : Fin 136) q)
    = boxed (extf .f32 (gX S s hs b hb) bitsLt_bf16_f32) (ix3 (0 : Fin 1) (⟨120 + r.val, by omega⟩ : Fin 128) q) := by
  rw [ext_group]
  unfold inGroup at h
  unfold convsF
  by_cases h5 : b = 20 + g
  · subst h5
    exact ext_conv' s hs _ hb _ S (by rw [conv_x, conv_x, conv_x, conv_x, conv_x]) r q
  rw [ext_conv_ne (h := h5)]
  by_cases h4 : b = 16 + g
  · subst h4
    exact ext_conv' s hs _ hb _ S (by rw [conv_x, conv_x, conv_x, conv_x]) r q
  rw [ext_conv_ne (h := h4)]
  by_cases h3 : b = 4 * g + 3
  · subst h3
    exact ext_conv' s hs _ hb _ S (by rw [conv_x, conv_x, conv_x]) r q
  rw [ext_conv_ne (h := h3)]
  by_cases h2 : b = 4 * g + 2
  · subst h2
    exact ext_conv' s hs _ hb _ S (by rw [conv_x, conv_x]) r q
  rw [ext_conv_ne (h := h2)]
  by_cases h1 : b = 4 * g + 1
  · subst h1
    exact ext_conv' s hs _ hb _ S (by rw [conv_x]) r q
  rw [ext_conv_ne (h := h1)]
  have h0 : b = 4 * g := by omega
  subst h0
  exact ext_conv' s hs _ hb _ S rfl r q
end

end Cert.SsdIdeal.Chunk

end
-- ==== Proof.SsdPoint.lean ====
/- The values of a chunk's stages, element by element. -/
module

public import proofs.«01_k».proof.Proof.SsdGroup
public import Idealize.ShloMosaic.Lib.Pointwise
public import Idealize.ShloMosaic.Lib.WordCmp

@[expose] public section

set_option maxRecDepth 16384

noncomputable section

namespace Cert.SsdIdeal.Chunk

open Cert.SsdIdeal Cert.SsdIdeal.Gen
open Idealize.ShloMosaic Idealize.ShloMosaic.TcCoe Idealize.ShloMosaic.Tactic Idealize.ShloMosaic.VecWindow
open Idealize.SL.Sem

/-! ## Masks and named constants -/

theorem sel_slt {α : Type} (a b : ℕ) (ha : a < 128) (hb : b < 128) (x y : α) : Scalar.select (IntOp.cmpi .slt (BitVec.ofNat 32 a) (BitVec.ofNat 32 b)) x y = if a < b then x else y := by
  have h : IntOp.cmpi .slt (BitVec.ofNat 32 a) (BitVec.ofNat 32 b) = BitVec.ofBool (decide (a < b)) := by word_cmp
  rw [h]; by_cases hab : a < b <;> simp [hab, Scalar.select]
theorem cmp_sle (a b : ℕ) (ha : a < 128) (hb : b < 128) : IntOp.cmpi .sle (BitVec.ofNat 32 a) (BitVec.ofNat 32 b) = BitVec.ofBool (decide (a ≤ b)) := by word_cmp
theorem sel_sle {α : Type} (a b : ℕ) (ha : a < 128) (hb : b < 128) (x y : α) : Scalar.select (IntOp.cmpi .sle (BitVec.ofNat 32 a) (BitVec.ofNat 32 b)) x y = if a ≤ b then x else y := by
  rw [cmp_sle a b ha hb]; by_cases hab : a ≤ b <;> simp [hab, Scalar.select]

theorem named_mask : (Named.named κ "mask" 0xF149F2CA#32 : Ideal .f32) = ⊥ := IdealRules.named_const.ideal_named_scalar _ _ _ _ rfl
theorem named_log2e : (Named.named κ "log2e" 0x3FB8AA3B#32 : Ideal .f32) = (((Real.log 2)⁻¹ : ℝ) : EReal) := IdealRules.named_const.ideal_named_scalar _ _ _ _ rfl
theorem named_neg : (Named.named κ "neg_log2e" 0xBFB8AA3B#32 : Ideal .f32) = ((-((Real.log 2)⁻¹) : ℝ) : EReal) := IdealRules.named_const.ideal_named_scalar _ _ _ _ rfl

/-! ## The values -/

/-- A value times its logistic function. -/
def siluE (v : EReal) : EReal := v * Ideal.div 1 (1 + Ideal.exp (0 - v))
/-- The softplus function as the chunk computes it. -/
def softE (i : EReal) : EReal := max i 0 + Ideal.log (1 + Ideal.exp (0 - max i (-i)))

theorem silu_at (v : FVec Ideal S128x128 .f32) (l q : Fin 128) : silu (F := Ideal) v (ix2 l q) = siluE (v (ix2 l q)) := by
  pointwise [silu, ones, zeros]
  rfl
theorem stepV_at (d : FVec Ideal S1x128x128 .f32) (t : FVec Ideal S1x128 .f32) (l q : Fin 128) : stepV (F := Ideal) d t (ix2 l q) = softE (d (ix3 0 l q) + t (ix2 0 q)) := by
  pointwise [stepV, row, flat, flat1, zeros, ones]
  rfl
theorem accV_at (d : FVec Ideal S1x128x128 .f32) (t a : FVec Ideal S1x128 .f32) (l q : Fin 128) : accV (F := Ideal) d t a (ix2 l q)
    = ∑ x : Fin 128, (if x.val ≤ l.val then (1 : EReal) else 0) * (softE (d (ix3 0 x q) + t (ix2 0 q)) * (((-((Real.log 2)⁻¹) : ℝ) : EReal) * Ideal.exp (a (ix2 0 q)))) := by
  pointwise [accV, row, flat1, tri]
  refine Finset.sum_congr rfl fun x _ => ?_
  rw [stepV_at, named_neg, cmp_sle x.val l.val x.isLt l.isLt]
  congr 1
  by_cases h : x.val ≤ l.val
  · rw [if_pos h, decide_eq_true h]
    show (((BitVec.setWidth 32 (BitVec.ofBool true)).toInt : ℝ) : EReal) = 1
    rw [show (BitVec.setWidth 32 (BitVec.ofBool true)).toInt = 1 from by decide]; simp
  · rw [if_neg h, decide_eq_false h]
    show (((BitVec.setWidth 32 (BitVec.ofBool false)).toInt : ℝ) : EReal) = 0
    rw [show (BitVec.setWidth 32 (BitVec.ofBool false)).toInt = 0 from by decide]; simp
theorem logV_at (d : FVec Ideal S1x128x128 .f32) (t : FVec Ideal S1x128 .f32) (l q : Fin 128) :
    logV (F := Ideal) d t (ix2 l q) = Ideal.log (softE (d (ix3 0 l q) + t (ix2 0 q))) * (((Real.log 2)⁻¹ : ℝ) : EReal) := by
  pointwise [logV]
  rw [stepV_at, named_log2e]
theorem turned_at (v : FVec Ideal S128x128 .f32) (l q : Fin 128) : turned (F := Ideal) v (ix2 l q) = v (ix2 q l) := by
  pointwise [turned]
theorem parts_at (v : FVec Ideal S128x128 .f32) (l q : Fin 128) :
    parts (F := Ideal) v (ix2 l q) = if q.val < 32 then v (ix2 l q) else if q.val < 64 then v (ix2 l q) - v (ix2 l q) else v (ix2 l q) - v (ix2 l q) - (v (ix2 l q) - v (ix2 l q)) := by
  pointwise [parts, wide, isLt32, isA]
  rw [sel_slt q.val 32 q.isLt (by decide), sel_slt q.val 64 q.isLt (by decide)]
theorem convV_at (w : FVec Ideal S1x4x128 .f32) (b : FVec Ideal S1x1x128 .f32) (e5 e6 e7 e8 : FVec Ideal S1x128x128 .f32) (l q : Fin 128) :
    convV (F := Ideal) w b e5 e6 e7 e8 (ix2 l q) = b (ix3 0 0 q) + w (ix3 0 0 q) * e5 (ix3 0 l q) + w (ix3 0 1 q) * e6 (ix3 0 l q) + w (ix3 0 2 q) * e7 (ix3 0 l q) + w (ix3 0 3 q) * e8 (ix3 0 l q) := by
  pointwise [convV, row, flat]
theorem scoreV_at (b c : FVec Ideal S1x128x128 .f32) (l i : Fin 128) : scoreV (F := Ideal) b c (ix2 l i) = ∑ n, c (ix3 0 l n) * b (ix3 0 i n) := by
  pointwise [scoreV, nar, flat]
theorem expandV_at (p : FVec Ideal S128x128 .bf16) (c : FVec Ideal S1x128x1024 .bf16) (l : Fin 128) (i : Fin 1024) : expandV (F := Ideal) p c (ix2 l i) = ∑ r, p (ix2 l r) * c (ix3 0 r i) := by
  pointwise [expandV]
theorem expand5V_at (p : FVec Ideal S128x128 .bf16) (c : FVec Ideal S1x128x512 .bf16) (l : Fin 128) (i : Fin 512) : expand5V (F := Ideal) p c (ix2 l i) = ∑ r, p (ix2 l r) * c (ix3 0 r i) := by
  pointwise [expand5V]
/-- The carried states of a group side by side. -/
theorem prevV_at (s0 s1 s2 s3 : FVec Ideal S1x128x128 .f32) (n : Fin 128) (i : Fin 512) : prevV (F := Ideal) s0 s1 s2 s3 (ix2 n i)
    = if h : i.val < 128 then s0 (ix3 0 n ⟨i.val, h⟩) else if h : i.val - 128 < 128 then s1 (ix3 0 n ⟨i.val - 128, h⟩) else if h : i.val - 128 - 128 < 128 then s2 (ix3 0 n ⟨i.val - 128 - 128, h⟩) else s3 (ix3 0 n ⟨i.val - 128 - 128 - 128, by omega⟩) := by
  pointwise [prevV, flat]
theorem offV_at (c : FVec Ideal S1x128x128 .f32) (prev : FVec Ideal S128x512 .bf16) (w : FVec Ideal S128x512 .f32) (l : Fin 128) (i : Fin 512) :
    offV (F := Ideal) c prev w (ix2 l i) = (∑ n, c (ix3 0 l n) * prev (ix2 n i)) * w (ix2 l i) := by
  pointwise [offV, nar, flat]
theorem lhsY_at (cm : FVec Ideal S128x1024 .f32) (cb : FVec Ideal S128x128 .f32) (k : ℕ) (hk : k < 8) (ar lr : FVec Ideal S1x128 .f32) (l i : Fin 128) : lhsY (F := Ideal) cm cb k hk ar lr (ix2 l i)
    = Ideal.exp2 (if i.val ≤ l.val then cm (ix2 l ⟨128 * k + i.val, by omega⟩) - (ar (ix2 0 i) - lr (ix2 0 i)) else ⊥) * cb (ix2 l i) := by
  pointwise [lhsY, nar, tri, row]
  rw [sel_sle i.val l.val i.isLt l.isLt, named_mask]
  rfl
theorem lhsS_at (bt : FVec Ideal S128x128 .f32) (ar lr : FVec Ideal S1x128 .f32) (l i : Fin 128) : lhsS (F := Ideal) bt ar lr (ix2 l i) = bt (ix2 l i) * Ideal.exp2 (ar (ix2 0 127) - (ar (ix2 0 i) - lr (ix2 0 i))) := by
  pointwise [lhsS, nar, row, totV]
  rfl
/-- A pair's product: each half of the lanes sees its own head's factor. -/
theorem prodV_at (p q : FVec Ideal S128x128 .bf16) (x : FVec Ideal S1x128x128 .f32) (l i : Fin 128) : prodV (F := Ideal) (pairV p q) (rhsV (F := Ideal) x) (ix2 l i)
    = ∑ k, (if i.val < 64 then p (ix2 l k) else q (ix2 l k)) * x (ix3 0 k i) := by
  pointwise [prodV, pairV, rhsV, flat, nar, zeroB, wide, isA]
  simp only [sel_slt i.val 64 i.isLt (by decide)]
  by_cases h : i.val < 64
  · simp only [if_pos h, Finset.sum_const_zero, add_zero]
  · simp only [if_neg h, Finset.sum_const_zero, zero_add]
theorem decV_at (a0 a1 : FVec Ideal S1x128 .f32) (p : Fin 128) : decV (F := Ideal) a0 a1 (ix2 0 p) = if p.val < 64 then Ideal.exp2 (a0 (ix2 0 127)) else Ideal.exp2 (a1 (ix2 0 127)) := by
  pointwise [decV, totV, isA]
  rw [sel_slt p.val 64 p.isLt (by decide)]
  rfl
theorem yV_at (l : FVec Ideal S1x128x256 .bf16) (r : FVec Ideal S1x256x128 .bf16) (off : FVec Ideal S128x512 .f32) (k : ℕ) (hk : k < 4) (i p : Fin 128) :
    yV (F := Ideal) l r off k hk (ix3 0 i p) = prodV (F := Ideal) l r (ix2 i p) + off (ix2 i ⟨128 * k + p.val, by omega⟩) := by
  pointwise [yV, boxed]
theorem stV_at (s : FVec Ideal S1x128x128 .f32) (dec : FVec Ideal S1x128 .f32) (l : FVec Ideal S1x128x256 .bf16) (r : FVec Ideal S1x256x128 .bf16) (n p : Fin 128) :
    stV (F := Ideal) s dec l r (ix3 0 n p) = s (ix3 0 n p) * dec (ix2 0 p) + prodV (F := Ideal) l r (ix2 n p) := by
  pointwise [stV, boxed, flat, row]
theorem boxed_at (v : FVec Ideal S128x128 .f32) (l p : Fin 128) : boxed (F := Ideal) v (ix3 0 l p) = v (ix2 l p) := by
  pointwise [boxed]
theorem gatedV_at (z : FVec Ideal S128x128 .bf16) (y : FVec Ideal S1x128x128 .f32) (k : FVec Ideal S1x128 .f32) (x : FVec Ideal S1x128x128 .f32) (l p : Fin 128) :
    gatedV (F := Ideal) z y k x (ix2 l p) = (y (ix3 0 l p) + k (ix2 0 p) * x (ix3 0 l p)) * siluE (z (ix2 l p)) := by
  pointwise [gatedV, flat, flat1, row, silu, zeros, ones]
  rfl
theorem scaleV_at (v0 v1 v2 v3 : FVec Ideal S128x128 .f32) (l : Fin 128) : scaleV (F := Ideal) v0 v1 v2 v3 (ix2 l 0)
    = Ideal.rsqrt ((∑ x, v0 (ix2 l x) * v0 (ix2 l x) + ∑ x, v1 (ix2 l x) * v1 (ix2 l x) + ∑ x, v2 (ix2 l x) * v2 (ix2 l x) + ∑ x, v3 (ix2 l x) * v3 (ix2 l x)) * Ideal.ofBits .f32 0x3B000000#32 + Ideal.ofBits .f32 0x358637BD#32) := by
  pointwise [scaleV, ssq]
theorem outV_at (v : FVec Ideal S128x128 .f32) (sc : FVec Ideal S128x1 .f32) (n : FVec Ideal S1x128 .f32) (l p : Fin 128) : outV (F := Ideal) v sc n (ix3 0 l p) = v (ix2 l p) * sc (ix2 l 0) * n (ix2 0 p) := by
  pointwise [outV, nar, row, flat1]

end Cert.SsdIdeal.Chunk

end
-- ==== Proof.SsdMath.lean ====
/- The scan over the reals: the carried state as a sum over the past, and a chunk's step. -/
module

public import Idealize.ShloMosaic.PureOps.Ideal
public import Mathlib.Analysis.SpecialFunctions.Pow.Real

@[expose] public section

noncomputable section

namespace Cert.Scan

/-- The softplus function, written so that it does not overflow. -/
def soft (v : ℝ) : ℝ := max v 0 + Real.log (1 + Real.exp (-|v|))

theorem soft_pos (v : ℝ) : 0 < soft v :=
  add_pos_of_nonneg_of_pos (le_max_right _ _) (Real.log_pos (by have := Real.exp_pos (-|v|); linarith))

section
variable (D : ℕ → ℝ) (w : ℝ)

/-- The decay exponents' sum before time `m`: `D` holds the step sizes, `w` the rate. -/
def before (m : ℕ) : ℝ := ∑ x ∈ Finset.range m, -(D x * w)

/-- The running sum inside a chunk from `T`, in powers of two. -/
def acc (T l : ℕ) : ℝ := ∑ x ∈ Finset.range (l + 1), D (T + x) * (-((Real.log 2)⁻¹) * w)

theorem log2_pos : 0 < Real.log 2 := Real.log_pos (by norm_num)

theorem acc_eq (T l : ℕ) : Real.log 2 * acc D w T l = before D w (T + l + 1) - before D w T := by
  have h2 : Real.log 2 ≠ 0 := ne_of_gt log2_pos
  unfold acc before
  rw [show T + l + 1 = T + (l + 1) from rfl, Finset.sum_range_add (fun x => -(D x * w)) T (l + 1), add_sub_cancel_left, Finset.mul_sum]
  refine Finset.sum_congr rfl fun x _ => ?_
  field_simp

theorem two_pow (x : ℝ) : Real.rpow 2 x = Real.exp (Real.log 2 * x) := Real.rpow_def_of_pos (by norm_num) x

theorem pow_acc (T l : ℕ) : Real.rpow 2 (acc D w T l) = Real.exp (before D w (T + l + 1) - before D w T) := by
  rw [two_pow, acc_eq]

theorem pow_fac (hD : ∀ t, 0 < D t) (T l i : ℕ) :
    Real.rpow 2 (acc D w T l - (acc D w T i - Real.log (D (T + i)) * (Real.log 2)⁻¹)) = Real.exp (before D w (T + l + 1) - before D w (T + i + 1)) * D (T + i) := by
  have h2 : Real.log 2 ≠ 0 := ne_of_gt log2_pos
  rw [two_pow]
  have : Real.log 2 * (acc D w T l - (acc D w T i - Real.log (D (T + i)) * (Real.log 2)⁻¹)) = (before D w (T + l + 1) - before D w (T + i + 1)) + Real.log (D (T + i)) := by
    rw [mul_sub, mul_sub, acc_eq, acc_eq]
    field_simp
    ring
  rw [this, Real.exp_add, Real.exp_log (hD _)]

/-- The carried state before time `T`. -/
def state (b x : ℕ → ℝ) (T : ℕ) : ℝ := ∑ s ∈ Finset.range T, b s * (Real.exp (before D w T - before D w (s + 1)) * D s) * x s

theorem state_zero (b x : ℕ → ℝ) : state D w b x 0 = 0 := rfl

theorem state_step (b x : ℕ → ℝ) (T K : ℕ) : state D w b x (T + K)
    = state D w b x T * Real.exp (before D w (T + K) - before D w T) + ∑ i : Fin K, b (T + i) * (Real.exp (before D w (T + K) - before D w (T + i + 1)) * D (T + i)) * x (T + i) := by
  unfold state
  rw [Finset.sum_range_add, Finset.sum_mul]
  congr 1
  · refine Finset.sum_congr rfl fun s _ => ?_
    rw [show before D w (T + K) - before D w (s + 1) = (before D w T - before D w (s + 1)) + (before D w (T + K) - before D w T) by ring, Real.exp_add]
    ring
  · exact (Fin.sum_univ_eq_sum_range (fun i => b (T + i) * (Real.exp (before D w (T + K) - before D w (T + i + 1)) * D (T + i)) * x (T + i)) K).symm

/-- The scan at time `t`: every earlier time's contribution, decayed. -/
def scan (cb x : ℕ → ℝ) (t : ℕ) : ℝ := ∑ s ∈ Finset.range (t + 1), (Real.exp (before D w (t + 1) - before D w (s + 1)) * D s) * cb s * x s

/-- A chunk's part and the carried part make the scan. -/
theorem scan_step {N : ℕ} (c : Fin N → ℝ) (b : ℕ → Fin N → ℝ) (x : ℕ → ℝ) (T K l : ℕ) (hl : l < K) :
    (∑ i : Fin K, (if i.val ≤ l then Real.exp (before D w (T + l + 1) - before D w (T + i + 1)) * D (T + i) else 0) * (∑ n, c n * b (T + i) n) * x (T + i))
      + (∑ n, c n * state D w (fun s => b s n) x T) * Real.exp (before D w (T + l + 1) - before D w T)
    = scan D w (fun s => ∑ n, c n * b s n) x (T + l) := by
  unfold scan
  rw [show T + l + 1 = T + (l + 1) from rfl, Finset.sum_range_add, add_comm]
  congr 1
  · unfold state
    rw [Finset.sum_mul]
    simp only [Finset.mul_sum, Finset.sum_mul]
    rw [Finset.sum_comm]
    refine Finset.sum_congr rfl fun s _ => Finset.sum_congr rfl fun n _ => ?_
    rw [show before D w (T + (l + 1)) - before D w (s + 1) = (before D w T - before D w (s + 1)) + (before D w (T + (l + 1)) - before D w T) by ring, Real.exp_add]
    ring
  · rw [Fin.sum_univ_eq_sum_range (fun i => (if i ≤ l then Real.exp (before D w (T + (l + 1)) - before D w (T + i + 1)) * D (T + i) else 0) * (∑ n, c n * b (T + i) n) * x (T + i)) K,
      ← Finset.sum_subset (Finset.range_mono (show l + 1 ≤ K from hl))]
    · refine Finset.sum_congr rfl fun i hi => ?_
      rw [if_pos (by have := Finset.mem_range.1 hi; omega)]
    · intro i _ hi
      rw [if_neg (fun h => hi (Finset.mem_range.2 (by omega))), zero_mul, zero_mul]

/-- The scan as a sum over every time, the later ones masked. -/
theorem scan_all (cb x : ℕ → ℝ) (t K : ℕ) (ht : t < K) :
    scan D w cb x t = ∑ s : Fin K, (if s.val ≤ t then Real.exp (before D w (t + 1) - before D w (s + 1)) * D s else 0) * cb s * x s := by
  unfold scan
  rw [Fin.sum_univ_eq_sum_range (fun s => (if s ≤ t then Real.exp (before D w (t + 1) - before D w (s + 1)) * D s else 0) * cb s * x s) K,
    ← Finset.sum_subset (Finset.range_mono (show t + 1 ≤ K from ht))]
  · refine Finset.sum_congr rfl fun s hs => ?_
    rw [if_pos (by have := Finset.mem_range.1 hs; omega)]
  · intro s _ hs
    rw [if_neg (fun h => hs (Finset.mem_range.2 (by omega))), zero_mul, zero_mul]
end

/-! ## Real values among the extended reals -/

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A real value. -/
def Fin' (x : EReal) : Prop := ∃ r : ℝ, x = (r : EReal)

theorem coe_toReal {x : EReal} (h : Fin' x) : ((x.toReal : ℝ) : EReal) = x := by obtain ⟨r, rfl⟩ := h; rfl

end Cert.Scan

end
-- ==== Proof.SsdStep.lean ====
/- A group of a chunk of the scan, over the extended reals: what its buffers hold afterwards in terms of the whole sequence. -/
module

public import proofs.«01_k».proof.Proof.SsdPoint
public import proofs.«01_k».proof.Proof.SsdMath

@[expose] public section

set_option maxRecDepth 16384

noncomputable section

namespace Cert.SsdIdeal.Chunk

open Cert.SsdIdeal Cert.SsdIdeal.Gen Cert.Scan
open Idealize.ShloMosaic Idealize.ShloMosaic.TcCoe Idealize.ShloMosaic.Tactic Idealize.ShloMosaic.VecWindow
open Idealize.SL.Sem

/-! ## One batch's sequences -/

/-- The arrays of a batch as sequences: the convolved columns shifted by eight rows, the gates, the raw steps, the filter, its bias, the
step's bias and rate by lane, the skip and the norm's weight by column. -/
structure Args where
  P : ℕ → ℕ → EReal
  z : ℕ → ℕ → EReal
  d : ℕ → ℕ → EReal
  w : ℕ → ℕ → EReal
  b : ℕ → EReal
  t : ℕ → EReal
  a : ℕ → EReal
  k : ℕ → EReal
  n : ℕ → EReal

/-- The sequences the scan runs on are real. -/
structure Args.IsReal (A : Args) : Prop where
  P : ∀ u c, Fin' (A.P u c)
  d : ∀ u q, Fin' (A.d u q)
  w : ∀ k c, Fin' (A.w k c)
  b : ∀ c, Fin' (A.b c)
  t : ∀ q, Fin' (A.t q)
  a : ∀ q, Fin' (A.a q)

namespace Args
variable (A : Args)
/-- The convolution at a time and column. -/
def conv (t c : ℕ) : EReal := A.b c + A.w 0 c * A.P (t + 5) c + A.w 1 c * A.P (t + 6) c + A.w 2 c * A.P (t + 7) c + A.w 3 c * A.P (t + 8) c
/-- The activation. -/
def act (t c : ℕ) : EReal := siluE (A.conv t c)
def actR (t c : ℕ) : ℝ := (A.act t c).toReal
/-- The step size at a lane and time. -/
def D (q t : ℕ) : ℝ := soft (A.d t q + A.t q).toReal
/-- The rate of a lane. -/
def rate (q : ℕ) : ℝ := Real.exp (A.a q).toReal
/-- The head of a column. -/
def B (col s n : ℕ) : ℝ := A.actR s (2048 + 128 * (col / 512) + n)
def C (col s n : ℕ) : ℝ := A.actR s (2560 + 128 * (col / 512) + n)
/-- The scan's value at a time and column. -/
def y (t col : ℕ) : ℝ := scan (A.D (col / 64)) (A.rate (col / 64)) (fun s => ∑ n : Fin 128, A.C col t n * A.B col s n) (fun s => A.actR s col) t
/-- The carried state of a column. -/
def st (T col n : ℕ) : ℝ := state (A.D (col / 64)) (A.rate (col / 64)) (fun s => A.B col s n) (fun s => A.actR s col) T
/-- The gated value. -/
def gt (t col : ℕ) : EReal := ((A.y t col : EReal) + A.k col * A.act t col) * siluE (A.z t col)
/-- The mean square's sum over the column's group. -/
def sq (t col : ℕ) : EReal :=
  ∑ x : Fin 128, A.gt t (512 * (col / 512) + x) * A.gt t (512 * (col / 512) + x) + ∑ x : Fin 128, A.gt t (512 * (col / 512) + (128 + x)) * A.gt t (512 * (col / 512) + (128 + x))
    + ∑ x : Fin 128, A.gt t (512 * (col / 512) + (256 + x)) * A.gt t (512 * (col / 512) + (256 + x)) + ∑ x : Fin 128, A.gt t (512 * (col / 512) + (384 + x)) * A.gt t (512 * (col / 512) + (384 + x))
/-- The result. -/
def out (t col : ℕ) : EReal := A.gt t col * Ideal.rsqrt (A.sq t col * Ideal.ofBits .f32 0x3B000000#32 + Ideal.ofBits .f32 0x358637BD#32) * A.n col
end Args

theorem fin_add {x y : EReal} (hx : Fin' x) (hy : Fin' y) : Fin' (x + y) := by obtain ⟨a, rfl⟩ := hx; obtain ⟨b, rfl⟩ := hy; exact ⟨a + b, (EReal.coe_add a b).symm⟩
theorem fin_mul {x y : EReal} (hx : Fin' x) (hy : Fin' y) : Fin' (x * y) := by obtain ⟨a, rfl⟩ := hx; obtain ⟨b, rfl⟩ := hy; exact ⟨a * b, (EReal.coe_mul a b).symm⟩

theorem siluE_fin {x : EReal} (h : Fin' x) : Fin' (siluE x) := by
  obtain ⟨r, rfl⟩ := h
  refine fin_mul ⟨r, rfl⟩ ?_
  have e : (1 : EReal) + Ideal.exp (0 - (r : EReal)) = ((1 + Real.exp (-r) : ℝ) : EReal) := by
    rw [zero_sub, ← EReal.coe_neg, Ideal.exp_coe, EReal.coe_add]; rfl
  rw [e]
  refine ⟨(1 + Real.exp (-r))⁻¹, ?_⟩
  have hp : (1 + Real.exp (-r)) ≠ 0 := by have := Real.exp_pos (-r); positivity
  unfold Ideal.div
  rw [if_neg (by exact_mod_cast hp), one_mul, EReal.coe_inv]

theorem softE_coe (r : ℝ) : softE (r : EReal) = ((soft r : ℝ) : EReal) := by
  unfold softE soft
  have e : max (r : EReal) (-(r : EReal)) = ((|r| : ℝ) : EReal) := by
    rw [← EReal.coe_neg, abs_eq_max_neg]; exact (EReal.coe_strictMono.monotone.map_max).symm
  have e2 : (1 : EReal) + Ideal.exp (0 - ((|r| : ℝ) : EReal)) = ((1 + Real.exp (-|r|) : ℝ) : EReal) := by
    rw [zero_sub, ← EReal.coe_neg, Ideal.exp_coe, EReal.coe_add]; rfl
  have hp : ¬ (1 + Real.exp (-|r|)) ≤ 0 := by have := Real.exp_pos (-|r|); linarith
  have e3 : Ideal.log ((1 + Real.exp (-|r|) : ℝ) : EReal) = ((Real.log (1 + Real.exp (-|r|)) : ℝ) : EReal) := by
    show (if _ then _ else _) = _
    rw [if_neg hp]
  rw [e, e2, e3, EReal.coe_add]
  congr 1

section
variable {A : Args} (hA : A.IsReal)
include hA
theorem conv_fin (t c : ℕ) : Fin' (A.conv t c) :=
  fin_add (fin_add (fin_add (fin_add (hA.b c) (fin_mul (hA.w 0 c) (hA.P _ _))) (fin_mul (hA.w 1 c) (hA.P _ _))) (fin_mul (hA.w 2 c) (hA.P _ _))) (fin_mul (hA.w 3 c) (hA.P _ _))
theorem act_coe (t c : ℕ) : A.act t c = ((A.actR t c : ℝ) : EReal) := (coe_toReal (siluE_fin (conv_fin hA t c))).symm
theorem step_coe (t q : ℕ) : softE (A.d t q + A.t q) = ((A.D q t : ℝ) : EReal) := by
  conv_lhs => rw [← coe_toReal (fin_add (hA.d t q) (hA.t q))]
  exact softE_coe _
theorem D_pos (q t : ℕ) : 0 < A.D q t := soft_pos _
theorem rate_coe (q : ℕ) : Ideal.exp (A.a q) = ((A.rate q : ℝ) : EReal) := by
  conv_lhs => rw [← coe_toReal (hA.a q)]
  exact Ideal.exp_coe _
end

/-! ## Windows, element by element -/

theorem win2 {α : Type} {n0 n1 m0 m1 : ℕ} (x : (⟨2, ![n0, n1]⟩ : Shape).Idx → α) (a b : ℕ)
    (inb : ∀ i, (![a, b] : Fin 2 → ℕ) i + (![m0, m1] : Fin 2 → ℕ) i ≤ (![n0, n1] : Fin 2 → ℕ) i) (i : Fin m0) (j : Fin m1)
    (p : Fin n0) (q : Fin n1) (hp : p.val = a + i.val) (hq : q.val = b + j.val) :
    window x ![a, b] ![m0, m1] inb (ix2 i j) = x (ix2 p q) := by
  unfold window
  congr 1
  funext t; apply Fin.ext
  match t with
  | ⟨0, _⟩ => show a + 1 * i.val = p.val; omega
  | ⟨1, _⟩ => show b + 1 * j.val = q.val; omega

theorem drop3 {α : Type} {n0 n1 : ℕ} (v : (⟨3, ![1, n0, n1]⟩ : Shape).Idx → α) (h : (⟨3, ![1, n0, n1]⟩ : Shape).ShapeCasts ⟨2, ![n0, n1]⟩) (i : Fin n0) (j : Fin n1) :
    shapeCast ⟨2, ![n0, n1]⟩ v h (ix2 i j) = v (ix3 0 i j) := by
  refine (shapeCast_dropUnit_apply ![n0, n1] v h (ix2 i j)).trans (congrArg v ?_)
  funext t
  match t with
  | ⟨0, _⟩ => rfl
  | ⟨1, _⟩ => rfl
  | ⟨2, _⟩ => rfl

section
variable {F : FTy → Type} [FloatOps F] [Named F]
theorem gX_at (S : St F) (s : ℕ) (hs : s < 2) (b : ℕ) (hb : b < 24) (i q : Fin 128) : gX S s hs b hb (ix2 i q) = S.x (ix3 (0 : Fin 1) (⟨128 * s + i.val, by omega⟩ : Fin 256) (⟨128 * b + q.val, by omega⟩ : Fin 3072)) := by
  unfold gX
  refine (win2 (n0 := 128) (n1 := 3072) (m0 := 128) (m1 := 128) _ 0 (128 * b) (inX hb) i q i ⟨128 * b + q.val, by omega⟩ (Nat.zero_add _).symm rfl).trans ?_
  refine (drop3 (n0 := 128) (n1 := 3072) _ castX i _).trans ?_
  exact win3 (n0 := 1) (n1 := 256) (n2 := 3072) (m0 := 1) (m1 := 128) (m2 := 3072) S.x 0 (128 * s) 0 (inXs hs) 0 i _ _ _ _ rfl rfl (Nat.zero_add _).symm
theorem gZ_at (S : St F) (s : ℕ) (hs : s < 2) (j : ℕ) (hj : j < 16) (i q : Fin 128) : gZ S s hs j hj (ix2 i q) = S.z (ix3 (0 : Fin 1) (⟨128 * s + i.val, by omega⟩ : Fin 256) (⟨128 * j + q.val, by omega⟩ : Fin 2048)) := by
  unfold gZ
  refine (win2 (n0 := 128) (n1 := 2048) (m0 := 128) (m1 := 128) _ 0 (128 * j) (inZ hj) i q i ⟨128 * j + q.val, by omega⟩ (Nat.zero_add _).symm rfl).trans ?_
  refine (drop3 (n0 := 128) (n1 := 2048) _ castZ i _).trans ?_
  exact win3 (n0 := 1) (n1 := 256) (n2 := 2048) (m0 := 1) (m1 := 128) (m2 := 2048) S.z 0 (128 * s) 0 (inZs hs) 0 i _ _ _ _ rfl rfl (Nat.zero_add _).symm
theorem gW_at (S : St F) (b : ℕ) (hb : b < 24) (k : Fin 4) (q : Fin 128) : gW S b hb (ix3 (0 : Fin 1) k q) = S.w (ix3 (⟨b, hb⟩ : Fin 24) k q) :=
  win3 (n0 := 24) (n1 := 4) (n2 := 128) (m0 := 1) (m1 := 4) (m2 := 128) S.w b 0 0 (inW hb) 0 k q _ _ _ rfl (Nat.zero_add _).symm (Nat.zero_add _).symm
theorem gB_at (S : St F) (b : ℕ) (hb : b < 24) (q : Fin 128) : gB S b hb (ix3 (0 : Fin 1) (0 : Fin 1) q) = S.b (ix3 (⟨b, hb⟩ : Fin 24) (0 : Fin 1) q) :=
  win3 (n0 := 24) (n1 := 1) (n2 := 128) (m0 := 1) (m1 := 1) (m2 := 128) S.b b 0 0 (inB hb) 0 0 q _ _ _ rfl rfl (Nat.zero_add _).symm
theorem gE_at (S : St F) (b r : ℕ) (hb : b < 24) (hr : r + 128 ≤ 136) (l q : Fin 128) : gE S b r hb hr (ix3 (0 : Fin 1) l q) = S.ext (ix3 (⟨b, hb⟩ : Fin 24) (⟨r + l.val, by omega⟩ : Fin 136) q) :=
  win3 (n0 := 24) (n1 := 136) (n2 := 128) (m0 := 1) (m1 := 128) (m2 := 128) S.ext b r 0 (inE hb hr) 0 l q _ _ _ rfl rfl (Nat.zero_add _).symm
theorem gK_at (S : St F) (j : ℕ) (hj : j < 16) (q : Fin 128) : gK S j hj (ix2 (0 : Fin 1) q) = S.k (ix2 (0 : Fin 1) (⟨128 * j + q.val, by omega⟩ : Fin 2048)) :=
  win2 (n0 := 1) (n1 := 2048) (m0 := 1) (m1 := 128) S.k 0 (128 * j) (inV hj) 0 q _ _ rfl rfl
theorem gN_at (S : St F) (j : ℕ) (hj : j < 16) (q : Fin 128) : gN S j hj (ix2 (0 : Fin 1) q) = S.n (ix2 (0 : Fin 1) (⟨128 * j + q.val, by omega⟩ : Fin 2048)) :=
  win2 (n0 := 1) (n1 := 2048) (m0 := 1) (m1 := 128) S.n 0 (128 * j) (inV hj) 0 q _ _ rfl rfl
theorem gEc_at (S : St F) (g : ℕ) (hg : g < 4) (r : Fin 128) (i : Fin 1024) : gEc S g hg (ix3 (0 : Fin 1) r i) = S.c (ix3 (⟨g, hg⟩ : Fin 4) r i) :=
  win3 (n0 := 4) (n1 := 128) (n2 := 1024) (m0 := 1) (m1 := 128) (m2 := 1024) S.c g 0 0 (inC hg) 0 r i _ _ _ rfl (Nat.zero_add _).symm (Nat.zero_add _).symm
theorem gEw_at (S : St F) (g : ℕ) (hg : g < 4) (r : Fin 128) (i : Fin 512) : gEw S g hg (ix3 (0 : Fin 1) r i) = S.u (ix3 (⟨g, hg⟩ : Fin 4) r i) :=
  win3 (n0 := 4) (n1 := 128) (n2 := 512) (m0 := 1) (m1 := 128) (m2 := 512) S.u g 0 0 (inC5 hg) 0 r i _ _ _ rfl (Nat.zero_add _).symm (Nat.zero_add _).symm
theorem gDt_at (S : St F) (s : ℕ) (hs : s < 2) (i q : Fin 128) : gDt S s hs (ix3 (0 : Fin 1) i q) = S.d (ix3 (0 : Fin 1) (⟨128 * s + i.val, by omega⟩ : Fin 256) q) :=
  win3 (n0 := 1) (n1 := 256) (n2 := 128) (m0 := 1) (m1 := 128) (m2 := 128) S.d 0 (128 * s) 0 (inD hs) 0 i q _ _ _ rfl rfl (Nat.zero_add _).symm
theorem gT_at (S : St F) (q : Fin 128) : gT S (ix2 (0 : Fin 1) q) = S.t (ix2 (0 : Fin 1) q) :=
  win2 (n0 := 1) (n1 := 128) (m0 := 1) (m1 := 128) S.t 0 0 inb_S1x128_S1x128_0_0 0 q _ _ rfl (Nat.zero_add _).symm
theorem gAl_at (S : St F) (q : Fin 128) : gAl S (ix2 (0 : Fin 1) q) = S.a (ix2 (0 : Fin 1) q) :=
  win2 (n0 := 1) (n1 := 128) (m0 := 1) (m1 := 128) S.a 0 0 inb_S1x128_S1x128_0_0 0 q _ _ rfl (Nat.zero_add _).symm

/-- The rows before a block's window are the kept ones; inside it are the chunk's. -/
theorem fill_old (S : St F) (s : ℕ) (hs : s < 2) (b : ℕ) (hb : b < 24) (u : Fin 136) (q : Fin 128) (h : u.val < 8) :
    (fillF s hs b hb S).ext (ix3 (⟨b, hb⟩ : Fin 24) u q) = S.ext (ix3 (⟨b, hb⟩ : Fin 24) u q) :=
  put_apart _ _ _ _ _ 1 (.inl h)
theorem fill_new (S : St Ideal) (s : ℕ) (hs : s < 2) (b : ℕ) (hb : b < 24) (u : Fin 136) (q : Fin 128) (h : 8 ≤ u.val) :
    (fillF s hs b hb S).ext (ix3 (⟨b, hb⟩ : Fin 24) u q) = gX S s hs b hb (ix2 (⟨u.val - 8, by omega⟩ : Fin 128) q) := by
  have h2 := congrFun (window_put_same S.ext ![b, 8, 0] S1x128x128.size (inE hb (by decide)) (boxed (extf .f32 (gX S s hs b hb) bitsLt_bf16_f32))) (ix3 (0 : Fin 1) (⟨u.val - 8, by omega⟩ : Fin 128) q)
  refine ((win3 (n0 := 24) (n1 := 136) (n2 := 128) (m0 := 1) (m1 := 128) (m2 := 128) (fillF s hs b hb S).ext b 8 0 (inE hb (by decide)) 0 ⟨u.val - 8, by omega⟩ q ⟨b, hb⟩ u q rfl (by show u.val = 8 + (u.val - 8); omega) (Nat.zero_add _).symm).symm.trans h2).trans ?_
  rw [boxed_at]
  rfl
end

/-! ## The buffers at a chunk -/

/-- The windows hold the `n`-th block of 256 rows. -/
structure Ins (A : Args) (n : ℕ) (S : St Ideal) : Prop where
  x : ∀ (r : Fin 256) (c : Fin 3072), S.x (ix3 (0 : Fin 1) r c) = A.P (256 * n + r + 8) c
  z : ∀ (r : Fin 256) (c : Fin 2048), S.z (ix3 (0 : Fin 1) r c) = A.z (256 * n + r) c
  d : ∀ (r : Fin 256) (q : Fin 128), S.d (ix3 (0 : Fin 1) r q) = A.d (256 * n + r) q
  w : ∀ (b : Fin 24) (k : Fin 4) (q : Fin 128), S.w (ix3 b k q) = A.w k (128 * b + q)
  b : ∀ (b : Fin 24) (q : Fin 128), S.b (ix3 b (0 : Fin 1) q) = A.b (128 * b + q)
  t : ∀ q : Fin 128, S.t (ix2 (0 : Fin 1) q) = A.t q
  a : ∀ q : Fin 128, S.a (ix2 (0 : Fin 1) q) = A.a q
  k : ∀ c : Fin 2048, S.k (ix2 (0 : Fin 1) c) = A.k c
  n : ∀ c : Fin 2048, S.n (ix2 (0 : Fin 1) c) = A.n c
  c : ∀ (g : Fin 4) (r : Fin 128) (i : Fin 1024), S.c (ix3 g r i) = if r.val < 96 ∧ r.val % 32 = (1024 * g.val + i.val) / 128 then (1 : EReal) else 0
  u : ∀ (g : Fin 4) (r : Fin 128) (i : Fin 512), S.u (ix3 g r i) = if r.val < 96 ∧ r.val % 32 = (512 * g.val + i.val) / 64 then (1 : EReal) else 0

/-- Block `b` keeps the eight rows before time `T`. -/
def Hist (A : Args) (T : ℕ) (b : Fin 24) (S : St Ideal) : Prop :=
  ∀ (r : Fin 8) (q : Fin 128), S.ext (ix3 b (⟨r.val, by omega⟩ : Fin 136) q) = A.P (T + r) (128 * b + q)

/-- Pair `j` carries its columns' states before time `T`. -/
def Carry (A : Args) (T : ℕ) (j : Fin 16) (S : St Ideal) : Prop :=
  ∀ n p : Fin 128, gS S j.val j.isLt (ix3 (0 : Fin 1) n p) = ((A.st T (128 * j + p) n : ℝ) : EReal)

/-- The running sums and the steps' logarithms of the chunk from `T`. -/
def Head (A : Args) (T : ℕ) (S : St Ideal) : Prop :=
  ∀ (h : Fin 32) (i : Fin 128), gC S h.val h.isLt (ix2 (0 : Fin 1) i) = ((acc (A.D h) (A.rate h) T i : ℝ) : EReal)
    ∧ gD S h.val h.isLt (ix2 (0 : Fin 1) i) = ((Real.log (A.D h (T + i)) * (Real.log 2)⁻¹ : ℝ) : EReal)

/-- The group a block belongs to. -/
def grp (b : ℕ) : ℕ := if b < 16 then b / 4 else if b < 20 then b - 16 else b - 20

/-- Chunk `s` of block `n` with the groups before `g` done. -/
structure Pre (A : Args) (n s g : ℕ) (hs : s < 2) (S : St Ideal) : Prop where
  ins : Ins A n S
  head : Head A (256 * n + 128 * s) S
  hist : ∀ b : Fin 24, Hist A (if grp b < g then 256 * n + 128 * s + 128 else 256 * n + 128 * s) b S
  carry : ∀ j : Fin 16, Carry A (if j.val / 4 < g then 256 * n + 128 * s + 128 else 256 * n + 128 * s) j S
  out : ∀ j : Fin 16, j.val / 4 < g → ∀ l p : Fin 128, gO S s hs j.val j.isLt (ix3 (0 : Fin 1) l p) = A.out (256 * n + 128 * s + l) (128 * j + p)

theorem Ins.group {A : Args} {n : ℕ} {S : St Ideal} (h : Ins A n S) (s : ℕ) (hs : s < 2) (ap wp : FVec Ideal S128x128 .bf16) (g : ℕ) (hg : g < 4) : Ins A n (groupF s hs ap wp g hg S) where
  x := by rw [group_x]; exact h.x
  z := by rw [group_z]; exact h.z
  d := by rw [group_d]; exact h.d
  w := by rw [group_w]; exact h.w
  b := by rw [group_b]; exact h.b
  t := by rw [group_t]; exact h.t
  a := by rw [group_a]; exact h.a
  k := by rw [group_k]; exact h.k
  n := by rw [group_n]; exact h.n
  c := by rw [group_c]; exact h.c
  u := by rw [group_u]; exact h.u

/-- A block's activation. -/
theorem aB_at {A : Args} {n : ℕ} {S : St Ideal} (h : Ins A n S) (s : ℕ) (hs : s < 2) (b : Fin 24) (hh : Hist A (256 * n + 128 * s) b S) (l q : Fin 128) :
    aB s hs S b.val b.isLt (ix3 (0 : Fin 1) l q) = A.act (256 * n + 128 * s + l) (128 * b + q) := by
  have hf : ∀ u : Fin 136, (fillF s hs b.val b.isLt S).ext (ix3 b u q) = A.P (256 * n + 128 * s + u) (128 * b + q) := by
    intro u
    by_cases hu : u.val < 8
    · exact (fill_old S s hs b.val b.isLt u q hu).trans (hh ⟨u.val, hu⟩ q)
    · refine (fill_new S s hs b.val b.isLt u q (by omega)).trans ((gX_at S s hs b.val b.isLt _ q).trans ((h.x _ _).trans ?_))
      show A.P (256 * n + (128 * s + (u.val - 8)) + 8) (128 * b + q) = _
      congr 1; omega
  unfold aB
  rw [boxed_at]
  unfold aV actV
  rw [silu_at, convV_at, gE_at, gE_at, gE_at, gE_at]
  unfold Args.act Args.conv
  rw [show gW (fillF s hs b.val b.isLt S) b.val b.isLt = gW S b.val b.isLt from rfl, show gB (fillF s hs b.val b.isLt S) b.val b.isLt = gB S b.val b.isLt from rfl]
  rw [gW_at, gW_at, gW_at, gW_at, gB_at, h.w, h.w, h.w, h.w, h.b]
  refine congrArg siluE ?_
  rw [show (⟨b.val, b.isLt⟩ : Fin 24) = b from rfl, hf, hf, hf, hf]
  show _ + _ * A.P (256 * n + 128 * s + (5 + l.val)) _ + _ * A.P (256 * n + 128 * s + (6 + l.val)) _ + _ * A.P (256 * n + 128 * s + (7 + l.val)) _ + _ * A.P (256 * n + 128 * s + (8 + l.val)) _ = _
  rw [show 256 * n + 128 * s + (5 + l.val) = 256 * n + 128 * s + l.val + 5 by omega, show 256 * n + 128 * s + (6 + l.val) = 256 * n + 128 * s + l.val + 6 by omega,
    show 256 * n + 128 * s + (7 + l.val) = 256 * n + 128 * s + l.val + 7 by omega, show 256 * n + 128 * s + (8 + l.val) = 256 * n + 128 * s + l.val + 8 by omega]
  rfl

end Cert.SsdIdeal.Chunk

end
-- ==== Proof.SsdHead.lean ====
/- The values of a group in terms of the whole sequence. -/
module

public import proofs.«01_k».proof.Proof.SsdStep

@[expose] public section

set_option maxRecDepth 16384

noncomputable section

namespace Cert.SsdIdeal.Chunk

open Cert.SsdIdeal Cert.SsdIdeal.Gen Cert.Scan
open Idealize.ShloMosaic Idealize.ShloMosaic.TcCoe Idealize.ShloMosaic.Tactic Idealize.ShloMosaic.VecWindow
open Idealize.SL.Sem

/-- A sum against the marks of one head picks that head's entry. -/
theorem pick_sum (f : Fin 128 → EReal) (hf : ∀ r, 32 ≤ r.val → f r = 0) (h : Fin 128) (hh : h.val < 32) :
    ∑ r, f r * (if r.val < 96 ∧ r.val % 32 = h.val then (1 : EReal) else 0) = f h := by
  rw [Finset.sum_eq_single h]
  · rw [if_pos ⟨by omega, by omega⟩, mul_one]
  · intro r _ hr
    by_cases h32 : r.val < 32
    · rw [if_neg (fun hc => hr (Fin.ext (by omega))), mul_zero]
    · rw [hf r (by omega), zero_mul]
  · intro hn; exact absurd (Finset.mem_univ h) hn

theorem exp2_coe (r : ℝ) : Ideal.exp2 (r : EReal) = ((Real.rpow 2 r : ℝ) : EReal) := rfl

theorem prev_pick {S : St Ideal} {g : ℕ} (hg : g < 4) : ∀ (k : ℕ) (hk : k < 4) (m p : Fin 128),
    prevV (F := Ideal) (gS S (4 * g) (by omega)) (gS S (4 * g + 1) (by omega)) (gS S (4 * g + 2) (by omega)) (gS S (4 * g + 3) (by omega)) (ix2 m (⟨128 * k + p.val, by omega⟩ : Fin 512))
      = gS S (4 * g + k) (by omega) (ix3 (0 : Fin 1) m p)
  | 0, _, m, p => by
    rw [prevV_at, dif_pos (by show 128 * 0 + p.val < 128; omega)]
    exact congrArg (fun i : Fin 128 => gS S (4 * g) (by omega) (ix3 (0 : Fin 1) m i)) (Fin.ext (by show 128 * 0 + p.val = p.val; omega))
  | 1, _, m, p => by
    rw [prevV_at, dif_neg (by show ¬ 128 * 1 + p.val < 128; omega), dif_pos (by show 128 * 1 + p.val - 128 < 128; omega)]
    exact congrArg (fun i : Fin 128 => gS S (4 * g + 1) (by omega) (ix3 (0 : Fin 1) m i)) (Fin.ext (by show 128 * 1 + p.val - 128 = p.val; omega))
  | 2, _, m, p => by
    rw [prevV_at, dif_neg (by show ¬ 128 * 2 + p.val < 128; omega), dif_neg (by show ¬ 128 * 2 + p.val - 128 < 128; omega), dif_pos (by show 128 * 2 + p.val - 128 - 128 < 128; omega)]
    exact congrArg (fun i : Fin 128 => gS S (4 * g + 2) (by omega) (ix3 (0 : Fin 1) m i)) (Fin.ext (by show 128 * 2 + p.val - 128 - 128 = p.val; omega))
  | 3, _, m, p => by
    rw [prevV_at, dif_neg (by show ¬ 128 * 3 + p.val < 128; omega), dif_neg (by show ¬ 128 * 3 + p.val - 128 < 128; omega), dif_neg (by show ¬ 128 * 3 + p.val - 128 - 128 < 128; omega)]
    exact congrArg (fun i : Fin 128 => gS S (4 * g + 3) (by omega) (ix3 (0 : Fin 1) m i)) (Fin.ext (by show 128 * 3 + p.val - 128 - 128 - 128 = p.val; omega))

section
variable {A : Args} {n s g : ℕ} {hs : s < 2} {S : St Ideal} (hg : g < 4)

/-- The lanes of the running sums of the chunk from `T`. -/
def Lanes (A : Args) (T : ℕ) (ap : FVec Ideal S128x128 .bf16) : Prop :=
  ∀ l q : Fin 128, ap (ix2 l q) = if q.val < 32 then ((acc (A.D q) (A.rate q) T l : ℝ) : EReal) else 0
/-- The lanes of the decays from the chunk's start. -/
def Decays (A : Args) (T : ℕ) (wp : FVec Ideal S128x128 .bf16) : Prop :=
  ∀ l q : Fin 128, wp (ix2 l q) = if q.val < 32 then ((Real.rpow 2 (acc (A.D q) (A.rate q) T l) : ℝ) : EReal) else 0

theorem expand_at (hi : Ins A n S) {T : ℕ} {ap : FVec Ideal S128x128 .bf16} (ha : Lanes A T ap) (l : Fin 128) (i : Fin 1024) (q : ℕ) (hq : q = (1024 * g + i.val) / 128) :
    expandV ap (gEc S g hg) (ix2 l i) = ((acc (A.D q) (A.rate q) T l : ℝ) : EReal) := by
  have hq32 : q < 32 := by omega
  rw [expandV_at]
  simp only [gEc_at, hi.c]
  subst hq
  refine (pick_sum (fun r => ap (ix2 l r)) (fun r hr => (ha l r).trans (if_neg (by omega))) (⟨(1024 * g + i.val) / 128, by omega⟩ : Fin 128) hq32).trans ?_
  exact (ha l _).trans (if_pos hq32)
theorem expand5_at (hi : Ins A n S) {T : ℕ} {wp : FVec Ideal S128x128 .bf16} (hw : Decays A T wp) (l : Fin 128) (i : Fin 512) (q : ℕ) (hq : q = (512 * g + i.val) / 64) :
    expand5V wp (gEw S g hg) (ix2 l i) = ((Real.exp (before (A.D q) (A.rate q) (T + l + 1) - before (A.D q) (A.rate q) T) : ℝ) : EReal) := by
  have hq32 : q < 32 := by omega
  rw [expand5V_at]
  simp only [gEw_at, hi.u]
  subst hq
  refine (pick_sum (fun r => wp (ix2 l r)) (fun r hr => (hw l r).trans (if_neg (by omega))) (⟨(512 * g + i.val) / 64, by omega⟩ : Fin 128) hq32).trans ?_
  refine (hw l _).trans ((if_pos hq32).trans ?_)
  rw [← pow_acc]

variable (hA : A.IsReal)
include hA

/-- A head's factor: the decay between two times of the chunk times the step size, with zeros above the diagonal. -/
theorem lhsY_head (hi : Ins A n S) {T : ℕ} (hh : Head A T S) {ap : FVec Ideal S128x128 .bf16} (ha : Lanes A T ap) (cb : FVec Ideal S128x128 .f32) (k : ℕ) (hk : k < 8) (h : ℕ) (hh32 : h < 32) (hq : h = 8 * g + k) (l i : Fin 128) :
    lhsY (F := Ideal) (expandV ap (gEc S g hg)) cb k hk (gC S h hh32) (gD S h hh32) (ix2 l i)
      = (((if i.val ≤ l.val then Real.exp (before (A.D h) (A.rate h) (T + l + 1) - before (A.D h) (A.rate h) (T + i + 1)) * A.D h (T + i) else 0 : ℝ)) : EReal) * cb (ix2 l i) := by
  rw [lhsY_at]
  congr 1
  by_cases hil : i.val ≤ l.val
  · rw [if_pos hil, if_pos hil, expand_at hg hi ha l _ h (by show h = (1024 * g + (128 * k + i.val)) / 128; omega), (hh ⟨h, hh32⟩ i).1, (hh ⟨h, hh32⟩ i).2,
      ← EReal.coe_sub, ← EReal.coe_sub, exp2_coe]
    exact congrArg _ (pow_fac (A.D h) (A.rate h) (D_pos hA h) T l i)
  · rw [if_neg hil, if_neg hil]; rfl

theorem lhsS_head {T : ℕ} (hh : Head A T S) (bt : FVec Ideal S128x128 .f32) (h : ℕ) (hh32 : h < 32) (l i : Fin 128) :
    lhsS (F := Ideal) bt (gC S h hh32) (gD S h hh32) (ix2 l i)
      = bt (ix2 l i) * ((Real.exp (before (A.D h) (A.rate h) (T + 128) - before (A.D h) (A.rate h) (T + i + 1)) * A.D h (T + i) : ℝ) : EReal) := by
  rw [lhsS_at, (hh ⟨h, hh32⟩ i).1, (hh ⟨h, hh32⟩ i).2, (hh ⟨h, hh32⟩ 127).1, ← EReal.coe_sub, ← EReal.coe_sub, exp2_coe]
  exact congrArg (fun e : ℝ => bt (ix2 l i) * (e : EReal)) (pow_fac (A.D h) (A.rate h) (D_pos hA h) T 127 i)

theorem dec_head {T : ℕ} (hh : Head A T S) (k : ℕ) (hk : k < 4) (p : Fin 128) (h : ℕ) (hq : h = 8 * g + 2 * k + p.val / 64) :
    decF (F := Ideal) g hg k hk S (ix2 0 p) = ((Real.exp (before (A.D h) (A.rate h) (T + 128) - before (A.D h) (A.rate h) T) : ℝ) : EReal) := by
  unfold decF
  rw [decV_at, (hh ⟨8 * g + 2 * k, by omega⟩ 127).1, (hh ⟨8 * g + 2 * k + 1, by omega⟩ 127).1, exp2_coe, exp2_coe]
  have e : ∀ q, Real.rpow 2 (acc (A.D q) (A.rate q) T 127) = Real.exp (before (A.D q) (A.rate q) (T + 128) - before (A.D q) (A.rate q) T) := fun q => pow_acc (A.D q) (A.rate q) T 127
  by_cases hp : p.val < 64
  · rw [if_pos hp, show h = 8 * g + 2 * k by omega]; exact congrArg _ (e _)
  · rw [if_neg hp, show h = 8 * g + 2 * k + 1 by omega]; exact congrArg _ (e _)

/-! ### The activations of the group -/

theorem aB_x (hi : Ins A n S) (hist : ∀ b : Fin 24, grp b = g → Hist A (256 * n + 128 * s) b S) (k : ℕ) (hk : k < 4) (l p : Fin 128) :
    aB s hs S (4 * g + k) (by omega) (ix3 (0 : Fin 1) l p) = ((A.actR (256 * n + 128 * s + l) (128 * (4 * g + k) + p) : ℝ) : EReal) :=
  (aB_at hi s hs ⟨4 * g + k, by omega⟩ (hist _ (by show grp (4 * g + k) = g; unfold grp; rw [if_pos (by omega)]; omega)) l p).trans (act_coe hA _ _)
theorem aB_b (hi : Ins A n S) (hist : ∀ b : Fin 24, grp b = g → Hist A (256 * n + 128 * s) b S) (col : ℕ) (hc : col / 512 = g) (l p : Fin 128) :
    aB s hs S (16 + g) (by omega) (ix3 (0 : Fin 1) l p) = ((A.B col (256 * n + 128 * s + l) p : ℝ) : EReal) := by
  refine (aB_at hi s hs ⟨16 + g, by omega⟩ (hist _ (by show grp (16 + g) = g; unfold grp; rw [if_neg (by omega), if_pos (by omega)]; omega)) l p).trans ((act_coe hA _ _).trans ?_)
  unfold Args.B; rw [hc, show 128 * (16 + g) + p.val = 2048 + 128 * g + p.val by omega]
theorem aB_c (hi : Ins A n S) (hist : ∀ b : Fin 24, grp b = g → Hist A (256 * n + 128 * s) b S) (col : ℕ) (hc : col / 512 = g) (l p : Fin 128) :
    aB s hs S (20 + g) (by omega) (ix3 (0 : Fin 1) l p) = ((A.C col (256 * n + 128 * s + l) p : ℝ) : EReal) := by
  refine (aB_at hi s hs ⟨20 + g, by omega⟩ (hist _ (by show grp (20 + g) = g; unfold grp; rw [if_neg (by omega), if_neg (by omega)]; omega)) l p).trans ((act_coe hA _ _).trans ?_)
  unfold Args.C; rw [hc, show 128 * (20 + g) + p.val = 2560 + 128 * g + p.val by omega]

theorem cbW_at (hi : Ins A n S) (hist : ∀ b : Fin 24, grp b = g → Hist A (256 * n + 128 * s) b S) (col : ℕ) (hc : col / 512 = g) (l i : Fin 128) :
    cbW s hs g hg S (ix2 l i) = ((∑ m : Fin 128, A.C col (256 * n + 128 * s + l) m * A.B col (256 * n + 128 * s + i) m : ℝ) : EReal) := by
  unfold cbW
  rw [scoreV_at, coe_sum]
  refine Finset.sum_congr rfl fun m _ => ?_
  rw [aB_b hg hA hi hist col hc, aB_c hg hA hi hist col hc, EReal.coe_mul]
theorem btW_at (hi : Ins A n S) (hist : ∀ b : Fin 24, grp b = g → Hist A (256 * n + 128 * s) b S) (col : ℕ) (hc : col / 512 = g) (m i : Fin 128) :
    btW s hs g hg S (ix2 m i) = ((A.B col (256 * n + 128 * s + i) m : ℝ) : EReal) := by
  have e : btW s hs g hg S (ix2 m i) = aB s hs S (16 + g) (by omega) (ix3 (0 : Fin 1) i m) := by pointwise [btW, flat]
  rw [e, aB_b hg hA hi hist col hc]

/-! ### The group's values -/

/-- The scan's value of a pair. -/
theorem yW_at (hi : Ins A n S) (hist : ∀ b : Fin 24, grp b = g → Hist A (256 * n + 128 * s) b S) (hh : Head A (256 * n + 128 * s) S)
    (hc : ∀ j : Fin 16, j.val / 4 = g → Carry A (256 * n + 128 * s) j S) {ap wp : FVec Ideal S128x128 .bf16} (ha : Lanes A (256 * n + 128 * s) ap) (hw : Decays A (256 * n + 128 * s) wp)
    (k : ℕ) (hk : k < 4) (l p : Fin 128) :
    yW s hs ap wp g hg S k hk (ix3 (0 : Fin 1) l p) = ((A.y (256 * n + 128 * s + l) (128 * (4 * g + k) + p) : ℝ) : EReal) := by
  have c512 : (128 * (4 * g + k) + p.val) / 512 = g := by omega
  have c64 : (128 * (4 * g + k) + p.val) / 64 = 8 * g + 2 * k + p.val / 64 := by omega
  generalize hcol : 128 * (4 * g + k) + p.val = col at *
  generalize hT : 256 * n + 128 * s = T at *
  unfold yW
  rw [yV_at]
  unfold lyW lyP rW
  rw [prodV_at]
  unfold Args.y
  rw [← scan_step (A.D (col / 64)) (A.rate (col / 64)) (fun m : Fin 128 => A.C col (T + l.val) m) (fun s m => A.B col s m) (fun s => A.actR s col) T 128 l.val l.isLt, EReal.coe_add, coe_sum]
  refine congrArg₂ (· + ·) (Finset.sum_congr rfl fun i _ => ?_) ?_
  · have hx : aB s hs S (4 * g + k) (by omega) (ix3 (0 : Fin 1) i p) = ((A.actR (T + i) col : ℝ) : EReal) := by
      have := aB_x (hs := hs) hg hA hi (hT ▸ hist) k hk i p; rw [hT, hcol] at this; exact this
    have hcb : cbW s hs g hg S (ix2 l i) = ((∑ m : Fin 128, A.C col (T + l) m * A.B col (T + i) m : ℝ) : EReal) := by
      have := cbW_at (hs := hs) hg hA hi (hT ▸ hist) col c512 l i; rw [hT] at this; exact this
    rw [hx, EReal.coe_mul, EReal.coe_mul]
    refine congrArg (fun e : EReal => e * _) ?_
    by_cases hp : p.val < 64
    · rw [if_pos hp, lhsY_head hg hA hi hh ha _ (2 * k) (by omega) (8 * g + 2 * k) (by omega) rfl l i, hcb, show col / 64 = 8 * g + 2 * k by omega]
    · rw [if_neg hp, lhsY_head hg hA hi hh ha _ (2 * k + 1) (by omega) (8 * g + 2 * k + 1) (by omega) (by omega) l i, hcb, show col / 64 = 8 * g + 2 * k + 1 by omega]
  · unfold offW
    rw [offV_at, expand5_at (n := n) hg hi hw l _ (col / 64) (by show col / 64 = (512 * g + (128 * k + p.val)) / 64; omega), EReal.coe_mul, coe_sum]
    refine congrArg (fun e : EReal => e * _) (Finset.sum_congr rfl fun m _ => ?_)
    have hcc : aB s hs S (20 + g) (by omega) (ix3 (0 : Fin 1) l m) = ((A.C col (T + l) m : ℝ) : EReal) := by
      have := aB_c (hs := hs) hg hA hi (hT ▸ hist) col c512 l m; rw [hT] at this; exact this
    rw [hcc, prev_pick hg k hk m p, EReal.coe_mul]
    have hst : gS S (4 * g + k) (by omega) (ix3 (0 : Fin 1) m p) = ((A.st T col m : ℝ) : EReal) :=
      (hc ⟨4 * g + k, by omega⟩ (by show (4 * g + k) / 4 = g; omega) m p).trans
        (show ((A.st T (128 * (4 * g + k) + p.val) m : ℝ) : EReal) = ((A.st T col m : ℝ) : EReal) by rw [hcol])
    rw [hst]; rfl

/-- The carried state of a pair after the chunk. -/
theorem stW_at (hi : Ins A n S) (hist : ∀ b : Fin 24, grp b = g → Hist A (256 * n + 128 * s) b S) (hh : Head A (256 * n + 128 * s) S)
    (hc : ∀ j : Fin 16, j.val / 4 = g → Carry A (256 * n + 128 * s) j S) (k : ℕ) (hk : k < 4) (m p : Fin 128) :
    stW s hs g hg S k hk (ix3 (0 : Fin 1) m p) = ((A.st (256 * n + 128 * s + 128) (128 * (4 * g + k) + p) m : ℝ) : EReal) := by
  have c512 : (128 * (4 * g + k) + p.val) / 512 = g := by omega
  have c64 : (128 * (4 * g + k) + p.val) / 64 = 8 * g + 2 * k + p.val / 64 := by omega
  generalize hcol : 128 * (4 * g + k) + p.val = col at *
  generalize hT : 256 * n + 128 * s = T at *
  unfold stW
  rw [stV_at]
  unfold lsW lsP rW
  rw [prodV_at]
  unfold Args.st
  rw [state_step, EReal.coe_add, coe_sum, EReal.coe_mul]
  refine congrArg₂ (· + ·) (congrArg₂ (· * ·) ?_ ?_) (Finset.sum_congr rfl fun i _ => ?_)
  · refine (hc ⟨4 * g + k, by omega⟩ (by show (4 * g + k) / 4 = g; omega) m p).trans ?_
    show ((A.st T (128 * (4 * g + k) + p.val) m : ℝ) : EReal) = _
    rw [hcol]; rfl
  · exact dec_head hg hA hh k hk p (col / 64) c64
  · have hx : aB s hs S (4 * g + k) (by omega) (ix3 (0 : Fin 1) i p) = ((A.actR (T + i) col : ℝ) : EReal) := by
      have := aB_x (hs := hs) hg hA hi (hT ▸ hist) k hk i p; rw [hT, hcol] at this; exact this
    have hbt : btW s hs g hg S (ix2 m i) = ((A.B col (T + i) m : ℝ) : EReal) := by
      have := btW_at (hs := hs) hg hA hi (hT ▸ hist) col c512 m i; rw [hT] at this; exact this
    rw [hx, EReal.coe_mul, EReal.coe_mul]
    refine congrArg (fun e : EReal => e * _) ?_
    by_cases hp : p.val < 64
    · rw [if_pos hp, lhsS_head hA hh _ (8 * g + 2 * k) (by omega) m i, hbt, show col / 64 = 8 * g + 2 * k by omega]
    · rw [if_neg hp, lhsS_head hA hh _ (8 * g + 2 * k + 1) (by omega) m i, hbt, show col / 64 = 8 * g + 2 * k + 1 by omega]

/-- The gated value of a pair. -/
theorem gtW_at (hi : Ins A n S) (hist : ∀ b : Fin 24, grp b = g → Hist A (256 * n + 128 * s) b S) (hh : Head A (256 * n + 128 * s) S)
    (hc : ∀ j : Fin 16, j.val / 4 = g → Carry A (256 * n + 128 * s) j S) {ap wp : FVec Ideal S128x128 .bf16} (ha : Lanes A (256 * n + 128 * s) ap) (hw : Decays A (256 * n + 128 * s) wp)
    (k : ℕ) (hk : k < 4) (l p : Fin 128) :
    gtW s hs ap wp g hg S k hk (ix2 l p) = A.gt (256 * n + 128 * s + l) (128 * (4 * g + k) + p) := by
  unfold gtW
  rw [gatedV_at, yW_at hg hA hi hist hh hc ha hw k hk l p, aB_x (hs := hs) hg hA hi hist k hk l p, gK_at, hi.k, gZ_at, hi.z, ← act_coe hA]
  unfold Args.gt
  show _ * siluE (A.z (256 * n + (128 * s + l.val)) _) = _ * siluE (A.z (256 * n + 128 * s + l.val) _)
  rw [show 256 * n + (128 * s + l.val) = 256 * n + 128 * s + l.val by omega]

/-- What a pair stores. -/
theorem oW_at (hi : Ins A n S) (hist : ∀ b : Fin 24, grp b = g → Hist A (256 * n + 128 * s) b S) (hh : Head A (256 * n + 128 * s) S)
    (hc : ∀ j : Fin 16, j.val / 4 = g → Carry A (256 * n + 128 * s) j S) {ap wp : FVec Ideal S128x128 .bf16} (ha : Lanes A (256 * n + 128 * s) ap) (hw : Decays A (256 * n + 128 * s) wp)
    (k : ℕ) (hk : k < 4) (l p : Fin 128) :
    oW s hs ap wp g hg S k hk (ix3 (0 : Fin 1) l p) = A.out (256 * n + 128 * s + l) (128 * (4 * g + k) + p) := by
  unfold oW
  rw [outV_at, gtW_at hg hA hi hist hh hc ha hw k hk l p, gN_at, hi.n]
  unfold Args.out
  refine congrArg (fun e : EReal => A.gt (256 * n + 128 * s + l.val) (128 * (4 * g + k) + p.val) * e * A.n (128 * (4 * g + k) + p.val)) ?_
  unfold scW
  rw [scaleV_at]
  simp only [gtW_at hg hA hi hist hh hc ha hw]
  unfold Args.sq
  rw [show (128 * (4 * g + k) + p.val) / 512 = g by omega]
  have e : ∀ (j : ℕ) (x : Fin 128), 128 * (4 * g + j) + x.val = 512 * g + (128 * j + x.val) := fun j x => by omega
  simp only [e]
  simp only [Nat.mul_zero, Nat.zero_add, Nat.mul_one, show 128 * 2 = 256 from rfl, show 128 * 3 = 384 from rfl]
end

end Cert.SsdIdeal.Chunk

end
-- ==== Proof.SsdChunk.lean ====
/- A group, a chunk and a point in terms of the whole sequence. -/
module

public import proofs.«01_k».proof.Proof.SsdHead

@[expose] public section

set_option maxRecDepth 16384

noncomputable section

namespace Cert.SsdIdeal.Chunk

open Cert.SsdIdeal Cert.SsdIdeal.Gen Cert.Scan
open Idealize.ShloMosaic Idealize.ShloMosaic.TcCoe Idealize.ShloMosaic.Tactic Idealize.ShloMosaic.VecWindow
open Idealize.SL.Sem

theorem grp_of {g : ℕ} (hg : g < 4) (b : Fin 24) : inGroup g b.val ↔ grp b = g := by
  unfold inGroup grp
  have := b.isLt
  split
  · omega
  · split <;> omega

section
variable {A : Args} {n s g : ℕ} {hs : s < 2} {S : St Ideal}

/-- One group. -/
theorem Pre.step (hA : A.IsReal) (h : Pre A n s g hs S) (hg : g < 4) {ap wp : FVec Ideal S128x128 .bf16} (ha : Lanes A (256 * n + 128 * s) ap) (hw : Decays A (256 * n + 128 * s) wp) :
    Pre A n s (g + 1) hs (groupF s hs ap wp g hg S) := by
  have hist : ∀ b : Fin 24, grp b = g → Hist A (256 * n + 128 * s) b S := fun b hb => by
    have := h.hist b; rwa [if_neg (by omega)] at this
  have hc : ∀ j : Fin 16, j.val / 4 = g → Carry A (256 * n + 128 * s) j S := fun j hj => by
    have := h.carry j; rwa [if_neg (by omega)] at this
  refine ⟨h.ins.group s hs ap wp g hg, fun q i => ?_, fun b => ?_, fun j => ?_, fun j hj l p => ?_⟩
  · rw [gC_congr _ _ (group_cs s hs ap wp g hg S), gD_congr _ _ (group_ld s hs ap wp g hg S)]; exact h.head q i
  · by_cases hb : grp b = g
    · rw [if_pos (by omega)]
      intro r q
      refine (ext_group_eq s hs ap wp g hg S b.val b.isLt ((grp_of hg b).2 hb) r q).trans ?_
      rw [boxed_at]
      refine (gX_at S s hs b.val b.isLt _ q).trans ((h.ins.x _ _).trans ?_)
      show A.P (256 * n + (128 * s + (120 + r.val)) + 8) (128 * b + q) = A.P (256 * n + 128 * s + 128 + r.val) (128 * b + q)
      rw [show 256 * n + (128 * s + (120 + r.val)) + 8 = 256 * n + 128 * s + 128 + r.val by omega]
    · have e : (if grp b < g + 1 then 256 * n + 128 * s + 128 else 256 * n + 128 * s) = (if grp b < g then 256 * n + 128 * s + 128 else 256 * n + 128 * s) := by
        by_cases hl : grp b < g
        · rw [if_pos hl, if_pos (by omega)]
        · rw [if_neg hl, if_neg (by omega)]
      rw [e]
      intro r q
      exact (ext_group_ne s hs ap wp g hg S _ (fun hh => hb ((grp_of hg b).1 hh))).trans (h.hist b r q)
  · by_cases hj : j.val / 4 = g
    · rw [if_pos (by omega)]
      intro m p
      have e := stW_at (hs := hs) hg hA h.ins hist h.head hc (j.val - 4 * g) (by omega) m p
      rw [← gS_group s hs ap wp g hg S] at e
      simp only [show 4 * g + (j.val - 4 * g) = j.val by omega] at e
      exact e
    · have e : (if j.val / 4 < g + 1 then 256 * n + 128 * s + 128 else 256 * n + 128 * s) = (if j.val / 4 < g then 256 * n + 128 * s + 128 else 256 * n + 128 * s) := by
        by_cases hl : j.val / 4 < g
        · rw [if_pos hl, if_pos (by omega)]
        · rw [if_neg hl, if_neg (by omega)]
      rw [e]
      intro m p
      rw [gS_group_ne s hs ap wp g hg S j.val j.isLt (by omega)]
      exact h.carry j m p
  · by_cases hj' : j.val / 4 = g
    · have e := oW_at (hs := hs) hg hA h.ins hist h.head hc ha hw (j.val - 4 * g) (by omega) l p
      rw [← gO_group s hs ap wp g hg S] at e
      simp only [show 4 * g + (j.val - 4 * g) = j.val by omega] at e
      exact e
    · rw [gO_group_ne s hs ap wp g hg S s hs j.val j.isLt (.inr (by omega))]
      exact h.out j (by omega) l p

/-! ### The chunk's head -/

/-- A sum against the triangle's row is the sum up to it. -/
theorem upto (f : ℕ → ℝ) (l : ℕ) (hl : l < 128) : ∑ x : Fin 128, (if x.val ≤ l then (1 : ℝ) else 0) * f x = ∑ x ∈ Finset.range (l + 1), f x := by
  rw [Fin.sum_univ_eq_sum_range (fun x => (if x ≤ l then (1 : ℝ) else 0) * f x) 128]
  refine (Finset.sum_subset (Finset.range_subset_range.2 (by omega : l + 1 ≤ 128)) fun x _ hx => ?_).symm.trans ?_
  · rw [if_neg (fun h => hx (Finset.mem_range.2 (by omega))), zero_mul]
  · exact Finset.sum_congr rfl fun x hx => by rw [if_pos (by have := Finset.mem_range.1 hx; omega), one_mul]

theorem acc_at (hA : A.IsReal) (hi : Ins A n S) (s : ℕ) (hs : s < 2) (l q : Fin 128) :
    accF s hs S (ix2 l q) = ((acc (A.D q) (A.rate q) (256 * n + 128 * s) l : ℝ) : EReal) := by
  unfold accF
  rw [accV_at]
  have hd : ∀ x : Fin 128, gDt S s hs (ix3 0 x q) = A.d (256 * n + 128 * s + x) q := fun x => by
    rw [gDt_at, hi.d]
    show A.d (256 * n + (128 * s + x.val)) q = _
    rw [Nat.add_assoc]
  simp only [hd, gT_at, gAl_at, hi.t, hi.a, step_coe hA, rate_coe hA]
  unfold acc
  rw [← upto _ l.val l.isLt, coe_sum]
  refine Finset.sum_congr rfl fun x _ => ?_
  split <;> simp only [EReal.coe_mul, EReal.coe_one, EReal.coe_zero]
theorem log_at (hA : A.IsReal) (hi : Ins A n S) (s : ℕ) (hs : s < 2) (l q : Fin 128) :
    logV (gDt S s hs) (gT S) (ix2 l q) = ((Real.log (A.D q (256 * n + 128 * s + l)) * (Real.log 2)⁻¹ : ℝ) : EReal) := by
  rw [logV_at]
  have hd : gDt S s hs (ix3 0 l q) = A.d (256 * n + 128 * s + l) q := by
    rw [gDt_at, hi.d]
    show A.d (256 * n + (128 * s + l.val)) q = _
    rw [Nat.add_assoc]
  rw [hd, gT_at, hi.t, step_coe hA, EReal.coe_mul]
  refine congrArg (fun e : EReal => e * _) ?_
  show (if (A.D q (256 * n + 128 * s + l)) ≤ 0 then (⊥ : EReal) else _) = _
  rw [if_neg (not_le.2 (D_pos hA _ _))]

theorem parts_real (v : FVec Ideal S128x128 .f32) (f : Fin 128 → Fin 128 → ℝ) (h : ∀ l q, v (ix2 l q) = ((f l q : ℝ) : EReal)) (l q : Fin 128) :
    parts (F := Ideal) v (ix2 l q) = if q.val < 32 then ((f l q : ℝ) : EReal) else 0 := by
  have z : ((f l q : ℝ) : EReal) - ((f l q : ℝ) : EReal) = 0 := by rw [← EReal.coe_sub, sub_self]; rfl
  rw [parts_at, h]
  by_cases h1 : q.val < 32
  · rw [if_pos h1, if_pos h1]
  · rw [if_neg h1, if_neg h1]
    split
    · exact z
    · rw [z]; simp

theorem lanes (hA : A.IsReal) (hi : Ins A n S) (s : ℕ) (hs : s < 2) : Lanes A (256 * n + 128 * s) (parts (accF s hs S)) := fun l q =>
  parts_real _ (fun l q => acc (A.D q) (A.rate q) (256 * n + 128 * s) l) (acc_at hA hi s hs) l q
theorem decays (hA : A.IsReal) (hi : Ins A n S) (s : ℕ) (hs : s < 2) : Decays A (256 * n + 128 * s) (parts (exp2 (accF s hs S))) := fun l q =>
  parts_real _ (fun l q => Real.rpow 2 (acc (A.D q) (A.rate q) (256 * n + 128 * s) l))
    (fun l q => show Ideal.exp2 (accF s hs S (ix2 l q)) = _ by rw [acc_at hA hi]; rfl) l q

/-- The head's stores. -/
theorem head_pre (hA : A.IsReal) (hi : Ins A n S) (hist : ∀ b, Hist A (256 * n + 128 * s) b S) (hc : ∀ j, Carry A (256 * n + 128 * s) j S) :
    Pre A n s 0 hs (headF s hs S) := by
  refine ⟨⟨hi.x, hi.z, hi.d, hi.w, hi.b, hi.t, hi.a, hi.k, hi.n, hi.c, hi.u⟩, fun h i => ⟨?_, ?_⟩, fun b => ?_, fun j => ?_, fun j hj => absurd hj (Nat.not_lt_zero _)⟩
  · have e := congrFun (window_put_same S.cs ![0, 0] S128x128.size (by decide) (turned (accF s hs S))) (ix2 (⟨h.val, by omega⟩ : Fin 128) i)
    have e1 := win2 (n0 := 128) (n1 := 128) (m0 := 128) (m1 := 128) (headF s hs S).cs 0 0 (by decide) (⟨h.val, by omega⟩ : Fin 128) i (⟨h.val, by omega⟩ : Fin 128) i (Nat.zero_add _).symm (Nat.zero_add _).symm
    have e2 := win2 (n0 := 128) (n1 := 128) (m0 := 1) (m1 := 128) (headF s hs S).cs h.val 0 (inT h.isLt) 0 i (⟨h.val, by omega⟩ : Fin 128) i rfl (Nat.zero_add _).symm
    refine e2.trans (e1.symm.trans (e.trans ?_))
    rw [turned_at, acc_at hA hi]
  · have e := congrFun (window_put_same S.ld ![0, 0] S128x128.size (by decide) (turned (logV (gDt S s hs) (gT S)))) (ix2 (⟨h.val, by omega⟩ : Fin 128) i)
    have e1 := win2 (n0 := 128) (n1 := 128) (m0 := 128) (m1 := 128) (headF s hs S).ld 0 0 (by decide) (⟨h.val, by omega⟩ : Fin 128) i (⟨h.val, by omega⟩ : Fin 128) i (Nat.zero_add _).symm (Nat.zero_add _).symm
    have e2 := win2 (n0 := 128) (n1 := 128) (m0 := 1) (m1 := 128) (headF s hs S).ld h.val 0 (inT h.isLt) 0 i (⟨h.val, by omega⟩ : Fin 128) i rfl (Nat.zero_add _).symm
    refine e2.trans (e1.symm.trans (e.trans ?_))
    rw [turned_at, log_at hA hi]
  · rw [if_neg (Nat.not_lt_zero _)]; exact hist b
  · rw [if_neg (Nat.not_lt_zero _)]; exact hc j

/-! ### A chunk, a point -/

/-- The scratch at the start of chunk `s` of block `n`. -/
structure Start (A : Args) (n s : ℕ) (S : St Ideal) : Prop where
  ins : Ins A n S
  hist : ∀ b, Hist A (256 * n + 128 * s) b S
  carry : ∀ j, Carry A (256 * n + 128 * s) j S

theorem chunk_pre (hA : A.IsReal) (h : Start A n s S) : Pre A n s 4 hs (chunkF s hs S) := by
  have ha := lanes hA h.ins s hs
  have hw := decays hA h.ins s hs
  unfold chunkF
  exact ((((head_pre (hs := hs) hA h.ins h.hist h.carry).step hA (by decide) ha hw).step hA (by decide) ha hw).step hA (by decide) ha hw).step hA (by decide) ha hw

theorem grp_lt (b : Fin 24) : grp b < 4 := by
  unfold grp
  have := b.isLt
  split
  · omega
  · split <;> omega

/-- After a chunk the scratch is at the next chunk's start. -/
theorem Start.next (hA : A.IsReal) (h : Start A n s S) (hs : s < 2) : Start A n (s + 1) (chunkF s hs S) where
  ins := (chunk_pre hA h).ins
  hist b := by have := (chunk_pre (hs := hs) hA h).hist b; rwa [if_pos (grp_lt b), Nat.add_assoc, show 128 * s + 128 = 128 * (s + 1) by omega] at this
  carry j := by have := (chunk_pre (hs := hs) hA h).carry j; rwa [if_pos (by omega), Nat.add_assoc, show 128 * s + 128 = 128 * (s + 1) by omega] at this

theorem gO_chunk_ne (s : ℕ) (hs : s < 2) (s' : ℕ) (hs' : s' < 2) (h : s' ≠ s) (j : ℕ) (hj : j < 16) : gO (chunkF s hs S) s' hs' j hj = gO S s' hs' j hj := by
  unfold chunkF
  rw [gO_group_ne (h := .inl h), gO_group_ne (h := .inl h), gO_group_ne (h := .inl h), gO_group_ne (h := .inl h)]
  rfl

/-- A whole point. -/
def pointF (S : St Ideal) : St Ideal := chunkF 1 (by decide) (chunkF 0 (by decide) S)

theorem point_start (hA : A.IsReal) (h : Start A n 0 S) : Start A n 2 (pointF S) := (h.next hA (by decide)).next hA (by decide)
theorem point_out (hA : A.IsReal) (h : Start A n 0 S) (s : Fin 2) (j : Fin 16) (l p : Fin 128) :
    gO (pointF S) s.val s.isLt j.val j.isLt (ix3 (0 : Fin 1) l p) = A.out (256 * n + 128 * s + l) (128 * j + p) := by
  have h4 : j.val / 4 < 4 := by omega
  fin_cases s
  · exact (congrFun (gO_chunk_ne (S := chunkF 0 (by decide) S) 1 (by decide) 0 (by decide) (by decide) j.val j.isLt) _).trans ((chunk_pre (hs := by decide) hA h).out j h4 l p)
  · exact (chunk_pre (hs := by decide) hA (h.next hA (by decide))).out j h4 l p

/-- The cleared scratch is the start of a sequence. -/
theorem reset_start (hA0 : ∀ u c, u < 8 → A.P u c = 0) (h : Ins A 0 S) : Start A 0 0 (resetF S) := by
  refine ⟨⟨h.x, h.z, h.d, h.w, h.b, h.t, h.a, h.k, h.n, h.c, h.u⟩, fun b r q => ?_, fun j m p => ?_⟩
  · have e := congrFun (window_put_same S.ext ![0, 0, 0] S24x8x128.size (by decide) (shapeCast S24x8x128 (broadcast S24x8x128 (Scalar.ofBits .f32 0x00000000#32 : Ideal .f32)) shapeCasts_S24x8x128_S24x8x128)) (ix3 b r q)
    have e1 := win3 (n0 := 24) (n1 := 136) (n2 := 128) (m0 := 24) (m1 := 8) (m2 := 128) (resetF S).ext 0 0 0 (by decide) b r q b (⟨r.val, by omega⟩ : Fin 136) q (Nat.zero_add _).symm (Nat.zero_add _).symm (Nat.zero_add _).symm
    refine e1.symm.trans (e.trans ?_)
    rw [hA0 _ _ (by have := r.isLt; show 256 * 0 + 128 * 0 + r.val < 8; omega)]
    exact Ideal.ofBits_zero_f32
  · have e := congrFun (window_put_same S.st ![0, 0, 0] S16x128x128.size (by decide) (shapeCast S16x128x128 (broadcast S16x128x128 (Scalar.ofBits .f32 0x00000000#32 : Ideal .f32)) shapeCasts_S16x128x128_S16x128x128)) (ix3 j m p)
    have e1 := win3 (n0 := 16) (n1 := 128) (n2 := 128) (m0 := 16) (m1 := 128) (m2 := 128) (resetF S).st 0 0 0 (by decide) j m p j m p (Nat.zero_add _).symm (Nat.zero_add _).symm (Nat.zero_add _).symm
    have e2 := win3 (n0 := 16) (n1 := 128) (n2 := 128) (m0 := 1) (m1 := 128) (m2 := 128) (resetF S).st j.val 0 0 (inS j.isLt) 0 m p j m p rfl (Nat.zero_add _).symm (Nat.zero_add _).symm
    refine e2.trans (e1.symm.trans (e.trans ?_))
    have hz : A.st (256 * 0 + 128 * 0) (128 * j + p) m = 0 := state_zero _ _ _ _
    rw [hz]
    exact (Ideal.ofBits_zero_f32).trans EReal.coe_zero.symm
end

end Cert.SsdIdeal.Chunk

end
-- ==== Proof.SsdRun.lean ====
/- The scan's run over the extended reals: every point leaves its block of the result and the carried state of the whole sequence. -/
module

public import proofs.«01_k».proof.Proof.SsdChunk
public import proofs.«01_k».proof.Proof.Gen.SsdIdeal.Skeleton
public import proofs.«01_k».proof.Proof.Gen.SsdIdeal.Points
public import proofs.«01_k».proof.Proof.Gen.SsdIdeal.Launch
public import proofs.«01_k».proof.Proof.Gen.SsdIdeal.Frame.Runs
public import Idealize.ShloMosaic.Lib.Claim
public import Idealize.ShloMosaic.Lib.Pipeline.FrameBody

@[expose] public section

set_option maxRecDepth 16384

noncomputable section

namespace Cert.SsdIdeal.Scanned

open Cert.SsdIdeal Cert.SsdIdeal.Gen Cert.SsdIdeal.Chunk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem chunk_x (s : ℕ) (hs : s < 2) (S : St Ideal) : (chunkF s hs S).x = S.x := by unfold chunkF; rw [group_x, group_x, group_x, group_x]; rfl
theorem point_x (S : St Ideal) : (pointF S).x = S.x := (chunk_x 1 (by decide) (chunkF 0 (by decide) S)).trans (chunk_x 0 (by decide) S)
theorem chunk_z (s : ℕ) (hs : s < 2) (S : St Ideal) : (chunkF s hs S).z = S.z := by unfold chunkF; rw [group_z, group_z, group_z, group_z]; rfl
theorem point_z (S : St Ideal) : (pointF S).z = S.z := (chunk_z 1 (by decide) (chunkF 0 (by decide) S)).trans (chunk_z 0 (by decide) S)
theorem chunk_d (s : ℕ) (hs : s < 2) (S : St Ideal) : (chunkF s hs S).d = S.d := by unfold chunkF; rw [group_d, group_d, group_d, group_d]; rfl
theorem point_d (S : St Ideal) : (pointF S).d = S.d := (chunk_d 1 (by decide) (chunkF 0 (by decide) S)).trans (chunk_d 0 (by decide) S)
theorem chunk_w (s : ℕ) (hs : s < 2) (S : St Ideal) : (chunkF s hs S).w = S.w := by unfold chunkF; rw [group_w, group_w, group_w, group_w]; rfl
theorem point_w (S : St Ideal) : (pointF S).w = S.w := (chunk_w 1 (by decide) (chunkF 0 (by decide) S)).trans (chunk_w 0 (by decide) S)
theorem chunk_b (s : ℕ) (hs : s < 2) (S : St Ideal) : (chunkF s hs S).b = S.b := by unfold chunkF; rw [group_b, group_b, group_b, group_b]; rfl
theorem point_b (S : St Ideal) : (pointF S).b = S.b := (chunk_b 1 (by decide) (chunkF 0 (by decide) S)).trans (chunk_b 0 (by decide) S)
theorem chunk_t (s : ℕ) (hs : s < 2) (S : St Ideal) : (chunkF s hs S).t = S.t := by unfold chunkF; rw [group_t, group_t, group_t, group_t]; rfl
theorem point_t (S : St Ideal) : (pointF S).t = S.t := (chunk_t 1 (by decide) (chunkF 0 (by decide) S)).trans (chunk_t 0 (by decide) S)
theorem chunk_a (s : ℕ) (hs : s < 2) (S : St Ideal) : (chunkF s hs S).a = S.a := by unfold chunkF; rw [group_a, group_a, group_a, group_a]; rfl
theorem point_a (S : St Ideal) : (pointF S).a = S.a := (chunk_a 1 (by decide) (chunkF 0 (by decide) S)).trans (chunk_a 0 (by decide) S)
theorem chunk_k (s : ℕ) (hs : s < 2) (S : St Ideal) : (chunkF s hs S).k = S.k := by unfold chunkF; rw [group_k, group_k, group_k, group_k]; rfl
theorem point_k (S : St Ideal) : (pointF S).k = S.k := (chunk_k 1 (by decide) (chunkF 0 (by decide) S)).trans (chunk_k 0 (by decide) S)
theorem chunk_n (s : ℕ) (hs : s < 2) (S : St Ideal) : (chunkF s hs S).n = S.n := by unfold chunkF; rw [group_n, group_n, group_n, group_n]; rfl
theorem point_n (S : St Ideal) : (pointF S).n = S.n := (chunk_n 1 (by decide) (chunkF 0 (by decide) S)).trans (chunk_n 0 (by decide) S)
theorem chunk_c (s : ℕ) (hs : s < 2) (S : St Ideal) : (chunkF s hs S).c = S.c := by unfold chunkF; rw [group_c, group_c, group_c, group_c]; rfl
theorem point_c (S : St Ideal) : (pointF S).c = S.c := (chunk_c 1 (by decide) (chunkF 0 (by decide) S)).trans (chunk_c 0 (by decide) S)
theorem chunk_u (s : ℕ) (hs : s < 2) (S : St Ideal) : (chunkF s hs S).u = S.u := by unfold chunkF; rw [group_u, group_u, group_u, group_u]; rfl
theorem point_u (S : St Ideal) : (pointF S).u = S.u := (chunk_u 1 (by decide) (chunkF 0 (by decide) S)).trans (chunk_u 0 (by decide) S)

/-- The result's buffer after a point. -/
theorem point_o {A : Args} {n : ℕ} {S : St Ideal} (hA : A.IsReal) (h : Start A n 0 S) (y : S1x256x2048.Idx) :
    (pointF S).o y = A.out (256 * n + (y 1).val) (y 2).val := by
  have h1 : (y 1).val < 256 := (y 1).isLt
  have h2 : (y 2).val < 2048 := (y 2).isLt
  have e := point_out hA h ⟨(y 1).val / 128, by omega⟩ ⟨(y 2).val / 128, by omega⟩ ⟨(y 1).val % 128, by omega⟩ ⟨(y 2).val % 128, by omega⟩
  have e1 := win3 (n0 := 1) (n1 := 256) (n2 := 2048) (m0 := 1) (m1 := 128) (m2 := 128) (pointF S).o 0 (128 * ((y 1).val / 128)) (128 * ((y 2).val / 128)) (inO (by omega) (by omega))
    0 ⟨(y 1).val % 128, by omega⟩ ⟨(y 2).val % 128, by omega⟩ 0 (⟨(y 1).val, h1⟩ : Fin 256) (⟨(y 2).val, h2⟩ : Fin 2048) rfl (by show (y 1).val = 128 * ((y 1).val / 128) + (y 1).val % 128; omega) (by show (y 2).val = 128 * ((y 2).val / 128) + (y 2).val % 128; omega)
  have ey : y = ix3 (0 : Fin 1) (⟨(y 1).val, h1⟩ : Fin 256) (⟨(y 2).val, h2⟩ : Fin 2048) := by
    funext a
    match a with
    | ⟨0, _⟩ => exact Fin.ext (by have : (y 0).val < 1 := (y 0).isLt; show (y 0).val = 0; omega)
    | ⟨1, _⟩ => rfl
    | ⟨2, _⟩ => rfl
  refine (congrArg (pointF S).o ey).trans (e1.symm.trans (e.trans ?_))
  show A.out (256 * n + 128 * ((y 1).val / 128) + (y 1).val % 128) (128 * ((y 2).val / 128) + (y 2).val % 128) = _
  rw [show 256 * n + 128 * ((y 1).val / 128) + (y 1).val % 128 = 256 * n + (y 1).val by omega, show 128 * ((y 2).val / 128) + (y 2).val % 128 = (y 2).val by omega]

variable (m : (ℓ : Loc nD τ sig) → Buf (Elt Ideal) ℓ) (ρ : Dev nD → PrngReg)
variable (Q : Dev nD → ℕ → Args)

/-- The windows hold point `t`'s blocks. -/
structure AtPoint (cc : Dev nD) (tt : Fin cfg0.N) (S : St Ideal) : Prop where
  x : S.x = X0_0 m cc tt
  z : S.z = iblk m cc 1 tt
  d : S.d = iblk m cc 2 tt
  w : S.w = iblk m cc 3 tt
  b : S.b = iblk m cc 4 tt
  t : S.t = iblk m cc 5 tt
  a : S.a = iblk m cc 6 tt
  k : S.k = iblk m cc 7 tt
  n : S.n = iblk m cc 8 tt
  c : S.c = iblk m cc 9 tt
  u : S.u = iblk m cc 10 tt

/-- What the windows hold at every point, against the sequences: the point `t % 32` of sequence `t / 32`. -/
def Fits : Prop := ∀ (c : Dev nD) (t : Fin cfg0.N) (S : St Ideal), AtPoint m c t S → Ins (Q c (t.val / 32)) (t.val % 32) S

/-- The scratch keeps what a point that starts at time `T` takes from the points before. -/
structure Kept (A : Args) (T : ℕ) (S : St Ideal) : Prop where
  hist : ∀ b, Hist A T b S
  carry : ∀ j, Carry A T j S

def scr (c : Dev nD) (S : St Ideal) : sProp 𝕄 :=
  iprop(owns (c : Thread nD τ) scM0_0 fullShare S.ext ∗ owns (c : Thread nD τ) scM0_1 fullShare S.act ∗ owns (c : Thread nD τ) scM0_2 fullShare S.st ∗ owns (c : Thread nD τ) scM0_3 fullShare S.y ∗ owns (c : Thread nD τ) scM0_4 fullShare S.cs ∗ owns (c : Thread nD τ) scM0_5 fullShare S.ld ∗ owns (c : Thread nD τ) scM0_6 fullShare S.rhs ∗ owns (c : Thread nD τ) scM0_7 fullShare S.ly ∗ owns (c : Thread nD τ) scM0_8 fullShare S.ls)

/-- The invariant: after a point the scratch keeps its sequence's past. -/
def PhiS (c : Dev nD) : (n : ℕ) → n ≤ cfg0.N → sProp 𝕄
  | 0, _ => Pipeline.ΦA spec0 c
  | n + 1, _ => iprop(∃ S : St Ideal, ⌜Kept (Q c (n / 32)) (256 * (n % 32) + 256) S⌝ ∗ scr c S ∗ (∃ r, prngReg c r))

theorem PhiS_zero (c : Dev nD) (n : ℕ) (h : n ≤ cfg0.N) (hz : n = 0) : PhiS Q c n h = Pipeline.ΦA spec0 c := by
  subst hz; rfl
theorem PhiS_succ (c : Dev nD) (n : ℕ) (hn : n < cfg0.N) :
    PhiS Q c (n + 1) hn = iprop(∃ S : St Ideal, ⌜Kept (Q c (n / 32)) (256 * (n % 32) + 256) S⌝ ∗ scr c S ∗ (∃ r, prngReg c r)) := rfl
theorem PhiS_pos (c : Dev nD) (n : ℕ) (h : n ≤ cfg0.N) (hz : n ≠ 0) :
    PhiS Q c n h = iprop(∃ S : St Ideal, ⌜Kept (Q c ((n - 1) / 32)) (256 * ((n - 1) % 32) + 256) S⌝ ∗ scr c S ∗ (∃ r, prngReg c r)) := by
  cases n with
  | zero => exact absurd rfl hz
  | succ n => rfl

/-- A point's block of the result. -/
def outBlk (c : Dev nD) (t : Fin cfg0.N) : Vec Ideal S1x256x2048 .bf16 := fun y => (Q c (t.val / 32)).out (256 * (t.val % 32) + (y 1).val) (y 2).val

/-- The pipeline's proof data. -/
def dats (_ : Fin 1) (c : Dev nD) : Dat τ (Elt Ideal) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlk Q c t
  Φ t := PhiS Q c t.val (Nat.le_of_lt_succ t.isLt)
  q w := Pipeline.shareOf spec0 w
  owed _ := 0

theorem A_eq (c : Dev nD) (w : Fin cfg0.W) : (dats m Q 0 c).A w = V m c (Pipeline.arrRef spec0 w) := by
  dsimp only [dats]
theorem PhiS_castSucc (c : Dev nD) (t : Fin cfg0.N) :
    (dats m Q 0 c).Φ t.castSucc = PhiS Q c t.val (Nat.le_of_lt t.isLt) := by
  dsimp only [dats]; exact Pipeline.Dat.Φ_castSucc (PhiS Q c) t
theorem after_0 (c : Dev nD) (t : Fin cfg0.N) : (dats m Q 0 c).after 0 t = X0_0 m c t := by dsimp only [dats]
theorem after_1 (c : Dev nD) (t : Fin cfg0.N) : (dats m Q 0 c).after 1 t = iblk m c 1 t := by dsimp only [dats]
theorem after_2 (c : Dev nD) (t : Fin cfg0.N) : (dats m Q 0 c).after 2 t = iblk m c 2 t := by dsimp only [dats]
theorem after_3 (c : Dev nD) (t : Fin cfg0.N) : (dats m Q 0 c).after 3 t = iblk m c 3 t := by dsimp only [dats]
theorem after_4 (c : Dev nD) (t : Fin cfg0.N) : (dats m Q 0 c).after 4 t = iblk m c 4 t := by dsimp only [dats]
theorem after_5 (c : Dev nD) (t : Fin cfg0.N) : (dats m Q 0 c).after 5 t = iblk m c 5 t := by dsimp only [dats]
theorem after_6 (c : Dev nD) (t : Fin cfg0.N) : (dats m Q 0 c).after 6 t = iblk m c 6 t := by dsimp only [dats]
theorem after_7 (c : Dev nD) (t : Fin cfg0.N) : (dats m Q 0 c).after 7 t = iblk m c 7 t := by dsimp only [dats]
theorem after_8 (c : Dev nD) (t : Fin cfg0.N) : (dats m Q 0 c).after 8 t = iblk m c 8 t := by dsimp only [dats]
theorem after_9 (c : Dev nD) (t : Fin cfg0.N) : (dats m Q 0 c).after 9 t = iblk m c 9 t := by dsimp only [dats]
theorem after_10 (c : Dev nD) (t : Fin cfg0.N) : (dats m Q 0 c).after 10 t = iblk m c 10 t := by dsimp only [dats]
theorem after_11 (c : Dev nD) (t : Fin cfg0.N) : (dats m Q 0 c).after 11 t = outBlk Q c t := by dsimp only [dats]
theorem before_0 (c : Dev nD) (t : Fin cfg0.N) (d) : (dats m Q 0 c).before 0 t d = X0_0 m c t :=
  before0_0_of m (dats m Q 0 c) (A_eq m Q c 0) (after_0 m Q c) t d
theorem before_1 (c : Dev nD) (t : Fin cfg0.N) (d) : (dats m Q 0 c).before 1 t d = iblk m c 1 t :=
  before0_1_of m (dats m Q 0 c) (A_eq m Q c 1) (after_1 m Q c) t d
theorem before_2 (c : Dev nD) (t : Fin cfg0.N) (d) : (dats m Q 0 c).before 2 t d = iblk m c 2 t :=
  before0_2_of m (dats m Q 0 c) (A_eq m Q c 2) (after_2 m Q c) t d
theorem before_3 (c : Dev nD) (t : Fin cfg0.N) (d) : (dats m Q 0 c).before 3 t d = iblk m c 3 t :=
  before0_3_of m (dats m Q 0 c) (A_eq m Q c 3) (after_3 m Q c) t d
theorem before_4 (c : Dev nD) (t : Fin cfg0.N) (d) : (dats m Q 0 c).before 4 t d = iblk m c 4 t :=
  before0_4_of m (dats m Q 0 c) (A_eq m Q c 4) (after_4 m Q c) t d
theorem before_5 (c : Dev nD) (t : Fin cfg0.N) (d) : (dats m Q 0 c).before 5 t d = iblk m c 5 t :=
  before0_5_of m (dats m Q 0 c) (A_eq m Q c 5) (after_5 m Q c) t d
theorem before_6 (c : Dev nD) (t : Fin cfg0.N) (d) : (dats m Q 0 c).before 6 t d = iblk m c 6 t :=
  before0_6_of m (dats m Q 0 c) (A_eq m Q c 6) (after_6 m Q c) t d
theorem before_7 (c : Dev nD) (t : Fin cfg0.N) (d) : (dats m Q 0 c).before 7 t d = iblk m c 7 t :=
  before0_7_of m (dats m Q 0 c) (A_eq m Q c 7) (after_7 m Q c) t d
theorem before_8 (c : Dev nD) (t : Fin cfg0.N) (d) : (dats m Q 0 c).before 8 t d = iblk m c 8 t :=
  before0_8_of m (dats m Q 0 c) (A_eq m Q c 8) (after_8 m Q c) t d
theorem before_9 (c : Dev nD) (t : Fin cfg0.N) (d) : (dats m Q 0 c).before 9 t d = iblk m c 9 t :=
  before0_9_of m (dats m Q 0 c) (A_eq m Q c 9) (after_9 m Q c) t d
theorem before_10 (c : Dev nD) (t : Fin cfg0.N) (d) : (dats m Q 0 c).before 10 t d = iblk m c 10 t :=
  before0_10_of m (dats m Q 0 c) (A_eq m Q c 10) (after_10 m Q c) t d

/-! ## The body -/

/-- The buffers at point `t`. -/
abbrev refs (t : Fin cfg0.N) : Refs where
  x := ms0_0 t
  z := ms0_1 t
  d := ms0_2 t
  w := ms0_3 t
  b := ms0_4 t
  t := ms0_5 t
  a := ms0_6 t
  k := ms0_7 t
  n := ms0_8 t
  c := ms0_9 t
  u := ms0_10 t
  o := ms0_11 t
  ho := hs0_11 t
  ext := scM0_0
  act := scM0_1
  st := scM0_2
  y := scM0_3
  cs := scM0_4
  ld := scM0_5
  rhs := scM0_6
  hrhs := Memref.isWhole_whole _
  ly := scM0_7
  hly := Memref.isWhole_whole _
  ls := scM0_8
  hls := Memref.isWhole_whole _

theorem first_iff (t : Fin cfg0.N) : first (grid0.coords t) ↔ t.val % 32 = 0 := hcond0_0 t

/-- What a point does to the buffers. -/
def stepF (t : Fin cfg0.N) (S : St Ideal) : St Ideal := if t.val % 32 = 0 then pointF (resetF S) else pointF S

theorem body_at (t : Fin cfg0.N) : (bodyAt0 t : Prog (TpuEff nD τ sig (Elt Ideal) Λ₀ .tc) PUnit) = (if first (grid0.coords t) then (do reset (refs t); chunks (refs t)) else chunks (refs t)) :=
  prog_eq (F := Ideal) (grid0.coords t) (refs t) (hs0_0 t) (hs0_1 t) (hs0_2 t) (hs0_3 t) (hs0_4 t) (hs0_5 t) (hs0_6 t) (hs0_7 t) (hs0_8 t) (hs0_9 t) (hs0_10 t) (Memref.isWhole_whole _) (Memref.isWhole_whole _) (Memref.isWhole_whole _) (Memref.isWhole_whole _) (Memref.isWhole_whole _) (Memref.isWhole_whole _)

theorem body_spec (c : Dev nD) (t : Fin cfg0.N) (S : St Ideal) (K : PUnit → sProp 𝕄) :
    iprop(own c (refs t) S ∗ (own c (refs t) (stepF t S) -∗ K ⟨⟩)) ⊢ wp Idealize.ShloMosaic.frame (wpE (defs₀ (F := Ideal)) Variants.none c none) Set.univ (bodyAt0 t) K := by
  rw [body_at]
  unfold stepF
  by_cases h : t.val % 32 = 0
  · rw [if_pos ((first_iff t).2 h), if_pos h]; exact spec_first S Set.univ K
  · rw [if_neg (fun hh => h ((first_iff t).1 hh)), if_neg h]; exact spec_chunks S Set.univ K

theorem reset_ins {S : St Ideal} {c : Dev nD} {t : Fin cfg0.N} (h : AtPoint m c t S) : AtPoint m c t (resetF S) := ⟨h.x, h.z, h.d, h.w, h.b, h.t, h.a, h.k, h.n, h.c, h.u⟩

variable (hQ : ∀ c b, (Q c b).IsReal) (h0 : ∀ c b u x, u < 8 → (Q c b).P u x = 0) (hI : Fits m Q)
include hQ h0 hI

/-- What a point leaves. -/
theorem step_at (c : Dev nD) (t : Fin cfg0.N) (S : St Ideal) (h : AtPoint m c t S) (hk : t.val % 32 ≠ 0 → Kept (Q c (t.val / 32)) (256 * (t.val % 32)) S) :
    AtPoint m c t (stepF t S) ∧ Kept (Q c (t.val / 32)) (256 * (t.val % 32) + 256) (stepF t S) ∧ (stepF t S).o = outBlk Q c t := by
  unfold stepF
  by_cases hz : t.val % 32 = 0
  · rw [if_pos hz]
    have hs : Start (Q c (t.val / 32)) (t.val % 32) 0 (resetF S) := by
      have := hI c t S h; rw [hz] at this ⊢; exact reset_start (h0 c _) this
    have hp := point_start (hQ c _) hs
    refine ⟨⟨(point_x _).trans h.x, (point_z _).trans h.z, (point_d _).trans h.d, (point_w _).trans h.w, (point_b _).trans h.b, (point_t _).trans h.t, (point_a _).trans h.a, (point_k _).trans h.k, (point_n _).trans h.n, (point_c _).trans h.c, (point_u _).trans h.u⟩, ⟨hp.hist, hp.carry⟩, funext fun y => point_o (hQ c _) hs y⟩
  · rw [if_neg hz]
    have hs : Start (Q c (t.val / 32)) (t.val % 32) 0 S := ⟨hI c t S h, (hk hz).hist, (hk hz).carry⟩
    have hp := point_start (hQ c _) hs
    refine ⟨⟨(point_x _).trans h.x, (point_z _).trans h.z, (point_d _).trans h.d, (point_w _).trans h.w, (point_b _).trans h.b, (point_t _).trans h.t, (point_a _).trans h.a, (point_k _).trans h.k, (point_n _).trans h.n, (point_c _).trans h.c, (point_u _).trans h.u⟩, ⟨hp.hist, hp.carry⟩, funext fun y => point_o (hQ c _) hs y⟩

def bodyPre (c : Dev nD) (t : Fin cfg0.N) : sProp 𝕄 :=
  iprop((dats m Q 0 c).Φ t.castSucc ∗ (dats m Q 0 c).owesAt () t.castSucc
    ∗ (∃ d, owns (c : Thread nD τ) (ms0_0 t) fullShare ((dats m Q 0 c).before 0 t d))
    ∗ (∃ d, owns (c : Thread nD τ) (ms0_1 t) fullShare ((dats m Q 0 c).before 1 t d))
    ∗ (∃ d, owns (c : Thread nD τ) (ms0_2 t) fullShare ((dats m Q 0 c).before 2 t d))
    ∗ (∃ d, owns (c : Thread nD τ) (ms0_3 t) fullShare ((dats m Q 0 c).before 3 t d))
    ∗ (∃ d, owns (c : Thread nD τ) (ms0_4 t) fullShare ((dats m Q 0 c).before 4 t d))
    ∗ (∃ d, owns (c : Thread nD τ) (ms0_5 t) fullShare ((dats m Q 0 c).before 5 t d))
    ∗ (∃ d, owns (c : Thread nD τ) (ms0_6 t) fullShare ((dats m Q 0 c).before 6 t d))
    ∗ (∃ d, owns (c : Thread nD τ) (ms0_7 t) fullShare ((dats m Q 0 c).before 7 t d))
    ∗ (∃ d, owns (c : Thread nD τ) (ms0_8 t) fullShare ((dats m Q 0 c).before 8 t d))
    ∗ (∃ d, owns (c : Thread nD τ) (ms0_9 t) fullShare ((dats m Q 0 c).before 9 t d))
    ∗ (∃ d, owns (c : Thread nD τ) (ms0_10 t) fullShare ((dats m Q 0 c).before 10 t d))
    ∗ (∃ d, owns (c : Thread nD τ) (ms0_11 t) fullShare ((dats m Q 0 c).before 11 t d)))

def bodyPost (c : Dev nD) (t : Fin cfg0.N) : sProp 𝕄 :=
  iprop((dats m Q 0 c).Φ t.succ ∗ (dats m Q 0 c).owesAt () t.succ
    ∗ owns (c : Thread nD τ) (ms0_0 t) fullShare ((dats m Q 0 c).after 0 t)
    ∗ owns (c : Thread nD τ) (ms0_1 t) fullShare ((dats m Q 0 c).after 1 t)
    ∗ owns (c : Thread nD τ) (ms0_2 t) fullShare ((dats m Q 0 c).after 2 t)
    ∗ owns (c : Thread nD τ) (ms0_3 t) fullShare ((dats m Q 0 c).after 3 t)
    ∗ owns (c : Thread nD τ) (ms0_4 t) fullShare ((dats m Q 0 c).after 4 t)
    ∗ owns (c : Thread nD τ) (ms0_5 t) fullShare ((dats m Q 0 c).after 5 t)
    ∗ owns (c : Thread nD τ) (ms0_6 t) fullShare ((dats m Q 0 c).after 6 t)
    ∗ owns (c : Thread nD τ) (ms0_7 t) fullShare ((dats m Q 0 c).after 7 t)
    ∗ owns (c : Thread nD τ) (ms0_8 t) fullShare ((dats m Q 0 c).after 8 t)
    ∗ owns (c : Thread nD τ) (ms0_9 t) fullShare ((dats m Q 0 c).after 9 t)
    ∗ owns (c : Thread nD τ) (ms0_10 t) fullShare ((dats m Q 0 c).after 10 t)
    ∗ owns (c : Thread nD τ) (ms0_11 t) fullShare ((dats m Q 0 c).after 11 t))

def corePost (c : Dev nD) (t : Fin cfg0.N) (S : St Ideal) (Z : sProp 𝕄) : sProp 𝕄 :=
  iprop((∃ S : St Ideal, ⌜Kept (Q c (t.val / 32)) (256 * (t.val % 32) + 256) S⌝ ∗ scr c S ∗ (∃ r, prngReg c r)) ∗ Z
      ∗ owns (c : Thread nD τ) (ms0_0 t) fullShare S.x ∗ owns (c : Thread nD τ) (ms0_1 t) fullShare S.z ∗ owns (c : Thread nD τ) (ms0_2 t) fullShare S.d ∗ owns (c : Thread nD τ) (ms0_3 t) fullShare S.w ∗ owns (c : Thread nD τ) (ms0_4 t) fullShare S.b ∗ owns (c : Thread nD τ) (ms0_5 t) fullShare S.t ∗ owns (c : Thread nD τ) (ms0_6 t) fullShare S.a ∗ owns (c : Thread nD τ) (ms0_7 t) fullShare S.k ∗ owns (c : Thread nD τ) (ms0_8 t) fullShare S.n ∗ owns (c : Thread nD τ) (ms0_9 t) fullShare S.c ∗ owns (c : Thread nD τ) (ms0_10 t) fullShare S.u ∗ owns (c : Thread nD τ) (ms0_11 t) fullShare (outBlk Q c t))

/-- The body from buffers at point `t`. -/
theorem sound_core (c : Dev nD) (t : Fin cfg0.N) (S : St Ideal) (h : AtPoint m c t S) (hk : t.val % 32 ≠ 0 → Kept (Q c (t.val / 32)) (256 * (t.val % 32)) S) (Z : sProp 𝕄) :
    iprop((scr c S ∗ (∃ r, prngReg c r)) ∗ Z
      ∗ owns (c : Thread nD τ) (ms0_0 t) fullShare S.x ∗ owns (c : Thread nD τ) (ms0_1 t) fullShare S.z ∗ owns (c : Thread nD τ) (ms0_2 t) fullShare S.d ∗ owns (c : Thread nD τ) (ms0_3 t) fullShare S.w ∗ owns (c : Thread nD τ) (ms0_4 t) fullShare S.b ∗ owns (c : Thread nD τ) (ms0_5 t) fullShare S.t ∗ owns (c : Thread nD τ) (ms0_6 t) fullShare S.a ∗ owns (c : Thread nD τ) (ms0_7 t) fullShare S.k ∗ owns (c : Thread nD τ) (ms0_8 t) fullShare S.n ∗ owns (c : Thread nD τ) (ms0_9 t) fullShare S.c ∗ owns (c : Thread nD τ) (ms0_10 t) fullShare S.u ∗ owns (c : Thread nD τ) (ms0_11 t) fullShare S.o)
    ⊢ wp Idealize.ShloMosaic.frame (wpE (defs₀ (F := Ideal)) Variants.none c none) Set.univ (bodyAt0 t) (fun _ => corePost Q c t S Z) := by
  obtain ⟨hp, hk', ho⟩ := step_at m Q hQ h0 hI c t S h hk
  have e := body_spec c t S (fun _ => corePost Q c t S Z)
  generalize stepF t S = S' at hp hk' ho e
  unfold Chunk.own at e
  unfold corePost scr at e ⊢
  iintro ⟨⟨⟨HS0, HS1, HS2, HS3, HS4, HS5, HS6, HS7, HS8⟩, Hg⟩, HZ, H0, H1, H2, H3, H4, H5, H6, H7, H8, H9, H10, H11⟩
  iapply e
  isplitl [H0 H1 H2 H3 H4 H5 H6 H7 H8 H9 H10 H11 HS0 HS1 HS2 HS3 HS4 HS5 HS6 HS7 HS8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact HS8
  iintro ⟨H0, H1, H2, H3, H4, H5, H6, H7, H8, H9, H10, H11, HS0, HS1, HS2, HS3, HS4, HS5, HS6, HS7, HS8⟩
  rw [ho, hp.x, h.x, hp.z, h.z, hp.d, h.d, hp.w, h.w, hp.b, h.b, hp.t, h.t, hp.a, h.a, hp.k, h.k, hp.n, h.n, hp.c, h.c, hp.u, h.u]
  isplitl [HS0 HS1 HS2 HS3 HS4 HS5 HS6 HS7 HS8 Hg]
  · iexists S'
    isplitr
    · ipureintro; exact hk'
    isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    iexact Hg
  isplitl [HZ]; · iexact HZ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

omit hQ h0 hI in
theorem atPoint_exists (m : (ℓ : Loc nD τ sig) → Buf (Elt Ideal) ℓ) {c : Dev nD} {t : Fin cfg0.N} (W : Vec Ideal S1x256x2048 .bf16) (S₀ : St Ideal) {x : Vec Ideal S1x256x3072 .bf16} {z : Vec Ideal S1x256x2048 .bf16} {d : Vec Ideal S1x256x128 .f32} {w : Vec Ideal S24x4x128 .f32} {b : Vec Ideal S24x1x128 .f32} {t' a : Vec Ideal S1x128 .f32} {k n : Vec Ideal S1x2048 .f32} {c' : Vec Ideal S4x128x1024 .bf16} {u : Vec Ideal S4x128x512 .bf16}
    (h_x : x = X0_0 m c t) (h_z : z = iblk m c 1 t) (h_d : d = iblk m c 2 t) (h_w : w = iblk m c 3 t) (h_b : b = iblk m c 4 t) (h_t : t' = iblk m c 5 t) (h_a : a = iblk m c 6 t) (h_k : k = iblk m c 7 t) (h_n : n = iblk m c 8 t) (h_c : c' = iblk m c 9 t) (h_u : u = iblk m c 10 t) :
    ∃ S : St Ideal, AtPoint m c t S ∧ S.o = W ∧ S.ext = S₀.ext ∧ S.act = S₀.act ∧ S.st = S₀.st ∧ S.y = S₀.y ∧ S.cs = S₀.cs ∧ S.ld = S₀.ld ∧ S.rhs = S₀.rhs ∧ S.ly = S₀.ly ∧ S.ls = S₀.ls :=
  ⟨⟨x, z, d, w, b, t', a, k, n, c', u, W, S₀.ext, S₀.act, S₀.st, S₀.y, S₀.cs, S₀.ld, S₀.rhs, S₀.ly, S₀.ls⟩, ⟨h_x, h_z, h_d, h_w, h_b, h_t, h_a, h_k, h_n, h_c, h_u⟩, rfl, rfl, rfl, rfl, rfl, rfl, rfl, rfl, rfl, rfl⟩

/-- The body from any scratch that keeps the sequence's past. -/
theorem sound_from (c : Dev nD) (t : Fin cfg0.N) (S₀ : St Ideal) (hk : t.val % 32 ≠ 0 → Kept (Q c (t.val / 32)) (256 * (t.val % 32)) S₀) (W : Vec Ideal S1x256x2048 .bf16) (Z : sProp 𝕄) :
    iprop((scr c S₀ ∗ (∃ r, prngReg c r)) ∗ Z
      ∗ owns (c : Thread nD τ) (ms0_0 t) fullShare (X0_0 m c t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare W)
    ⊢ wp Idealize.ShloMosaic.frame (wpE (defs₀ (F := Ideal)) Variants.none c none) Set.univ (bodyAt0 t) (fun _ => iprop((∃ S : St Ideal, ⌜Kept (Q c (t.val / 32)) (256 * (t.val % 32) + 256) S⌝ ∗ scr c S ∗ (∃ r, prngReg c r)) ∗ Z
      ∗ owns (c : Thread nD τ) (ms0_0 t) fullShare (X0_0 m c t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (outBlk Q c t))) := by
  obtain ⟨S, hS, ho, h_ext, h_act, h_st, h_y, h_cs, h_ld, h_rhs, h_ly, h_ls⟩ : ∃ S : St Ideal, AtPoint m c t S ∧ S.o = W ∧ S.ext = S₀.ext ∧ S.act = S₀.act ∧ S.st = S₀.st ∧ S.y = S₀.y ∧ S.cs = S₀.cs ∧ S.ld = S₀.ld ∧ S.rhs = S₀.rhs ∧ S.ly = S₀.ly ∧ S.ls = S₀.ls :=
    atPoint_exists m W S₀ rfl rfl rfl rfl rfl rfl rfl rfl rfl rfl rfl
  have hk2 : t.val % 32 ≠ 0 → Kept (Q c (t.val / 32)) (256 * (t.val % 32)) S := by
    intro hne
    obtain ⟨h1, h2⟩ := hk hne
    refine ⟨fun b => ?_, fun j => ?_⟩
    · have := h1 b; unfold Hist at this ⊢; rw [h_ext]; exact this
    · have := h2 j; unfold Carry at this ⊢; simp only [gS, h_st] at this ⊢; exact this
  have e := sound_core m Q hQ h0 hI c t S hS hk2 Z
  have hscr : scr c S = scr c S₀ := by unfold scr; rw [h_ext, h_act, h_st, h_y, h_cs, h_ld, h_rhs, h_ly, h_ls]
  unfold corePost at e
  rw [hscr, ho, hS.x, hS.z, hS.d, hS.w, hS.b, hS.t, hS.a, hS.k, hS.n, hS.c, hS.u] at e
  exact e

omit hQ h0 hI in
/-- The invariant before a point gives a scratch that keeps what the point needs. -/
theorem Phi_before (m : (ℓ : Loc nD τ sig) → Buf (Elt Ideal) ℓ) (c : Dev nD) (t : Fin cfg0.N) : PhiS Q c t.val (Nat.le_of_lt t.isLt) ⊢ iprop(∃ S : St Ideal, ⌜t.val % 32 ≠ 0 → Kept (Q c (t.val / 32)) (256 * (t.val % 32)) S⌝ ∗ scr c S ∗ (∃ r, prngReg c r)) := by
  by_cases hz : t.val = 0
  · rw [PhiS_zero Q c _ _ hz, PhiA0_eq]
    iintro ⟨⟨⟨%e0, HS0⟩, ⟨%e1, HS1⟩, ⟨%e2, HS2⟩, ⟨%e3, HS3⟩, ⟨%e4, HS4⟩, ⟨%e5, HS5⟩, ⟨%e6, HS6⟩, ⟨%e7, HS7⟩, ⟨%e8, HS8⟩⟩, Hg⟩
    iexists (⟨X0_0 m c t, iblk m c 1 t, iblk m c 2 t, iblk m c 3 t, iblk m c 4 t, iblk m c 5 t, iblk m c 6 t, iblk m c 7 t, iblk m c 8 t, iblk m c 9 t, iblk m c 10 t, fun _ => (0 : EReal), e0, e1, e2, e3, e4, e5, e6, e7, e8⟩ : St Ideal)
    isplitr
    · ipureintro; intro h; exact absurd (by rw [hz]) h
    unfold scr
    isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    iexact Hg
  · rw [PhiS_pos Q c _ _ hz]
    iintro ⟨%S, %hS, HS⟩
    iexists S
    isplitr
    · ipureintro
      intro h
      have e1 : (t.val - 1) / 32 = t.val / 32 := by omega
      have e2 : 256 * ((t.val - 1) % 32) + 256 = 256 * (t.val % 32) := by omega
      rw [e1, e2] at hS
      exact hS
    iexact HS

theorem sound_body (c : Dev nD) (t : Fin cfg0.N) :
    bodyPre m Q c t ⊢ wp Idealize.ShloMosaic.frame (wpE (defs₀ (F := Ideal)) Variants.none c none) Set.univ (bodyAt0 t) (fun _ => bodyPost m Q c t) := by
  unfold bodyPre bodyPost
  simp only [before_0, before_1, before_2, before_3, before_4, before_5, before_6, before_7, before_8, before_9, before_10]
  rw [show (dats m Q 0 c).owesAt () t.succ = (dats m Q 0 c).owesAt () t.castSucc from rfl,
    after_0, after_1, after_2, after_3, after_4, after_5, after_6, after_7, after_8, after_9, after_10, after_11]
  rw [show (dats m Q 0 c).Φ t.succ = PhiS Q c (t.val + 1) t.isLt from rfl, PhiS_succ, PhiS_castSucc m Q c t]
  refine (Laws.sep_mono_left (Phi_before Q m c t)).trans ?_
  iintro ⟨⟨%S, %hS, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have e := sound_from m Q hQ h0 hI c t S hS ((dats m Q 0 c).before 11 t d11) ((dats m Q 0 c).owesAt () t.castSucc)
  iapply e
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

omit hQ h0 hI in
theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : BodyObligation (dats m Q 0 c) (defs₀ (F := Ideal)) Variants.none () Set.univ := fun t => by
  rw [bigSep_W0, bigSep_W0, defs₀_row]
  exact triple_restated (sound_body m Q hQ h0 hI c t) rfl .rfl fun _ => .rfl

omit hQ h0 hI in
theorem hin (c : Dev nD) : Pipeline.ΦA spec0 c ⊢ (dats m Q 0 c).Φ 0 := by
  rw [show (dats m Q 0 c).Φ 0 = PhiS Q c 0 (Nat.zero_le _) from rfl, PhiS_zero Q c 0 _ rfl]
  try exact Entails.refl _

omit hQ h0 hI in
theorem hout (c : Dev nD) : (dats m Q 0 c).Φ (Fin.last cfg0.N) ⊢ Pipeline.ΦA spec0 c := by
  rw [show (dats m Q 0 c).Φ (Fin.last cfg0.N) = PhiS Q c cfg0.N (le_refl _) from rfl,
    PhiS_pos Q c _ _ (by have : cfg0.N = 64 := N_0; omega), PhiA0_eq]
  unfold scr
  iintro ⟨%S, -, ⟨HS0, HS1, HS2, HS3, HS4, HS5, HS6, HS7, HS8⟩, Hg⟩
  isplitl [HS0 HS1 HS2 HS3 HS4 HS5 HS6 HS7 HS8]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8
  iexact Hg

set_option backward.isDefEq.respectTransparency.types false in
/-- The run, with every array at what the proof data says and every counter at zero. -/
theorem run_all : θ_run defs (onTc (τ := τ) (main (F := Ideal))) (s₀ m ρ) (fun r => (Pipeline.FramePost cfgs (dats m Q) 0 (V m)) r ∧ r.2.sem = fun _ => 0) :=
  Pipeline.θ_run_frame_track_shared (Q' := _) cfgs (dats m Q) (0 : Fin 1) launch₀0 defs₀ Variants.none m ρ main
    (hbody := fun c => (body_obligation m Q hQ h0 hI c).loose) (hq := fun _ _ _ => rfl)
    (howed := fun _ _ => rfl) (V := V m) (hmain := hmain m Variants.none) (hA := A_eq m Q) (hin := hin m Q) (hout := hout m Q)

/-- The run with the result named. -/
theorem run_blocks : θ_run defs (onTc (τ := τ) (main (F := Ideal))) ⟨m, fun _ => 0, ρ⟩ fun r => ∀ c : Dev nD,
      r.2.mem ((c : Thread nD τ).loc main_v41) = (dats m Q 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_and ((θ_run defs _ _).mono (fun r h c => (h.1 c).1 11) (run_all m ρ Q hQ h0 hI)) (frame_of m ρ (dats m Q) (A_eq m Q) ((θ_run defs _ _).mono (fun _ h => h.1) (run_all m ρ Q hQ h0 hI))) |> fun h =>
    (θ_run defs _ _).mono (fun r h c => ⟨h.1 c, h.2 c⟩) h

end Cert.SsdIdeal.Scanned

end
-- ==== Proof.SsdSeq.lean ====
/- The scan's sequences, read off the argument arrays. -/
module

public import proofs.«01_k».proof.Proof.SsdStep

@[expose] public section

noncomputable section

namespace Cert.SsdIdeal.Chunk

open Idealize.ShloMosaic Cert.Scan

/-- An array read at whole numbers, zero outside it. -/
def get1 {a : ℕ} (x : (⟨1, ![a]⟩ : Shape).Idx → EReal) (i : ℕ) : EReal := if h : i < a then x (ix1 ⟨i, h⟩) else 0
def get2 {a b : ℕ} (x : (⟨2, ![a, b]⟩ : Shape).Idx → EReal) (i j : ℕ) : EReal := if h : i < a ∧ j < b then x (ix2 ⟨i, h.1⟩ ⟨j, h.2⟩) else 0
def get3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem get1_at {a : ℕ} (x : (⟨1, ![a]⟩ : Shape).Idx → EReal) (i : ℕ) (h : i < a) : get1 x i = x (ix1 ⟨i, h⟩) := dif_pos h
theorem get2_at {a b : ℕ} (x : (⟨2, ![a, b]⟩ : Shape).Idx → EReal) (i j : ℕ) (h1 : i < a) (h2 : j < b) : get2 x i j = x (ix2 ⟨i, h1⟩ ⟨j, h2⟩) := dif_pos ⟨h1, h2⟩
theorem get3_at {a b c : ℕ} (x : (⟨3, ![a, b, c]⟩ : Shape).Idx → EReal) (i j k : ℕ) (h1 : i < a) (h2 : j < b) (h3 : k < c) :
    get3 x i j k = x (ix3 ⟨i, h1⟩ ⟨j, h2⟩ ⟨k, h3⟩) := dif_pos ⟨h1, h2, h3⟩

theorem fin_zero : Fin' 0 := ⟨0, rfl⟩
theorem get1_fin {a : ℕ} {x : (⟨1, ![a]⟩ : Shape).Idx → EReal} (hx : ∀ i, Fin' (x i)) (i : ℕ) : Fin' (get1 x i) := by
  unfold get1; split; exacts [hx _, fin_zero]
theorem get2_fin {a b : ℕ} {x : (⟨2, ![a, b]⟩ : Shape).Idx → EReal} (hx : ∀ i, Fin' (x i)) (i j : ℕ) : Fin' (get2 x i j) := by
  unfold get2; split; exacts [hx _, fin_zero]
theorem get3_fin {a b c : ℕ} {x : (⟨3, ![a, b, c]⟩ : Shape).Idx → EReal} (hx : ∀ i, Fin' (x i)) (i j k : ℕ) : Fin' (get3 x i j k) := by
  unfold get3; split; exacts [hx _, fin_zero]

/-- Sequence `b` of the argument arrays. -/
def seqOf (x0 : (⟨3, ![2, 8192, 10240]⟩ : Shape).Idx → EReal) (x1 : (⟨3, ![2, 8192, 128]⟩ : Shape).Idx → EReal) (x2 : (⟨2, ![4, 3072]⟩ : Shape).Idx → EReal)
    (x3 : (⟨1, ![3072]⟩ : Shape).Idx → EReal) (x4 x5 x6 : (⟨1, ![32]⟩ : Shape).Idx → EReal) (x7 : (⟨1, ![2048]⟩ : Shape).Idx → EReal) (b : ℕ) : Args where
  P u c := if u < 8 then 0 else get3 x0 b (u - 8) (3072 + c)
  z t c := get3 x0 b t (6144 + c)
  d t q := get3 x1 b t q
  w k c := get2 x2 k c
  b c := get1 x3 c
  t q := if q < 96 then get1 x4 (q % 32) else 0
  a q := if q < 96 then get1 x5 (q % 32) else 0
  k c := get1 x6 (c / 64)
  n c := get1 x7 c

section
variable {x0 : (⟨3, ![2, 8192, 10240]⟩ : Shape).Idx → EReal} {x1 : (⟨3, ![2, 8192, 128]⟩ : Shape).Idx → EReal} {x2 : (⟨2, ![4, 3072]⟩ : Shape).Idx → EReal}
  {x3 : (⟨1, ![3072]⟩ : Shape).Idx → EReal} {x4 x5 x6 : (⟨1, ![32]⟩ : Shape).Idx → EReal} {x7 : (⟨1, ![2048]⟩ : Shape).Idx → EReal} {b : ℕ}

theorem seqOf_real (h0 : ∀ i, Fin' (x0 i)) (h1 : ∀ i, Fin' (x1 i)) (h2 : ∀ i, Fin' (x2 i)) (h3 : ∀ i, Fin' (x3 i)) (h4 : ∀ i, Fin' (x4 i)) (h5 : ∀ i, Fin' (x5 i)) :
    (seqOf x0 x1 x2 x3 x4 x5 x6 x7 b).IsReal where
  P u c := by show Fin' (if u < 8 then 0 else _); split; exacts [fin_zero, get3_fin h0 _ _ _]
  d u q := get3_fin h1 _ _ _
  w k c := get2_fin h2 _ _
  b c := get1_fin h3 _
  t q := by show Fin' (if q < 96 then _ else 0); split; exacts [get1_fin h4 _, fin_zero]
  a q := by show Fin' (if q < 96 then _ else 0); split; exacts [get1_fin h5 _, fin_zero]

theorem seqOf_start (u c : ℕ) (hu : u < 8) : (seqOf x0 x1 x2 x3 x4 x5 x6 x7 b).P u c = 0 := if_pos hu
theorem seqOf_P (u c : ℕ) : (seqOf x0 x1 x2 x3 x4 x5 x6 x7 b).P (u + 8) c = get3 x0 b u (3072 + c) := by
  show (if u + 8 < 8 then (0 : EReal) else get3 x0 b (u + 8 - 8) (3072 + c)) = _
  rw [if_neg (by omega), Nat.add_sub_cancel]
end

end Cert.SsdIdeal.Chunk

end
-- ==== Proof.Rows.lean ====
/- Row functions of the layer: a token's row as a function of its column, over the extended reals. Each is one line of the
   layer's mathematics; both the calls' blocks and the references are read as these. -/
module

public import Idealize.ShloMosaic.Lib.Pointwise

@[expose] public section

noncomputable section

namespace Cert.Rows

open Idealize.ShloMosaic

/-- The logistic function, written as the programs write it. -/
def gate (v : EReal) : EReal := Ideal.div 1 (1 + Ideal.exp (-v))

/-- A row through a weight matrix. -/
def lin {n k : ℕ} (x : Fin n → EReal) (w : Fin n → Fin k → EReal) (j : Fin k) : EReal := ∑ i, x i * w i j

/-- RMSNorm of a row of 1024 columns with gain `g`. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The gated merge of the two mixers' rows. -/
def merge (att : Fin 1024 → EReal) (yn : Fin 2048 → EReal) (ga gb : Fin 1024 → EReal) (woa : Fin 1024 → Fin 1024 → EReal)
    (wos : Fin 2048 → Fin 1024 → EReal) (j : Fin 1024) : EReal :=
  gate (ga j) * lin att woa j + gate (gb j) * lin yn wos j

/-- The residual row after the output projection. -/
def resid (x mg : Fin 1024 → EReal) (wout : Fin 1024 → Fin 1024 → EReal) (j : Fin 1024) : EReal := x j + lin mg wout j

/-- The gated hidden row of the channel mixer. -/
def hid (h : Fin 1024 → EReal) (wg wu : Fin 1024 → Fin 2816 → EReal) (k : Fin 2816) : EReal :=
  lin h wg k * gate (lin h wg k) * lin h wu k

/-- The residual row after the channel mixer. -/
def ffn (x g2 : Fin 1024 → EReal) (wg wu : Fin 1024 → Fin 2816 → EReal) (wd : Fin 2816 → Fin 1024 → EReal)
    (j : Fin 1024) : EReal :=
  x j + lin (hid (rms x g2) wg wu) wd j

/-- The residual row after the gated embedding. -/
def ple (x g3 : Fin 1024 → EReal) (p : Fin 256 → EReal) (wpg : Fin 1024 → Fin 1024 → EReal)
    (wpp : Fin 256 → Fin 1024 → EReal) (j : Fin 1024) : EReal :=
  x j + lin p wpp j * gate (lin (rms x g3) wpg j)

end Cert.Rows

end
-- ==== Proof.SsdIns.lean ====
/- What the scan's windows hold: the arrays the host prepares, read in blocks, are the sequences. -/
module

public import proofs.«01_k».proof.Proof.SsdRun
public import proofs.«01_k».proof.Proof.SsdSeq
public import proofs.«01_k».proof.Proof.Rows
public import Idealize.ShloMosaic.Lib.Pipeline.ValueKit
public import Idealize.ShloMosaic.Lib.WordCmp

@[expose] public section

set_option maxRecDepth 16384

noncomputable section

namespace Cert.SsdIdeal.Scanned

open Idealize.ShloMosaic Idealize.ShloMosaic.TcCoe Cert.SsdIdeal Cert.SsdIdeal.Gen Cert.SsdIdeal.Chunk Cert.Rows

/-! ## The masks -/

/-- The remainder by 32, as the host computes it. -/
def remF {s : Shape} (h : S_.BroadcastsInDim s ![]) (x : IVec s 32) : IVec s 32 :=
  let d : IVec S_ 32 := select (cmpi .eq (constantI S_ 32 32#32) (constantI S_ 32 0#32)) (constantI S_ 32 1#32) (constantI S_ 32 32#32)
  let r : IVec s 32 := Host.remsi x (broadcastInDim s ![] h d)
  select (andi (cmpi .ne (cmpi .slt r (broadcastInDim s ![] h (constantI S_ 32 0#32))) (broadcastInDim s ![] h (cmpi .slt d (constantI S_ 32 0#32))))
    (cmpi .ne r (broadcastInDim s ![] h (constantI S_ 32 0#32)))) (addi r (broadcastInDim s ![] h d)) r

/-- The floor division, as the host computes it. -/
def divF {s : Shape} (h : S_.BroadcastsInDim s ![]) (w : BitVec 32) (x : IVec s 32) : IVec s 32 :=
  let q : IVec s 32 := Host.divsi x (broadcastInDim s ![] h (constantI S_ 32 w))
  select (andi (cmpi .ne (signi x) (broadcastInDim s ![] h (signi (constantI S_ 32 w))))
    (cmpi .ne (Host.remsi x (broadcastInDim s ![] h (constantI S_ 32 w))) (broadcastInDim s ![] h (constantI S_ 32 0#32)))) (subi q (broadcastInDim s ![] h (constantI S_ 32 1#32))) q

/-- Row `r` below 96 meets the columns of head `r % 32`. -/
def maskF {s : Shape} (h : S_.BroadcastsInDim s ![]) (w : BitVec 32) (p q : IVec s 32) : IVec s 1 :=
  andi (cmpi .slt p (broadcastInDim s ![] h (constantI S_ 32 96#32))) (cmpi .eq (remF h p) (divF h w q))

/-- The same on words. -/
def remW (x : BitVec 32) : BitVec 32 :=
  let d : BitVec 32 := Scalar.select (IntOp.cmpi .eq 32#32 0#32) 1#32 32#32
  let r : BitVec 32 := IntOp.remsi .host x d
  Scalar.select (IntOp.andi (IntOp.cmpi .ne (IntOp.cmpi .slt r 0#32) (IntOp.cmpi .slt d 0#32)) (IntOp.cmpi .ne r 0#32)) (IntOp.addi r d) r
def signW (x : BitVec 32) : BitVec 32 := if x = 0 then 0 else if x.msb then -1 else 1
def divW (w x : BitVec 32) : BitVec 32 :=
  let q : BitVec 32 := IntOp.divsi .host x w
  Scalar.select (IntOp.andi (IntOp.cmpi .ne (signW x) (signW w)) (IntOp.cmpi .ne (IntOp.remsi .host x w) 0#32)) (IntOp.subi q 1#32) q

theorem remF_at {s : Shape} (h : S_.BroadcastsInDim s ![]) (x : IVec s 32) (i : s.Idx) : remF h x i = remW (x i) := rfl
theorem divF_at {s : Shape} (h : S_.BroadcastsInDim s ![]) (w : BitVec 32) (x : IVec s 32) (i : s.Idx) : divF h w x i = divW w (x i) := rfl
theorem remW_eq : ∀ r : Fin 128, remW (BitVec.ofNat 32 r.val) = BitVec.ofNat 32 (r.val % 32) := by decide +kernel
theorem divW_128 : ∀ l : Fin 4096, divW 128#32 (BitVec.ofNat 32 l.val) = BitVec.ofNat 32 (l.val / 128) := by decide +kernel
theorem divW_64 : ∀ l : Fin 2048, divW 64#32 (BitVec.ofNat 32 l.val) = BitVec.ofNat 32 (l.val / 64) := by decide +kernel

theorem bit_eq (r a b : ℕ) (hr : r < 128) (ha : a < 128) (hb : b < 128) :
    (FloatOps.uitofp .bf16 (IntOp.andi (IntOp.cmpi .slt (BitVec.ofNat 32 r) 96#32) (IntOp.cmpi .eq (BitVec.ofNat 32 a) (BitVec.ofNat 32 b))) : Ideal .bf16) = if r < 96 ∧ a = b then (1 : EReal) else 0 := by
  have e1 : IntOp.cmpi .slt (BitVec.ofNat 32 r) 96#32 = BitVec.ofBool (decide (r < 96)) := by word_cmp
  have e2 : IntOp.cmpi .eq (BitVec.ofNat 32 a) (BitVec.ofNat 32 b) = BitVec.ofBool (decide (a = b)) := by word_cmp
  rw [e1, e2]
  by_cases h1 : r < 96 <;> by_cases h2 : a = b <;> simp only [h1, h2, true_and, and_true, if_true, if_false, and_self, false_and, and_false, decide_true, decide_false] <;>
    · show (((_ : BitVec 1).toNat : ℝ) : EReal) = _
      simp [IntOp.andi]

theorem mask128_at (r : Fin 128) (l : Fin 4096) :
    (uitofp .bf16 (maskF bcast_S_S128x4096 128#32 (iotaInDim S128x4096 32 0) (iotaInDim S128x4096 32 1)) : FVec Ideal S128x4096 .bf16) (ix2 r l) = if r.val < 96 ∧ r.val % 32 = l.val / 128 then (1 : EReal) else 0 := by
  have := l.isLt
  refine Eq.trans ?_ (bit_eq r.val (r.val % 32) (l.val / 128) r.isLt (by omega) (by omega))
  rw [← remW_eq, ← divW_128]
  rfl

theorem mask64_at (r : Fin 128) (l : Fin 2048) :
    (uitofp .bf16 (maskF bcast_S_S128x2048 64#32 (iotaInDim S128x2048 32 0) (iotaInDim S128x2048 32 1)) : FVec Ideal S128x2048 .bf16) (ix2 r l) = if r.val < 96 ∧ r.val % 32 = l.val / 64 then (1 : EReal) else 0 := by
  have := l.isLt
  refine Eq.trans ?_ (bit_eq r.val (r.val % 32) (l.val / 64) r.isLt (by omega) (by omega))
  rw [← remW_eq, ← divW_64]
  rfl

/-! ## The arrays the host prepares -/

/-- A vector of 32 heads, three times over and padded with zeros. -/
def lanesOf (w : FVec Ideal S32 .f32) : FVec Ideal S1x128 .f32 :=
  shapeCast S1x128 (pad S128 ![0] ![32] ![0] (shapeCast S96 (broadcastInDim S3x32 ![0, 1] bcast_S1x32_S3x32_0_1 (shapeCast S1x32 w shapeCasts_S32_S1x32)) shapeCasts_S3x32_S96) (sitofp .f32 (constantI S_ 32 0#32)) pads_S96_S128_0320 h_S_) shapeCasts_S128_S1x128

theorem lanesOf_at (w : FVec Ideal S32 .f32) (q : Fin 128) : lanesOf w (ix2 0 q) = if q.val < 96 then w (ix1 (⟨q.val % 32, by omega⟩ : Fin 32)) else 0 := by
  pointwise [lanesOf]
  have e : (FloatOps.sitofp .f32 (0#32 : BitVec 32) : Ideal .f32) = 0 := by
    show (((0#32 : BitVec 32).toInt : ℝ) : EReal) = 0
    simp
  rw [e]
  split_ifs <;> rfl

variable (m : (ℓ : Loc nD τ sig) → Buf (Elt Ideal) ℓ)

theorem V_v1 (c : Dev nD) : V m c main_v1 = transpose S24x4x128 [1, 0, 2] (shapeCast S4x24x128 (m ((c : Thread nD τ).loc main_arg2)) shapeCasts_S4x3072_S4x24x128) transposes_S4x24x128_S24x4x128_1_0_2 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  run_tidy
  rfl
theorem V_v4 (c : Dev nD) : V m c main_v4 = transpose S24x1x128 [1, 0, 2] (shapeCast S1x24x128 (shapeCast S1x3072 (m ((c : Thread nD τ).loc main_arg3)) shapeCasts_S3072_S1x3072) shapeCasts_S1x3072_S1x24x128) transposes_S1x24x128_S24x1x128_1_0_2 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  run_tidy
  rfl
theorem V_v9 (c : Dev nD) : V m c main_v9 = lanesOf (m ((c : Thread nD τ).loc main_arg4)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  run_tidy
  rfl
theorem V_v14 (c : Dev nD) : V m c main_v14 = lanesOf (m ((c : Thread nD τ).loc main_arg5)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  run_tidy
  rfl
theorem V_v17 (c : Dev nD) : V m c main_v17 = shapeCast S1x2048 (shapeCast S2048 (broadcastInDim S32x64 ![0] bcast_S32_S32x64_0 (m ((c : Thread nD τ).loc main_arg6))) shapeCasts_S32x64_S2048) shapeCasts_S2048_S1x2048 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  run_tidy
  rfl
theorem V_v18 (c : Dev nD) : V m c main_v18 = shapeCast S1x2048 (m ((c : Thread nD τ).loc main_arg7)) shapeCasts_S2048_S1x2048 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  run_tidy
  rfl
theorem V_v29 (c : Dev nD) : V m c main_v29 = transpose S4x128x1024 [1, 0, 2] (shapeCast S128x4x1024 (uitofp (F := Ideal) .bf16 (maskF bcast_S_S128x4096 128#32 (iotaInDim S128x4096 32 0) (iotaInDim S128x4096 32 1))) shapeCasts_S128x4096_S128x4x1024) transposes_S128x4x1024_S4x128x1024_1_0_2 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  run_tidy
  rfl
theorem V_v40 (c : Dev nD) : V m c main_v40 = transpose S4x128x512 [1, 0, 2] (shapeCast S128x4x512 (uitofp (F := Ideal) .bf16 (maskF bcast_S_S128x2048 64#32 (iotaInDim S128x2048 32 0) (iotaInDim S128x2048 32 1))) shapeCasts_S128x2048_S128x4x512) transposes_S128x4x512_S4x128x512_1_0_2 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  run_tidy
  rfl
theorem V_arg0 (c : Dev nD) : V m c main_arg0 = (m ((c : Thread nD τ).loc main_arg0)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  run_tidy
  try rfl
theorem V_arg1 (c : Dev nD) : V m c main_arg1 = (m ((c : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  run_tidy
  try rfl

/-! ## The blocks -/

/-- Which block every window takes at every point. -/
theorem idx : ∀ t : Fin cfg0.N, win0_0.index t = ![t.val / 32, t.val % 32, 1] ∧ win0_1.index t = ![t.val / 32, t.val % 32, 3] ∧ win0_2.index t = ![t.val / 32, t.val % 32, 0]
    ∧ win0_3.index t = ![0, 0, 0] ∧ win0_4.index t = ![0, 0, 0] ∧ win0_5.index t = ![0, 0] ∧ win0_6.index t = ![0, 0] ∧ win0_7.index t = ![0, 0] ∧ win0_8.index t = ![0, 0]
    ∧ win0_9.index t = ![0, 0, 0] ∧ win0_10.index t = ![0, 0, 0] ∧ win0_11.index t = ![t.val / 32, t.val % 32, 0] :=
  (by decide +kernel : ∀ t : Fin grid0.N, _)

/-- Core `c`'s sequence `b`. -/
def seq (c : Dev nD) (b : ℕ) : Args :=
  seqOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) b

theorem cfgN : cfg0.N = 64 := rfl

theorem blk0 (c : Dev nD) (t : Fin cfg0.N) (r : Fin 256) (k : Fin 3072) :
    (show FVec Ideal S1x256x3072 .bf16 from X0_0 m c t) (ix3 0 r k) = (seq m c (t.val / 32)).P (256 * (t.val % 32) + r.val + 8) k.val := by
  have ht : t.val < 64 := t.isLt
  unfold seq
  rw [seqOf_P, get3_at _ _ _ _ (by omega) (by omega) (by omega)]
  show X0_0 m c t (ix3 0 r k) = _
  unfold X0_0 Pipeline.Window.fill
  rw [dif_pos (moved0_0 t _)]
  unfold iblk
  show V m c main_arg0 (((cfg0.win 0).blk t).view.emb _) = _
  rw [V_arg0]
  refine congrArg (m ((c : Thread nD τ).loc main_arg0)) ?_
  blk_ext [idx t]

theorem blk1 (c : Dev nD) (t : Fin cfg0.N) (r : Fin 256) (k : Fin 2048) :
    (show FVec Ideal S1x256x2048 .bf16 from iblk m c 1 t) (ix3 0 r k) = (seq m c (t.val / 32)).z (256 * (t.val % 32) + r.val) k.val := by
  have ht : t.val < 64 := t.isLt
  show _ = get3 _ (t.val / 32) (256 * (t.val % 32) + r.val) (6144 + k.val)
  rw [get3_at _ _ _ _ (by omega) (by omega) (by omega)]
  unfold iblk
  show V m c main_arg0 (((cfg0.win 1).blk t).view.emb _) = _
  rw [V_arg0]
  refine congrArg (m ((c : Thread nD τ).loc main_arg0)) ?_
  blk_ext [idx t]

theorem blk2 (c : Dev nD) (t : Fin cfg0.N) (r : Fin 256) (k : Fin 128) :
    (show FVec Ideal S1x256x128 .f32 from iblk m c 2 t) (ix3 0 r k) = (seq m c (t.val / 32)).d (256 * (t.val % 32) + r.val) k.val := by
  have ht : t.val < 64 := t.isLt
  show _ = get3 _ (t.val / 32) (256 * (t.val % 32) + r.val) k.val
  rw [get3_at _ _ _ _ (by omega) (by omega) (by omega)]
  unfold iblk
  show V m c main_arg1 (((cfg0.win 2).blk t).view.emb _) = _
  rw [V_arg1]
  refine congrArg (m ((c : Thread nD τ).loc main_arg1)) ?_
  blk_ext [idx t]

theorem blk3 (c : Dev nD) (t : Fin cfg0.N) (b : Fin 24) (k : Fin 4) (q : Fin 128) :
    (show FVec Ideal S24x4x128 .f32 from iblk m c 3 t) (ix3 b k q) = get2 (a := 4) (b := 3072) (m ((c : Thread nD τ).loc main_arg2)) k.val (128 * b.val + q.val) := by
  rw [get2_at _ _ _ k.isLt (by omega)]
  unfold iblk
  show V m c main_v1 (((cfg0.win 3).blk t).view.emb (ix3 b k q)) = _
  rw [V_v1, show ((cfg0.win 3).blk t).view.emb (ix3 b k q) = ix3 b k q from by blk_ext [idx t]]
  pointwise
  refine congrArg (m ((c : Thread nD τ).loc main_arg2)) ?_
  blk_ext [idx t]

theorem blk4 (c : Dev nD) (t : Fin cfg0.N) (b : Fin 24) (q : Fin 128) :
    (show FVec Ideal S24x1x128 .f32 from iblk m c 4 t) (ix3 b 0 q) = get1 (a := 3072) (m ((c : Thread nD τ).loc main_arg3)) (128 * b.val + q.val) := by
  rw [get1_at _ _ (by omega)]
  unfold iblk
  show V m c main_v4 (((cfg0.win 4).blk t).view.emb (ix3 b 0 q)) = _
  rw [V_v4, show ((cfg0.win 4).blk t).view.emb (ix3 b 0 q) = ix3 b 0 q from by blk_ext [idx t]]
  pointwise
  refine congrArg (m ((c : Thread nD τ).loc main_arg3)) ?_
  blk_ext [idx t]

theorem blk5 (c : Dev nD) (t : Fin cfg0.N) (q : Fin 128) :
    (show FVec Ideal S1x128 .f32 from iblk m c 5 t) (ix2 0 q) = if q.val < 96 then get1 (a := 32) (m ((c : Thread nD τ).loc main_arg4)) (q.val % 32) else 0 := by
  rw [get1_at _ _ (by omega)]
  refine Eq.trans ?_ (lanesOf_at (m ((c : Thread nD τ).loc main_arg4)) q)
  unfold iblk
  show V m c main_v9 (((cfg0.win 5).blk t).view.emb (ix2 0 q)) = _
  rw [V_v9]
  refine congrArg (lanesOf (m ((c : Thread nD τ).loc main_arg4))) ?_
  blk_ext [idx t]

theorem blk6 (c : Dev nD) (t : Fin cfg0.N) (q : Fin 128) :
    (show FVec Ideal S1x128 .f32 from iblk m c 6 t) (ix2 0 q) = if q.val < 96 then get1 (a := 32) (m ((c : Thread nD τ).loc main_arg5)) (q.val % 32) else 0 := by
  rw [get1_at _ _ (by omega)]
  refine Eq.trans ?_ (lanesOf_at (m ((c : Thread nD τ).loc main_arg5)) q)
  unfold iblk
  show V m c main_v14 (((cfg0.win 6).blk t).view.emb (ix2 0 q)) = _
  rw [V_v14]
  refine congrArg (lanesOf (m ((c : Thread nD τ).loc main_arg5))) ?_
  blk_ext [idx t]

theorem blk7 (c : Dev nD) (t : Fin cfg0.N) (k : Fin 2048) :
    (show FVec Ideal S1x2048 .f32 from iblk m c 7 t) (ix2 0 k) = get1 (a := 32) (m ((c : Thread nD τ).loc main_arg6)) (k.val / 64) := by
  rw [get1_at _ _ (by omega)]
  unfold iblk
  show V m c main_v17 (((cfg0.win 7).blk t).view.emb (ix2 0 k)) = _
  rw [V_v17, show ((cfg0.win 7).blk t).view.emb (ix2 0 k) = ix2 0 k from by blk_ext [idx t]]
  pointwise

theorem blk8 (c : Dev nD) (t : Fin cfg0.N) (k : Fin 2048) :
    (show FVec Ideal S1x2048 .f32 from iblk m c 8 t) (ix2 0 k) = get1 (a := 2048) (m ((c : Thread nD τ).loc main_arg7)) (k.val) := by
  rw [get1_at _ _ (by omega)]
  unfold iblk
  show V m c main_v18 (((cfg0.win 8).blk t).view.emb (ix2 0 k)) = _
  rw [V_v18, show ((cfg0.win 8).blk t).view.emb (ix2 0 k) = ix2 0 k from by blk_ext [idx t]]
  pointwise

theorem blk9 (c : Dev nD) (t : Fin cfg0.N) (g : Fin 4) (r : Fin 128) (i : Fin 1024) :
    (show FVec Ideal S4x128x1024 .bf16 from iblk m c 9 t) (ix3 g r i) = if r.val < 96 ∧ r.val % 32 = (1024 * g.val + i.val) / 128 then (1 : EReal) else 0 := by
  refine Eq.trans ?_ (mask128_at r (⟨1024 * g.val + i.val, by omega⟩ : Fin 4096))
  unfold iblk
  show V m c main_v29 (((cfg0.win 9).blk t).view.emb (ix3 g r i)) = _
  rw [V_v29, show ((cfg0.win 9).blk t).view.emb (ix3 g r i) = ix3 g r i from by blk_ext [idx t]]
  generalize (uitofp .bf16 (maskF bcast_S_S128x4096 128#32 (iotaInDim S128x4096 32 0) (iotaInDim S128x4096 32 1)) : FVec Ideal S128x4096 .bf16) = M
  pointwise
  refine congrArg M ?_
  blk_ext [idx t]

theorem blk10 (c : Dev nD) (t : Fin cfg0.N) (g : Fin 4) (r : Fin 128) (i : Fin 512) :
    (show FVec Ideal S4x128x512 .bf16 from iblk m c 10 t) (ix3 g r i) = if r.val < 96 ∧ r.val % 32 = (512 * g.val + i.val) / 64 then (1 : EReal) else 0 := by
  refine Eq.trans ?_ (mask64_at r (⟨512 * g.val + i.val, by omega⟩ : Fin 2048))
  unfold iblk
  show V m c main_v40 (((cfg0.win 10).blk t).view.emb (ix3 g r i)) = _
  rw [V_v40, show ((cfg0.win 10).blk t).view.emb (ix3 g r i) = ix3 g r i from by blk_ext [idx t]]
  generalize (uitofp .bf16 (maskF bcast_S_S128x2048 64#32 (iotaInDim S128x2048 32 0) (iotaInDim S128x2048 32 1)) : FVec Ideal S128x2048 .bf16) = M
  pointwise
  refine congrArg M ?_
  blk_ext [idx t]

/-- The windows hold the sequences' points. -/
theorem fits : Fits m (seq m) := fun c t S h =>
  { x := fun r k => (congrFun h.x _).trans (blk0 m c t r k)
    z := fun r k => (congrFun h.z _).trans (blk1 m c t r k)
    d := fun r k => (congrFun h.d _).trans (blk2 m c t r k)
    w := fun b k q => (congrFun h.w _).trans (blk3 m c t b k q)
    b := fun b q => (congrFun h.b _).trans (blk4 m c t b q)
    t := fun q => (congrFun h.t _).trans (blk5 m c t q)
    a := fun q => (congrFun h.a _).trans (blk6 m c t q)
    k := fun k => (congrFun h.k _).trans (blk7 m c t k)
    n := fun k => (congrFun h.n _).trans (blk8 m c t k)
    c := fun g r i => (congrFun h.c _).trans (blk9 m c t g r i)
    u := fun g r i => (congrFun h.u _).trans (blk10 m c t g r i) }

/-- The result of the whole call. -/
def whole (c : Dev nD) : FVec Ideal S2x8192x2048 .bf16 := fun i => (seq m c (i 0).val).out (i 1).val (i 2).val

/-- The result array after the run. -/
theorem final (c : Dev nD) : (dats m (seq m) 0 c).arrAt 11 (cfgs 0).N = whole m c := by
  refine (dats m (seq m) 0 c).arrAt_eq_of_covers 11 _ (by decide +kernel) fun t hf y => ?_
  blk_simp; rw [after_11]
  have ht : t.val < 64 := t.isLt
  have e := (idx t).2.2.2.2.2.2.2.2.2.2.2
  have h0 : (y 0).val < 1 := (y 0).isLt
  have hv : ∀ a, ((((cfg0.win 11).blk t).view.emb y) a).val = win0_11.index t a * win0_11.size a + (y a).val := fun a => Pipeline.Window.rect_emb_val_off win0_11 t y a
  unfold whole
  have v0 : ((((cfg0.win 11).blk t).view.emb y) 0).val = t.val / 32 := by rw [hv 0, e]; show t.val / 32 * 1 + (y 0).val = _; omega
  have v1 : ((((cfg0.win 11).blk t).view.emb y) 1).val = 256 * (t.val % 32) + (y 1).val := by rw [hv 1, e]; show t.val % 32 * 256 + (y 1).val = _; omega
  have v2 : ((((cfg0.win 11).blk t).view.emb y) 2).val = (y 2).val := by rw [hv 2, e]; show 0 * 2048 + (y 2).val = _; omega
  show (seq m c (t.val / 32)).out (256 * (t.val % 32) + (y 1).val) (y 2).val = (seq m c ((((cfg0.win 11).blk t).view.emb y) 0).val).out ((((cfg0.win 11).blk t).view.emb y) 1).val ((((cfg0.win 11).blk t).view.emb y) 2).val
  rw [v0, v1, v2]

end Cert.SsdIdeal.Scanned

end
-- ==== Proof.SsdRef.lean ====
/- What the scan's reference computes, stage by stage, in terms of the sequences. -/
module

public import proofs.«01_k».proof.Proof.SsdSeq
public import proofs.«01_k».proof.Proof.Gen.SsdRefIdeal.Run
public import Idealize.ShloMosaic.Lib.Pointwise
public import Idealize.ShloMosaic.Lib.WordCmp

@[expose] public section

set_option maxRecDepth 16384

noncomputable section

namespace Cert.SsdRefIdeal.Stages

open Idealize.ShloMosaic Idealize.ShloMosaic.TcCoe Idealize.SL.Sem Cert.SsdRefIdeal Cert.SsdRefIdeal.Gen Cert.Scan
open Cert.SsdIdeal.Chunk (Args seqOf get1 get2 get3 get1_at get2_at get3_at fin_add fin_mul siluE siluE_fin softE_coe)

/-! ## The stages as functions of the arrays -/

def zV (x0 : FVec Ideal S2x8192x10240 .bf16) : FVec Ideal S2x8192x2048 .f32 :=
  extf .f32 (extractStridedSlice S2x8192x2048 ![0, 0, 6144] x0 slices_S2x8192x10240_S2x8192x2048_0_0_6144) bitsLt_bf16_f32

def padV (x0 : FVec Ideal S2x8192x10240 .bf16) : FVec Ideal S2x8195x3072 .f32 :=
  pad S2x8195x3072 ![0, 3, 0] ![0, 0, 0] ![0, 0, 0] (extf .f32 (extractStridedSlice S2x8192x3072 ![0, 0, 3072] x0 slices_S2x8192x10240_S2x8192x3072_0_0_3072) bitsLt_bf16_f32) (sitofp .f32 (constantI S_ 32 0#32)) pads_S2x8192x3072_S2x8195x3072_000_300_000 h_S_

def convV (p : FVec Ideal S2x8195x3072 .f32) (x2 : FVec Ideal S4x3072 .f32) (x3 : FVec Ideal S3072 .f32) : FVec Ideal S2x8192x3072 .f32 :=
  addf (addf (addf (addf (mulf (extractStridedSlice S2x8192x3072 ![0, 0, 0] p slices_S2x8195x3072_S2x8192x3072_0_0_0) (broadcastInDim S2x8192x3072 ![0, 1, 2] bcast_S1x1x3072_S2x8192x3072_0_1_2 (broadcastInDim S1x1x3072 ![2] bcast_S3072_S1x1x3072_2 (shapeCast _ (extractStridedSlice S1x3072 ![0, 0] x2 slices_S4x3072_S1x3072_0_0) shapeCasts_S1x3072_S3072)))) (mulf (extractStridedSlice S2x8192x3072 ![0, 1, 0] p slices_S2x8195x3072_S2x8192x3072_0_1_0) (broadcastInDim S2x8192x3072 ![0, 1, 2] bcast_S1x1x3072_S2x8192x3072_0_1_2 (broadcastInDim S1x1x3072 ![2] bcast_S3072_S1x1x3072_2 (shapeCast _ (extractStridedSlice S1x3072 ![1, 0] x2 slices_S4x3072_S1x3072_1_0) shapeCasts_S1x3072_S3072))))) (mulf (extractStridedSlice S2x8192x3072 ![0, 2, 0] p slices_S2x8195x3072_S2x8192x3072_0_2_0) (broadcastInDim S2x8192x3072 ![0, 1, 2] bcast_S1x1x3072_S2x8192x3072_0_1_2 (broadcastInDim S1x1x3072 ![2] bcast_S3072_S1x1x3072_2 (shapeCast _ (extractStridedSlice S1x3072 ![2, 0] x2 slices_S4x3072_S1x3072_2_0) shapeCasts_S1x3072_S3072))))) (mulf (extractStridedSlice S2x8192x3072 ![0, 3, 0] p slices_S2x8195x3072_S2x8192x3072_0_3_0) (broadcastInDim S2x8192x3072 ![0, 1, 2] bcast_S1x1x3072_S2x8192x3072_0_1_2 (broadcastInDim S1x1x3072 ![2] bcast_S3072_S1x1x3072_2 (shapeCast _ (extractStridedSlice S1x3072 ![3, 0] x2 slices_S4x3072_S1x3072_3_0) shapeCasts_S1x3072_S3072))))) (broadcastInDim S2x8192x3072 ![0, 1, 2] bcast_S1x1x3072_S2x8192x3072_0_1_2 (broadcastInDim S1x1x3072 ![2] bcast_S3072_S1x1x3072_2 x3))

def actV (v : FVec Ideal S2x8192x3072 .f32) : FVec Ideal S2x8192x3072 .f32 :=
  mulf v (Host.divf (broadcastInDim S2x8192x3072 ![] bcast_S_S2x8192x3072 (constant S_ .f32 0x3F800000#32)) (addf (broadcastInDim S2x8192x3072 ![] bcast_S_S2x8192x3072 (constant S_ .f32 0x3F800000#32)) (Host.exp (Host.negf v))))

def headsV (v : FVec Ideal S2x8192x3072 .f32) : FVec Ideal S2x8192x4x8x64 .f32 :=
  shapeCast _ (extractStridedSlice S2x8192x2048 ![0, 0, 0] v slices_S2x8192x3072_S2x8192x2048_0_0_0) shapeCasts_S2x8192x2048_S2x8192x4x8x64

def rawV (x1 : FVec Ideal S2x8192x128 .f32) (x4 : FVec Ideal S32 .f32) : FVec Ideal S2x8192x32 .f32 :=
  addf (extractStridedSlice S2x8192x32 ![0, 0, 0] x1 slices_S2x8192x128_S2x8192x32_0_0_0) (broadcastInDim S2x8192x32 ![0, 1, 2] bcast_S1x1x32_S2x8192x32_0_1_2 (broadcastInDim S1x1x32 ![2] bcast_S32_S1x1x32_2 x4))

def stepV (v : FVec Ideal S2x8192x32 .f32) : FVec Ideal S2x8192x32 .f32 :=
  let s : FVec Ideal S2x8192x32 .f32 := subf v (broadcastInDim S2x8192x32 ![] bcast_S_S2x8192x32 (constant S_ .f32 0x00000000#32))
  select (cmpf .une s s) (addf v (broadcastInDim S2x8192x32 ![] bcast_S_S2x8192x32 (constant S_ .f32 0x00000000#32))) (addf (maximumf v (broadcastInDim S2x8192x32 ![] bcast_S_S2x8192x32 (constant S_ .f32 0x00000000#32))) (Host.log1p (Host.exp (Host.negf (Host.absf s)))))

def logV (v : FVec Ideal S2x8192x32 .f32) (x5 : FVec Ideal S32 .f32) : FVec Ideal S2x8192x32 .f32 :=
  mulf v (broadcastInDim S2x8192x32 ![0, 1, 2] bcast_S1x1x32_S2x8192x32_0_1_2 (broadcastInDim S1x1x32 ![2] bcast_S32_S1x1x32_2 (Host.negf (Host.exp x5))))

def cumV (v : FVec Ideal S2x8192x32 .f32) : FVec Ideal S2x8192x32 .f32 :=
  Host.reduceWindowAdd ![1, 8192, 1] ![1, 1, 1] ![0, 8191, 0] ![0, 0, 0] v (broadcastInDim S_ ![] bcast_S_S_ (constant S_ .f32 0x00000000#32)) reduceWindows_S2x8192x32_S2x8192x32_w1s1p0_0_w8192s1p8191_0_w1s1p0_0 h_S_

def csV (v : FVec Ideal S2x8192x32 .f32) : FVec Ideal S2x32x8192 .f32 :=
  transpose S2x32x8192 [0, 2, 1] (cumV v) transposes_S2x8192x32_S2x32x8192_0_2_1

def cbV (v : FVec Ideal S2x8192x3072 .f32) : FVec Ideal S2x4x8192x8192 .f32 :=
  Host.dotGeneral dot_S2x8192x4x128_S2x8192x4x128_S2x4x8192x8192_3_3_1_1_02_02 none (shapeCast _ (extractStridedSlice S2x8192x512 ![0, 0, 2560] v slices_S2x8192x3072_S2x8192x512_0_0_2560) shapeCasts_S2x8192x512_S2x8192x4x128) (shapeCast _ (extractStridedSlice S2x8192x512 ![0, 0, 2048] v slices_S2x8192x3072_S2x8192x512_0_0_2048) shapeCasts_S2x8192x512_S2x8192x4x128)

def decV (cs : FVec Ideal S2x32x8192 .f32) : FVec Ideal S2x32x8192x8192 .f32 :=
  Host.exp (select (broadcastInDim S2x32x8192x8192 ![2, 3] bcast_S8192x8192_S2x32x8192x8192_2_3 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (subf (broadcastInDim S2x32x8192x8192 ![0, 1, 2, 3] bcast_S2x32x8192x1_S2x32x8192x8192_0_1_2_3 (broadcastInDim S2x32x8192x1 ![0, 1, 2] bcast_S2x32x8192_S2x32x8192x1_0_1_2 cs)) (broadcastInDim S2x32x8192x8192 ![0, 1, 2, 3] bcast_S2x32x1x8192_S2x32x8192x8192_0_1_2_3 (broadcastInDim S2x32x1x8192 ![0, 1, 3] bcast_S2x32x8192_S2x32x1x8192_0_1_3 cs))) (broadcastInDim S2x32x8192x8192 ![] bcast_S_S2x32x8192x8192 (id (constant S_ .f32 0xFF800000#32))))

def scanV (xh : FVec Ideal S2x8192x4x8x64 .f32) (dt : FVec Ideal S2x8192x32 .f32) (cb : FVec Ideal S2x4x8192x8192 .f32) (dec : FVec Ideal S2x32x8192x8192 .f32) : FVec Ideal S2x8192x4x8x64 .f32 :=
  transpose S2x8192x4x8x64 [0, 4, 1, 2, 3] (Host.dotGeneral dot_S2x8192x4x8x64_S2x4x8x8192x8192_S2x4x8x64x8192_1_4_4_3_023_012 none (mulf xh (broadcastInDim S2x8192x4x8x64 ![0, 1, 2, 3, 4] bcast_S2x8192x4x8x1_S2x8192x4x8x64_0_1_2_3_4 (broadcastInDim S2x8192x4x8x1 ![0, 1, 2, 3] bcast_S2x8192x4x8_S2x8192x4x8x1_0_1_2_3 (shapeCast _ dt shapeCasts_S2x8192x32_S2x8192x4x8)))) (mulf (broadcastInDim S2x4x8x8192x8192 ![0, 1, 2, 3, 4] bcast_S2x4x1x8192x8192_S2x4x8x8192x8192_0_1_2_3_4 (broadcastInDim S2x4x1x8192x8192 ![0, 1, 3, 4] bcast_S2x4x8192x8192_S2x4x1x8192x8192_0_1_3_4 cb)) (shapeCast _ dec shapeCasts_S2x32x8192x8192_S2x4x8x8192x8192))) transposes_S2x4x8x64x8192_S2x8192x4x8x64_0_4_1_2_3

def gateV (z : FVec Ideal S2x8192x2048 .f32) (y xh : FVec Ideal S2x8192x4x8x64 .f32) (x6 : FVec Ideal S32 .f32) : FVec Ideal S2x8192x2048 .f32 :=
  mulf (shapeCast _ (addf y (mulf (broadcastInDim S2x8192x4x8x64 ![0, 1, 2, 3, 4] bcast_S1x1x4x8x1_S2x8192x4x8x64_0_1_2_3_4 (broadcastInDim S1x1x4x8x1 ![2, 3, 4] bcast_S4x8x1_S1x1x4x8x1_2_3_4 (broadcastInDim S4x8x1 ![0, 1] bcast_S4x8_S4x8x1_0_1 (shapeCast _ x6 shapeCasts_S32_S4x8)))) xh)) shapeCasts_S2x8192x4x8x64_S2x8192x2048) (mulf z (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf z)))))

def normV (u : FVec Ideal S2x8192x2048 .f32) (x7 : FVec Ideal S2048 .f32) : FVec Ideal S2x8192x2048 .bf16 :=
  let v : FVec Ideal S2x8192x4x512 .f32 := shapeCast _ u shapeCasts_S2x8192x2048_S2x8192x4x512
  truncf .bf16 (mulf (shapeCast _ (mulf v (broadcastInDim S2x8192x4x512 ![0, 1, 2, 3] bcast_S2x8192x4x1_S2x8192x4x512_0_1_2_3 (Host.rsqrt (addf (Host.divf (broadcastInDim S2x8192x4x1 ![0, 1, 2] bcast_S2x8192x4_S2x8192x4x1_0_1_2 (Host.reduceAdd (mulf v v) (constant S_ .f32 0x00000000#32) reducesTo_S2x8192x4x512_S2x8192x4_d3 h_S_)) (broadcastInDim S2x8192x4x1 ![] bcast_S_S2x8192x4x1 (constant S_ .f32 0x44000000#32))) (broadcastInDim S2x8192x4x1 ![] bcast_S_S2x8192x4x1 (constant S_ .f32 0x358637BD#32)))))) shapeCasts_S2x8192x4x512_S2x8192x2048) (broadcastInDim S2x8192x2048 ![0, 1, 2] bcast_S1x1x2048_S2x8192x2048_0_1_2 (broadcastInDim S1x1x2048 ![2] bcast_S2048_S1x1x2048_2 x7))) bitsLt_bf16_f32

/-- The reference as a function of the arrays. -/
def refV (x0 : FVec Ideal S2x8192x10240 .bf16) (x1 : FVec Ideal S2x8192x128 .f32) (x2 : FVec Ideal S4x3072 .f32) (x3 : FVec Ideal S3072 .f32) (x4 x5 x6 : FVec Ideal S32 .f32)
    (x7 : FVec Ideal S2048 .f32) : FVec Ideal S2x8192x2048 .bf16 :=
  let act := actV (convV (padV x0) x2 x3)
  let dt := stepV (rawV x1 x4)
  normV (gateV (zV x0) (scanV (headsV act) dt (cbV act) (decV (csV (logV dt x5)))) (headsV act) x6) x7

/-- The reference's result, as its run states it, is that function of its arguments. -/
theorem res_eq (V0 : Valuation τ sig (Elt Ideal)) :
    truncf .bf16 (mulf (shapeCast _ (mulf (Value.res_main_v100 V0) (broadcastInDim S2x8192x4x512 ![0, 1, 2, 3] bcast_S2x8192x4x1_S2x8192x4x512_0_1_2_3 (Host.rsqrt (addf (Host.divf (broadcastInDim S2x8192x4x1 ![0, 1, 2] bcast_S2x8192x4_S2x8192x4x1_0_1_2 (Host.reduceAdd (mulf (Value.res_main_v100 V0) (Value.res_main_v100 V0)) (constant S_ .f32 0x00000000#32) reducesTo_S2x8192x4x512_S2x8192x4_d3 h_S_)) (broadcastInDim S2x8192x4x1 ![] bcast_S_S2x8192x4x1 (constant S_ .f32 0x44000000#32))) (broadcastInDim S2x8192x4x1 ![] bcast_S_S2x8192x4x1 (constant S_ .f32 0x358637BD#32)))))) shapeCasts_S2x8192x4x512_S2x8192x2048) (broadcastInDim S2x8192x2048 ![0, 1, 2] bcast_S1x1x2048_S2x8192x2048_0_1_2 (broadcastInDim S1x1x2048 ![2] bcast_S2048_S1x1x2048_2 (V0 (Proc.devRef .tc main_arg7))))) bitsLt_bf16_f32
      = refV (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  simp only [refV, normV, gateV, zV, scanV, headsV, actV, convV, padV, stepV, rawV, cbV, decV, csV, cumV, logV]
  simp only [Value.res_main_v100, Value.res_main_v59, Value.res_main_v52, Value.res_main_call1_v3, Value.res_main_call1_cst, Value.res_main_v51, Value.res_main_v44, Value.res_main_v42, Value.res_main_v35, Value.res_main_v5, Value.res_main_v3]
  rfl

/-! ## The stages read at an index -/

theorem zV_at (x0 : FVec Ideal S2x8192x10240 .bf16) (b : Fin 2) (t : Fin 8192) (c : Fin 2048) : zV x0 (ix3 b t c) = get3 (a := 2) (b := 8192) (c := 10240) x0 b t (6144 + c) := by
  rw [get3_at _ _ _ _ b.isLt t.isLt (by omega)]
  pointwise [zV]

theorem padV_at (x0 : FVec Ideal S2x8192x10240 .bf16) (b : Fin 2) (t : Fin 8195) (c : Fin 3072) :
    padV x0 (ix3 b t c) = if t.val < 3 then 0 else get3 (a := 2) (b := 8192) (c := 10240) x0 b (t - 3) (3072 + c) := by
  pointwise [padV]
  by_cases h : t.val < 3
  · rw [if_pos h, dif_neg (by omega)]
    exact (by simp : (((0#32 : BitVec 32).toInt : ℝ) : EReal) = 0)
  · rw [if_neg h, dif_pos ⟨by omega, by omega⟩, get3_at _ _ _ _ b.isLt (by omega) (by omega)]

theorem convV_at (p : FVec Ideal S2x8195x3072 .f32) (x2 : FVec Ideal S4x3072 .f32) (x3 : FVec Ideal S3072 .f32) (b : Fin 2) (t : Fin 8192) (c : Fin 3072) :
    convV p x2 x3 (ix3 b t c) = x3 (ix1 c) + x2 (ix2 0 c) * p (ix3 b ⟨t.val, by omega⟩ c) + x2 (ix2 1 c) * p (ix3 b ⟨1 + t.val, by omega⟩ c)
      + x2 (ix2 2 c) * p (ix3 b ⟨2 + t.val, by omega⟩ c) + x2 (ix2 3 c) * p (ix3 b ⟨3 + t.val, by omega⟩ c) := by
  pointwise [convV]
  ac_nf

theorem actV_at (v : FVec Ideal S2x8192x3072 .f32) (i : S2x8192x3072.Idx) : actV v i = siluE (v i) := by
  pointwise [actV]
  unfold siluE
  rw [zero_sub]

theorem headsV_at (v : FVec Ideal S2x8192x3072 .f32) (b : Fin 2) (t : Fin 8192) (g : Fin 4) (h : Fin 8) (p : Fin 64) :
    headsV v (ix5 b t g h p) = v (ix3 b t ⟨g.val * 512 + h.val * 64 + p.val, by omega⟩) := by
  pointwise [headsV]

theorem rawV_at (x1 : FVec Ideal S2x8192x128 .f32) (x4 : FVec Ideal S32 .f32) (b : Fin 2) (t : Fin 8192) (q : Fin 32) :
    rawV x1 x4 (ix3 b t q) = x1 (ix3 b t ⟨q.val, by omega⟩) + x4 (ix1 q) := by
  pointwise [rawV]

theorem stepV_at (v : FVec Ideal S2x8192x32 .f32) (i : S2x8192x32.Idx) (r : ℝ) (h : v i = (r : EReal)) : stepV v i = ((soft r : ℝ) : EReal) := by
  pointwise [stepV]
  rw [if_neg (fun h => h rfl), h]
  have e : max (r : EReal) (-(r : EReal)) = ((|r| : ℝ) : EReal) := by
    rw [← EReal.coe_neg, abs_eq_max_neg]; exact (EReal.coe_strictMono.monotone.map_max).symm
  rw [← softE_coe]
  show max (r : EReal) 0 + Ideal.log (1 + Ideal.exp (-max (r : EReal) (-(r : EReal)))) = max (r : EReal) 0 + Ideal.log (1 + Ideal.exp (0 - max (r : EReal) (-(r : EReal))))
  rw [zero_sub]

theorem logV_at (v : FVec Ideal S2x8192x32 .f32) (x5 : FVec Ideal S32 .f32) (b : Fin 2) (t : Fin 8192) (q : Fin 32) :
    logV v x5 (ix3 b t q) = v (ix3 b t q) * -Ideal.exp (x5 (ix1 q)) := by
  pointwise [logV]

theorem csV_at (v : FVec Ideal S2x8192x32 .f32) (b : Fin 2) (q : Fin 32) (t : Fin 8192) : csV v (ix3 b q t) = cumV v (ix3 b t q) := by
  pointwise [csV]

theorem cbV_at (v : FVec Ideal S2x8192x3072 .f32) (b : Fin 2) (g : Fin 4) (t s : Fin 8192) :
    cbV v (ix4 b g t s) = ∑ n : Fin 128, v (ix3 b t ⟨2560 + (g.val * 128 + n.val), by omega⟩) * v (ix3 b s ⟨2048 + (g.val * 128 + n.val), by omega⟩) := by
  pointwise [cbV]

theorem decV_at (cs : FVec Ideal S2x32x8192 .f32) (b : Fin 2) (q : Fin 32) (t s : Fin 8192) :
    decV cs (ix4 b q t s) = if s.val ≤ t.val then Ideal.exp (cs (ix3 b q t) - cs (ix3 b q s)) else 0 := by
  pointwise [decV]
  have e : id (constant S_ FTy.f32 0xFF800000#32 : FVec Ideal S_ .f32) ix0 = (⊥ : EReal) := by
    show Ideal.ofBits .f32 0xFF800000#32 = ⊥
    simp [Ideal.ofBits, Ideal.ieee]
  rw [e, WordCmp.cmpi_sge_eq, WordCmp.toInt_ofNat_of_lt (by omega), WordCmp.toInt_ofNat_of_lt (by omega)]
  by_cases h : s.val ≤ t.val
  · rw [if_pos h, decide_eq_true (by omega)]; rfl
  · rw [if_neg h, decide_eq_false (by omega)]; rfl

theorem scanV_at (xh : FVec Ideal S2x8192x4x8x64 .f32) (dt : FVec Ideal S2x8192x32 .f32) (cb : FVec Ideal S2x4x8192x8192 .f32) (dec : FVec Ideal S2x32x8192x8192 .f32)
    (b : Fin 2) (t : Fin 8192) (g : Fin 4) (h : Fin 8) (p : Fin 64) :
    scanV xh dt cb dec (ix5 b t g h p) = ∑ s : Fin 8192, (xh (ix5 b s g h p) * dt (ix3 b s ⟨g.val * 8 + h.val, by omega⟩)) * (cb (ix4 b g t s) * dec (ix4 b ⟨g.val * 8 + h.val, by omega⟩ t s)) := by
  pointwise [scanV]

theorem gateV_at (z : FVec Ideal S2x8192x2048 .f32) (y xh : FVec Ideal S2x8192x4x8x64 .f32) (x6 : FVec Ideal S32 .f32) (b : Fin 2) (t : Fin 8192) (c : Fin 2048) :
    gateV z y xh x6 (ix3 b t c) = (y (ix5 b t ⟨c.val / 512, by omega⟩ ⟨c.val / 64 % 8, by omega⟩ ⟨c.val % 64, by omega⟩)
      + x6 (ix1 ⟨c.val / 512 * 8 + c.val / 64 % 8, by omega⟩) * xh (ix5 b t ⟨c.val / 512, by omega⟩ ⟨c.val / 64 % 8, by omega⟩ ⟨c.val % 64, by omega⟩)) * siluE (z (ix3 b t c)) := by
  pointwise [gateV]
  unfold siluE
  rw [zero_sub]

theorem normV_at (u : FVec Ideal S2x8192x2048 .f32) (x7 : FVec Ideal S2048 .f32) (b : Fin 2) (t : Fin 8192) (c : Fin 2048) :
    normV u x7 (ix3 b t c) = u (ix3 b t c) * Ideal.rsqrt ((∑ k : Fin 512, u (ix3 b t ⟨c.val / 512 * 512 + k.val, by omega⟩) * u (ix3 b t ⟨c.val / 512 * 512 + k.val, by omega⟩)) * Ideal.ofBits .f32 0x3B000000#32
      + Ideal.ofBits .f32 0x358637BD#32) * x7 (ix1 c) := by
  pointwise [normV]
  rw [show Ideal.ofBits .f32 0x44000000#32 = ((512 : ℝ) : EReal) from by
    simp [Ideal.ofBits, Ideal.ieee, -EReal.coe_mul]; norm_num, Ideal.div_coe (by norm_num), show Ideal.ofBits .f32 0x3B000000#32 = ((1 / 512 : ℝ) : EReal) from by
    simp [Ideal.ofBits, Ideal.ieee, -EReal.coe_mul]; norm_num]

/-! ## The running sum -/

theorem foldl_plus {ι : Type} (g : ι → EReal) (l : List ι) (a : EReal) : l.foldl (fun r n => r + g n) a = a + (l.map g).sum := by
  induction l generalizing a with
  | nil => simp
  | cons x l ih => rw [List.foldl_cons, ih, List.map_cons, List.sum_cons, add_assoc]

/-- A window's sum, over the places of the window. -/
theorem window_sum (W : Shape) (g : Fin W.numel → EReal) :
    (List.finRange W.numel).foldl (fun r n => r + g n) 0 = ∑ w : W.Idx, g (W.rowMajor w) := by
  rw [foldl_plus, zero_add, ← List.ofFn_eq_map, List.sum_ofFn]
  exact (Equiv.sum_comp W.rowMajor g).symm

/-- A running sum over real values: the places of the window before the first row count nothing. -/
theorem sum_shift (n t : ℕ) (ht : t ≤ n) (f : ℕ → ℝ) :
    ∑ u : Fin (n + 1), (if n ≤ t + u.val then ((f (t + u.val - n) : ℝ) : EReal) else 0) = ((∑ s ∈ Finset.range (t + 1), f s : ℝ) : EReal) := by
  rw [coe_sum, Fin.sum_univ_eq_sum_range (fun u => if n ≤ t + u then ((f (t + u - n) : ℝ) : EReal) else 0) (n + 1),
    show n + 1 = (n - t) + (t + 1) by omega, Finset.sum_range_add]
  rw [Finset.sum_eq_zero (fun u hu => if_neg (by have := Finset.mem_range.1 hu; omega)), zero_add]
  refine Finset.sum_congr rfl fun u hu => ?_
  rw [if_pos (by omega), show t + (n - t + u) - n = u by omega]

/-- A running sum down the second axis, read at a place. -/
theorem cum_at {B K C n : ℕ} (hK : n + 1 = K) (v : FVec Ideal ⟨3, ![B, K, C]⟩ .f32) (init : FVec Ideal ⟨0, ![]⟩ .f32)
    (h : (⟨3, ![B, K, C]⟩ : Shape).ReduceWindows (![1, K, 1] : Fin 3 → ℕ) ![1, 1, 1] ![0, n, 0] ![0, 0, 0] ⟨3, ![B, K, C]⟩) (hu : 0 < (⟨0, ![]⟩ : Shape).numel)
    (hz : init (Shape.Idx.first hu) = (0 : EReal)) (b : Fin B) (t : Fin K) (q : Fin C) (f : ℕ → ℝ) (hv : ∀ s : Fin K, v (ix3 b s q) = ((f s : ℝ) : EReal)) :
    Host.reduceWindowAdd (F := Ideal) ![1, K, 1] ![1, 1, 1] ![0, n, 0] ![0, 0, 0] v init h hu (ix3 b t q) = ((∑ s ∈ Finset.range (t.val + 1), f s : ℝ) : EReal) := by
  subst hK
  unfold Host.reduceWindowAdd
  rw [hz]
  show Ideal.hostReduceWindowAdd _ _ _ _ _ _ _ _ = _
  unfold Ideal.hostReduceWindowAdd Host.reduceWindow
  refine (window_sum ⟨3, ![1, n + 1, 1]⟩ _).trans ?_
  simp only [Equiv.symm_apply_apply]
  rw [sum_idx3]
  refine Eq.trans ?_ (sum_shift n t.val (by omega) f)
  rw [Fin.sum_univ_one]
  refine Finset.sum_congr rfl fun u _ => ?_
  rw [Fin.sum_univ_one]
  by_cases hn : n ≤ t.val + u.val
  · rw [if_pos hn, ← hv ⟨t.val + u.val - n, by omega⟩, dif_pos (fun a => ?_)]
    · refine congrArg v (funext fun a => Fin.ext ?_)
      match a with
      | ⟨0, _⟩ => show b.val * 1 + 0 - 0 = b.val; omega
      | ⟨1, _⟩ => show t.val * 1 + u.val - n = t.val + u.val - n; omega
      | ⟨2, _⟩ => show q.val * 1 + 0 - 0 = q.val; omega
    · match a with
      | ⟨0, _⟩ => show 0 ≤ b.val * 1 + 0 ∧ b.val * 1 + 0 - 0 < B; omega
      | ⟨1, _⟩ => show n ≤ t.val * 1 + u.val ∧ t.val * 1 + u.val - n < n + 1; omega
      | ⟨2, _⟩ => show 0 ≤ q.val * 1 + 0 ∧ q.val * 1 + 0 - 0 < C; omega
  · rw [if_neg hn, dif_neg]
    intro hin
    have h1 := (hin 1).1
    change n ≤ t.val * 1 + u.val at h1
    omega

theorem cumV_at (v : FVec Ideal S2x8192x32 .f32) (b : Fin 2) (t : Fin 8192) (q : Fin 32) (f : ℕ → ℝ) (h : ∀ s : Fin 8192, v (ix3 b s q) = ((f s : ℝ) : EReal)) :
    cumV v (ix3 b t q) = ((∑ s ∈ Finset.range (t.val + 1), f s : ℝ) : EReal) :=
  cum_at (n := 8191) rfl v _ _ _ Ideal.ofBits_zero_f32 b t q f h

/-! ## The reference in terms of the sequences -/

section
variable (x0 : FVec Ideal S2x8192x10240 .bf16) (x1 : FVec Ideal S2x8192x128 .f32) (x2 : FVec Ideal S4x3072 .f32) (x3 : FVec Ideal S3072 .f32) (x4 x5 x6 : FVec Ideal S32 .f32) (x7 : FVec Ideal S2048 .f32)

/-- The sequences of a batch. -/
abbrev seqs (b : ℕ) : Args := seqOf x0 x1 x2 x3 x4 x5 x6 x7 b

theorem pad_eq (b : Fin 2) (t : Fin 8195) (c : Fin 3072) : padV x0 (ix3 b t c) = (seqs x0 x1 x2 x3 x4 x5 x6 x7 b).P (t + 5) c := by
  rw [padV_at]
  show _ = if t.val + 5 < 8 then (0 : EReal) else get3 (a := 2) (b := 8192) (c := 10240) x0 b (t.val + 5 - 8) (3072 + c)
  by_cases h : t.val < 3
  · rw [if_pos h, if_pos (by omega)]
  · rw [if_neg h, if_neg (by omega), show t.val + 5 - 8 = t.val - 3 by omega]

/-- The activated columns. -/
def acts : FVec Ideal S2x8192x3072 .f32 := actV (convV (padV x0) x2 x3)
/-- The step sizes. -/
def steps : FVec Ideal S2x8192x32 .f32 := stepV (rawV x1 x4)

theorem acts_eq (b : Fin 2) (t : Fin 8192) (c : Fin 3072) : acts x0 x2 x3 (ix3 b t c) = (seqs x0 x1 x2 x3 x4 x5 x6 x7 b).act t c := by
  unfold acts
  rw [actV_at]
  refine congrArg siluE ?_
  rw [convV_at, pad_eq x0 x1 x2 x3 x4 x5 x6 x7, pad_eq x0 x1 x2 x3 x4 x5 x6 x7, pad_eq x0 x1 x2 x3 x4 x5 x6 x7, pad_eq x0 x1 x2 x3 x4 x5 x6 x7]
  show _ = get1 (a := 3072) x3 c + get2 (a := 4) (b := 3072) x2 0 c * (seqs x0 x1 x2 x3 x4 x5 x6 x7 b).P (t + 5) c + get2 (a := 4) (b := 3072) x2 1 c * (seqs x0 x1 x2 x3 x4 x5 x6 x7 b).P (t + 6) c
    + get2 (a := 4) (b := 3072) x2 2 c * (seqs x0 x1 x2 x3 x4 x5 x6 x7 b).P (t + 7) c + get2 (a := 4) (b := 3072) x2 3 c * (seqs x0 x1 x2 x3 x4 x5 x6 x7 b).P (t + 8) c
  rw [get1_at _ _ c.isLt, get2_at _ _ _ (by decide : 0 < 4) c.isLt, get2_at _ _ _ (by decide : 1 < 4) c.isLt, get2_at _ _ _ (by decide : 2 < 4) c.isLt, get2_at _ _ _ (by decide : 3 < 4) c.isLt]
  show _ + _ * (seqs x0 x1 x2 x3 x4 x5 x6 x7 b).P (t + 5) c + _ * (seqs x0 x1 x2 x3 x4 x5 x6 x7 b).P (1 + t + 5) c + _ * (seqs x0 x1 x2 x3 x4 x5 x6 x7 b).P (2 + t + 5) c + _ * (seqs x0 x1 x2 x3 x4 x5 x6 x7 b).P (3 + t + 5) c = _
  rw [show 1 + t.val + 5 = t.val + 6 by omega, show 2 + t.val + 5 = t.val + 7 by omega, show 3 + t.val + 5 = t.val + 8 by omega]
  rfl

variable (h0 : ∀ i, Fin' (x0 i)) (h1 : ∀ i, Fin' (x1 i)) (h2 : ∀ i, Fin' (x2 i)) (h3 : ∀ i, Fin' (x3 i)) (h4 : ∀ i, Fin' (x4 i)) (h5 : ∀ i, Fin' (x5 i))
include h0 h1 h2 h3 h4 h5

theorem seqs_real (b : ℕ) : (seqs x0 x1 x2 x3 x4 x5 x6 x7 b).IsReal := Cert.SsdIdeal.Chunk.seqOf_real h0 h1 h2 h3 h4 h5

theorem acts_coe (b : Fin 2) (t : Fin 8192) (c : Fin 3072) : acts x0 x2 x3 (ix3 b t c) = (((seqs x0 x1 x2 x3 x4 x5 x6 x7 b).actR t c : ℝ) : EReal) :=
  (acts_eq x0 x1 x2 x3 x4 x5 x6 x7 b t c).trans (Cert.SsdIdeal.Chunk.act_coe (seqs_real x0 x1 x2 x3 x4 x5 x6 x7 h0 h1 h2 h3 h4 h5 b) t c)

theorem steps_coe (b : Fin 2) (t : Fin 8192) (q : Fin 32) : steps x1 x4 (ix3 b t q) = (((seqs x0 x1 x2 x3 x4 x5 x6 x7 b).D q t : ℝ) : EReal) := by
  refine stepV_at _ _ _ ?_
  have hA := seqs_real x0 x1 x2 x3 x4 x5 x6 x7 h0 h1 h2 h3 h4 h5 b
  rw [coe_toReal (fin_add (hA.d t q) (hA.t q)), rawV_at]
  show _ = get3 (a := 2) (b := 8192) (c := 128) x1 b t q + (if q.val < 96 then get1 (a := 32) x4 (q.val % 32) else 0)
  rw [if_pos (by omega), Nat.mod_eq_of_lt q.isLt, get1_at _ _ q.isLt, get3_at _ _ _ _ b.isLt t.isLt (by omega)]

theorem logs_coe (b : Fin 2) (t : Fin 8192) (q : Fin 32) :
    logV (steps x1 x4) x5 (ix3 b t q) = ((-((seqs x0 x1 x2 x3 x4 x5 x6 x7 b).D q t * (seqs x0 x1 x2 x3 x4 x5 x6 x7 b).rate q) : ℝ) : EReal) := by
  have hA := seqs_real x0 x1 x2 x3 x4 x5 x6 x7 h0 h1 h2 h3 h4 h5 b
  have e : Ideal.exp (x5 (ix1 q)) = (((seqs x0 x1 x2 x3 x4 x5 x6 x7 b).rate q : ℝ) : EReal) := by
    rw [← Cert.SsdIdeal.Chunk.rate_coe hA q]
    refine congrArg Ideal.exp ?_
    show _ = if q.val < 96 then get1 (a := 32) x5 (q.val % 32) else 0
    rw [if_pos (by omega), Nat.mod_eq_of_lt q.isLt, get1_at _ _ q.isLt]
  rw [logV_at, steps_coe x0 x1 x2 x3 x4 x5 x6 x7 h0 h1 h2 h3 h4 h5, e, ← EReal.coe_neg, ← EReal.coe_mul, mul_neg]

theorem sums_coe (b : Fin 2) (q : Fin 32) (t : Fin 8192) :
    csV (logV (steps x1 x4) x5) (ix3 b q t) = ((before ((seqs x0 x1 x2 x3 x4 x5 x6 x7 b).D q) ((seqs x0 x1 x2 x3 x4 x5 x6 x7 b).rate q) (t + 1) : ℝ) : EReal) := by
  rw [csV_at]
  exact cumV_at _ b t q _ fun s => logs_coe x0 x1 x2 x3 x4 x5 x6 x7 h0 h1 h2 h3 h4 h5 b s q

theorem scans_coe (b : Fin 2) (t : Fin 8192) (g : Fin 4) (h : Fin 8) (p : Fin 64) :
    scanV (headsV (acts x0 x2 x3)) (steps x1 x4) (cbV (acts x0 x2 x3)) (decV (csV (logV (steps x1 x4) x5))) (ix5 b t g h p)
      = (((seqs x0 x1 x2 x3 x4 x5 x6 x7 b).y t (g * 512 + h * 64 + p) : ℝ) : EReal) := by
  unfold Args.y
  rw [scanV_at, scan_all _ _ _ _ _ 8192 t.isLt, coe_sum]
  refine Finset.sum_congr rfl fun s _ => ?_
  rw [headsV_at, acts_coe x0 x1 x2 x3 x4 x5 x6 x7 h0 h1 h2 h3 h4 h5, steps_coe x0 x1 x2 x3 x4 x5 x6 x7 h0 h1 h2 h3 h4 h5, cbV_at, decV_at,
    sums_coe x0 x1 x2 x3 x4 x5 x6 x7 h0 h1 h2 h3 h4 h5, sums_coe x0 x1 x2 x3 x4 x5 x6 x7 h0 h1 h2 h3 h4 h5]
  simp only [acts_coe x0 x1 x2 x3 x4 x5 x6 x7 h0 h1 h2 h3 h4 h5, ← EReal.coe_mul, ← coe_sum, ← EReal.coe_sub, Ideal.exp_coe]
  have e1 : (g.val * 512 + h.val * 64 + p.val) / 64 = g.val * 8 + h.val := by omega
  have e2 : (g.val * 512 + h.val * 64 + p.val) / 512 = g.val := by omega
  unfold Args.C Args.B
  rw [e1, e2]
  by_cases hs : s.val ≤ t.val
  · rw [if_pos hs, if_pos hs, ← EReal.coe_mul, ← EReal.coe_mul]
    refine congrArg _ ?_
    simp only [Nat.mul_comm g.val 128, ← Nat.add_assoc]
    ring
  · rw [if_neg hs, if_neg hs, mul_zero, mul_zero, zero_mul, zero_mul]
    rfl

theorem gates_eq (b : Fin 2) (t : Fin 8192) (c : Fin 2048) :
    gateV (zV x0) (scanV (headsV (acts x0 x2 x3)) (steps x1 x4) (cbV (acts x0 x2 x3)) (decV (csV (logV (steps x1 x4) x5)))) (headsV (acts x0 x2 x3)) x6 (ix3 b t c)
      = (seqs x0 x1 x2 x3 x4 x5 x6 x7 b).gt t c := by
  rw [gateV_at, scans_coe x0 x1 x2 x3 x4 x5 x6 x7 h0 h1 h2 h3 h4 h5, headsV_at, acts_eq x0 x1 x2 x3 x4 x5 x6 x7, zV_at]
  unfold Args.gt
  have e : c.val / 512 * 512 + c.val / 64 % 8 * 64 + c.val % 64 = c.val := by omega
  have e2 : c.val / 512 * 8 + c.val / 64 % 8 = c.val / 64 := by omega
  show (((seqs x0 x1 x2 x3 x4 x5 x6 x7 b).y t (c.val / 512 * 512 + c.val / 64 % 8 * 64 + c.val % 64) : EReal) + _ * (seqs x0 x1 x2 x3 x4 x5 x6 x7 b).act t (c.val / 512 * 512 + c.val / 64 % 8 * 64 + c.val % 64)) * siluE ((seqs x0 x1 x2 x3 x4 x5 x6 x7 b).z t c)
    = (((seqs x0 x1 x2 x3 x4 x5 x6 x7 b).y t c : EReal) + get1 (a := 32) x6 (c.val / 64) * (seqs x0 x1 x2 x3 x4 x5 x6 x7 b).act t c) * siluE ((seqs x0 x1 x2 x3 x4 x5 x6 x7 b).z t c)
  rw [e, get1_at _ _ (by omega : c.val / 64 < 32)]
  simp only [e2]

/-- The reference's result is the sequences' result. -/
theorem refV_eq (b : Fin 2) (t : Fin 8192) (c : Fin 2048) : refV x0 x1 x2 x3 x4 x5 x6 x7 (ix3 b t c) = (seqs x0 x1 x2 x3 x4 x5 x6 x7 b).out t c := by
  show normV (gateV (zV x0) (scanV (headsV (acts x0 x2 x3)) (steps x1 x4) (cbV (acts x0 x2 x3)) (decV (csV (logV (steps x1 x4) x5)))) (headsV (acts x0 x2 x3)) x6) x7 (ix3 b t c) = _
  rw [normV_at]
  simp only [gates_eq x0 x1 x2 x3 x4 x5 x6 x7 h0 h1 h2 h3 h4 h5]
  unfold Args.out
  have e : (∑ k : Fin 512, (seqs x0 x1 x2 x3 x4 x5 x6 x7 b).gt t (c.val / 512 * 512 + k.val) * (seqs x0 x1 x2 x3 x4 x5 x6 x7 b).gt t (c.val / 512 * 512 + k.val)) = (seqs x0 x1 x2 x3 x4 x5 x6 x7 b).sq t c := by
    unfold Args.sq
    rw [Nat.mul_comm (c.val / 512) 512]
    refine (Fin.sum_univ_tiles 4 128 rfl _).trans ?_
    rw [Fin.sum_univ_four]
    simp
  rw [e]
  show _ = _ * _ * get1 (a := 2048) x7 c
  rw [get1_at _ _ c.isLt]
end

end Cert.SsdRefIdeal.Stages

end
-- ==== Proof.SsdPre.lean ====
/- What the scan's precondition gives: every entry of the arrays it names is a real number. -/
module

public import proofs.«01_k».proof.Pre_finite
public import proofs.«01_k».proof.Proof.SsdMath
public import Idealize.ShloMosaic.Lib.ReduceAll
public import Idealize.ShloMosaic.Lib.Pointwise
public import Idealize.ShloMosaic.Lib.WordCmp

@[expose] public section

noncomputable section

namespace Cert.SsdPre

open Idealize.ShloMosaic Cert.Pre_finite Cert.Scan

/-- The arrays of no axes have one index. -/
instance : Subsingleton S_.Idx := ⟨fun a b => funext fun i => i.elim0⟩

/-- Below infinity in absolute value is real. -/
theorem real_of_abs {x : EReal} (h : max x (-x) < ⊤) : Fin' x := by
  induction x with
  | bot => simp at h
  | top => simp at h
  | coe r => exact ⟨r, rfl⟩

/-- One comparison of the precondition, at an entry. -/
theorem real_of_cmp {s : Shape} (x : FVec Ideal s .f32) (h : (⟨0, ![]⟩ : Shape).BroadcastsInDim s (![] : Fin 0 → Fin s.rank)) (i : s.Idx)
    (e : cmpf .olt (Host.absf x) (broadcastInDim s ![] h (constant (F := Ideal) ⟨0, ![]⟩ .f32 0x7F800000#32)) i = 1#1) : Fin' (x i) := by
  refine real_of_abs ?_
  have t : Ideal.ofBits .f32 0x7F800000#32 = (⊤ : EReal) := by simp [Ideal.ofBits, Ideal.ieee]
  have e' : BitVec.ofBool (decide (max (x i) (-(x i)) < Ideal.ofBits .f32 0x7F800000#32)) = 1#1 := e
  rw [t, WordCmp.ofBool_decide_eq_one_iff] at e'
  exact e'

theorem andi_one {a b : BitVec 1} (h : IntOp.andi a b = 1#1) : a = 1#1 ∧ b = 1#1 := by
  revert a b; decide

/-- The precondition makes the six arrays real. -/
theorem real [Facts] {x0 : FVec Ideal S2x8192x10240 .bf16} {x1 : FVec Ideal S2x8192x128 .f32} {x2 : FVec Ideal S4x3072 .f32} {x3 : FVec Ideal S3072 .f32} {x4 x5 x6 : FVec Ideal S32 .f32} {x7 : FVec Ideal S2048 .f32}
    (h : fn (F := Ideal) x0 x1 x2 x3 x4 x5 x6 x7 = fun _ => 1#1) :
    (∀ i, Fin' (x0 i)) ∧ (∀ i, Fin' (x1 i)) ∧ (∀ i, Fin' (x2 i)) ∧ (∀ i, Fin' (x3 i)) ∧ (∀ i, Fin' (x4 i)) ∧ (∀ i, Fin' (x5 i)) := by
  have e := congrFun h ix0
  unfold fn fn_part1 at e
  obtain ⟨e, e5⟩ := andi_one e
  obtain ⟨e, e4⟩ := andi_one e
  obtain ⟨e, e3⟩ := andi_one e
  obtain ⟨e, e2⟩ := andi_one e
  obtain ⟨e0, e1⟩ := andi_one e
  refine ⟨fun i => ?_, fun i => ?_, fun i => ?_, fun i => ?_, fun i => ?_, fun i => ?_⟩
  · exact real_of_cmp (extf .f32 x0 Facts.bitsLt_bf16_f32) _ i (Host.reduce_andi_all _ _ _ _ _ e0 i)
  · exact real_of_cmp x1 _ i (Host.reduce_andi_all _ _ _ _ _ e1 i)
  · exact real_of_cmp x2 _ i (Host.reduce_andi_all _ _ _ _ _ e2 i)
  · exact real_of_cmp x3 _ i (Host.reduce_andi_all _ _ _ _ _ e3 i)
  · exact real_of_cmp x4 _ i (Host.reduce_andi_all _ _ _ _ _ e4 i)
  · exact real_of_cmp x5 _ i (Host.reduce_andi_all _ _ _ _ _ e5 i)

end Cert.SsdPre

end
-- ==== Proof.SsdClaims.lean ====
/- The claims about the layer's Mamba-2 scan. -/
module

public import proofs.«01_k».proof.Defs
public import proofs.«01_k».proof.Proof.Gen.Ssd.Frame
public import proofs.«01_k».proof.Proof.Gen.SsdIdeal.Frame
public import proofs.«01_k».proof.Proof.Gen.SsdRefIdeal.Run
public import proofs.«01_k».proof.Proof.SsdIns
public import proofs.«01_k».proof.Proof.SsdRef
public import proofs.«01_k».proof.Proof.SsdPre
public import proofs.«01_k».proof.Proof.Gen.Pre_finite
public import Idealize.ShloMosaic.Lib.Quiescent

@[expose] public section

noncomputable section

open Idealize.ShloMosaic Idealize.ShloMosaic.TcCoe Idealize.SL.Sem

namespace Cert.Proof.SsdClaims

/-- The scan runs, ends and leaves its arguments alone. -/
theorem frame_p : Cert.quiescent_Ssd := fun m ρ _ => Cert.Ssd.Gen.frame m ρ
/-- The same of the scan over the extended reals. -/
theorem frame_pi : Cert.quiescent_SsdIdeal := fun m ρ _ => Cert.SsdIdeal.Gen.frame m ρ
/-- The same of the reference. -/
theorem frame_ri : Cert.quiescent_SsdRefIdeal := fun m ρ _ =>
  (θ_run Cert.SsdRefIdeal.defs _ _).mono (fun r h => ⟨fun c => (h c).2,
      Idealize.ShloMosaic.sem_eq_zero_of_no_sems (by decide) r.2⟩)
    (Cert.SsdRefIdeal.Value.run (F := Ideal) m ρ)
/-- The scan's frame where its arrays are finite. -/
theorem frame_pi_pre : Cert.quiescent_SsdIdeal_pre_finite := fun m ρ _ => Cert.SsdIdeal.Gen.frame m ρ
/-- The reference's frame where its arrays are finite. -/
theorem frame_ri_pre : Cert.quiescent_SsdRefIdeal_pre_finite := fun m ρ _ => frame_ri m ρ trivial
/-- The named constants stand for the numbers they are named after. -/
theorem preserves : Cert.preserves_Ssd_SsdIdeal :=
  ⟨IdealRules.named_const.statement _ _ _ _ _ rfl, IdealRules.named_const.statement _ _ _ _ _ rfl,
    IdealRules.named_const.statement _ _ _ _ _ rfl⟩

/-- Scan and reference end with the same array wherever the columns, step sizes, filter, biases and rates are finite: the gated
and normalised outputs of the quadratic form. -/
theorem algebraic : Cert.algebraic_SsdIdeal_SsdRefIdeal_pre_finite := by
  intro m ρ m' ρ' hpre hagree
  have hr := fun c => Cert.SsdPre.real (hpre c)
  refine ⟨_, (θ_run Cert.SsdIdeal.defs _ _).mono (fun _ h c => h c)
    (Cert.SsdIdeal.Scanned.run_blocks m ρ (Cert.SsdIdeal.Scanned.seq m)
      (fun c b => Cert.SsdIdeal.Chunk.seqOf_real (hr c).1 (hr c).2.1 (hr c).2.2.1 (hr c).2.2.2.1 (hr c).2.2.2.2.1 (hr c).2.2.2.2.2)
      (fun c b u x hu => Cert.SsdIdeal.Chunk.seqOf_start u x hu) (Cert.SsdIdeal.Scanned.fits m)), ?_⟩
  refine (θ_run Cert.SsdRefIdeal.defs _ _).mono (fun _ h c => ⟨(h c).1.trans ?_, (h c).2⟩) (Cert.SsdRefIdeal.Value.run (F := Ideal) m' ρ')
  refine Eq.trans ?_ (Cert.SsdIdeal.Scanned.final m c).symm
  refine (Cert.SsdRefIdeal.Stages.res_eq _).trans ?_
  obtain ⟨h0, h1, h2, h3, h4, h5, h6, h7⟩ := hagree c
  refine Eq.trans (b := Cert.SsdRefIdeal.Stages.refV (m' ((c.tc : Thread Cert.SsdRefIdeal.nD Cert.SsdRefIdeal.τ).loc Cert.SsdRefIdeal.main_arg0)) (m' ((c.tc : Thread Cert.SsdRefIdeal.nD Cert.SsdRefIdeal.τ).loc Cert.SsdRefIdeal.main_arg1)) (m' ((c.tc : Thread Cert.SsdRefIdeal.nD Cert.SsdRefIdeal.τ).loc Cert.SsdRefIdeal.main_arg2)) (m' ((c.tc : Thread Cert.SsdRefIdeal.nD Cert.SsdRefIdeal.τ).loc Cert.SsdRefIdeal.main_arg3)) (m' ((c.tc : Thread Cert.SsdRefIdeal.nD Cert.SsdRefIdeal.τ).loc Cert.SsdRefIdeal.main_arg4)) (m' ((c.tc : Thread Cert.SsdRefIdeal.nD Cert.SsdRefIdeal.τ).loc Cert.SsdRefIdeal.main_arg5)) (m' ((c.tc : Thread Cert.SsdRefIdeal.nD Cert.SsdRefIdeal.τ).loc Cert.SsdRefIdeal.main_arg6)) (m' ((c.tc : Thread Cert.SsdRefIdeal.nD Cert.SsdRefIdeal.τ).loc Cert.SsdRefIdeal.main_arg7))) rfl ?_
  rw [h0, h1, h2, h3, h4, h5, h6, h7]
  obtain ⟨r0, r1, r2, r3, r4, r5⟩ := hr c
  funext i
  exact (congrArg _ (eq_ix3 i)).trans (Cert.SsdRefIdeal.Stages.refV_eq _ _ _ _ _ _ _ _ r0 r1 r2 r3 r4 r5 (i 0) (i 1) (i 2))

end Cert.Proof.SsdClaims

end
-- ==== Proof.InProjFrame.lean ====
/- The input projection's run over the extended reals: what each point leaves in the scratch rows and in both output windows, and the run with the final arrays named. -/
module

public import proofs.«01_k».proof.Proof.Gen.InProjIdeal.Skeleton
public import proofs.«01_k».proof.Proof.Gen.InProjIdeal.Points
public import proofs.«01_k».proof.Proof.Gen.InProjIdeal.Launch
public import proofs.«01_k».proof.Proof.Gen.InProjIdeal.Frame
public import Idealize.ShloMosaic.Lib.Claim
public import Idealize.ShloMosaic.Lib.Exec
public import Idealize.ShloMosaic.Lib.Pipeline.FrameBody

@[expose] public section

set_option maxRecDepth 16384

noncomputable section

namespace Cert.InProjIdeal.Body

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

abbrev rX : Rect S2048x1024 := Rect.unit (s := S2048x1024) ![0, 0] S2048x1024.size inb_S2048x1024_S2048x1024_0_0
abbrev rG : Rect S1x1024 := Rect.unit (s := S1x1024) ![0, 0] S1x1024.size inb_S1x1024_S1x1024_0_0
abbrev rW : Rect S1024x1024 := Rect.unit (s := S1024x1024) ![0, 0] S1024x1024.size inb_S1024x1024_S1024x1024_0_0
abbrev rT : Rect S1024x128 := Rect.unit (s := S1024x128) ![0, 0] S1024x128.size inb_S1024x128_S1024x128_0_0
abbrev rD : Rect S2048x128 := Rect.unit (s := S2048x128) ![0, 0] S2048x128.size inb_S2048x128_S2048x128_0_0

/-- The normalised rows a row block's first point leaves in the scratch. -/
def rows (x0 : Vec F S2048x1024 .f32) (x1 : Vec F S1x1024 .f32) : Vec F S2048x1024 .bf16 :=
  View.canon [⟨rX, k0_pay2 (View.ld x0 rX) (View.ld x1 rG)⟩]
/-- The step-size columns the same point leaves in the second output. -/
def steps (x0 : Vec F S2048x1024 .f32) (x1 : Vec F S1x1024 .f32) (x3 : Vec F S1024x128 .bf16) : Vec F S2048x128 .f32 :=
  View.canon [⟨rD, k0_pay3 (View.ld x0 rX) (View.ld x1 rG) (View.ld x3 rT)⟩]
/-- The block of columns every point leaves in the first output, from the scratch rows. -/
def cols (h : Vec F S2048x1024 .bf16) (x2 : Vec F S1024x1024 .f32) : Vec F S2048x1024 .bf16 :=
  View.canon [⟨rX, k0_pay4 (View.ld h rX) (View.ld x2 rW)⟩]

/-- One whole store covers such a block. -/
theorem coverX {e : EltTy} (p : (rX.shape).Idx → Elt F e) (y : S2048x1024.Idx) :
    ∃ pc ∈ ([⟨rX, p⟩] : List (View.Piece (Elt F) S2048x1024 e)), y ∈ pc.1.set :=
  View.cover_of_tiled [⟨rX, p⟩] S2048x1024.size (by rfl) y
theorem coverD {e : EltTy} (p : (rD.shape).Idx → Elt F e) (y : S2048x128.Idx) :
    ∃ pc ∈ ([⟨rD, p⟩] : List (View.Piece (Elt F) S2048x128 e)), y ∈ pc.1.set :=
  View.cover_of_tiled [⟨rD, p⟩] S2048x128.size (by rfl) y

abbrev cond (i : grid0.Coords) : Prop := k0_cond1 i = 1#1
/-- The branch is taken at a row block's first point. -/
theorem hcond : ∀ t : Fin cfg0.N, cond (grid0.coords t) ↔ t.val % 10 = 0 :=
  (fun t => by
    have ht : t.val < 80 := Nat.lt_of_lt_of_eq t.isLt N_0
    have e0 : (grid0.coords t 0).val = t.val / 10 % 8 := Pipeline.Grid.coords_val t 0 (by decide) rfl
    have e1 : (grid0.coords t 1).val = t.val / 1 % 10 := Pipeline.Grid.coords_val t 1 (by decide) rfl
    simp only [cond, k0_cond1, e0, e1]
    word_cmp
   : ∀ t : Fin grid0.N, cond (grid0.coords t) ↔ t.val % 10 = 0)

set_option maxHeartbeats 1000000 in
/-- A row block's first point: the scratch gets the normalised rows, the outputs their columns. -/
theorem bodyA (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x128 .bf16) (harg5 : arg5.IsWhole) (arg6 : Memref sig .tc .vmem S2048x1024 .bf16) (harg6 : arg6.IsWhole) (arg7 : Memref sig .tc .vmem S2048x128 .f32) (harg7 : arg7.IsWhole) (arg8 : Memref sig .tc .vmem S2048x1024 .bf16) (harg8 : arg8.IsWhole) (hc0 : cond i)
    (x0 : Vec F S2048x1024 .f32) (x1 : Vec F S1x1024 .f32) (x2 : Vec F S1024x1024 .f32) (x3 : Vec F S1024x128 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (cols (rows x0 x1) x2) ∗ owns (c : Thread nD τ) arg7 fullShare (steps x0 x1 x3) ∗ owns (c : Thread nD τ) arg8 fullShare (rows x0 x1)) -∗ K ⟨⟩))
          ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (coverX _)).trans ?_
    unfold cols rows
    congr 3
    exact congrArg₂ k0_pay4 (View.readCov_eq_canon_ld arg8.view _ rX (coverX _)) rfl
  isplitl [H5]
  · iexists _; isplitr
    swap; · iexact H5
    ipureintro
    exact View.read_writes_eq_canon _ _ _ (coverD _)
  iexists _; isplitr
  swap; · iexact HS0
  ipureintro
  exact View.read_writes_eq_canon _ _ _ (coverX _)

set_option maxHeartbeats 1000000 in
/-- Any other point: only the first output is stored, from the scratch rows. -/
theorem bodyB (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x128 .bf16) (harg5 : arg5.IsWhole) (arg6 : Memref sig .tc .vmem S2048x1024 .bf16) (harg6 : arg6.IsWhole) (arg7 : Memref sig .tc .vmem S2048x128 .f32) (harg7 : arg7.IsWhole) (arg8 : Memref sig .tc .vmem S2048x1024 .bf16) (harg8 : arg8.IsWhole) (hc0 : ¬cond i)
    (x2 : Vec F S1024x1024 .f32) (h : Vec F S2048x1024 .bf16)
    (E : Set ℕ) (K : PUnit → sProp 𝕄) :
        iprop(owns (c : Thread nD τ) arg4 fullShare x2 ∗ (∃ d, owns (c : Thread nD τ) arg6 fullShare d) ∗ owns (c : Thread nD τ) arg8 fullShare h
            ∗ (iprop(owns (c : Thread nD τ) arg4 fullShare x2 ∗ owns (c : Thread nD τ) arg6 fullShare (cols h x2) ∗ owns (c : Thread nD τ) arg8 fullShare h) -∗ K ⟨⟩))
          ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f2, %hf2, H2⟩, ⟨%d4, %f4, -, H4⟩, ⟨%fs0, %hfs0, HS0⟩, Hk⟩
  subst hf2 hfs0
  sl_exec (disch := first | sl_exact hc0)
  sl_step
  iapply Hk
  isplitl [H2]
  · iexists f2; isplitr; · ipureintro; rfl
    iexact H2
  isplitl [H4]
  · iexists _; isplitr
    swap; · iexact H4
    ipureintro
    exact View.read_writes_eq_canon _ _ _ (coverX _)
  iexists fs0; isplitr; · ipureintro; rfl
  iexact HS0

/-! ## The proof data -/

/-- The first point of a point's row block. -/
def head (t : Fin cfg0.N) : Fin cfg0.N := ⟨10 * (t.val / 10), lt_of_le_of_lt (Nat.mul_div_le _ _) t.isLt⟩

/-- The scratch after point `t`. -/
def rowsAt (c : Dev nD) (t : Fin cfg0.N) : Vec F S2048x1024 .bf16 := rows (iblk m c 0 (head t)) (iblk m c 1 (head t))
/-- The second output's buffer after point `t`. -/
def stepsAt (c : Dev nD) (t : Fin cfg0.N) : Vec F S2048x128 .f32 := steps (iblk m c 0 (head t)) (iblk m c 1 (head t)) (iblk m c 3 (head t))

theorem head_first {t : Fin cfg0.N} (h : t.val % 10 = 0) : head t = t := Fin.ext (by show 10 * (t.val / 10) = t.val; omega)
theorem head_prev {t : Fin cfg0.N} (h : ¬t.val % 10 = 0) (hp : t.val - 1 < cfg0.N) : head ⟨t.val - 1, hp⟩ = head t :=
  Fin.ext (by show 10 * ((t.val - 1) / 10) = 10 * (t.val / 10); omega)

/-- The scratch operand. -/
abbrev scM : Memref sig .tc .vmem S2048x1024 .bf16 := Memref.whole cc0_scratch0

/-- The class's invariant with the scratch as a memref. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant: after a point the scratch holds its row block's rows. -/
def PhiS (c : Dev nD) : (n : ℕ) → n ≤ cfg0.N → sProp 𝕄
  | 0, _ => Pipeline.ΦA spec0 c
  | n + 1, hn => iprop(iprop(owns (c : Thread nD τ) scM fullShare (rowsAt m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (rowsAt m c ⟨n, hn⟩)) ∗ (∃ r, prngReg c r)) := rfl
theorem PhiS_pos (c : Dev nD) (n : ℕ) (h : n ≤ cfg0.N) (hz : n ≠ 0) :
    PhiS m c n h = iprop(iprop(owns (c : Thread nD τ) scM fullShare (rowsAt m c ⟨n - 1, by omega⟩)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => cols (rowsAt m c t) (iblk m c 2 t)
    | ⟨5, _⟩ => stepsAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = cols (rowsAt m c t) (iblk m c 2 t) := by dsimp only [dats]
theorem after_5 (c : Dev nD) (t : Fin cfg0.N) : (dats m 0 c).after 5 t = stepsAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The second output's window is idle exactly off a row block's first point. -/
theorem idle_5 (t : Fin cfg0.N) : cfg0.idle 5 (grid0.coords t) = true ↔ ¬t.val % 10 = 0 := by
  rw [← hcond t]; show (!(k0_cond1 (grid0.coords t) == 1#1)) = true ↔ _
  simp [cond]

theorem fetch_5 : ∀ t : Fin cfg0.N, (cfg0.win 5).fetch t = false := (by decide +kernel : ∀ t : Fin grid0.N, win0_5.fetch t = false)

/-- Off the first point, the second output's buffer still holds the row block's step sizes. -/
theorem before_5 (c : Dev nD) : ∀ (n : ℕ) (hn : n < cfg0.N), ¬n % 10 = 0 → ∀ d, (dats m 0 c).before 5 ⟨n, hn⟩ d = stepsAt m c ⟨n, hn⟩ := by
  intro n
  induction n with
  | zero => intro hn h; exact absurd (Nat.zero_mod _) h
  | succ n ih =>
    intro hn h d
    have hp : n < cfg0.N := Nat.lt_of_succ_lt hn
    have hs : stepsAt m c ⟨n + 1, hn⟩ = stepsAt m c ⟨n, hp⟩ := by
      unfold stepsAt; rw [← head_prev (t := ⟨n + 1, hn⟩) h hp]; rfl
    rw [(dats m 0 c).before_of_pos 5 ⟨n + 1, hn⟩ (Nat.succ_ne_zero n) (fetch_5 _) d]
    have hfl : (cfg0.win 5).flush ⟨n, hp⟩ = false := by
      rw [← Bool.not_eq_true, flush0_5]; show ¬n % 10 = 9; omega
    show (if (cfg0.win 5).flush ⟨n, hp⟩ = true then d else (dats m 0 c).left 5 ⟨n, hp⟩ d) = _
    rw [hfl, if_neg Bool.false_ne_true, hs]
    unfold Dat.left
    by_cases h0 : n % 10 = 0
    · have hi : cfg0.idle 5 (cfg0.grid.coords ⟨n, hp⟩) = false := by
        rw [← Bool.not_eq_true]; exact fun e => (idle_5 ⟨n, hp⟩).mp e h0
      rw [hi]; dsimp only; unfold Dat.kept
      rw [Pipeline.fill_of_clip_none 5 _ (fun _ => rfl) d ((dats m 0 c).after 5 ⟨n, hp⟩), Window.fill_cut, after_5]
    · have hi : cfg0.idle 5 (cfg0.grid.coords ⟨n, hp⟩) = true := (idle_5 ⟨n, hp⟩).mpr h0
      rw [hi]; exact ih hp h0 d

/-! ## The body obligation -/

abbrev mw0 (t : Fin cfg0.N) : Memref sig .tc .vmem S2048x1024 .f32 := win0_0.stage (cfg0.slots t 0)
abbrev mw1 (t : Fin cfg0.N) : Memref sig .tc .vmem S1x1024 .f32 := win0_1.stage (cfg0.slots t 1)
abbrev mw2 (t : Fin cfg0.N) : Memref sig .tc .vmem S1024x1024 .f32 := win0_2.stage (cfg0.slots t 2)
abbrev mw3 (t : Fin cfg0.N) : Memref sig .tc .vmem S1024x128 .bf16 := win0_3.stage (cfg0.slots t 3)
abbrev mw4 (t : Fin cfg0.N) : Memref sig .tc .vmem S2048x1024 .bf16 := win0_4.stage (cfg0.slots t 4)
abbrev mw5 (t : Fin cfg0.N) : Memref sig .tc .vmem S2048x128 .f32 := win0_5.stage (cfg0.slots t 5)

def bodyPre (c : Dev nD) (t : Fin cfg0.N) : sProp 𝕄 :=
  iprop((dats m 0 c).Φ t.castSucc ∗ (dats m 0 c).owesAt () t.castSucc
    ∗ (∃ d, owns (c : Thread nD τ) (mw0 t) fullShare ((dats m 0 c).before 0 t d))
    ∗ (∃ d, owns (c : Thread nD τ) (mw1 t) fullShare ((dats m 0 c).before 1 t d))
    ∗ (∃ d, owns (c : Thread nD τ) (mw2 t) fullShare ((dats m 0 c).before 2 t d))
    ∗ (∃ d, owns (c : Thread nD τ) (mw3 t) fullShare ((dats m 0 c).before 3 t d))
    ∗ (∃ d, owns (c : Thread nD τ) (mw4 t) fullShare ((dats m 0 c).before 4 t d))
    ∗ (∃ d, owns (c : Thread nD τ) (mw5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_in (c : Dev nD) (t : Fin cfg0.N) :
    (dats m 0 c).leavesExact 0 t = owns (c : Thread nD τ) (mw0 t) fullShare (iblk m c 0 t)
    ∧ (dats m 0 c).leavesExact 1 t = owns (c : Thread nD τ) (mw1 t) fullShare (iblk m c 1 t)
    ∧ (dats m 0 c).leavesExact 2 t = owns (c : Thread nD τ) (mw2 t) fullShare (iblk m c 2 t)
    ∧ (dats m 0 c).leavesExact 3 t = owns (c : Thread nD τ) (mw3 t) fullShare (iblk m c 3 t)
    ∧ (dats m 0 c).leavesExact 4 t = owns (c : Thread nD τ) (mw4 t) fullShare (cols (rowsAt m c t) (iblk m c 2 t)) := by
  refine ⟨?_, ?_, ?_, ?_, ?_⟩
  · rw [← after_0]
  · rw [← after_1]
  · rw [← after_2]
  · rw [← after_3]
  · rw [← after_4]

/-- The second output's buffer after the body holds the row block's step sizes: enough for what is asked of it. -/
theorem leaves_5 (c : Dev nD) (t : Fin cfg0.N) :
    owns (c : Thread nD τ) (mw5 t) fullShare (stepsAt m c t) ⊢ ((dats m 0 c).leavesExact 5 t : sProp 𝕄) := by
  by_cases h0 : t.val % 10 = 0
  · have hi : cfg0.idle 5 (cfg0.grid.coords t) = false := by
      rw [← Bool.not_eq_true]; exact fun e => (idle_5 t).mp e h0
    rw [show (dats m 0 c).leavesExact 5 t = owns (c : Thread nD τ) (mw5 t) fullShare ((dats m 0 c).after 5 t) from by
      unfold Dat.leavesExact; rw [hi], after_5]
  · have hi : cfg0.idle 5 (cfg0.grid.coords t) = true := (idle_5 t).mpr h0
    by_cases hf : (cfg0.win 5).flush t = true
    · rw [show (dats m 0 c).leavesExact 5 t = owns (c : Thread nD τ) (mw5 t) fullShare ((dats m 0 c).after 5 t) from by
        unfold Dat.leavesExact; rw [hi, hf], after_5]
    · rw [(dats m 0 c).leavesExact_idle 5 t hi (by simpa using hf)]
      iintro H
      iexists (fun _ => default)
      rw [show (dats m 0 c).before 5 t _ = stepsAt m c t from before_5 m c t.val t.isLt h0 _]
      iexact H

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  obtain ⟨l0, l1, l2, l3, l4⟩ := leaves_in m c t
  simp only [before_0, before_1, before_2, before_3]
  rw [l0, l1, l2, l3, l4, show (dats m 0 c).owesAt () t.succ = (dats m 0 c).owesAt () t.castSucc from rfl]
  rw [show (dats m 0 c).Φ t.succ = PhiS m c (t.val + 1) t.isLt from rfl, PhiS_succ, PhiS_castSucc m c t]
  by_cases h0 : t.val % 10 = 0
  · have hr : rowsAt m c ⟨t.val, t.isLt⟩ = rows (iblk m c 0 t) (iblk m c 1 t) := by
      unfold rowsAt; rw [show head ⟨t.val, t.isLt⟩ = t from head_first h0]
    have hs : stepsAt m c t = steps (iblk m c 0 t) (iblk m c 1 t) (iblk m c 3 t) := by
      unfold stepsAt; rw [head_first h0]
    have hpre : PhiS m c t.val (Nat.le_of_lt t.isLt) ⊢ (Pipeline.ΦA spec0 c : sProp 𝕄) := by
      by_cases hz : t.val = 0
      · rw [PhiS_zero m c _ _ hz]
      · rw [PhiS_pos m c _ _ hz, PhiA_eq]
        iintro ⟨HS0, Hg⟩
        isplitl [HS0]
        · iexists _; iexact HS0
        iexact Hg
    refine (Laws.sep_mono_left hpre).trans ?_
    rw [PhiA_eq]
    iintro ⟨⟨HS0, Hg⟩, Ho, ⟨%d0, H0⟩, ⟨%d1, H1⟩, ⟨%d2, H2⟩, ⟨%d3, H3⟩, ⟨%d4, H4⟩, ⟨%d5, H5⟩⟩
    iapply (bodyA c (grid0.coords t) _ _ _ _ _ _ _ _ _ _ _ _ _ _ ((hcond t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    rw [hr]
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t)
    rw [hs]
    iexact H5
  · have hz : t.val ≠ 0 := fun e => h0 (by rw [e])
    have hr : rowsAt m c ⟨t.val - 1, by omega⟩ = rowsAt m c t := by
      unfold rowsAt; rw [head_prev h0]
    rw [PhiS_pos m c _ _ hz, hr]
    iintro ⟨⟨HS0, Hg⟩, Ho, ⟨%d0, H0⟩, ⟨%d1, H1⟩, ⟨%d2, H2⟩, ⟨%d3, H3⟩, ⟨%d4, H4⟩, ⟨%d5, H5⟩⟩
    iapply (bodyB c (grid0.coords t) _ _ _ _ _ _ _ _ _ _ _ _ _ _ (fun h => h0 ((hcond t).mp h)) (iblk m c 2 t) (rowsAt m c t) Set.univ _)
    isplitl [H2]; · iexact H2
    isplitl [H4]; · iexists _; iexact H4
    isplitl [HS0]; · iexact HS0
    iintro ⟨H2, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t)
    rw [show (dats m 0 c).before 5 t d5 = stepsAt m c t from before_5 m c t.val t.isLt h0 d5]
    iexact H5

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Entails.refl _

theorem hout (c : Dev nD) : (dats m 0 c).Φ (Fin.last cfg0.N) ⊢ Pipeline.ΦA spec0 c := by
  rw [show (dats m 0 c).Φ (Fin.last cfg0.N) = PhiS m c cfg0.N (le_refl _) from rfl,
    PhiS_pos m c _ _ (by have : cfg0.N = 80 := N_0; omega), PhiA_eq]
  iintro ⟨HS0, Hg⟩
  isplitl [HS0]
  · iexists _; iexact HS0
  iexact Hg

set_option backward.isDefEq.respectTransparency.types false in
/-- The run, with every array at what the proof data says and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_all m ρ)

/-- The call runs, ends, leaves its arguments alone and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_all m ρ))

/-- The run with both results named. -/
theorem run_blocks : θ_run defs (onTc (τ := τ) (main (F := F))) ⟨m, fun _ => 0, ρ⟩ fun r => ∀ c : Dev nD,
      (r.2.mem ((c : Thread nD τ).loc main_v9_0) = (dats m 0 c).arrAt 4 cfg0.N
      ∧ r.2.mem ((c : Thread nD τ).loc main_v9_1) = (dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨⟨(h c).1 4, (h c).1 5⟩,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.InProjIdeal.Body

end
-- ==== Proof.InProjBlock.lean ====
/- What the input projection's body computes of a block, what its blocks hold of the argument arrays, and what its reference computes, row by row. -/
module

public import proofs.«01_k».proof.Proof.Rows
public import proofs.«01_k».proof.Proof.InProjFrame
public import proofs.«01_k».proof.Proof.Gen.InProjRefIdeal.Run
public import Idealize.ShloMosaic.Lib.Pipeline.ValueKit

@[expose] public section

set_option maxRecDepth 16384

noncomputable section

namespace Cert.InProjIdeal.Block

open Idealize.ShloMosaic Idealize.ShloMosaic.TcCoe Cert.InProjIdeal Cert.InProjIdeal.Gen Cert.InProjIdeal.Body Cert.Rows

/-- The normalised row. -/
theorem pay2_at (x : FVec Ideal S2048x1024 .f32) (g : FVec Ideal S1x1024 .f32) (i : Fin 2048) (j : Fin 1024) :
    k0_pay2 (F := Ideal) x g (ix2 i j) = rms (fun k => x (ix2 i k)) (fun k => g (ix2 0 k)) j := by
  pointwise [k0_pay2, k0_pay1]
  simp only [rms, zero_add]

/-- The step-size columns of a row. -/
theorem pay3_at (x : FVec Ideal S2048x1024 .f32) (g : FVec Ideal S1x1024 .f32) (w : FVec Ideal S1024x128 .bf16) (i : Fin 2048) (j : Fin 128) :
    k0_pay3 (F := Ideal) x g w (ix2 i j) = lin (rms (fun k => x (ix2 i k)) (fun k => g (ix2 0 k))) (fun k l => w (ix2 k l)) j := by
  pointwise [k0_pay3, k0_pay1]
  simp only [rms, lin, zero_add]

/-- A row through a block of transposed weights. -/
theorem pay4_at (h : FVec Ideal S2048x1024 .bf16) (w : FVec Ideal S1024x1024 .f32) (i : Fin 2048) (j : Fin 1024) :
    k0_pay4 (F := Ideal) h w (ix2 i j) = lin (fun k => h (ix2 i k)) (fun k l => w (ix2 l k)) j := by
  pointwise [k0_pay4]
  simp only [lin, zero_add]

/-- The row of the transposed weights at which a block of columns begins. -/
def start (j : ℕ) : ℕ :=
  if j < 3 then j * 1024 else if j < 6 then j * 1024 + 2048 else if j < 8 then j * 1024 - 3072 else j * 1024 + 32

/-- The projection's column that a column of the first result is: q, k, v, xBC, z and the gates in that order. -/
def src (q : Fin 10240) : Fin 10272 :=
  if h : q.val < 3072 then ⟨q.val, by omega⟩ else if h2 : q.val < 6144 then ⟨q.val + 2048, by omega⟩
  else if h3 : q.val < 8192 then ⟨q.val - 3072, by omega⟩ else ⟨q.val + 32, by omega⟩

/-- Which block every window takes at every point. -/
theorem idx : ∀ t : Fin cfg0.N, win0_0.index t = ![t.val / 10, 0] ∧ win0_1.index t = ![0, 0] ∧ win0_2.index t = ![start (t.val % 10), 0]
    ∧ win0_3.index t = ![0, 0] ∧ win0_4.index t = ![t.val / 10, t.val % 10] ∧ win0_5.index t = ![t.val / 10, 0] :=
  (by decide +kernel : ∀ t : Fin grid0.N, _)

variable (m : (ℓ : Loc nD τ sig) → Buf (Elt Ideal) ℓ)

/-- The token's place in the batch. -/
abbrev tok {w : ℕ} (r : Fin 16384) (k : Fin w) : (⟨3, ![2, 8192, w]⟩ : Shape).Idx :=
  ix3 (⟨r.val / 8192, by omega⟩ : Fin 2) (⟨r.val % 8192, by omega⟩ : Fin 8192) k

/-- The array row a block's row is. -/
abbrev rowOf (t : Fin cfg0.N) (i : Fin 2048) : Fin 16384 := ⟨t.val / 10 * 2048 + i.val, by have := t.isLt; have h : cfg0.N = 80 := rfl; omega⟩

/-! The arrays the host prepares. -/

theorem V_v0 (c : Dev nD) : V m c main_v0 = transpose S10272x1024 [1, 0] (m ((c : Thread nD τ).loc main_arg2)) transposes_S1024x10272_S10272x1024_1_0 := by
  simp only [V, hostOps0, hostOps0_1, hostOps0_2, List.flatten_cons, List.flatten_nil, List.cons_append, List.nil_append, List.append_nil]
  run_tidy

theorem V_v7 (c : Dev nD) : V m c main_v7 = shapeCast S16384x1024 (m ((c : Thread nD τ).loc main_arg0)) shapeCasts_S2x8192x1024_S16384x1024 := by
  simp only [V, hostOps0, hostOps0_1, hostOps0_2, List.flatten_cons, List.flatten_nil, List.cons_append, List.nil_append, List.append_nil]
  run_tidy
  rfl

theorem V_v8 (c : Dev nD) : V m c main_v8 = shapeCast S1x1024 (m ((c : Thread nD τ).loc main_arg1)) shapeCasts_S1024_S1x1024 := by
  simp only [V, hostOps0, hostOps0_1, hostOps0_2, List.flatten_cons, List.flatten_nil, List.cons_append, List.nil_append, List.append_nil]
  run_tidy
  rfl

/-- The step-size columns of the weights, three times over and padded with zeros. -/
def dtCols (w : FVec Ideal S1024x10272 .f32) : FVec Ideal S1024x128 .bf16 :=
  truncf .bf16 (pad S1024x128 ![0, 0] ![0, 32] ![0, 0] (shapeCast S1024x96 (broadcastInDim S1x1024x3x32 ![0, 1, 2, 3] bcast_S1x1024x1x32_S1x1024x3x32_0_1_2_3 (shapeCast S1x1024x1x32 (extractStridedSlice S1024x32 ![0, 8192] w slices_S1024x10272_S1024x32_0_8192) shapeCasts_S1024x32_S1x1024x1x32)) shapeCasts_S1x1024x3x32_S1024x96) (sitofp .f32 (constantI S_ 32 0#32)) pads_S1024x96_S1024x128_000_0320 h_S_) bitsLt_bf16_f32

theorem V_v6 (c : Dev nD) : V m c main_v6 = dtCols (m ((c : Thread nD τ).loc main_arg2)) := by
  simp only [V, hostOps0, hostOps0_1, hostOps0_2, List.flatten_cons, List.flatten_nil, List.cons_append, List.nil_append, List.append_nil, dtCols]
  run_tidy
  rfl

theorem dtCols_at (w : FVec Ideal S1024x10272 .f32) (k : Fin 1024) (l : Fin 128) :
    dtCols w (ix2 k l) = if l.val < 96 then w (ix2 k (⟨8192 + l.val % 32, by omega⟩ : Fin 10272)) else 0 := by
  pointwise [dtCols]
  have e : (FloatOps.sitofp .f32 (0#32 : BitVec 32) : Ideal .f32) = 0 := by
    show (((0#32 : BitVec 32).toInt : ℝ) : EReal) = 0
    simp
  rw [e]
  split_ifs <;> rfl

theorem toks (x : FVec Ideal S2x8192x1024 .f32) (r : Fin 16384) (k : Fin 1024) :
    shapeCast S16384x1024 x shapeCasts_S2x8192x1024_S16384x1024 (ix2 r k) = x (tok r k) := by
  pointwise
  try blk_ext [tok]

theorem src_start (j : ℕ) (hj : j < 10) (l : ℕ) (hl : l < 1024) : (src ⟨j * 1024 + l, by omega⟩).val = start j + l := by
  unfold src start
  dsimp only
  split_ifs <;> dsimp only <;> omega

/-- Where a block of the transposed weights begins. -/
theorem emb2 (t : Fin cfg0.N) (l k : Fin 1024) :
    ((cfg0.win 2).blk t).view.emb (ix2 l k) = ix2 (src ⟨t.val % 10 * 1024 + l.val, by omega⟩) k := by
  have h := src_start (t.val % 10) (by omega) l.val l.isLt
  have e := (idx t).2.2.1
  funext a
  refine Fin.ext ?_
  refine (Pipeline.Window.rect_emb_val_off win0_2 t (ix2 l k) a).trans ?_
  rw [e]
  match a with
  | ⟨0, _⟩ => exact h.symm
  | ⟨1, _⟩ => exact Nat.zero_add _

theorem blk0 (c : Dev nD) (t : Fin cfg0.N) (i : Fin 2048) (k : Fin 1024) :
    (show FVec Ideal S2048x1024 .f32 from iblk m c 0 t) (ix2 i k) = (show FVec Ideal S2x8192x1024 .f32 from m ((c : Thread nD τ).loc main_arg0)) (tok (rowOf t i) k) := by
  unfold iblk
  show V m c main_v7 (((cfg0.win 0).blk t).view.emb (ix2 i k)) = _
  rw [V_v7, show ((cfg0.win 0).blk t).view.emb (ix2 i k) = ix2 (rowOf t i) k from by blk_ext [idx t]]
  exact toks _ _ _

theorem blk1 (c : Dev nD) (t : Fin cfg0.N) (k : Fin 1024) :
    (show FVec Ideal S1x1024 .f32 from iblk m c 1 t) (ix2 0 k) = (show FVec Ideal S1024 .f32 from m ((c : Thread nD τ).loc main_arg1)) (ix1 k) := by
  unfold iblk
  show V m c main_v8 (((cfg0.win 1).blk t).view.emb (ix2 0 k)) = _
  rw [V_v8, show ((cfg0.win 1).blk t).view.emb (ix2 0 k) = ix2 0 k from by blk_ext [idx t]]
  pointwise
  try blk_ext [idx t, tok]

theorem blk2 (c : Dev nD) (t : Fin cfg0.N) (l k : Fin 1024) :
    (show FVec Ideal S1024x1024 .f32 from iblk m c 2 t) (ix2 l k) = (show FVec Ideal S1024x10272 .f32 from m ((c : Thread nD τ).loc main_arg2)) (ix2 k (src ⟨t.val % 10 * 1024 + l.val, by omega⟩)) := by
  have h := src_start (t.val % 10) (by omega) l.val l.isLt
  unfold iblk
  show V m c main_v0 (((cfg0.win 2).blk t).view.emb (ix2 l k)) = _
  rw [V_v0, emb2 t l k]
  pointwise
  try blk_ext [idx t, tok]

theorem blk3 (c : Dev nD) (t : Fin cfg0.N) (k : Fin 1024) (l : Fin 128) :
    (show FVec Ideal S1024x128 .bf16 from iblk m c 3 t) (ix2 k l)
      = if l.val < 96 then (show FVec Ideal S1024x10272 .f32 from m ((c : Thread nD τ).loc main_arg2)) (ix2 k (⟨8192 + l.val % 32, by omega⟩ : Fin 10272)) else 0 := by
  refine Eq.trans ?_ (dtCols_at _ k l)
  unfold iblk
  show V m c main_v6 (((cfg0.win 3).blk t).view.emb (ix2 k l)) = _
  rw [V_v6]
  blk_ext [idx t]

end Cert.InProjIdeal.Block

end
-- ==== Proof.InProjValue.lean ====
/- What the input projection's reference computes, and that the call ends with the same two arrays. -/
module

public import proofs.«01_k».proof.Proof.InProjBlock

@[expose] public section

set_option maxRecDepth 16384

noncomputable section

namespace Cert.InProjRefIdeal.Stages

open Idealize.ShloMosaic Idealize.ShloMosaic.TcCoe Idealize.SL.Sem Cert.InProjRefIdeal Cert.InProjRefIdeal.Gen Cert.Rows

/-- The normalised rows through the weights. -/
def projV (x : FVec Ideal S2x8192x1024 .f32) (g : FVec Ideal S1024 .f32) (w : FVec Ideal S1024x10272 .f32) : FVec Ideal S16384x10272 .f32 :=
  Host.dotGeneral dot_S16384x1024_S1024x10272_S16384x10272_1_0_0_1_n_n none (mulf (mulf (shapeCast S16384x1024 x shapeCasts_S2x8192x1024_S16384x1024) (broadcastInDim S16384x1024 ![0, 1] bcast_S16384x1_S16384x1024_0_1 (Host.rsqrt (addf (Host.divf (broadcastInDim S16384x1 ![0] bcast_S16384_S16384x1_0 (Host.reduceAdd (mulf (shapeCast S16384x1024 x shapeCasts_S2x8192x1024_S16384x1024) (shapeCast S16384x1024 x shapeCasts_S2x8192x1024_S16384x1024)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

/-- The columns in the order q, k, v, xBC, z, gates. -/
def colsV (y : FVec Ideal S16384x10272 .f32) : FVec Ideal S16384x10240 .bf16 :=
  truncf .bf16 ((concatenate S16384x10240 1 [⟨S16384x3072, ((extractStridedSlice S16384x3072 ![0, 0] y slices_S16384x10272_S16384x3072_0_0) : FVec Ideal S16384x3072 .f32)⟩, ⟨S16384x3072, ((extractStridedSlice S16384x3072 ![0, 5120] y slices_S16384x10272_S16384x3072_0_5120) : FVec Ideal S16384x3072 .f32)⟩, ⟨S16384x2048, ((extractStridedSlice S16384x2048 ![0, 3072] y slices_S16384x10272_S16384x2048_0_3072) : FVec Ideal S16384x2048 .f32)⟩, ⟨S16384x2048, ((extractStridedSlice S16384x2048 ![0, 8224] y slices_S16384x10272_S16384x2048_0_8224) : FVec Ideal S16384x2048 .f32)⟩] concatenates_S16384x3072_S16384x3072_S16384x2048_S16384x2048_S16384x10240_d1 : FVec Ideal S16384x10240 .f32)) bitsLt_bf16_f32

/-- The step-size columns three times over, then zeros. -/
def stepsV (y : FVec Ideal S16384x10272 .f32) : FVec Ideal S16384x128 .f32 :=
  (concatenate S16384x128 1 [⟨S16384x32, ((extractStridedSlice S16384x32 ![0, 8192] y slices_S16384x10272_S16384x32_0_8192) : FVec Ideal S16384x32 .f32)⟩, ⟨S16384x32, ((extractStridedSlice S16384x32 ![0, 8192] y slices_S16384x10272_S16384x32_0_8192) : FVec Ideal S16384x32 .f32)⟩, ⟨S16384x32, ((extractStridedSlice S16384x32 ![0, 8192] y slices_S16384x10272_S16384x32_0_8192) : FVec Ideal S16384x32 .f32)⟩, ⟨S16384x32, ((broadcastInDim S16384x32 ![] bcast_S_S16384x32 (constant S_ .f32 0x00000000#32)) : FVec Ideal S16384x32 .f32)⟩] concatenates_S16384x32_S16384x32_S16384x32_S16384x32_S16384x128_d1 : FVec Ideal S16384x128 .f32)

theorem projV_at (x : FVec Ideal S2x8192x1024 .f32) (g : FVec Ideal S1024 .f32) (w : FVec Ideal S1024x10272 .f32) (r : Fin 16384) (j : Fin 10272) :
    projV x g w (ix2 r j) = lin (rms (fun k => x (Cert.InProjIdeal.Block.tok r k)) (fun k => g (ix1 k))) (fun k l => w (ix2 k l)) j := by
  pointwise [projV]
  simp only [lin, rms, zero_add, Cert.InProjIdeal.Block.tok]

theorem colsV_at (y : FVec Ideal S16384x10272 .f32) (r : Fin 16384) (q : Fin 10240) :
    colsV y (ix2 r q) = y (ix2 r (Cert.InProjIdeal.Block.src q)) := by
  pointwise [colsV]
  have hy : ∀ a b : Fin 10272, a.val = b.val → y (ix2 r a) = y (ix2 r b) := fun a b h => by rw [Fin.ext h]
  have hq := q.isLt
  unfold Cert.InProjIdeal.Block.src
  by_cases h1 : q.val < 3072
  · refine (dif_pos h1).trans ?_; refine hy _ _ ?_; show q.val = _; split_ifs <;> first | omega | (dsimp only; done) | (dsimp only; omega)
  · refine (dif_neg h1).trans ?_
    by_cases h2 : q.val - 3072 < 3072
    · refine (dif_pos h2).trans ?_; refine hy _ _ ?_; show 5120 + (q.val - 3072) = _; split_ifs <;> first | omega | (dsimp only; done) | (dsimp only; omega)
    · refine (dif_neg h2).trans ?_
      by_cases h3 : q.val - 3072 - 3072 < 2048
      · refine (dif_pos h3).trans ?_; refine hy _ _ ?_; show 3072 + (q.val - 3072 - 3072) = _; split_ifs <;> first | omega | (dsimp only; done) | (dsimp only; omega)
      · refine (dif_neg h3).trans ?_; refine hy _ _ ?_; show 8224 + (q.val - 3072 - 3072 - 2048) = _; split_ifs <;> first | omega | (dsimp only; done) | (dsimp only; omega)

theorem stepsV_at (y : FVec Ideal S16384x10272 .f32) (r : Fin 16384) (l : Fin 128) :
    stepsV y (ix2 r l) = if l.val < 96 then y (ix2 r (⟨8192 + l.val % 32, by omega⟩ : Fin 10272)) else 0 := by
  pointwise [stepsV]
  have hy : ∀ a b : Fin 10272, a.val = b.val → y (ix2 r a) = y (ix2 r b) := fun a b h => by rw [Fin.ext h]
  by_cases h1 : l.val < 32
  · refine (dif_pos h1).trans (Eq.trans ?_ (if_pos (by omega)).symm); refine hy _ _ ?_; show 8192 + l.val = 8192 + l.val % 32; omega
  · refine (dif_neg h1).trans ?_
    by_cases h2 : l.val - 32 < 32
    · refine (dif_pos h2).trans (Eq.trans ?_ (if_pos (by omega)).symm); refine hy _ _ ?_; show 8192 + (l.val - 32) = 8192 + l.val % 32; omega
    · refine (dif_neg h2).trans ?_
      by_cases h3 : l.val - 32 - 32 < 32
      · refine (dif_pos h3).trans (Eq.trans ?_ (if_pos (by omega)).symm); refine hy _ _ ?_; show 8192 + (l.val - 32 - 32) = 8192 + l.val % 32; omega
      · exact (dif_neg h3).trans (if_neg (by omega)).symm

end Cert.InProjRefIdeal.Stages

namespace Cert.InProjIdeal.Whole

open Idealize.ShloMosaic Idealize.ShloMosaic.TcCoe Idealize.SL.Sem Cert.InProjIdeal Cert.InProjIdeal.Gen Cert.InProjIdeal.Body Cert.InProjIdeal.Block Cert.Rows
open Idealize.ShloMosaic.Pipeline (Dat)

/-- A token's row of the projection. -/
def projRow (x : FVec Ideal S2x8192x1024 .f32) (g : FVec Ideal S1024 .f32) (w : FVec Ideal S1024x10272 .f32) (r : Fin 16384) : Fin 10272 → EReal :=
  lin (rms (fun k => x (tok r k)) (fun k => g (ix1 k))) (fun k l => w (ix2 k l))

variable (m : (ℓ : Loc nD τ sig) → Buf (Elt Ideal) ℓ)

/-- The projection of a row of this memory's arguments. -/
abbrev P (c : Dev nD) (r : Fin 16384) : Fin 10272 → EReal :=
  projRow (m ((c : Thread nD τ).loc main_arg0)) (m ((c : Thread nD τ).loc main_arg1)) (m ((c : Thread nD τ).loc main_arg2)) r

/-- The first result. -/
abbrev G0 (c : Dev nD) : FVec Ideal S16384x10240 .bf16 := fun i => P m c (i 0) (src (i 1))
/-- The second result. -/
abbrev G1 (c : Dev nD) : FVec Ideal S16384x128 .f32 := fun i =>
  if (i 1).val < 96 then P m c (i 0) (⟨8192 + (i 1).val % 32, by have := (i 1).isLt; omega⟩ : Fin 10272) else 0

theorem rows_eq (x : Vec Ideal S2048x1024 .f32) (g : Vec Ideal S1x1024 .f32) : rows x g = k0_pay2 x g := by
  funext y; unfold rows; frame_out
theorem cols_eq (h : Vec Ideal S2048x1024 .bf16) (w : Vec Ideal S1024x1024 .f32) : cols h w = k0_pay4 h w := by
  funext y; unfold cols; frame_out
theorem steps_eq (x : Vec Ideal S2048x1024 .f32) (g : Vec Ideal S1x1024 .f32) (w : Vec Ideal S1024x128 .bf16) : steps x g w = k0_pay3 x g w := by
  funext y; unfold steps; frame_out

theorem rowOf_head (t : Fin cfg0.N) (i : Fin 2048) : rowOf (head t) i = rowOf t i :=
  Fin.ext (by show 10 * (t.val / 10) / 10 * 2048 + i.val = t.val / 10 * 2048 + i.val; omega)

/-- The scratch rows are the normalised rows. -/
theorem rowsAt_at (c : Dev nD) (t : Fin cfg0.N) (i : Fin 2048) (k : Fin 1024) :
    (show FVec Ideal S2048x1024 .bf16 from rowsAt m c t) (ix2 i k)
      = rms (fun k => (show FVec Ideal S2x8192x1024 .f32 from m ((c : Thread nD τ).loc main_arg0)) (tok (rowOf t i) k))
          (fun k => (show FVec Ideal S1024 .f32 from m ((c : Thread nD τ).loc main_arg1)) (ix1 k)) k := by
  unfold rowsAt
  rw [rows_eq]
  refine (pay2_at _ _ i k).trans (congrFun (congrArg₂ _ ?_ ?_) k)
  · funext k; rw [← rowOf_head]; exact blk0 m c (head t) i k
  · funext k; exact blk1 m c (head t) k

/-- What a point leaves in the first output's block. -/
theorem point0 (c : Dev nD) (t : Fin cfg0.N) (i : Fin 2048) (j : Fin 1024) :
    (show FVec Ideal S2048x1024 .bf16 from cols (rowsAt m c t) (iblk m c 2 t)) (ix2 i j)
      = G0 m c (ix2 (rowOf t i) (⟨t.val % 10 * 1024 + j.val, by omega⟩ : Fin 10240)) := by
  rw [cols_eq]
  refine (pay4_at _ _ i j).trans ?_
  show lin _ _ j = lin _ _ (src _)
  unfold lin
  refine Finset.sum_congr rfl fun k _ => ?_
  exact congrArg₂ _ (rowsAt_at m c t i k) (blk2 m c t j k)

/-- What a row block leaves in the second output's block. -/
theorem point1 (c : Dev nD) (t : Fin cfg0.N) (i : Fin 2048) (j : Fin 128) :
    (show FVec Ideal S2048x128 .f32 from stepsAt m c t) (ix2 i j) = G1 m c (ix2 (rowOf t i) j) := by
  unfold stepsAt
  rw [steps_eq]
  refine (pay3_at _ _ _ i j).trans ?_
  have e : ∀ k, (fun k l => (show FVec Ideal S1024x128 .bf16 from iblk m c 3 (head t)) (ix2 k l)) k j = _ := fun k => blk3 m c (head t) k j
  have h : rms (fun k => (show FVec Ideal S2048x1024 .f32 from iblk m c 0 (head t)) (ix2 i k)) (fun k => (show FVec Ideal S1x1024 .f32 from iblk m c 1 (head t)) (ix2 0 k))
      = rms (fun k => (show FVec Ideal S2x8192x1024 .f32 from m ((c : Thread nD τ).loc main_arg0)) (tok (rowOf t i) k))
          (fun k => (show FVec Ideal S1024 .f32 from m ((c : Thread nD τ).loc main_arg1)) (ix1 k)) := by
    refine congrArg₂ _ ?_ ?_
    · funext k; rw [← rowOf_head]; exact blk0 m c (head t) i k
    · funext k; exact blk1 m c (head t) k
  show lin _ _ j = if j.val < 96 then lin _ _ _ else 0
  by_cases hj : j.val < 96
  · rw [if_pos hj]
    unfold lin
    refine Finset.sum_congr rfl fun k _ => congrArg₂ _ (congrFun h k) ?_
    exact (e k).trans (if_pos hj)
  · rw [if_neg hj]
    unfold lin
    refine Finset.sum_eq_zero fun k _ => ?_
    refine (congrArg₂ _ rfl ((e k).trans (if_neg hj))).trans (mul_zero _)

/-- The first result after the run. -/
theorem final0 (c : Dev nD) : (dats m 0 c).arrAt 4 (cfgs 0).N = G0 m c := by
  refine (dats m 0 c).arrAt_eq_of_covers 4 _ (by decide +kernel) fun t hf y => ?_
  blk_simp; rw [after_4]
  rw [eq_ix2 y]
  refine (point0 m c t (y 0) (y 1)).trans (congrArg (G0 m c) ?_)
  blk_ext [idx t]

/-- The second result after the run. -/
theorem final1 (c : Dev nD) : (dats m 0 c).arrAt 5 (cfgs 0).N = G1 m c := by
  refine (dats m 0 c).arrAt_eq_of_covers 5 _ (by decide +kernel) fun t hf y => ?_
  blk_simp; rw [after_5]
  rw [eq_ix2 y]
  refine (point1 m c t (y 0) (y 1)).trans (congrArg (G1 m c) ?_)
  blk_ext [idx t]

end Cert.InProjIdeal.Whole

end
-- ==== Proof.InProjTwin.lean ====
/- The input projection's two printed texts are the same program. -/
module

public import proofs.«01_k».proof.Proof.Gen.InProj
public import proofs.«01_k».proof.Proof.InProjFrame

@[expose] public section

set_option maxRecDepth 16384
set_option maxHeartbeats 1000000

open Idealize.ShloMosaic Idealize.ShloMosaic.TcCoe Idealize.SL.Sem

namespace Cert.InProjTwin

variable {F : FTy → Type} [FloatOps F]

/-- The bodies are the same. -/
theorem bodies : (Cert.InProj.defs₀ (F := F)) = Cert.InProjIdeal.defs₀ (F := F) := by
  unfold Cert.InProj.defs₀ Cert.InProjIdeal.defs₀
  refine congrArg Defs.onTc ?_
  funext l x
  obtain ⟨l, hl⟩ := l
  cases l with
  | zero => rfl
  | succ n => exact absurd hl (Nat.not_lt.2 (Nat.le_add_left _ _))

/-- The definitions are the same. -/
theorem defs : (Cert.InProj.defs (F := F)) = Cert.InProjIdeal.defs (F := F) :=
  congrArg (Pipeline.defs _) bodies

variable (m : (ℓ : Loc Cert.InProj.nD Cert.InProj.τ Cert.InProj.sig) → Buf (Elt F) ℓ) (ρ : Dev Cert.InProj.nD → PrngReg)

/-- The run of the one is the run of the other. -/
theorem frame : θ_run (Cert.InProj.defs (F := F)) (onTc (τ := Cert.InProj.τ) (Cert.InProj.main (F := F))) ⟨m, fun _ => 0, ρ⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0) := by
  rw [defs]
  exact Cert.InProjIdeal.Body.frame m ρ

end Cert.InProjTwin
-- ==== Proof.InProjClaims.lean ====
/- The claims about the layer's input projection. -/
module

public import proofs.«01_k».proof.Defs
public import proofs.«01_k».proof.Proof.InProjValue
public import proofs.«01_k».proof.Proof.InProjTwin
public import Idealize.ShloMosaic.Lib.Quiescent

@[expose] public section

noncomputable section

open Idealize.ShloMosaic Idealize.ShloMosaic.TcCoe Idealize.SL.Sem

namespace Cert.Proof.InProjClaims

/-- The call runs, ends and leaves its arguments alone. -/
theorem frame_p : Cert.quiescent_InProj := fun m ρ _ => Cert.InProjTwin.frame m ρ
/-- The same of the call over the extended reals. -/
theorem frame_pi : Cert.quiescent_InProjIdeal := fun m ρ _ => Cert.InProjIdeal.Body.frame m ρ
/-- The same of the reference. -/
theorem frame_ri : Cert.quiescent_InProjRefIdeal := fun m ρ _ =>
  (θ_run Cert.InProjRefIdeal.defs _ _).mono (fun r h => ⟨fun c => (h c).2.2,
      Idealize.ShloMosaic.sem_eq_zero_of_no_sems (by decide) r.2⟩)
    (Cert.InProjRefIdeal.Value.run (F := Ideal) m ρ)

/-- Call and reference end with the same two arrays: every token's row of projected columns, and its step sizes. -/
theorem algebraic : Cert.algebraic_InProjIdeal_InProjRefIdeal := by
  intro m ρ m' ρ' _ hagree
  refine ⟨_, _, (θ_run Cert.InProjIdeal.defs _ _).mono (fun _ h c => ⟨(h c).1.1, (h c).1.2, (h c).2⟩)
    (Cert.InProjIdeal.Body.run_blocks (F := Ideal) m ρ), ?_⟩
  refine (θ_run Cert.InProjRefIdeal.defs _ _).mono (fun _ h c => ⟨(h c).1.trans ?_, (h c).2.1.trans ?_, (h c).2.2⟩)
    (Cert.InProjRefIdeal.Value.run (F := Ideal) m' ρ')
  · refine Eq.trans ?_ (Cert.InProjIdeal.Whole.final0 m c).symm
    obtain ⟨h0, h1, h2⟩ := hagree c
    funext i
    have e : i = ix2 (i 0) (i 1) := eq_ix2 i
    rw [e]
    refine (Cert.InProjRefIdeal.Stages.colsV_at (Cert.InProjRefIdeal.Stages.projV (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))) (i 0) (i 1)).trans ?_
    refine (Cert.InProjRefIdeal.Stages.projV_at _ _ _ (i 0) _).trans ?_
    rw [h0, h1, h2]
    rfl
  · refine Eq.trans ?_ (Cert.InProjIdeal.Whole.final1 m c).symm
    obtain ⟨h0, h1, h2⟩ := hagree c
    funext i
    have e : i = ix2 (i 0) (i 1) := eq_ix2 i
    rw [e]
    refine (Cert.InProjRefIdeal.Stages.stepsV_at (Cert.InProjRefIdeal.Stages.projV (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))) (i 0) (i 1)).trans ?_
    refine if_congr Iff.rfl ((Cert.InProjRefIdeal.Stages.projV_at _ _ _ (i 0) _).trans ?_) rfl
    rw [h0, h1, h2]
    rfl

end Cert.Proof.InProjClaims

end
-- ==== Proof.TailBlock.lean ====
/- What the tail's body computes of a block: every stage of it, row by row, is a row function of `Rows`. -/
module

public import proofs.«01_k».proof.Proof.Rows
public import proofs.«01_k».proof.Proof.Gen.TailIdeal.Skeleton

@[expose] public section

set_option maxRecDepth 16384

noncomputable section

namespace Cert.TailIdeal.Block

open Idealize.ShloMosaic Cert.TailIdeal Cert.TailIdeal.Gen Cert.Rows

/-- The merged row. -/
theorem pay3_at (a : FVec Ideal S512x1024 .bf16) (wa : FVec Ideal S1024x1024 .bf16) (b : FVec Ideal S512x2048 .bf16)
    (wb : FVec Ideal S2048x1024 .bf16) (ga gb : FVec Ideal S512x1024 .bf16) (i : Fin 512) (j : Fin 1024) :
    k0_pay3 (F := Ideal) a wa b wb ga gb (ix2 i j)
      = merge (fun k => a (ix2 i k)) (fun k => b (ix2 i k)) (fun k => ga (ix2 i k)) (fun k => gb (ix2 i k))
          (fun k l => wa (ix2 k l)) (fun k l => wb (ix2 k l)) j := by
  pointwise [k0_pay3]
  simp only [merge, gate, lin, zero_sub, zero_add]

set_option maxHeartbeats 1000000 in
/-- The residual row after the output projection and the channel mixer. -/
theorem pay4_at (x : FVec Ideal S512x1024 .f32) (mg : FVec Ideal S512x1024 .bf16) (wo : FVec Ideal S1024x1024 .bf16)
    (g : FVec Ideal S1x1024 .f32) (wg wu : FVec Ideal S1024x2816 .bf16) (wd : FVec Ideal S2816x1024 .bf16)
    (i : Fin 512) (j : Fin 1024) :
    k0_pay4 (F := Ideal) x mg wo g wg wu wd (ix2 i j)
      = ffn (resid (fun k => x (ix2 i k)) (fun k => mg (ix2 i k)) (fun k l => wo (ix2 k l))) (fun k => g (ix2 0 k))
          (fun k l => wg (ix2 k l)) (fun k l => wu (ix2 k l)) (fun k l => wd (ix2 k l)) j := by
  pointwise [k0_pay4]
  simp only [ffn, resid, hid, rms, gate, lin, zero_sub, zero_add]

set_option maxHeartbeats 1000000 in
/-- The row after the gated embedding. -/
theorem pay1_at (x : FVec Ideal S512x1024 .f32) (g : FVec Ideal S1x1024 .f32) (wg : FVec Ideal S1024x1024 .bf16)
    (p : FVec Ideal S512x256 .f32) (wp : FVec Ideal S256x1024 .bf16) (i : Fin 512) (j : Fin 1024) :
    k0_pay1 (F := Ideal) x (k0_pay5 (F := Ideal) g) wg p wp (ix2 i j)
      = ple (fun k => x (ix2 i k)) (fun k => g (ix2 0 k)) (fun k => p (ix2 i k)) (fun k l => wg (ix2 k l))
          (fun k l => wp (ix2 k l)) j := by
  pointwise [k0_pay1, k0_pay5]
  simp only [ple, rms, gate, lin, zero_sub, zero_add]

end Cert.TailIdeal.Block

end
-- ==== Proof.TailRef.lean ====
/- What the tail's reference computes, in three stages, each row by row a row function of `Rows`. -/
module

public import proofs.«01_k».proof.Proof.Rows
public import proofs.«01_k».proof.Proof.Gen.TailRefIdeal.Run

@[expose] public section

set_option maxRecDepth 16384

noncomputable section

namespace Cert.TailRefIdeal.Stages

open Idealize.ShloMosaic Idealize.ShloMosaic.TcCoe Idealize.SL.Sem Cert.TailRefIdeal Cert.TailRefIdeal.Gen Cert.Rows

/-- The merged rows. -/
def mergeV (a : FVec Ideal S2x8192x1024 .bf16) (b : FVec Ideal S2x8192x2048 .bf16) (pr : FVec Ideal S16384x10240 .bf16)
    (wa : FVec Ideal S1024x1024 .f32) (wb : FVec Ideal S2048x1024 .f32) : FVec Ideal S16384x1024 .f32 :=
  addf (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extf .f32 (extractStridedSlice S16384x1024 ![0, 8192] pr slices_S16384x10240_S16384x1024_0_8192) bitsLt_bf16_f32)))))
      (Host.dotGeneral dot_S16384x1024_S1024x1024_S16384x1024_1_0_0_1_n_n none (extf .f32 (shapeCast _ a shapeCasts_S2x8192x1024_S16384x1024) bitsLt_bf16_f32) wa))
    (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extf .f32 (extractStridedSlice S16384x1024 ![0, 9216] pr slices_S16384x10240_S16384x1024_0_9216) bitsLt_bf16_f32)))))
      (Host.dotGeneral dot_S16384x2048_S2048x1024_S16384x1024_1_0_0_1_n_n none (extf .f32 (shapeCast _ b shapeCasts_S2x8192x2048_S16384x2048) bitsLt_bf16_f32) wb))

/-- The residual rows after the output projection. -/
def residV (x : FVec Ideal S2x8192x1024 .f32) (mg : FVec Ideal S16384x1024 .f32) (wo : FVec Ideal S1024x1024 .f32) : FVec Ideal S16384x1024 .f32 :=
  addf (shapeCast _ x shapeCasts_S2x8192x1024_S16384x1024) (Host.dotGeneral dot_S16384x1024_S1024x1024_S16384x1024_1_0_0_1_n_n none mg wo)

/-- RMSNorm of every row. -/
def rmsV (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The residual rows after the channel mixer. -/
def ffnV (x : FVec Ideal S16384x1024 .f32) (h : FVec Ideal S16384x1024 .f32) (wgu : FVec Ideal S1024x5632 .f32) (wd : FVec Ideal S2816x1024 .f32) : FVec Ideal S16384x1024 .f32 :=
  addf x (Host.dotGeneral dot_S16384x2816_S2816x1024_S16384x1024_1_0_0_1_n_n none
    (mulf (mulf (extractStridedSlice S16384x2816 ![0, 0] (Host.dotGeneral dot_S16384x1024_S1024x5632_S16384x5632_1_0_0_1_n_n none h wgu) slices_S16384x5632_S16384x2816_0_0)
      (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] (Host.dotGeneral dot_S16384x1024_S1024x5632_S16384x5632_1_0_0_1_n_n none h wgu) slices_S16384x5632_S16384x2816_0_0))))))
      (extractStridedSlice S16384x2816 ![0, 2816] (Host.dotGeneral dot_S16384x1024_S1024x5632_S16384x5632_1_0_0_1_n_n none h wgu) slices_S16384x5632_S16384x2816_0_2816)) wd)

/-- The rows after the gated embedding. -/
def pleV (x : FVec Ideal S16384x1024 .f32) (h : FVec Ideal S16384x1024 .f32) (p : FVec Ideal S2x8192x256 .f32) (wpg : FVec Ideal S1024x1024 .f32) (wpp : FVec Ideal S256x1024 .f32) : FVec Ideal S16384x1024 .f32 :=
  addf x (mulf (Host.dotGeneral dot_S16384x256_S256x1024_S16384x1024_1_0_0_1_n_n none (shapeCast _ p shapeCasts_S2x8192x256_S16384x256) wpp)
    (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none h wpg))))))

/-- The token a row is, as its place in the batch. -/
abbrev tok {w : ℕ} (r : Fin 16384) (k : Fin w) : (⟨3, ![2, 8192, w]⟩ : Shape).Idx :=
  ix3 (⟨r.val / 8192, by omega⟩ : Fin 2) (⟨r.val % 8192, by omega⟩ : Fin 8192) k

theorem mergeV_at (a : FVec Ideal S2x8192x1024 .bf16) (b : FVec Ideal S2x8192x2048 .bf16) (pr : FVec Ideal S16384x10240 .bf16)
    (wa : FVec Ideal S1024x1024 .f32) (wb : FVec Ideal S2048x1024 .f32) (r : Fin 16384) (j : Fin 1024) :
    mergeV a b pr wa wb (ix2 r j)
      = merge (fun k => a (tok r k)) (fun k => b (tok r k)) (fun k => pr (ix2 r ⟨8192 + k.val, by omega⟩))
          (fun k => pr (ix2 r ⟨9216 + k.val, by omega⟩)) (fun k l => wa (ix2 k l)) (fun k l => wb (ix2 k l)) j := by
  pointwise [mergeV]
  simp only [merge, gate, lin, tok]

theorem residV_at (x : FVec Ideal S2x8192x1024 .f32) (mg : FVec Ideal S16384x1024 .f32) (wo : FVec Ideal S1024x1024 .f32)
    (r : Fin 16384) (j : Fin 1024) :
    residV x mg wo (ix2 r j) = resid (fun k => x (tok r k)) (fun k => mg (ix2 r k)) (fun k l => wo (ix2 k l)) j := by
  pointwise [residV]
  simp only [resid, lin, tok]

theorem rmsV_at (x : FVec Ideal S16384x1024 .f32) (g : FVec Ideal S1024 .f32) (r : Fin 16384) (j : Fin 1024) :
    rmsV x g (ix2 r j) = rms (fun k => x (ix2 r k)) (fun k => g (ix1 k)) j := by
  pointwise [rmsV]
  simp only [rms, zero_add]

theorem ffnV_at (x h : FVec Ideal S16384x1024 .f32) (wgu : FVec Ideal S1024x5632 .f32) (wd : FVec Ideal S2816x1024 .f32)
    (r : Fin 16384) (j : Fin 1024) :
    ffnV x h wgu wd (ix2 r j)
      = x (ix2 r j) + lin (hid (fun k => h (ix2 r k)) (fun k l => wgu (ix2 k ⟨l.val, by omega⟩))
          (fun k l => wgu (ix2 k ⟨2816 + l.val, by omega⟩))) (fun k l => wd (ix2 k l)) j := by
  pointwise [ffnV]
  simp only [hid, gate, lin]

theorem pleV_at (x h : FVec Ideal S16384x1024 .f32) (p : FVec Ideal S2x8192x256 .f32) (wpg : FVec Ideal S1024x1024 .f32)
    (wpp : FVec Ideal S256x1024 .f32) (r : Fin 16384) (j : Fin 1024) :
    pleV x h p wpg wpp (ix2 r j)
      = x (ix2 r j) + lin (fun k => p (tok r k)) (fun k l => wpp (ix2 k l)) j
          * gate (lin (fun k => h (ix2 r k)) (fun k l => wpg (ix2 k l)) j) := by
  pointwise [pleV]
  simp only [gate, lin, tok]

variable (m : (ℓ : Loc nD τ sig) → Buf (Elt Ideal) ℓ)

/-- The reference's arrays at a memory: the residual rows after the merge. -/
def X1 (c : Dev nD) : FVec Ideal S16384x1024 .f32 :=
  residV (m ((c.tc : Thread nD τ).loc main_arg3))
    (mergeV (m ((c.tc : Thread nD τ).loc main_arg0)) (m ((c.tc : Thread nD τ).loc main_arg1))
      (m ((c.tc : Thread nD τ).loc main_arg2)) (m ((c.tc : Thread nD τ).loc main_arg5)) (m ((c.tc : Thread nD τ).loc main_arg6)))
    (m ((c.tc : Thread nD τ).loc main_arg7))

/-- The residual rows after the channel mixer. -/
def X2 (c : Dev nD) : FVec Ideal S16384x1024 .f32 :=
  ffnV (X1 m c) (rmsV (X1 m c) (m ((c.tc : Thread nD τ).loc main_arg8))) (m ((c.tc : Thread nD τ).loc main_arg9))
    (m ((c.tc : Thread nD τ).loc main_arg10))

/-- The reference's result is its three stages. -/
theorem res_eq (c : Dev nD) : Value.res_main_v71 m c
    = pleV (X2 m c) (rmsV (X2 m c) (m ((c.tc : Thread nD τ).loc main_arg11))) (m ((c.tc : Thread nD τ).loc main_arg4))
        (m ((c.tc : Thread nD τ).loc main_arg12)) (m ((c.tc : Thread nD τ).loc main_arg13)) := by
  unfold Value.res_main_v71
  simp only [X2, X1, pleV, ffnV, rmsV, residV, mergeV]
  rfl

end Cert.TailRefIdeal.Stages

end
-- ==== Proof.TailValue.lean ====
/- What the tail's result array holds after the run, and that the reference's result is the same array. -/
module

public import proofs.«01_k».proof.Proof.TailBlock
public import proofs.«01_k».proof.Proof.TailRef
public import proofs.«01_k».proof.Proof.Gen.TailIdeal.Value
public import Idealize.ShloMosaic.Lib.Pipeline.ValueKit
public import Idealize.ShloMosaic.Lib.Claim

@[expose] public section

set_option maxRecDepth 16384

noncomputable section

namespace Cert.TailIdeal.Whole

open Idealize.ShloMosaic Idealize.ShloMosaic.TcCoe Idealize.SL.Sem Cert.TailIdeal Cert.TailIdeal.Gen Cert.TailIdeal.Block
open Idealize.ShloMosaic.Pipeline (Dat)

/-- A token's row of the whole tail, from the argument arrays. -/
def tailRow (att : FVec Ideal S2x8192x1024 .bf16) (yn : FVec Ideal S2x8192x2048 .bf16) (pr : FVec Ideal S16384x10240 .bf16)
    (x : FVec Ideal S2x8192x1024 .f32) (p : FVec Ideal S2x8192x256 .f32) (woa : FVec Ideal S1024x1024 .f32)
    (wos : FVec Ideal S2048x1024 .f32) (wo : FVec Ideal S1024x1024 .f32) (g2 : FVec Ideal S1024 .f32)
    (wgu : FVec Ideal S1024x5632 .f32) (wd : FVec Ideal S2816x1024 .f32) (g3 : FVec Ideal S1024 .f32)
    (wpg : FVec Ideal S1024x1024 .f32) (wpp : FVec Ideal S256x1024 .f32) (r : Fin 16384) : Fin 1024 → EReal :=
  Rows.ple
    (Rows.ffn
      (Rows.resid (fun k => x (Cert.TailRefIdeal.Stages.tok r k))
        (Rows.merge (fun k => att (Cert.TailRefIdeal.Stages.tok r k)) (fun k => yn (Cert.TailRefIdeal.Stages.tok r k))
          (fun k => pr (ix2 r ⟨8192 + k.val, by omega⟩)) (fun k => pr (ix2 r ⟨9216 + k.val, by omega⟩))
          (fun k l => woa (ix2 k l)) (fun k l => wos (ix2 k l)))
        (fun k l => wo (ix2 k l)))
      (fun k => g2 (ix1 k)) (fun k l => wgu (ix2 k ⟨l.val, by omega⟩)) (fun k l => wgu (ix2 k ⟨2816 + l.val, by omega⟩))
      (fun k l => wd (ix2 k l)))
    (fun k => g3 (ix1 k)) (fun k => p (Cert.TailRefIdeal.Stages.tok r k)) (fun k l => wpg (ix2 k l)) (fun k l => wpp (ix2 k l))

/-- Which block every window takes at every point. -/
theorem idx : ∀ t : Fin cfg0.N, win0_0.index t = ![t.val, 0] ∧ win0_1.index t = ![t.val, 0] ∧ win0_2.index t = ![t.val, 8]
    ∧ win0_3.index t = ![t.val, 9] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![0, 0] ∧ win0_13.index t = ![0, 0] ∧ win0_14.index t = ![0, 0]
    ∧ win0_15.index t = ![t.val, 0] :=
  (by decide +kernel : ∀ t : Fin grid0.N, _)

variable (m : (ℓ : Loc nD τ sig) → Buf (Elt Ideal) ℓ)

/-- The row functions of the tail only see their arguments through equality of their rows. -/
abbrev G (c : Dev nD) : FVec Ideal S16384x1024 .f32 := fun i =>
  tailRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (i 0) (i 1)

open Cert.TailRefIdeal.Stages (tok)

/-- The array row a block's row is. -/
abbrev rowOf (t : Fin cfg0.N) (i : Fin 512) : Fin 16384 := ⟨t.val * 512 + i.val, by have := t.isLt; have h : cfg0.N = 32 := rfl; omega⟩

/-! The blocks the body is given, read in the argument arrays. -/

theorem blk0 (c : Dev nD) (t : Fin cfg0.N) (i : Fin 512) (k : Fin 1024) :
    (show FVec Ideal S512x1024 .bf16 from iblk m c 0 t) (ix2 i k) = (show FVec Ideal S2x8192x1024 .bf16 from m ((c : Thread nD τ).loc main_arg0)) (tok (rowOf t i) k) := by
  blk_point [iblk, V, idx t, tok]

theorem blk1 (c : Dev nD) (t : Fin cfg0.N) (i : Fin 512) (k : Fin 2048) :
    (show FVec Ideal S512x2048 .bf16 from iblk m c 1 t) (ix2 i k) = (show FVec Ideal S2x8192x2048 .bf16 from m ((c : Thread nD τ).loc main_arg1)) (tok (rowOf t i) k) := by
  blk_point [iblk, V, idx t, tok]

theorem blk2 (c : Dev nD) (t : Fin cfg0.N) (i : Fin 512) (k : Fin 1024) :
    (show FVec Ideal S512x1024 .bf16 from iblk m c 2 t) (ix2 i k) = (show FVec Ideal S16384x10240 .bf16 from m ((c : Thread nD τ).loc main_arg2)) (ix2 (rowOf t i) (⟨8192 + k.val, by omega⟩ : Fin 10240)) := by
  blk_point [iblk, V, idx t, tok]

theorem blk3 (c : Dev nD) (t : Fin cfg0.N) (i : Fin 512) (k : Fin 1024) :
    (show FVec Ideal S512x1024 .bf16 from iblk m c 3 t) (ix2 i k) = (show FVec Ideal S16384x10240 .bf16 from m ((c : Thread nD τ).loc main_arg2)) (ix2 (rowOf t i) (⟨9216 + k.val, by omega⟩ : Fin 10240)) := by
  blk_point [iblk, V, idx t, tok]

theorem blk4 (c : Dev nD) (t : Fin cfg0.N) (i : Fin 512) (k : Fin 1024) :
    (show FVec Ideal S512x1024 .f32 from iblk m c 4 t) (ix2 i k) = (show FVec Ideal S2x8192x1024 .f32 from m ((c : Thread nD τ).loc main_arg3)) (tok (rowOf t i) k) := by
  blk_point [iblk, V, idx t, tok]

theorem blk5 (c : Dev nD) (t : Fin cfg0.N) (k : Fin 1024) (l : Fin 1024) :
    (show FVec Ideal S1024x1024 .bf16 from iblk m c 5 t) (ix2 k l) = (show FVec Ideal S1024x1024 .f32 from m ((c : Thread nD τ).loc main_arg5)) (ix2 k l) := by
  blk_point [iblk, V, idx t, tok]

theorem blk6 (c : Dev nD) (t : Fin cfg0.N) (k : Fin 2048) (l : Fin 1024) :
    (show FVec Ideal S2048x1024 .bf16 from iblk m c 6 t) (ix2 k l) = (show FVec Ideal S2048x1024 .f32 from m ((c : Thread nD τ).loc main_arg6)) (ix2 k l) := by
  blk_point [iblk, V, idx t, tok]

theorem blk7 (c : Dev nD) (t : Fin cfg0.N) (k : Fin 1024) (l : Fin 1024) :
    (show FVec Ideal S1024x1024 .bf16 from iblk m c 7 t) (ix2 k l) = (show FVec Ideal S1024x1024 .f32 from m ((c : Thread nD τ).loc main_arg7)) (ix2 k l) := by
  blk_point [iblk, V, idx t, tok]

theorem blk8 (c : Dev nD) (t : Fin cfg0.N) (k : Fin 1024) :
    (show FVec Ideal S1x1024 .f32 from iblk m c 8 t) (ix2 0 k) = (show FVec Ideal S1024 .f32 from m ((c : Thread nD τ).loc main_arg8)) (ix1 k) := by
  blk_point [iblk, V, idx t, tok]

theorem blk9 (c : Dev nD) (t : Fin cfg0.N) (k : Fin 1024) (l : Fin 5632) :
    (show FVec Ideal S1024x5632 .bf16 from iblk m c 9 t) (ix2 k l) = (show FVec Ideal S1024x5632 .f32 from m ((c : Thread nD τ).loc main_arg9)) (ix2 k l) := by
  blk_point [iblk, V, idx t, tok]

theorem blk10 (c : Dev nD) (t : Fin cfg0.N) (k : Fin 2816) (l : Fin 1024) :
    (show FVec Ideal S2816x1024 .bf16 from iblk m c 10 t) (ix2 k l) = (show FVec Ideal S2816x1024 .f32 from m ((c : Thread nD τ).loc main_arg10)) (ix2 k l) := by
  blk_point [iblk, V, idx t, tok]

theorem blk11 (c : Dev nD) (t : Fin cfg0.N) (i : Fin 512) (k : Fin 256) :
    (show FVec Ideal S512x256 .f32 from iblk m c 11 t) (ix2 i k) = (show FVec Ideal S2x8192x256 .f32 from m ((c : Thread nD τ).loc main_arg4)) (tok (rowOf t i) k) := by
  blk_point [iblk, V, idx t, tok]

theorem blk12 (c : Dev nD) (t : Fin cfg0.N) (k : Fin 1024) :
    (show FVec Ideal S1x1024 .f32 from iblk m c 12 t) (ix2 0 k) = (show FVec Ideal S1024 .f32 from m ((c : Thread nD τ).loc main_arg11)) (ix1 k) := by
  blk_point [iblk, V, idx t, tok]

theorem blk13 (c : Dev nD) (t : Fin cfg0.N) (k : Fin 1024) (l : Fin 1024) :
    (show FVec Ideal S1024x1024 .bf16 from iblk m c 13 t) (ix2 k l) = (show FVec Ideal S1024x1024 .f32 from m ((c : Thread nD τ).loc main_arg12)) (ix2 k l) := by
  blk_point [iblk, V, idx t, tok]

theorem blk14 (c : Dev nD) (t : Fin cfg0.N) (k : Fin 256) (l : Fin 1024) :
    (show FVec Ideal S256x1024 .bf16 from iblk m c 14 t) (ix2 k l) = (show FVec Ideal S256x1024 .f32 from m ((c : Thread nD τ).loc main_arg13)) (ix2 k l) := by
  blk_point [iblk, V, idx t, tok]

/-- What the body stores at a block index is the tail's row at the array row it sits in. -/
theorem point (c : Dev nD) (t : Fin cfg0.N) (i : Fin 512) (j : Fin 1024) :
    k0_pay1 (k0_pay4 (k0_pay2 (iblk m c 4 t)) (k0_pay3 (iblk m c 0 t) (iblk m c 5 t) (iblk m c 1 t) (iblk m c 6 t)
      (iblk m c 2 t) (iblk m c 3 t)) (iblk m c 7 t) (iblk m c 8 t) (View.ld (iblk m c 9 t) r0_5) (View.ld (iblk m c 9 t)
      r0_6) (iblk m c 10 t)) (k0_pay5 (iblk m c 12 t)) (iblk m c 13 t) (iblk m c 11 t) (iblk m c 14 t) (ix2 i j)
      = G m c (ix2 (rowOf t i) j) := by
  refine (pay1_at _ _ _ _ _ i j).trans ?_
  show _ = tailRow _ _ _ _ _ _ _ _ _ _ _ _ _ _ (rowOf t i) j
  unfold tailRow
  refine congrFun (congr (congr (congr (congrArg₂ _ ?_ ?_) ?_) ?_) ?_) j
  · funext k
    refine (pay4_at _ _ _ _ _ _ _ i k).trans ?_
    refine congrFun (congr (congr (congr (congrArg₂ _ ?_ ?_) ?_) ?_) ?_) k
    · refine congr (congrArg₂ _ ?_ ?_) ?_
      · funext k
        refine Eq.trans ?_ (blk4 m c t i k)
        pointwise [k0_pay2]
      · funext k
        refine (pay3_at _ _ _ _ _ _ i k).trans ?_
        refine congrFun (congr (congr (congr (congr (congrArg₂ _ ?_ ?_) ?_) ?_) ?_) ?_) k
        · funext k; exact blk0 m c t i k
        · funext k; exact blk1 m c t i k
        · funext k; exact blk2 m c t i k
        · funext k; exact blk3 m c t i k
        · funext k l; exact blk5 m c t k l
        · funext k l; exact blk6 m c t k l
      · funext k l; exact blk7 m c t k l
    · funext k; exact blk8 m c t k
    · funext k l
      refine Eq.trans ?_ (blk9 m c t k ⟨l.val, by omega⟩)
      pointwise [r0_5]
    · funext k l
      refine Eq.trans ?_ (blk9 m c t k ⟨2816 + l.val, by omega⟩)
      pointwise [r0_6]
    · funext k l; exact blk10 m c t k l
  · funext k; exact blk12 m c t k
  · funext k; exact blk11 m c t i k
  · funext k l; exact blk13 m c t k l
  · funext k l; exact blk14 m c t k l

/-- The result array after the run. -/
theorem final (c : Dev nD) : (dats m 0 c).arrAt 15 (cfgs 0).N = G m c := by
  refine (dats m 0 c).arrAt_eq_of_covers 15 _ (by decide +kernel) fun t hf y => ?_
  blk_simp; rw [after0_15]; frame_out
  rw [eq_ix2 y]
  refine (point m c t (y 0) (y 1)).trans (congrArg (G m c) ?_)
  blk_ext [idx t]

/-- The reference's result, at a memory whose argument arrays are the kernel's, is the same array. -/
theorem ref_eq (m' : (ℓ : Loc Cert.TailRefIdeal.nD Cert.TailRefIdeal.τ Cert.TailRefIdeal.sig) → Buf (Elt Ideal) ℓ)
    (c : Dev Cert.TailRefIdeal.nD) (r : Fin 16384) (j : Fin 1024) :
    Cert.TailRefIdeal.Value.res_main_v71 m' c (ix2 r j)
      = tailRow (m' ((c.tc : Thread _ _).loc Cert.TailRefIdeal.main_arg0)) (m' ((c.tc : Thread _ _).loc Cert.TailRefIdeal.main_arg1))
          (m' ((c.tc : Thread _ _).loc Cert.TailRefIdeal.main_arg2)) (m' ((c.tc : Thread _ _).loc Cert.TailRefIdeal.main_arg3))
          (m' ((c.tc : Thread _ _).loc Cert.TailRefIdeal.main_arg4)) (m' ((c.tc : Thread _ _).loc Cert.TailRefIdeal.main_arg5))
          (m' ((c.tc : Thread _ _).loc Cert.TailRefIdeal.main_arg6)) (m' ((c.tc : Thread _ _).loc Cert.TailRefIdeal.main_arg7))
          (m' ((c.tc : Thread _ _).loc Cert.TailRefIdeal.main_arg8)) (m' ((c.tc : Thread _ _).loc Cert.TailRefIdeal.main_arg9))
          (m' ((c.tc : Thread _ _).loc Cert.TailRefIdeal.main_arg10)) (m' ((c.tc : Thread _ _).loc Cert.TailRefIdeal.main_arg11))
          (m' ((c.tc : Thread _ _).loc Cert.TailRefIdeal.main_arg12)) (m' ((c.tc : Thread _ _).loc Cert.TailRefIdeal.main_arg13)) r j := by
  have h1 : ∀ k : Fin 1024, Cert.TailRefIdeal.Stages.X1 m' c (ix2 r k) = _ := fun k =>
    (Cert.TailRefIdeal.Stages.residV_at _ _ _ r k).trans
      (congrArg (fun f => Rows.resid _ f _ k) (funext fun l => Cert.TailRefIdeal.Stages.mergeV_at _ _ _ _ _ r l))
  have h2 : ∀ k : Fin 1024, Cert.TailRefIdeal.Stages.X2 m' c (ix2 r k) = _ := fun k =>
    (Cert.TailRefIdeal.Stages.ffnV_at _ _ _ _ r k).trans
      (congrArg₂ (fun a f => a + Rows.lin (Rows.hid f _ _) _ k) (h1 k)
        (funext fun l => (Cert.TailRefIdeal.Stages.rmsV_at _ _ r l).trans
          (congrArg (fun f => Rows.rms f _ l) (funext h1))))
  rw [Cert.TailRefIdeal.Stages.res_eq]
  exact (Cert.TailRefIdeal.Stages.pleV_at _ _ _ _ _ r j).trans
    (congrArg₂ (fun a f => a + Rows.lin _ _ j * Rows.gate (Rows.lin f _ j)) (h2 j)
        (funext fun l => (Cert.TailRefIdeal.Stages.rmsV_at _ _ r l).trans
          (congrArg (fun f => Rows.rms f _ l) (funext h2))))

end Cert.TailIdeal.Whole

end
-- ==== Proof.TailClaims.lean ====
/- The claims about the layer's tail. -/
module

public import proofs.«01_k».proof.Defs
public import proofs.«01_k».proof.Proof.TailValue
public import proofs.«01_k».proof.Proof.Gen.Tail.Frame
public import Idealize.ShloMosaic.Lib.Quiescent

@[expose] public section

noncomputable section

open Idealize.ShloMosaic Idealize.ShloMosaic.TcCoe Idealize.SL.Sem

namespace Cert.Proof.TailClaims

/-- The call runs, ends and leaves its arguments alone. -/
theorem frame_p : Cert.quiescent_Tail := fun m ρ _ => Cert.Tail.Gen.frame m ρ
/-- The same of the call over the extended reals. -/
theorem frame_pi : Cert.quiescent_TailIdeal := fun m ρ _ => Cert.TailIdeal.Gen.frame m ρ
/-- The same of the reference. -/
theorem frame_ri : Cert.quiescent_TailRefIdeal := fun m ρ _ =>
  (θ_run Cert.TailRefIdeal.defs _ _).mono (fun r h => ⟨fun c => (h c).2,
      Idealize.ShloMosaic.sem_eq_zero_of_no_sems (by decide) r.2⟩)
    (Cert.TailRefIdeal.Value.run (F := Ideal) m ρ)

/-- Call and reference end with the same array: every token's row is the tail's row of the argument arrays. -/
theorem algebraic : Cert.algebraic_TailIdeal_TailRefIdeal := by
  intro m ρ m' ρ' _ hagree
  refine ⟨_, Cert.TailIdeal.Value.run_blocks (F := Ideal) m ρ, ?_⟩
  refine (θ_run Cert.TailRefIdeal.defs _ _).mono (fun _ h c => ⟨(h c).1.trans ?_, (h c).2⟩)
    (Cert.TailRefIdeal.Value.run (F := Ideal) m' ρ')
  refine Eq.trans ?_ (Cert.TailIdeal.Whole.final m c).symm
  obtain ⟨h0, h1, h2, h3, h4, h5, h6, h7, h8, h9, h10, h11, h12, h13⟩ := hagree c
  funext i
  have e : i = ix2 (i 0) (i 1) := eq_ix2 i
  rw [e]
  refine (Cert.TailIdeal.Whole.ref_eq m' c (i 0) (i 1)).trans ?_
  rw [h0, h1, h2, h3, h4, h5, h6, h7, h8, h9, h10, h11, h12, h13]
  rfl

end Cert.Proof.TailClaims

end
-- ==== Proof.PrepBlock.lean ====
/- What the attention preparation computes of a block: the normalised rows, a head's gates, and the three picks. -/
module

public import proofs.«01_k».proof.Proof.Gen.PrepIdeal.Skeleton

@[expose] public section

set_option maxRecDepth 65536

noncomputable section

namespace Cert.PrepIdeal.Block

open Idealize.ShloMosaic Cert.PrepIdeal Cert.PrepIdeal.Gen

variable {F : FTy → Type} [FloatOps F]

/-- Whether a lane belongs to the first head of a pair, over 256 rows. -/
def lanes256 : IVec S256x128 1 := broadcastTo S256x128 (shapeCast S1x128 k0_pay3 shapeCasts_S1x128_S1x128) broadcasts_S1x128_S256x128
/-- The same over 32 rows. -/
def lanes32 : IVec S32x128 1 := broadcastTo S32x128 (shapeCast S1x128 k0_pay3 shapeCasts_S1x128_S1x128) broadcasts_S1x128_S32x128
/-- A sum over the lanes, as a column. -/
def sum1 (v : FVec F S256x128 .f32) : FVec F S256x1 .f32 :=
  shapeCast S256x1 (multiReduction .add [1] S256 v 0x00000000#32 reduces_S256x128_S256 (.inl rfl) rfl) shapeCasts_S256_S256x1
/-- A column over the lanes. -/
def col (v : FVec F S256x1 .f32) : FVec F S256x128 .f32 :=
  broadcastTo S256x128 (shapeCast S256x1 v shapeCasts_S256x1_S256x1) broadcasts_S256x1_S256x128
/-- A head pair's columns, each head's divided by the root of its mean square. -/
def nblk (o : ℕ) (hs : S256x1024.Slices ![0, o] S256x128) (x : FVec F S256x1024 .f32) : FVec F S256x128 .f32 :=
  have v : FVec F S256x128 .f32 := extractStridedSlice S256x128 ![0, o] x hs
  have z : FVec F S256x128 .f32 := broadcast S256x128 (Scalar.ofBits .f32 0x00000000#32)
  have s : FVec F S256x128 .f32 := select lanes256 (col (sum1 (select lanes256 (mulf v v) z))) (col (sum1 (select lanes256 z (mulf v v))))
  mulf v (rsqrt (addf (mulf s (broadcast S256x128 (Scalar.ofBits .f32 0x3C800000#32))) (broadcast S256x128 (Scalar.ofBits .f32 0x358637BD#32))))
/-- The block's rows as 32-bit numbers. -/
def wide (x : Vec F S1x256x1024 .bf16) : FVec F S256x1024 .f32 :=
  extf .f32 (shapeCast S256x1024 x shapeCasts_S1x256x1024_S256x1024) bitsLt_bf16_f32
/-- The normalised rows times the gain. -/
def kV (x : Vec F S1x256x1024 .bf16) (g : Vec F S1x1024 .f32) : FVec F S256x1024 .f32 :=
  mulf (concatenate S256x1024 1 [⟨S256x128, nblk 0 slices_S256x1024_o0_0_S256x128 (wide x)⟩, ⟨S256x128, nblk 128 slices_S256x1024_o0_128_S256x128 (wide x)⟩, ⟨S256x128, nblk 256 slices_S256x1024_o0_256_S256x128 (wide x)⟩, ⟨S256x128, nblk 384 slices_S256x1024_o0_384_S256x128 (wide x)⟩, ⟨S256x128, nblk 512 slices_S256x1024_o0_512_S256x128 (wide x)⟩, ⟨S256x128, nblk 640 slices_S256x1024_o0_640_S256x128 (wide x)⟩, ⟨S256x128, nblk 768 slices_S256x1024_o0_768_S256x128 (wide x)⟩, ⟨S256x128, nblk 896 slices_S256x1024_o0_896_S256x128 (wide x)⟩] concatenates_S256x128_S256x128_S256x128_S256x128_S256x128_S256x128_S256x128_S256x128_S256x1024_d1)
    (broadcastTo S256x1024 (shapeCast S1x1024 g shapeCasts_S1x1024_S1x1024) broadcasts_S1x1024_S256x1024)
/-- The queries' scaling. -/
def qV (x : Vec F S1x256x1024 .bf16) (g : Vec F S1x1024 .f32) : FVec F S256x1024 .f32 :=
  mulf (kV x g) (broadcast S256x1024 (Scalar.ofBits .f32 0x3E38AA3B#32))
/-- Rows as a block of 16-bit numbers. -/
def pack (v : FVec F S256x1024 .f32) : FVec F S1x256x1024 .bf16 :=
  shapeCast S1x256x1024 (truncf .bf16 v bitsLt_bf16_f32) shapeCasts_S256x1024_S1x256x1024
/-- The mean over the block's rows. -/
def meanV (v : FVec F S256x1024 .f32) : FVec F S1x1024 .f32 :=
  divf (shapeCast S1x1024 (multiReduction .add [0] S1024 v 0x00000000#32 reduces_S256x1024_S1024 (.inl rfl) rfl) shapeCasts_S1024_S1x1024)
    (broadcast S1x1024 (Scalar.ofBits .f32 0x43800000#32))

/-! ## A head's gates and the picks -/

/-- What rounding to 16 bits leaves out. -/
def low {S : Shape} (v : FVec F S .f32) : FVec F S .bf16 :=
  truncf .bf16 (subf v (extf .f32 (truncf .bf16 v bitsLt_bf16_f32) bitsLt_bf16_f32)) bitsLt_bf16_f32
/-- A head pair's columns of the means, four times: each head's alone, of the rounded means and of the rest. -/
def km4 (o : ℕ) (hs : S32x1024.Slices ![0, o] S32x128) (km : FVec F S32x1024 .f32) : FVec F S128x128 .bf16 :=
  have z : FVec F S32x128 .bf16 := broadcast S32x128 (Scalar.ofBits .bf16 0x0000#16)
  have a : FVec F S32x128 .bf16 := extractStridedSlice S32x128 ![0, o] (truncf .bf16 km bitsLt_bf16_f32) hs
  have b : FVec F S32x128 .bf16 := extractStridedSlice S32x128 ![0, o] (low km) hs
  concatenate S128x128 0 [⟨S32x128, select lanes32 a z⟩, ⟨S32x128, select lanes32 z a⟩, ⟨S32x128, select lanes32 b z⟩, ⟨S32x128, select lanes32 z b⟩] concatenates_S32x128_S32x128_S32x128_S32x128_S128x128_d0
/-- The products of the four with a pair's rounded queries. -/
def gHi (o : ℕ) (hs : S32x1024.Slices ![0, o] S32x128) (hq : S256x1024.Slices ![0, o] S256x128) (km : FVec F S32x1024 .f32) (q : FVec F S256x1024 .f32) : FVec F S128x256 .f32 :=
  matmul dot_S128x128_S256x128_S128x256_1_1_0_0_n_n none (km4 o hs km) (extractStridedSlice S256x128 ![0, o] (truncf .bf16 q bitsLt_bf16_f32) hq) (constant S128x256 .f32 0x00000000#32)
/-- The products of the first two with what rounding the queries leaves out. -/
def gLo (o : ℕ) (hs : S32x1024.Slices ![0, o] S32x128) (hq : S256x1024.Slices ![0, o] S256x128) (km : FVec F S32x1024 .f32) (q : FVec F S256x1024 .f32) : FVec F S64x256 .f32 :=
  matmul dot_S64x128_S256x128_S64x256_1_1_0_0_n_n none (extractStridedSlice S64x128 ![0, 0] (km4 o hs km) slices_S128x128_o0_0_S64x128)
    (extractStridedSlice S256x128 ![0, o] (low q) hq) (constant S64x256 .f32 0x00000000#32)
/-- A block's index, over the rows. -/
def jV : FVec F S32x256 .f32 := sitofp .f32 (iota .tc S32x256 32 [0] iota_S32x256_d0_w32)
/-- Whether a block lies before block `i`. -/
def validV (F : FTy → Type) [FloatOps F] (i : BitVec 32) : IVec S32x256 1 := cmpf .olt (jV (F := F)) (broadcast S32x256 (Scalar.sitofp .f32 i : F .f32))
/-- The first head's gates of a pair, the blocks not before `i` at minus infinity. -/
def gateA (i : BitVec 32) (h : FVec F S128x256 .f32) (l : FVec F S64x256 .f32) : FVec F S32x256 .f32 :=
  select (validV F i) (addf (addf (extractStridedSlice S32x256 ![0, 0] h slices_S128x256_o0_0_S32x256) (extractStridedSlice S32x256 ![64, 0] h slices_S128x256_o64_0_S32x256)) (extractStridedSlice S32x256 ![0, 0] l slices_S64x256_o0_0_S32x256))
    (broadcast S32x256 (Scalar.ofBits .f32 0xFF800000#32))
/-- The second head's. -/
def gateB (i : BitVec 32) (h : FVec F S128x256 .f32) (l : FVec F S64x256 .f32) : FVec F S32x256 .f32 :=
  select (validV F i) (addf (addf (extractStridedSlice S32x256 ![32, 0] h slices_S128x256_o32_0_S32x256) (extractStridedSlice S32x256 ![96, 0] h slices_S128x256_o96_0_S32x256)) (extractStridedSlice S32x256 ![32, 0] l slices_S64x256_o32_0_S32x256))
    (broadcast S32x256 (Scalar.ofBits .f32 0xFF800000#32))
/-- A row over all blocks. -/
def down (v : FVec F S256 .f32) : FVec F S32x256 .f32 :=
  broadcastTo S32x256 (shapeCast S1x256 v shapeCasts_S256_S1x256) broadcasts_S1x256_S32x256
/-- Where the first greatest gate is. -/
def pickV (g : FVec F S32x256 .f32) : IVec S32x256 1 :=
  cmpf .oeq (jV (F := F)) (down (multiReduction .minimumf [0] S256
    (select (cmpf .oeq g (down (multiReduction .maximumf [0] S256 g 0xFF800000#32 reduces_S32x256_S256 (.inl rfl) rfl))) jV (broadcast S32x256 (Scalar.ofBits .f32 0x42000000#32)))
    0x7F800000#32 reduces_S32x256_S256 (.inl rfl) rfl))
/-- The gates with the first greatest at minus infinity. -/
def strikeV (g : FVec F S32x256 .f32) : FVec F S32x256 .f32 := select (pickV g) (broadcast S32x256 (Scalar.ofBits .f32 0xFF800000#32)) g
/-- Ones where a block is picked, else what was there. -/
def markV (p : IVec S32x256 1) (s : FVec F S32x256 .f32) : FVec F S32x256 .f32 := select p (broadcast S32x256 (Scalar.ofBits .f32 0x3F800000#32)) s
/-- The blocks chosen by the gates, among the blocks before `i`. -/
def chosen (i : BitVec 32) (g : FVec F S32x256 .f32) : FVec F S32x256 .f32 :=
  have z : FVec F S32x256 .f32 := broadcast S32x256 (Scalar.ofBits .f32 0x00000000#32)
  select (validV F i) (markV (pickV (strikeV (strikeV g))) (markV (pickV (strikeV g)) (markV (pickV g) z))) z
/-- The same, as a head's block of the result. -/
def head (v : FVec F S32x256 .f32) : FVec F S1x1x1x32x256 .f32 := shapeCast S1x1x1x32x256 v shapeCasts_S32x256_S1x1x1x32x256
/-- The first head's chosen blocks of the pair at column `o`. -/
def selA (o : ℕ) (hs : S32x1024.Slices ![0, o] S32x128) (hq : S256x1024.Slices ![0, o] S256x128) (i : BitVec 32) (km : FVec F S32x1024 .f32) (q : FVec F S256x1024 .f32) : FVec F S1x1x1x32x256 .f32 :=
  head (chosen i (gateA i (gHi o hs hq km q) (gLo o hs hq km q)))
/-- The second head's. -/
def selB (o : ℕ) (hs : S32x1024.Slices ![0, o] S32x128) (hq : S256x1024.Slices ![0, o] S256x128) (i : BitVec 32) (km : FVec F S32x1024 .f32) (q : FVec F S256x1024 .f32) : FVec F S1x1x1x32x256 .f32 :=
  head (chosen i (gateB i (gHi o hs hq km q) (gLo o hs hq km q)))

end Cert.PrepIdeal.Block

end
-- ==== Proof.PrepSel.lean ====
/- Choosing the first greatest entry three times over chooses the entries fewer than three others go before. -/
module

public import Mathlib.Data.EReal.Basic
public import Mathlib.Data.Finset.Lattice.Fold
public import Mathlib.Data.Fintype.Basic
public import Mathlib.Algebra.BigOperators.Fin
public import Mathlib.Data.EReal.Operations

@[expose] public section

noncomputable section

namespace Cert.PrepSel

variable {n : ℕ}

/-- Entry `a` goes before entry `b`: it is greater, or equal and earlier. -/
def Before (g : Fin n → EReal) (a b : Fin n) : Prop := g b < g a ∨ (g a = g b ∧ a < b)

/-- How many entries go before `b`. -/
def rank (g : Fin n → EReal) (b : Fin n) : ℕ := by classical exact (Finset.univ.filter fun a => Before g a b).card

/-- The index of an entry as a number. -/
def num (j : Fin n) : EReal := ((j.val : ℝ) : EReal)

/-- The number of the first greatest entry, as the minimum over the greatest entries' numbers. -/
def first (g : Fin n → EReal) : EReal := by
  classical exact Finset.univ.inf fun j => if g j = Finset.univ.sup g then num j else ((n : ℝ) : EReal)

/-- The entries left after the first greatest is struck out. -/
def strike (g : Fin n → EReal) (j : Fin n) : EReal := by classical exact if num j = first g then ⊥ else g j

/-- The entry is the first greatest. -/
def IsFirst (g : Fin n → EReal) (p : Fin n) : Prop := ∀ j, g j < g p ∨ (g j = g p ∧ p ≤ j)

theorem num_inj {a b : Fin n} (h : num a = num b) : a = b := by
  have h1 : (a.val : ℝ) = (b.val : ℝ) := EReal.coe_injective h
  exact Fin.ext (by exact_mod_cast h1)

theorem num_le {a b : Fin n} (h : a ≤ b) : num a ≤ num b := by
  have : (a.val : ℝ) ≤ (b.val : ℝ) := by exact_mod_cast h
  exact EReal.coe_le_coe_iff.mpr this

/-- There is a first greatest entry, and its number is the minimum above. -/
theorem exists_first [NeZero n] (g : Fin n → EReal) : ∃ p, IsFirst g p ∧ first g = num p := by
  classical
  obtain ⟨q, -, hq⟩ := Finset.exists_max_image Finset.univ g ⟨0, Finset.mem_univ _⟩
  have hs : Finset.univ.sup g = g q :=
    le_antisymm (Finset.sup_le fun b hb => hq b hb) (Finset.le_sup (f := g) (Finset.mem_univ q))
  obtain ⟨p, hp, hmin⟩ := Finset.exists_min_image (Finset.univ.filter fun j => g j = g q) id ⟨q, by simp⟩
  have hpq : g p = g q := (Finset.mem_filter.mp hp).2
  refine ⟨p, fun j => ?_, ?_⟩
  · rcases lt_or_eq_of_le (hq j (Finset.mem_univ j)) with h | h
    · exact .inl (hpq ▸ h)
    · exact .inr ⟨h.trans hpq.symm, hmin j (Finset.mem_filter.mpr ⟨Finset.mem_univ _, h⟩)⟩
  · unfold first
    refine le_antisymm ?_ (Finset.le_inf fun j _ => ?_)
    · refine (Finset.inf_le (Finset.mem_univ p)).trans ?_
      rw [if_pos (hpq.trans hs.symm)]
    · split
      · rename_i h
        exact num_le (hmin j (Finset.mem_filter.mpr ⟨Finset.mem_univ _, h.trans hs⟩))
      · have : (p.val : ℝ) ≤ (n : ℝ) := by exact_mod_cast p.isLt.le
        exact EReal.coe_le_coe_iff.mpr this

theorem before_irrefl (g : Fin n → EReal) (a : Fin n) : ¬Before g a a := by
  rintro (h | ⟨-, h⟩) <;> exact lt_irrefl _ h

theorem before_trans {g : Fin n → EReal} {a b c : Fin n} (h : Before g a b) (h' : Before g b c) : Before g a c := by
  rcases h with h | ⟨h, hl⟩ <;> rcases h' with h' | ⟨h', hl'⟩
  · exact .inl (h'.trans h)
  · exact .inl (h' ▸ h)
  · exact .inl (h.symm ▸ h')
  · exact .inr ⟨h.trans h', hl.trans hl'⟩

theorem before_total {g : Fin n → EReal} {a b : Fin n} (h : a ≠ b) : Before g a b ∨ Before g b a := by
  rcases lt_trichotomy (g a) (g b) with e | e | e
  · exact .inr (.inl e)
  · rcases lt_or_gt_of_ne h with l | l
    · exact .inl (.inr ⟨e, l⟩)
    · exact .inr (.inr ⟨e.symm, l⟩)
  · exact .inl (.inl e)

/-- An entry that goes before another has the smaller rank. -/
theorem rank_lt {g : Fin n → EReal} {a b : Fin n} (h : Before g a b) : rank g a < rank g b := by
  classical
  unfold rank
  refine Finset.card_lt_card (Finset.ssubset_iff_subset_ne.mpr ⟨fun x hx => ?_, fun e => ?_⟩)
  · have hx := (Finset.mem_filter.mp hx).2
    exact Finset.mem_filter.mpr ⟨Finset.mem_univ _, before_trans hx h⟩
  · have : a ∈ Finset.univ.filter fun x => Before g x b := Finset.mem_filter.mpr ⟨Finset.mem_univ _, h⟩
    rw [← e] at this
    exact before_irrefl g a (Finset.mem_filter.mp this).2

theorem rank_inj {g : Fin n → EReal} {a b : Fin n} (h : rank g a = rank g b) : a = b := by
  by_contra hne
  rcases before_total (g := g) hne with e | e
  · exact absurd h (rank_lt e).ne
  · exact absurd h (rank_lt e).ne'

/-- The struck entries are, among the entries above the bottom, those of rank below `k`. -/
def Struck (g : Fin n → EReal) (k : ℕ) (P : Fin n → Prop) (h : Fin n → EReal) : Prop :=
  (∀ j, ⊥ < g j → (P j ↔ rank g j < k)) ∧ (∀ j, P j → h j = ⊥) ∧ ∀ j, ¬P j → h j = g j

theorem struck_zero (g : Fin n → EReal) : Struck g 0 (fun _ => False) g :=
  ⟨fun j _ => ⟨False.elim, fun h => absurd h (Nat.not_lt_zero _)⟩, fun _ h => h.elim, fun _ _ => rfl⟩

/-- Striking the first greatest entry once more takes the entry of the next rank. -/
theorem struck_succ [NeZero n] {g h : Fin n → EReal} {k : ℕ} {P : Fin n → Prop} (H : Struck g k P h) :
    Struck g (k + 1) (fun j => num j = first h ∨ P j) (strike h) := by
  classical
  obtain ⟨hr, hb, hk⟩ := H
  obtain ⟨p, hp, hf⟩ := exists_first h
  have hnum : ∀ j, num j = first h ↔ j = p := fun j => by rw [hf]; exact ⟨num_inj, fun e => e ▸ rfl⟩
  refine ⟨fun j hj => ⟨?_, fun hlt => ?_⟩, fun j hj => ?_, fun j hj => ?_⟩
  · rintro (e | e)
    · have e := (hnum j).mp e
      subst e
      by_cases hPj : P j
      · exact Nat.lt_succ_of_lt ((hr j hj).mp hPj)
      · have hsub : (Finset.univ.filter fun a => Before g a j) ⊆ Finset.univ.filter fun a => ⊥ < g a ∧ P a := by
          intro a ha
          have ha := (Finset.mem_filter.mp ha).2
          have hpos : ⊥ < g a := by
            rcases ha with ha | ⟨ha, -⟩
            · exact hj.trans ha
            · exact ha.symm ▸ hj
          refine Finset.mem_filter.mpr ⟨Finset.mem_univ _, hpos, ?_⟩
          by_contra hPa
          have := hp a
          rw [hk a hPa, hk j hPj] at this
          rcases ha with ha | ⟨ha, hl⟩ <;> rcases this with t | ⟨t, tl⟩
          · exact lt_irrefl _ (ha.trans t)
          · exact (t ▸ ha).false
          · exact (ha ▸ t).false
          · exact absurd hl (not_lt.mpr tl)
        have hcard : (Finset.univ.filter fun a => ⊥ < g a ∧ P a).card ≤ (Finset.range k).card :=
          Finset.card_le_card_of_injOn (rank g)
            (fun a ha => by
              have ha := (Finset.mem_filter.mp (Finset.mem_coe.mp ha)).2
              exact Finset.mem_coe.mpr (Finset.mem_range.mpr ((hr a ha.1).mp ha.2)))
            (fun a _ b _ e => rank_inj e)
        rw [Finset.card_range] at hcard
        exact Nat.lt_succ_of_le ((Finset.card_le_card hsub).trans hcard)
    · exact Nat.lt_succ_of_lt ((hr j hj).mp e)
  · by_cases hPj : P j
    · exact .inr hPj
    · have hge : k ≤ rank g j := by
        by_contra hc
        exact hPj ((hr j hj).mpr (not_le.mp hc))
      refine .inl ((hnum j).mpr ?_)
      by_contra hne
      have hpj := hp j
      rw [hk j hPj] at hpj
      have hle : g j ≤ h p := by
        rcases hpj with t | ⟨t, -⟩
        · exact t.le
        · exact t.le
      have hPp : ¬P p := fun hh => by
        rw [hb p hh] at hle
        exact absurd (hj.trans_le hle) (lt_irrefl _)
      rw [hk p hPp] at hpj hle
      have hbef : Before g p j := by
        rcases hpj with t | ⟨t, tl⟩
        · exact .inl t
        · exact .inr ⟨t.symm, lt_of_le_of_ne tl (Ne.symm hne)⟩
      exact hPp ((hr p (hj.trans_le hle)).mpr (lt_of_lt_of_le (rank_lt hbef) (Nat.le_of_lt_succ hlt)))
  · unfold strike
    split
    · rfl
    · rename_i hne
      rcases hj with e | e
      · exact absurd e hne
      · exact hb j e
  · unfold strike
    rw [if_neg (fun e => hj (.inl e))]
    exact hk j (fun e => hj (.inr e))

/-- Three strikes: among the entries above the bottom, an entry is struck exactly when fewer than three go before it. -/
theorem three [NeZero n] (g : Fin n → EReal) (j : Fin n) (hj : ⊥ < g j) :
    (num j = first (strike (strike g)) ∨ num j = first (strike g) ∨ num j = first g) ↔ rank g j < 3 := by
  have := (struck_succ (struck_succ (struck_succ (struck_zero g)))).1 j hj
  simpa only [or_false] using this

/-- The rank as a sum of ones. -/
theorem rank_sum (g : Fin n → EReal) (j : Fin n) (w : Fin n → EReal) (h1 : ∀ a, Before g a j → w a = 1) (h0 : ∀ a, ¬Before g a j → w a = 0) :
    ∑ a, w a = ((rank g j : ℝ) : EReal) := by
  classical
  have : ∀ s : Finset (Fin n), ∑ a ∈ s, w a = (((s.filter fun a => Before g a j).card : ℝ) : EReal) := by
    intro s
    induction s using Finset.induction_on with
    | empty => simp
    | insert a s ha ih =>
      rw [Finset.sum_insert ha, ih, Finset.filter_insert]
      by_cases hb : Before g a j
      · rw [if_pos hb, Finset.card_insert_of_notMem (fun h => ha (Finset.mem_filter.mp h).1), h1 a hb]
        push_cast
        rw [add_comm]
      · rw [if_neg hb, h0 a hb, zero_add]
  rw [this]
  rfl

end Cert.PrepSel

end
-- ==== Proof.PrepMath.lean ====
/- The attention preparation's mathematics over the extended reals: per-head norms, means of keys, gates, the chosen blocks. -/
module

public import proofs.«01_k».proof.Proof.PrepSel
public import proofs.«01_k».proof.Proof.SsdMath
public import Idealize.ShloMosaic.Lib.Pointwise

@[expose] public section

noncomputable section

namespace Cert.PrepMath

open Idealize.ShloMosaic Cert.PrepSel

/-- RMSNorm of a head's 64 columns with gain `g`. -/
def hn (x g : Fin 64 → EReal) (d : Fin 64) : EReal :=
  x d * Ideal.rsqrt (Ideal.div (∑ e, x e * x e) (Ideal.ofBits .f32 0x42800000#32) + Ideal.ofBits .f32 0x358637BD#32) * g d

variable (X : (⟨3, ![2, 8192, 10240]⟩ : Shape).Idx → EReal) (gq gk : Fin 64 → EReal)

/-- A head's columns of a token, from column `o` on. -/
def row (o : ℕ) (ho : o + 1024 ≤ 10240) (b : Fin 2) (t : Fin 8192) (h : Fin 16) (e : Fin 64) : EReal :=
  X (ix3 b t ⟨o + (h.val * 64 + e.val), by omega⟩)

/-- The token at a row of a block. -/
def tokn (i : Fin 32) (r : Fin 256) : Fin 8192 := ⟨i.val * 256 + r.val, by omega⟩

/-- A key's entry. -/
def key (b : Fin 2) (t : Fin 8192) (h : Fin 16) (d : Fin 64) : EReal := hn (row X 1024 (by omega) b t h) gk d
/-- A query's entry, scaled. -/
def qry (b : Fin 2) (t : Fin 8192) (h : Fin 16) (d : Fin 64) : EReal := hn (row X 0 (by omega) b t h) gq d * Ideal.ofBits .f32 0x3E38AA3B#32
/-- The mean of a block's keys. -/
def mean (b : Fin 2) (j : Fin 32) (h : Fin 16) (d : Fin 64) : EReal :=
  Ideal.div (∑ r, key X gk b (tokn j r) h d) (Ideal.ofBits .f32 0x43800000#32)
/-- A query's gates: its products with the means of the blocks before its own. -/
def gates (b : Fin 2) (h : Fin 16) (i : Fin 32) (r : Fin 256) (j : Fin 32) : EReal :=
  if j < i then ∑ d, qry X gq b (tokn i r) h d * mean X gk b j h d else ⊥
/-- Whether a block is chosen: past, and fewer than three go before it. -/
def sel (b : Fin 2) (h : Fin 16) (i : Fin 32) (j : Fin 32) (r : Fin 256) : EReal := by
  classical exact if j < i ∧ rank (gates X gq gk b h i r) j < 3 then 1 else 0

/-! ## Real values -/

open Cert.Scan

theorem real_add {x y : EReal} (hx : Fin' x) (hy : Fin' y) : Fin' (x + y) := by
  obtain ⟨a, rfl⟩ := hx
  obtain ⟨b, rfl⟩ := hy
  exact ⟨a + b, (EReal.coe_add a b).symm⟩
theorem real_mul {x y : EReal} (hx : Fin' x) (hy : Fin' y) : Fin' (x * y) := by
  obtain ⟨a, rfl⟩ := hx
  obtain ⟨b, rfl⟩ := hy
  exact ⟨a * b, (EReal.coe_mul a b).symm⟩

theorem eps_real : ∃ e : ℝ, 0 < e ∧ Ideal.ofBits .f32 0x358637BD#32 = (e : EReal) := by
  refine ⟨_, ?_, by simp [Ideal.ofBits, Ideal.ieee, -EReal.coe_mul]; rfl⟩
  norm_num

theorem const64 : Ideal.ofBits .f32 0x42800000#32 = ((64 : ℝ) : EReal) := by
  simp [Ideal.ofBits, Ideal.ieee, -EReal.coe_mul]; norm_num
theorem const256 : Ideal.ofBits .f32 0x43800000#32 = ((256 : ℝ) : EReal) := by
  simp [Ideal.ofBits, Ideal.ieee, -EReal.coe_mul]; norm_num
theorem constScale : Fin' (Ideal.ofBits .f32 0x3E38AA3B#32) := ⟨_, by simp [Ideal.ofBits, Ideal.ieee, -EReal.coe_mul]; rfl⟩

theorem sq_nonneg' (x : EReal) : 0 ≤ x * x := by
  induction x with
  | bot => simp
  | top => simp
  | coe r => rw [← EReal.coe_mul]; exact EReal.coe_nonneg.mpr (mul_self_nonneg r)

/-- A sum of real values is real. -/
theorem sum_real {ι : Type} (S : Finset ι) {f : ι → EReal} (h : ∀ i ∈ S, Fin' (f i)) : Fin' (∑ i ∈ S, f i) := by
  classical
  induction S using Finset.induction_on with
  | empty => exact ⟨0, by simp⟩
  | insert a S ha ih =>
    rw [Finset.sum_insert ha]
    exact real_add (h a (Finset.mem_insert_self _ _)) (ih fun i hi => h i (Finset.mem_insert_of_mem hi))

theorem div_real {x : EReal} {c : ℝ} (hc : c ≠ 0) (h : Fin' x) : Fin' (Ideal.div x (c : EReal)) := by
  rw [Ideal.div_coe hc]; exact real_mul h ⟨_, rfl⟩

/-- The reciprocal root of a mean square plus the small constant is zero or real, zero when an entry is infinite. -/
theorem hn_real {x g : Fin 64 → EReal} (hg : ∀ d, Fin' (g d)) (d : Fin 64) : Fin' (hn x g d) := by
  obtain ⟨e, he, hee⟩ := eps_real
  unfold hn
  refine real_mul ?_ (hg d)
  rw [const64, hee, Ideal.div_coe (by norm_num)]
  have h0 : 0 ≤ ∑ e, x e * x e := Finset.sum_nonneg fun i _ => sq_nonneg' (x i)
  have hd : x d * x d ≤ ∑ e, x e * x e := Finset.single_le_sum (fun i _ => sq_nonneg' (x i)) (Finset.mem_univ d)
  generalize (∑ e, x e * x e) = s at h0 hd
  have top : s = ⊤ → Fin' (x d * Ideal.rsqrt (s * ((1 / 64 : ℝ) : EReal) + (e : EReal))) := by
    rintro rfl
    rw [EReal.top_mul_coe_of_pos (by norm_num), EReal.top_add_coe, Ideal.rsqrt_top, mul_zero]
    exact ⟨0, rfl⟩
  induction s with
  | bot => exact absurd h0 (by simp)
  | top => exact top rfl
  | coe s =>
    have hx : Fin' (x d) := by
      generalize x d = y at hd
      induction y with
      | bot => simp at hd
      | top => simp at hd
      | coe r => exact ⟨r, rfl⟩
    have hs : 0 ≤ s := EReal.coe_nonneg.mp h0
    refine real_mul hx ?_
    rw [← EReal.coe_mul, ← EReal.coe_add, Ideal.rsqrt_coe, if_neg (by have : 0 ≤ s * (1 / 64) := by positivity
                                                                      linarith), if_neg (by have : 0 ≤ s * (1 / 64) := by positivity
                                                                                            linarith)]
    exact ⟨_, rfl⟩

variable {gq gk}

theorem key_real (hk : ∀ d, Fin' (gk d)) (b : Fin 2) (t : Fin 8192) (h : Fin 16) (d : Fin 64) : Fin' (key X gk b t h d) := hn_real hk d
theorem qry_real (hq : ∀ d, Fin' (gq d)) (b : Fin 2) (t : Fin 8192) (h : Fin 16) (d : Fin 64) : Fin' (qry X gq b t h d) :=
  real_mul (hn_real hq d) constScale
theorem mean_real (hk : ∀ d, Fin' (gk d)) (b : Fin 2) (j : Fin 32) (h : Fin 16) (d : Fin 64) : Fin' (mean X gk b j h d) := by
  unfold mean; rw [const256]
  exact div_real (by norm_num) (sum_real _ fun r _ => key_real X hk b _ h d)

/-- A past block's gate is above minus infinity. -/
theorem gates_pos (hq : ∀ d, Fin' (gq d)) (hk : ∀ d, Fin' (gk d)) (b : Fin 2) (h : Fin 16) (i : Fin 32) (r : Fin 256) {j : Fin 32} (hj : j < i) :
    ⊥ < gates X gq gk b h i r j := by
  unfold gates; rw [if_pos hj]
  obtain ⟨v, hv⟩ := sum_real Finset.univ fun d _ => real_mul (qry_real X hq b (tokn i r) h d) (mean_real X hk b j h d)
  rw [hv]; exact EReal.bot_lt_coe v

end Cert.PrepMath

end
-- ==== Proof.PrepPoint.lean ====
/- The attention preparation's block functions over the extended reals, entry by entry. -/
module

public import proofs.«01_k».proof.Proof.PrepBlock
public import proofs.«01_k».proof.Proof.PrepMath
public import Idealize.ShloMosaic.Lib.Pointwise
public import Idealize.ShloMosaic.Lib.WordCmp

@[expose] public section

set_option maxRecDepth 16384

noncomputable section

namespace Cert.PrepIdeal.Block

open Cert.PrepIdeal Cert.PrepIdeal.Gen
open Idealize.ShloMosaic Cert.PrepMath Cert.PrepSel Cert.Scan

/-- Whether a lane is one of the pair's first head. -/
theorem sel_lane {α : Type} (l : Fin 128) (x y : α) : Scalar.select (IntOp.cmpi .slt (BitVec.ofNat 32 l.val) 64#32) x y = if l.val < 64 then x else y := by
  have h : IntOp.cmpi .slt (BitVec.ofNat 32 l.val) 64#32 = BitVec.ofBool (decide (l.val < 64)) := by
    have := l.isLt
    word_cmp
  rw [h]; by_cases hab : l.val < 64 <;> simp [hab, Scalar.select]

/-- A sum over the first head's lanes. -/
theorem sum_lo (f : Fin 128 → EReal) : ∑ l : Fin 128, Scalar.select (IntOp.cmpi .slt (BitVec.ofNat 32 l.val) 64#32) (f l) 0 = ∑ e : Fin 64, f ⟨e.val, by omega⟩ := by
  simp only [sel_lane]
  refine (Fin.sum_univ_add (a := 64) (b := 64) _).trans ?_
  rw [Finset.sum_eq_zero (s := (Finset.univ : Finset (Fin 64))) (f := fun e => if (Fin.natAdd 64 e).val < 64 then f (Fin.natAdd 64 e) else 0) (fun e _ => if_neg (by simp)), add_zero]
  exact Finset.sum_congr rfl fun e _ => if_pos e.isLt

/-- A sum over the second head's lanes. -/
theorem sum_hi (f : Fin 128 → EReal) : ∑ l : Fin 128, Scalar.select (IntOp.cmpi .slt (BitVec.ofNat 32 l.val) 64#32) 0 (f l) = ∑ e : Fin 64, f ⟨64 + e.val, by omega⟩ := by
  simp only [sel_lane]
  refine (Fin.sum_univ_add (a := 64) (b := 64) _).trans ?_
  rw [Finset.sum_eq_zero (s := (Finset.univ : Finset (Fin 64))) (f := fun e => if (Fin.castAdd 64 e).val < 64 then 0 else f (Fin.castAdd 64 e)) (fun e _ => if_pos e.isLt), zero_add]
  exact Finset.sum_congr rfl fun e _ => if_neg (by simp)

/-- A pair's normalised columns, entry by entry. -/
theorem nblk_at (o : ℕ) (hs : S256x1024.Slices ![0, o] S256x128) (ho : o + 128 ≤ 1024) (x : FVec Ideal S256x1024 .f32) (r : Fin 256) (l : Fin 128) :
    nblk (F := Ideal) o hs x (ix2 r l) = x (ix2 r ⟨o + l.val, by omega⟩) * Ideal.rsqrt ((∑ e : Fin 64, x (ix2 r ⟨o + (l.val / 64 * 64 + e.val), by omega⟩) * x (ix2 r ⟨o + (l.val / 64 * 64 + e.val), by omega⟩)) * Ideal.ofBits .f32 0x3C800000#32 + Ideal.ofBits .f32 0x358637BD#32) := by
  pointwise [nblk, lanes256, col, sum1, k0_pay3]
  rw [sum_lo (fun l => x (ix2 r ⟨o + l.val, by omega⟩) * x (ix2 r ⟨o + l.val, by omega⟩)), sum_hi (fun l => x (ix2 r ⟨o + l.val, by omega⟩) * x (ix2 r ⟨o + l.val, by omega⟩)), sel_lane]
  have hl := l.isLt
  congr 4
  split_ifs with h
  · refine Finset.sum_congr rfl fun e _ => ?_
    have e1 : (⟨o + e.val, by omega⟩ : Fin 1024) = ⟨o + (l.val / 64 * 64 + e.val), by omega⟩ := Fin.ext (by show o + e.val = o + (l.val / 64 * 64 + e.val); omega)
    rw [e1]
  · refine Finset.sum_congr rfl fun e _ => ?_
    have e1 : (⟨o + (64 + e.val), by omega⟩ : Fin 1024) = ⟨o + (l.val / 64 * 64 + e.val), by omega⟩ := Fin.ext (by show o + (64 + e.val) = o + (l.val / 64 * 64 + e.val); omega)
    rw [e1]

theorem wide_at (x : FVec Ideal S1x256x1024 .bf16) (r : Fin 256) (c : Fin 1024) : wide (F := Ideal) x (ix2 r c) = x (ix3 0 r c) := by
  pointwise [wide]

/-- A head's column of a pair, as a column of all. -/
theorem nblk_col (o : ℕ) (hs : S256x1024.Slices ![0, o] S256x128) (ho : o + 128 ≤ 1024) (h64 : o % 64 = 0) (x : FVec Ideal S1x256x1024 .bf16) (r : Fin 256) (c : Fin 1024) (l : Fin 128) (hc : c.val = o + l.val) :
    nblk (F := Ideal) o hs (wide x) (ix2 r l) = x (ix3 0 r c) * Ideal.rsqrt (Ideal.div (∑ e : Fin 64, x (ix3 0 r ⟨c.val / 64 * 64 + e.val, by omega⟩) * x (ix3 0 r ⟨c.val / 64 * 64 + e.val, by omega⟩)) (Ideal.ofBits .f32 0x42800000#32) + Ideal.ofBits .f32 0x358637BD#32) := by
  rw [nblk_at o hs ho, const64, Ideal.div_coe (by norm_num), show Ideal.ofBits .f32 0x3C800000#32 = ((1 / 64 : ℝ) : EReal) from by
    simp [Ideal.ofBits, Ideal.ieee, -EReal.coe_mul]; norm_num]
  simp only [wide_at]
  have e0 : (⟨o + l.val, by omega⟩ : Fin 1024) = c := Fin.ext hc.symm
  have e1 : ∀ e : Fin 64, (⟨o + (l.val / 64 * 64 + e.val), by omega⟩ : Fin 1024) = ⟨c.val / 64 * 64 + e.val, by omega⟩ := fun e => Fin.ext (by
    show o + (l.val / 64 * 64 + e.val) = c.val / 64 * 64 + e.val
    omega)
  simp only [e0, e1]

/-- The normalised rows times the gain, entry by entry. -/
theorem kV_at (x : FVec Ideal S1x256x1024 .bf16) (g : FVec Ideal S1x1024 .f32) (r : Fin 256) (c : Fin 1024) :
    kV (F := Ideal) x g (ix2 r c) = hn (fun e => x (ix3 0 r ⟨c.val / 64 * 64 + e.val, by omega⟩)) (fun e => g (ix2 0 ⟨c.val / 64 * 64 + e.val, by omega⟩)) ⟨c.val % 64, by omega⟩ := by
  have hc := c.isLt
  have ec : (⟨c.val / 64 * 64 + c.val % 64, by omega⟩ : Fin 1024) = c := Fin.ext (by show c.val / 64 * 64 + c.val % 64 = c.val; omega)
  pointwise [kV]
  unfold hn
  simp only [ec]
  congr 1
  split_ifs
  all_goals exact nblk_col _ _ (by omega) (by omega) x r c _ (by simp only []; omega)

theorem qV_at (x : FVec Ideal S1x256x1024 .bf16) (g : FVec Ideal S1x1024 .f32) (r : Fin 256) (c : Fin 1024) :
    qV (F := Ideal) x g (ix2 r c) = kV (F := Ideal) x g (ix2 r c) * Ideal.ofBits .f32 0x3E38AA3B#32 := by
  pointwise [qV]

theorem meanV_at (x : FVec Ideal S256x1024 .f32) (c : Fin 1024) :
    meanV (F := Ideal) x (ix2 0 c) = Ideal.div (∑ r, x (ix2 r c)) (Ideal.ofBits .f32 0x43800000#32) := by
  pointwise [meanV]

theorem sub_self_real {x : EReal} (h : Fin' x) : x - x = 0 := by
  obtain ⟨a, rfl⟩ := h
  rw [← EReal.coe_sub, sub_self, EReal.coe_zero]

theorem gHi_at (o : ℕ) (hs : S32x1024.Slices ![0, o] S32x128) (hq : S256x1024.Slices ![0, o] S256x128) (ho : o + 128 ≤ 1024) (km : FVec Ideal S32x1024 .f32) (q : FVec Ideal S256x1024 .f32) (u : Fin 128) (r : Fin 256) :
    gHi (F := Ideal) o hs hq km q (ix2 u r) = ∑ l : Fin 128, km4 (F := Ideal) o hs km (ix2 u l) * q (ix2 r ⟨o + l.val, by omega⟩) := by
  pointwise [gHi]

theorem gLo_at (o : ℕ) (hs : S32x1024.Slices ![0, o] S32x128) (hq : S256x1024.Slices ![0, o] S256x128) (km : FVec Ideal S32x1024 .f32) (q : FVec Ideal S256x1024 .f32) (u : Fin 64) (r : Fin 256)
    (hr : ∀ c, Fin' (q (ix2 r c))) : gLo (F := Ideal) o hs hq km q (ix2 u r) = 0 := by
  pointwise [gLo, low]
  refine Finset.sum_eq_zero fun l _ => ?_
  rw [sub_self_real (hr _), mul_zero]

theorem select_mul (c : BitVec 1) (x y z : EReal) : Scalar.select c x y * z = Scalar.select c (x * z) (y * z) := by
  unfold Scalar.select; split_ifs <;> rfl

theorem km4_at (o : ℕ) (hs : S32x1024.Slices ![0, o] S32x128) (ho : o + 128 ≤ 1024) (km : FVec Ideal S32x1024 .f32) (j : Fin 32) (l : Fin 128) :
    km4 (F := Ideal) o hs km (ix2 ⟨j.val, by omega⟩ l) = Scalar.select (IntOp.cmpi .slt (BitVec.ofNat 32 l.val) 64#32) (km (ix2 j ⟨o + l.val, by omega⟩)) 0
    ∧ km4 (F := Ideal) o hs km (ix2 ⟨32 + j.val, by omega⟩ l) = Scalar.select (IntOp.cmpi .slt (BitVec.ofNat 32 l.val) 64#32) 0 (km (ix2 j ⟨o + l.val, by omega⟩)) := by
  have hj := j.isLt
  constructor
  · pointwise [km4, low, lanes32, k0_pay3]
  · pointwise [km4, low, lanes32, k0_pay3]

theorem km4_low (o : ℕ) (hs : S32x1024.Slices ![0, o] S32x128) (km : FVec Ideal S32x1024 .f32) (j : Fin 32) (l : Fin 128) (hk : ∀ c, Fin' (km (ix2 j c))) :
    km4 (F := Ideal) o hs km (ix2 ⟨64 + j.val, by omega⟩ l) = 0 ∧ km4 (F := Ideal) o hs km (ix2 ⟨96 + j.val, by omega⟩ l) = 0 := by
  have hj := j.isLt
  constructor
  · pointwise [km4, low, lanes32, k0_pay3]
    rw [dif_neg (by omega), dif_neg (by omega), dif_pos (by omega)]
    have e : (⟨64 + j.val - 32 - 32, by omega⟩ : Fin 32) = j := Fin.ext (by show 64 + j.val - 32 - 32 = j.val; omega)
    rw [e, sub_self_real (hk _)]
    unfold Scalar.select; split_ifs <;> rfl
  · pointwise [km4, low, lanes32, k0_pay3]
    rw [dif_neg (by omega), dif_neg (by omega), dif_neg (by omega)]
    have e : (⟨96 + j.val - 32 - 32 - 32, by omega⟩ : Fin 32) = j := Fin.ext (by show 96 + j.val - 32 - 32 - 32 = j.val; omega)
    rw [e, sub_self_real (hk _)]
    unfold Scalar.select; split_ifs <;> rfl

theorem negInf : Ideal.ofBits .f32 0xFF800000#32 = (⊥ : EReal) := by simp [Ideal.ofBits, Ideal.ieee]
theorem posInf : Ideal.ofBits .f32 0x7F800000#32 = (⊤ : EReal) := by simp [Ideal.ofBits, Ideal.ieee]
theorem const32 : Ideal.ofBits .f32 0x42000000#32 = (((32 : ℕ) : ℝ) : EReal) := by
  simp [Ideal.ofBits, Ideal.ieee, -EReal.coe_mul]; norm_num
theorem const1 : Ideal.ofBits .f32 0x3F800000#32 = 1 := by
  simp [Ideal.ofBits, Ideal.ieee, -EReal.coe_mul]; norm_num

theorem toInt32 : ∀ j : Fin 32, (BitVec.ofNat 32 j.val).toInt = j.val := by decide

theorem num_at (j : Fin 32) : (FloatOps.sitofp .f32 (BitVec.ofNat 32 j.val) : Ideal .f32) = num j := by
  show (((BitVec.ofNat 32 j.val).toInt : ℝ) : EReal) = ((j.val : ℝ) : EReal)
  rw [toInt32]; simp

theorem num_lt (i j : Fin 32) : num j < num i ↔ j < i := by
  unfold num
  rw [EReal.coe_lt_coe_iff]
  exact ⟨fun h => by exact_mod_cast h, fun h => by exact_mod_cast h⟩

theorem valid_at (i j : Fin 32) (r : Fin 256) : validV Ideal (BitVec.ofNat 32 i.val) (ix2 j r) = BitVec.ofBool (decide (j < i)) := by
  classical
  have e : validV Ideal (BitVec.ofNat 32 i.val) (ix2 j r) = BitVec.ofBool (decide ((FloatOps.sitofp .f32 (BitVec.ofNat 32 j.val) : Ideal .f32) < (FloatOps.sitofp .f32 (BitVec.ofNat 32 i.val) : Ideal .f32))) := by
    pointwise [validV, jV]
    rfl
  rw [e, num_at, num_at]
  exact congrArg BitVec.ofBool (decide_eq_decide.mpr (num_lt i j))

theorem select_bool {α : Type} (p : Prop) [Decidable p] (x y : α) : Scalar.select (BitVec.ofBool (decide p)) x y = if p then x else y := by
  by_cases h : p <;> simp [h, Scalar.select]

/-- The first head's gates of a pair. -/
theorem gateA_at (o : ℕ) (hs : S32x1024.Slices ![0, o] S32x128) (hq : S256x1024.Slices ![0, o] S256x128) (ho : o + 128 ≤ 1024) (km : FVec Ideal S32x1024 .f32) (q : FVec Ideal S256x1024 .f32) (i j : Fin 32) (r : Fin 256)
    (hk : j < i → ∀ c, Fin' (km (ix2 j c))) (hr : ∀ c, Fin' (q (ix2 r c))) :
    gateA (F := Ideal) (BitVec.ofNat 32 i.val) (gHi o hs hq km q) (gLo o hs hq km q) (ix2 j r)
      = if j < i then ∑ e : Fin 64, q (ix2 r ⟨o + e.val, by omega⟩) * km (ix2 j ⟨o + e.val, by omega⟩) else ⊥ := by
  have e : gateA (F := Ideal) (BitVec.ofNat 32 i.val) (gHi o hs hq km q) (gLo o hs hq km q) (ix2 j r)
      = Scalar.select (validV Ideal (BitVec.ofNat 32 i.val) (ix2 j r)) (gHi o hs hq km q (ix2 ⟨j.val, by omega⟩ r) + gHi o hs hq km q (ix2 ⟨64 + j.val, by omega⟩ r) + gLo o hs hq km q (ix2 ⟨j.val, by omega⟩ r)) (Ideal.ofBits .f32 0xFF800000#32) := by
    pointwise [gateA]
  rw [e, valid_at, select_bool, negInf, gLo_at _ _ _ _ _ _ _ hr, gHi_at _ _ _ ho, gHi_at _ _ _ ho]
  split_ifs with h
  · simp only [(km4_at o hs ho km j _).1, (km4_low o hs km j _ (hk h)).1, select_mul, zero_mul, Finset.sum_const_zero, add_zero]
    rw [sum_lo (fun l => km (ix2 j ⟨o + l.val, by omega⟩) * q (ix2 r ⟨o + l.val, by omega⟩))]
    exact Finset.sum_congr rfl fun e _ => mul_comm _ _
  · rfl

/-- The second head's gates of a pair. -/
theorem gateB_at (o : ℕ) (hs : S32x1024.Slices ![0, o] S32x128) (hq : S256x1024.Slices ![0, o] S256x128) (ho : o + 128 ≤ 1024) (km : FVec Ideal S32x1024 .f32) (q : FVec Ideal S256x1024 .f32) (i j : Fin 32) (r : Fin 256)
    (hk : j < i → ∀ c, Fin' (km (ix2 j c))) (hr : ∀ c, Fin' (q (ix2 r c))) :
    gateB (F := Ideal) (BitVec.ofNat 32 i.val) (gHi o hs hq km q) (gLo o hs hq km q) (ix2 j r)
      = if j < i then ∑ e : Fin 64, q (ix2 r ⟨o + (64 + e.val), by omega⟩) * km (ix2 j ⟨o + (64 + e.val), by omega⟩) else ⊥ := by
  have e : gateB (F := Ideal) (BitVec.ofNat 32 i.val) (gHi o hs hq km q) (gLo o hs hq km q) (ix2 j r)
      = Scalar.select (validV Ideal (BitVec.ofNat 32 i.val) (ix2 j r)) (gHi o hs hq km q (ix2 ⟨32 + j.val, by omega⟩ r) + gHi o hs hq km q (ix2 ⟨96 + j.val, by omega⟩ r) + gLo o hs hq km q (ix2 ⟨32 + j.val, by omega⟩ r)) (Ideal.ofBits .f32 0xFF800000#32) := by
    pointwise [gateB]
  rw [e, valid_at, select_bool, negInf, gLo_at _ _ _ _ _ _ _ hr, gHi_at _ _ _ ho, gHi_at _ _ _ ho]
  split_ifs with h
  · simp only [(km4_at o hs ho km j _).2, (km4_low o hs km j _ (hk h)).2, select_mul, zero_mul, Finset.sum_const_zero, add_zero]
    rw [sum_hi (fun l => km (ix2 j ⟨o + l.val, by omega⟩) * q (ix2 r ⟨o + l.val, by omega⟩))]
    exact Finset.sum_congr rfl fun e _ => mul_comm _ _
  · rfl

/-- A pick, column by column. -/
theorem pickV_at (g : FVec Ideal S32x256 .f32) (j : Fin 32) (r : Fin 256) [Decidable (num j = first fun k => g (ix2 k r))] :
    pickV (F := Ideal) g (ix2 j r) = BitVec.ofBool (decide (num j = first fun k => g (ix2 k r))) := by
  classical
  pointwise [pickV, jV, down]
  refine congrArg BitVec.ofBool (decide_eq_decide.mpr ?_)
  simp only [num_at, negInf, posInf, const32]
  unfold first
  exact Iff.rfl

theorem strikeV_at (g : FVec Ideal S32x256 .f32) (j : Fin 32) (r : Fin 256) :
    strikeV (F := Ideal) g (ix2 j r) = strike (fun k => g (ix2 k r)) j := by
  classical
  have e : strikeV (F := Ideal) g (ix2 j r) = Scalar.select (pickV g (ix2 j r)) (Ideal.ofBits .f32 0xFF800000#32) (g (ix2 j r)) := rfl
  rw [e, pickV_at, select_bool, negInf]
  unfold strike
  exact if_congr Iff.rfl rfl rfl

/-- The chosen blocks: those before the query's own that fewer than three go before. -/
theorem chosen_at (i : Fin 32) (g : FVec Ideal S32x256 .f32) (j : Fin 32) (r : Fin 256) (hg : j < i → ⊥ < g (ix2 j r)) [Decidable (j < i ∧ rank (fun k => g (ix2 k r)) j < 3)] :
    chosen (F := Ideal) (BitVec.ofNat 32 i.val) g (ix2 j r) = if j < i ∧ rank (fun k => g (ix2 k r)) j < 3 then (1 : EReal) else 0 := by
  classical
  have e : chosen (F := Ideal) (BitVec.ofNat 32 i.val) g (ix2 j r)
      = Scalar.select (validV Ideal (BitVec.ofNat 32 i.val) (ix2 j r)) (Scalar.select (pickV (strikeV (strikeV g)) (ix2 j r)) (Ideal.ofBits .f32 0x3F800000#32) (Scalar.select (pickV (strikeV g) (ix2 j r)) (Ideal.ofBits .f32 0x3F800000#32) (Scalar.select (pickV g (ix2 j r)) (Ideal.ofBits .f32 0x3F800000#32) (Ideal.ofBits .f32 0x00000000#32)))) (Ideal.ofBits .f32 0x00000000#32) := rfl
  have e1 : (fun k => strikeV (F := Ideal) g (ix2 k r)) = strike fun k => g (ix2 k r) := funext fun k => strikeV_at g k r
  have e2 : (fun k => strikeV (F := Ideal) (strikeV g) (ix2 k r)) = strike (strike fun k => g (ix2 k r)) := funext fun k => by rw [strikeV_at, e1]
  rw [e, valid_at, pickV_at, pickV_at, pickV_at, e1, e2, select_bool, select_bool, select_bool, select_bool, const1, Ideal.ofBits_zero_f32]
  by_cases hv : j < i
  · have ht := three (fun k => g (ix2 k r)) j (hg hv)
    rw [if_pos hv]
    by_cases hrk : rank (fun k => g (ix2 k r)) j < 3
    · rw [if_pos (⟨hv, hrk⟩ : j < i ∧ rank (fun k => g (ix2 k r)) j < 3)]
      rcases ht.mpr hrk with h | h | h
      · rw [if_pos h]
      · split_ifs <;> rfl
      · split_ifs <;> rfl
    · rw [if_neg (fun h => hrk h.2 : ¬(j < i ∧ rank (fun k => g (ix2 k r)) j < 3))]
      have hn := fun h => hrk (ht.mp h)
      rw [if_neg (fun h => hn (.inl h)), if_neg (fun h => hn (.inr (.inl h))), if_neg (fun h => hn (.inr (.inr h)))]
  · rw [if_neg hv, if_neg (fun h => hv h.1 : ¬(j < i ∧ rank (fun k => g (ix2 k r)) j < 3))]

end Cert.PrepIdeal.Block

end
-- ==== Proof.PrepOut.lean ====
/- The attention preparation's stores, as functions of the blocks it is given. -/
module

public import proofs.«01_k».proof.Proof.PrepBlock
public import proofs.«01_k».proof.Proof.Gen.PrepIdeal.Frame
public import Idealize.ShloMosaic.Lib.Pipeline.ValueKit
public import Idealize.ShloMosaic.Lib.Claim
public import Idealize.ShloMosaic.Lib.WholeRead
public import Idealize.ShloMosaic.Lib.WritesUnit
public import Idealize.ShloMosaic.Lib.VecWindow

@[expose] public section

set_option maxRecDepth 65536

noncomputable section

namespace Cert.PrepIdeal.Block

open Cert.PrepIdeal Cert.PrepIdeal.Gen Idealize.ShloMosaic Idealize.ShloMosaic.TcCoe Idealize.SL.Sem

variable {F : FTy → Type} [FloatOps F]

/-- Output 5's block. -/
theorem outA5 (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x16x1x32x256 .f32) (harg9 : arg9.IsWhole) (arg10 : Memref sig .tc .vmem S1x8x1x128x256 .bf16) (harg10 : arg10.IsWhole) (arg11 : Memref sig .tc .vmem S32x1024 .f32) (harg11 : arg11.IsWhole) (hc0 : cond0_0 i)
    (x0 : Vec F S1x256x1024 .bf16) (x1 : Vec F S1x256x1024 .bf16) (x2 : Vec F S1x256x1024 .bf16) (x3 : Vec F S1x1024 .f32) (x4 : Vec F S1x1024 .f32) :
    out0_A_5 c i arg2 harg2 arg3 harg3 arg4 harg4 arg5 harg5 arg6 harg6 arg7 harg7 arg8 harg8 arg9 harg9 arg10 harg10 arg11 harg11 hc0 x0 x1 x2 x3 x4 = pack (qV x0 x3) := by
  funext y
  frame_out
  rfl

/-- Output 6's block. -/
theorem outA6 (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x16x1x32x256 .f32) (harg9 : arg9.IsWhole) (arg10 : Memref sig .tc .vmem S1x8x1x128x256 .bf16) (harg10 : arg10.IsWhole) (arg11 : Memref sig .tc .vmem S32x1024 .f32) (harg11 : arg11.IsWhole) (hc0 : cond0_0 i)
    (x0 : Vec F S1x256x1024 .bf16) (x1 : Vec F S1x256x1024 .bf16) (x2 : Vec F S1x256x1024 .bf16) (x3 : Vec F S1x1024 .f32) (x4 : Vec F S1x1024 .f32) :
    out0_A_6 c i arg2 harg2 arg3 harg3 arg4 harg4 arg5 harg5 arg6 harg6 arg7 harg7 arg8 harg8 arg9 harg9 arg10 harg10 arg11 harg11 hc0 x0 x1 x2 x3 x4 = pack (kV x1 x4) := by
  funext y
  frame_out
  rfl

/-- Output 8's block. -/
theorem outA8 (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x16x1x32x256 .f32) (harg9 : arg9.IsWhole) (arg10 : Memref sig .tc .vmem S1x8x1x128x256 .bf16) (harg10 : arg10.IsWhole) (arg11 : Memref sig .tc .vmem S32x1024 .f32) (harg11 : arg11.IsWhole) (hc0 : cond0_0 i)
    (x0 : Vec F S1x256x1024 .bf16) (x1 : Vec F S1x256x1024 .bf16) (x2 : Vec F S1x256x1024 .bf16) (x3 : Vec F S1x1024 .f32) (x4 : Vec F S1x1024 .f32) :
    out0_A_8 c i arg2 harg2 arg3 harg3 arg4 harg4 arg5 harg5 arg6 harg6 arg7 harg7 arg8 harg8 arg9 harg9 arg10 harg10 arg11 harg11 hc0 x0 x1 x2 x3 x4 = k0_pay50 x2 := by
  funext y
  frame_out

/-- Output 5's block. -/
theorem outB5 (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x16x1x32x256 .f32) (harg9 : arg9.IsWhole) (arg10 : Memref sig .tc .vmem S1x8x1x128x256 .bf16) (harg10 : arg10.IsWhole) (arg11 : Memref sig .tc .vmem S32x1024 .f32) (harg11 : arg11.IsWhole) (hc0 : ¬cond0_0 i)
    (x0 : Vec F S1x256x1024 .bf16) (x1 : Vec F S1x256x1024 .bf16) (x2 : Vec F S1x256x1024 .bf16) (x3 : Vec F S1x1024 .f32) (x4 : Vec F S1x1024 .f32) (xs0 : Vec F S32x1024 .f32) :
    out0_B_5 c i arg2 harg2 arg3 harg3 arg4 harg4 arg5 harg5 arg6 harg6 arg7 harg7 arg8 harg8 arg9 harg9 arg10 harg10 arg11 harg11 hc0 x0 x1 x2 x3 x4 xs0 = pack (qV x0 x3) := by
  funext y
  frame_out
  rfl

/-- Output 6's block. -/
theorem outB6 (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x16x1x32x256 .f32) (harg9 : arg9.IsWhole) (arg10 : Memref sig .tc .vmem S1x8x1x128x256 .bf16) (harg10 : arg10.IsWhole) (arg11 : Memref sig .tc .vmem S32x1024 .f32) (harg11 : arg11.IsWhole) (hc0 : ¬cond0_0 i)
    (x0 : Vec F S1x256x1024 .bf16) (x1 : Vec F S1x256x1024 .bf16) (x2 : Vec F S1x256x1024 .bf16) (x3 : Vec F S1x1024 .f32) (x4 : Vec F S1x1024 .f32) (xs0 : Vec F S32x1024 .f32) :
    out0_B_6 c i arg2 harg2 arg3 harg3 arg4 harg4 arg5 harg5 arg6 harg6 arg7 harg7 arg8 harg8 arg9 harg9 arg10 harg10 arg11 harg11 hc0 x0 x1 x2 x3 x4 xs0 = pack (kV x1 x4) := by
  funext y
  frame_out
  rfl

/-- Output 8's block. -/
theorem outB8 (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x16x1x32x256 .f32) (harg9 : arg9.IsWhole) (arg10 : Memref sig .tc .vmem S1x8x1x128x256 .bf16) (harg10 : arg10.IsWhole) (arg11 : Memref sig .tc .vmem S32x1024 .f32) (harg11 : arg11.IsWhole) (hc0 : ¬cond0_0 i)
    (x0 : Vec F S1x256x1024 .bf16) (x1 : Vec F S1x256x1024 .bf16) (x2 : Vec F S1x256x1024 .bf16) (x3 : Vec F S1x1024 .f32) (x4 : Vec F S1x1024 .f32) (xs0 : Vec F S32x1024 .f32) :
    out0_B_8 c i arg2 harg2 arg3 harg3 arg4 harg4 arg5 harg5 arg6 harg6 arg7 harg7 arg8 harg8 arg9 harg9 arg10 harg10 arg11 harg11 hc0 x0 x1 x2 x3 x4 xs0 = k0_pay50 x2 := by
  funext y
  frame_out

/-- The chosen blocks, head by head. -/
def selH (i : BitVec 32) (km : FVec F S32x1024 .f32) (q : FVec F S256x1024 .f32) : Fin 16 → FVec F S1x1x1x32x256 .f32 :=
  ![selA 0 slices_S32x1024_o0_0_S32x128 slices_S256x1024_o0_0_S256x128 i km q,
    selB 0 slices_S32x1024_o0_0_S32x128 slices_S256x1024_o0_0_S256x128 i km q,
    selA 128 slices_S32x1024_o0_128_S32x128 slices_S256x1024_o0_128_S256x128 i km q,
    selB 128 slices_S32x1024_o0_128_S32x128 slices_S256x1024_o0_128_S256x128 i km q,
    selA 256 slices_S32x1024_o0_256_S32x128 slices_S256x1024_o0_256_S256x128 i km q,
    selB 256 slices_S32x1024_o0_256_S32x128 slices_S256x1024_o0_256_S256x128 i km q,
    selA 384 slices_S32x1024_o0_384_S32x128 slices_S256x1024_o0_384_S256x128 i km q,
    selB 384 slices_S32x1024_o0_384_S32x128 slices_S256x1024_o0_384_S256x128 i km q,
    selA 512 slices_S32x1024_o0_512_S32x128 slices_S256x1024_o0_512_S256x128 i km q,
    selB 512 slices_S32x1024_o0_512_S32x128 slices_S256x1024_o0_512_S256x128 i km q,
    selA 640 slices_S32x1024_o0_640_S32x128 slices_S256x1024_o0_640_S256x128 i km q,
    selB 640 slices_S32x1024_o0_640_S32x128 slices_S256x1024_o0_640_S256x128 i km q,
    selA 768 slices_S32x1024_o0_768_S32x128 slices_S256x1024_o0_768_S256x128 i km q,
    selB 768 slices_S32x1024_o0_768_S32x128 slices_S256x1024_o0_768_S256x128 i km q,
    selA 896 slices_S32x1024_o0_896_S32x128 slices_S256x1024_o0_896_S256x128 i km q,
    selB 896 slices_S32x1024_o0_896_S32x128 slices_S256x1024_o0_896_S256x128 i km q]

/-- The stores of the chosen blocks. -/
def selP (i : BitVec 32) (km : FVec F S32x1024 .f32) (q : FVec F S256x1024 .f32) : List (View.Piece (Elt F) S1x16x1x32x256 .f32) :=
  [⟨Rect.unit ![0, 15, 0, 0, 0] ![1, 1, 1, 32, 256] inb_S1x16x1x32x256_S1x1x1x32x256_0_15_0_0_0, selB 896 slices_S32x1024_o0_896_S32x128 slices_S256x1024_o0_896_S256x128 i km q⟩,
    ⟨Rect.unit ![0, 14, 0, 0, 0] ![1, 1, 1, 32, 256] inb_S1x16x1x32x256_S1x1x1x32x256_0_14_0_0_0, selA 896 slices_S32x1024_o0_896_S32x128 slices_S256x1024_o0_896_S256x128 i km q⟩,
    ⟨Rect.unit ![0, 13, 0, 0, 0] ![1, 1, 1, 32, 256] inb_S1x16x1x32x256_S1x1x1x32x256_0_13_0_0_0, selB 768 slices_S32x1024_o0_768_S32x128 slices_S256x1024_o0_768_S256x128 i km q⟩,
    ⟨Rect.unit ![0, 12, 0, 0, 0] ![1, 1, 1, 32, 256] inb_S1x16x1x32x256_S1x1x1x32x256_0_12_0_0_0, selA 768 slices_S32x1024_o0_768_S32x128 slices_S256x1024_o0_768_S256x128 i km q⟩,
    ⟨Rect.unit ![0, 11, 0, 0, 0] ![1, 1, 1, 32, 256] inb_S1x16x1x32x256_S1x1x1x32x256_0_11_0_0_0, selB 640 slices_S32x1024_o0_640_S32x128 slices_S256x1024_o0_640_S256x128 i km q⟩,
    ⟨Rect.unit ![0, 10, 0, 0, 0] ![1, 1, 1, 32, 256] inb_S1x16x1x32x256_S1x1x1x32x256_0_10_0_0_0, selA 640 slices_S32x1024_o0_640_S32x128 slices_S256x1024_o0_640_S256x128 i km q⟩,
    ⟨Rect.unit ![0, 9, 0, 0, 0] ![1, 1, 1, 32, 256] inb_S1x16x1x32x256_S1x1x1x32x256_0_9_0_0_0, selB 512 slices_S32x1024_o0_512_S32x128 slices_S256x1024_o0_512_S256x128 i km q⟩,
    ⟨Rect.unit ![0, 8, 0, 0, 0] ![1, 1, 1, 32, 256] inb_S1x16x1x32x256_S1x1x1x32x256_0_8_0_0_0, selA 512 slices_S32x1024_o0_512_S32x128 slices_S256x1024_o0_512_S256x128 i km q⟩,
    ⟨Rect.unit ![0, 7, 0, 0, 0] ![1, 1, 1, 32, 256] inb_S1x16x1x32x256_S1x1x1x32x256_0_7_0_0_0, selB 384 slices_S32x1024_o0_384_S32x128 slices_S256x1024_o0_384_S256x128 i km q⟩,
    ⟨Rect.unit ![0, 6, 0, 0, 0] ![1, 1, 1, 32, 256] inb_S1x16x1x32x256_S1x1x1x32x256_0_6_0_0_0, selA 384 slices_S32x1024_o0_384_S32x128 slices_S256x1024_o0_384_S256x128 i km q⟩,
    ⟨Rect.unit ![0, 5, 0, 0, 0] ![1, 1, 1, 32, 256] inb_S1x16x1x32x256_S1x1x1x32x256_0_5_0_0_0, selB 256 slices_S32x1024_o0_256_S32x128 slices_S256x1024_o0_256_S256x128 i km q⟩,
    ⟨Rect.unit ![0, 4, 0, 0, 0] ![1, 1, 1, 32, 256] inb_S1x16x1x32x256_S1x1x1x32x256_0_4_0_0_0, selA 256 slices_S32x1024_o0_256_S32x128 slices_S256x1024_o0_256_S256x128 i km q⟩,
    ⟨Rect.unit ![0, 3, 0, 0, 0] ![1, 1, 1, 32, 256] inb_S1x16x1x32x256_S1x1x1x32x256_0_3_0_0_0, selB 128 slices_S32x1024_o0_128_S32x128 slices_S256x1024_o0_128_S256x128 i km q⟩,
    ⟨Rect.unit ![0, 2, 0, 0, 0] ![1, 1, 1, 32, 256] inb_S1x16x1x32x256_S1x1x1x32x256_0_2_0_0_0, selA 128 slices_S32x1024_o0_128_S32x128 slices_S256x1024_o0_128_S256x128 i km q⟩,
    ⟨Rect.unit ![0, 1, 0, 0, 0] ![1, 1, 1, 32, 256] inb_S1x16x1x32x256_S1x1x1x32x256_0_1_0_0_0, selB 0 slices_S32x1024_o0_0_S32x128 slices_S256x1024_o0_0_S256x128 i km q⟩,
    ⟨Rect.unit ![0, 0, 0, 0, 0] ![1, 1, 1, 32, 256] inb_S1x16x1x32x256_S1x1x1x32x256_0_0_0_0_0, selA 0 slices_S32x1024_o0_0_S32x128 slices_S256x1024_o0_0_S256x128 i km q⟩]

/-- A store's payload is its head's chosen blocks. -/
theorem selP_eq (i : BitVec 32) (km : FVec F S32x1024 .f32) (q : FVec F S256x1024 .f32) :
    ∀ p ∈ selP i km q, ∀ x : p.1.shape.Idx, p.2 x = (fun y : S1x16x1x32x256.Idx => selH i km q (y 1) (ix5 0 0 0 (y 3) (y 4))) (p.1.emb x) := by
  have key : ∀ (h : ℕ) (hh : h < 16) (hin : ∀ a, (![0, h, 0, 0, 0] : Fin 5 → ℕ) a + (![1, 1, 1, 32, 256] : Fin 5 → ℕ) a ≤ S1x16x1x32x256.size a)
      (v : FVec F S1x1x1x32x256 .f32), v = selH i km q ⟨h, hh⟩ → ∀ x : (Rect.unit (s := S1x16x1x32x256) ![0, h, 0, 0, 0] ![1, 1, 1, 32, 256] hin).shape.Idx,
      v x = (fun y : S1x16x1x32x256.Idx => selH i km q (y 1) (ix5 0 0 0 (y 3) (y 4))) ((Rect.unit (s := S1x16x1x32x256) ![0, h, 0, 0, 0] ![1, 1, 1, 32, 256] hin).emb x) := by
    intro h hh hin v hv x
    subst hv
    have h0 : (x 0).val < 1 := (x 0).isLt
    have h1 : (x 1).val < 1 := (x 1).isLt
    have h2 : (x 2).val < 1 := (x 2).isLt
    have e1 : (⟨h, hh⟩ : Fin 16) = (Rect.unit (s := S1x16x1x32x256) ![0, h, 0, 0, 0] ![1, 1, 1, 32, 256] hin).emb x 1 := Fin.ext (by show h = h + 1 * (x 1).val; omega)
    show _ = selH i km q _ _
    rw [← e1]
    refine congrArg _ ?_
    funext a
    match a with
    | ⟨0, _⟩ => exact Fin.ext (by show (x 0).val = 0; omega)
    | ⟨1, _⟩ => exact Fin.ext (by show (x 1).val = 0; omega)
    | ⟨2, _⟩ => exact Fin.ext (by show (x 2).val = 0; omega)
    | ⟨3, _⟩ => exact Fin.ext (by show (x 3).val = 0 + 1 * (x 3).val; omega)
    | ⟨4, _⟩ => exact Fin.ext (by show (x 4).val = 0 + 1 * (x 4).val; omega)
  intro p hp
  simp only [selP, List.mem_cons, List.not_mem_nil, or_false] at hp
  rcases hp with rfl | rfl | rfl | rfl | rfl | rfl | rfl | rfl | rfl | rfl | rfl | rfl | rfl | rfl | rfl | rfl
  · exact key 15 (by decide) inb_S1x16x1x32x256_S1x1x1x32x256_0_15_0_0_0 _ rfl
  · exact key 14 (by decide) inb_S1x16x1x32x256_S1x1x1x32x256_0_14_0_0_0 _ rfl
  · exact key 13 (by decide) inb_S1x16x1x32x256_S1x1x1x32x256_0_13_0_0_0 _ rfl
  · exact key 12 (by decide) inb_S1x16x1x32x256_S1x1x1x32x256_0_12_0_0_0 _ rfl
  · exact key 11 (by decide) inb_S1x16x1x32x256_S1x1x1x32x256_0_11_0_0_0 _ rfl
  · exact key 10 (by decide) inb_S1x16x1x32x256_S1x1x1x32x256_0_10_0_0_0 _ rfl
  · exact key 9 (by decide) inb_S1x16x1x32x256_S1x1x1x32x256_0_9_0_0_0 _ rfl
  · exact key 8 (by decide) inb_S1x16x1x32x256_S1x1x1x32x256_0_8_0_0_0 _ rfl
  · exact key 7 (by decide) inb_S1x16x1x32x256_S1x1x1x32x256_0_7_0_0_0 _ rfl
  · exact key 6 (by decide) inb_S1x16x1x32x256_S1x1x1x32x256_0_6_0_0_0 _ rfl
  · exact key 5 (by decide) inb_S1x16x1x32x256_S1x1x1x32x256_0_5_0_0_0 _ rfl
  · exact key 4 (by decide) inb_S1x16x1x32x256_S1x1x1x32x256_0_4_0_0_0 _ rfl
  · exact key 3 (by decide) inb_S1x16x1x32x256_S1x1x1x32x256_0_3_0_0_0 _ rfl
  · exact key 2 (by decide) inb_S1x16x1x32x256_S1x1x1x32x256_0_2_0_0_0 _ rfl
  · exact key 1 (by decide) inb_S1x16x1x32x256_S1x1x1x32x256_0_1_0_0_0 _ rfl
  · exact key 0 (by decide) inb_S1x16x1x32x256_S1x1x1x32x256_0_0_0_0_0 _ rfl

/-- The chosen blocks' output. -/
theorem outA7 (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x16x1x32x256 .f32) (harg9 : arg9.IsWhole) (arg10 : Memref sig .tc .vmem S1x8x1x128x256 .bf16) (harg10 : arg10.IsWhole) (arg11 : Memref sig .tc .vmem S32x1024 .f32) (harg11 : arg11.IsWhole) (hc0 : cond0_0 i)
    (x0 : Vec F S1x256x1024 .bf16) (x1 : Vec F S1x256x1024 .bf16) (x2 : Vec F S1x256x1024 .bf16) (x3 : Vec F S1x1024 .f32) (x4 : Vec F S1x1024 .f32) (y : S1x16x1x32x256.Idx) :
    out0_A_7 c i arg2 harg2 arg3 harg3 arg4 harg4 arg5 harg5 arg6 harg6 arg7 harg7 arg8 harg8 arg9 harg9 arg10 harg10 arg11 harg11 hc0 x0 x1 x2 x3 x4 y = selH (BitVec.ofNat 32 (i 1).val) k0_pay2 (qV x0 x3) (y 1) (ix5 0 0 0 (y 3) (y 4)) := by
  frame_out
  exact View.canon_apply_of_pieces (fun y : S1x16x1x32x256.Idx => selH (BitVec.ofNat 32 (i 1).val) k0_pay2 (qV x0 x3) (y 1) (ix5 0 0 0 (y 3) (y 4)))
    (selP (BitVec.ofNat 32 (i 1).val) k0_pay2 (qV x0 x3)) (selP_eq _ _ _) y (View.cover_of_tiledL _ ![1, 1, 1, 32, 256] (by sl_kernel_rfl) y)

/-- The chosen blocks' output. -/
theorem outB7 (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x16x1x32x256 .f32) (harg9 : arg9.IsWhole) (arg10 : Memref sig .tc .vmem S1x8x1x128x256 .bf16) (harg10 : arg10.IsWhole) (arg11 : Memref sig .tc .vmem S32x1024 .f32) (harg11 : arg11.IsWhole) (hc0 : ¬cond0_0 i)
    (x0 : Vec F S1x256x1024 .bf16) (x1 : Vec F S1x256x1024 .bf16) (x2 : Vec F S1x256x1024 .bf16) (x3 : Vec F S1x1024 .f32) (x4 : Vec F S1x1024 .f32) (xs0 : Vec F S32x1024 .f32) (y : S1x16x1x32x256.Idx) :
    out0_B_7 c i arg2 harg2 arg3 harg3 arg4 harg4 arg5 harg5 arg6 harg6 arg7 harg7 arg8 harg8 arg9 harg9 arg10 harg10 arg11 harg11 hc0 x0 x1 x2 x3 x4 xs0 y = selH (BitVec.ofNat 32 (i 1).val) xs0 (qV x0 x3) (y 1) (ix5 0 0 0 (y 3) (y 4)) := by
  frame_out
  exact View.canon_apply_of_pieces (fun y : S1x16x1x32x256.Idx => selH (BitVec.ofNat 32 (i 1).val) xs0 (qV x0 x3) (y 1) (ix5 0 0 0 (y 3) (y 4)))
    (selP (BitVec.ofNat 32 (i 1).val) xs0 (qV x0 x3)) (selP_eq _ _ _) y (View.cover_of_tiledL _ ![1, 1, 1, 32, 256] (by sl_kernel_rfl) y)

/-- Where the block's own row of the means goes. -/
theorem off1 (i : grid0.Coords) : k0_off1 i = ![(i 1).val, 0] := by
  have h : (i 1).val < 32 := (i 1).isLt
  funext a
  match a with
  | ⟨0, _⟩ =>
    show (BitVec.ofNat 32 (i 1).val).toNat = (i 1).val
    rw [BitVec.toNat_ofNat]; omega
  | ⟨1, _⟩ => rfl

/-- A row stored over others, read at the row. -/
theorem row_mem {κ : Kind} {sp : Space} (v : View sig κ sp S32x1024 .f32) (f : v.ty.Contents (Elt F)) (i : ℕ) (o : Fin 2 → ℕ) (hin : ∀ a, o a + (![1, 1024] : Fin 2 → ℕ) a ≤ S32x1024.size a) (w : FVec F S1x1024 .f32)
    (L : List (View.Piece (Elt F) S32x1024 .f32)) (j : Fin 32) (l : Fin 1024) (ho : o = ![i, 0]) (h : j.val = i) :
    v.read (Elt F) (v.writes (Elt F) f (⟨Rect.unit (s := S32x1024) o ![1, 1024] hin, w⟩ :: L)) (ix2 j l) = w (ix2 0 l) :=
  View.read_writes_cons_unit_of_mem v f hin w L (ix2 j l) (ix2 0 l) ho (fun a => by
    match a with
    | ⟨0, _⟩ => exact h
    | ⟨1, _⟩ => exact (Nat.zero_add _).symm)

/-- A row stored over others, read at another row. -/
theorem row_not_mem {κ : Kind} {sp : Space} (v : View sig κ sp S32x1024 .f32) (f : v.ty.Contents (Elt F)) (i : ℕ) (o : Fin 2 → ℕ) (hin : ∀ a, o a + (![1, 1024] : Fin 2 → ℕ) a ≤ S32x1024.size a) (w : FVec F S1x1024 .f32)
    (L : List (View.Piece (Elt F) S32x1024 .f32)) (j : Fin 32) (l : Fin 1024) (ho : o = ![i, 0]) (h : j.val < i ∨ i + 1 ≤ j.val) :
    v.read (Elt F) (v.writes (Elt F) f (⟨Rect.unit (s := S32x1024) o ![1, 1024] hin, w⟩ :: L)) (ix2 j l) = v.read (Elt F) (v.writes (Elt F) f L) (ix2 j l) :=
  View.read_writes_cons_unit_of_not_mem v f hin w L (ix2 j l) ho 0 h

/-- A cast to the same shape changes nothing. -/
theorem pay1_id (v : FVec F S1x1024 .f32) : k0_pay1 v = v := shapeCast_self ..

/-- The means kept, at the first block: the block's own row, zeros elsewhere. -/
theorem keepA (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x16x1x32x256 .f32) (harg9 : arg9.IsWhole) (arg10 : Memref sig .tc .vmem S1x8x1x128x256 .bf16) (harg10 : arg10.IsWhole) (arg11 : Memref sig .tc .vmem S32x1024 .f32) (harg11 : arg11.IsWhole) (hc0 : cond0_0 i)
    (x0 : Vec F S1x256x1024 .bf16) (x1 : Vec F S1x256x1024 .bf16) (x2 : Vec F S1x256x1024 .bf16) (x3 : Vec F S1x1024 .f32) (x4 : Vec F S1x1024 .f32) (j : Fin 32) (l : Fin 1024) :
    sout0_A_0 c i arg2 harg2 arg3 harg3 arg4 harg4 arg5 harg5 arg6 harg6 arg7 harg7 arg8 harg8 arg9 harg9 arg10 harg10 arg11 harg11 hc0 x0 x1 x2 x3 x4 (ix2 j l) = if j.val = (i 1).val then meanV (kV x1 x4) (ix2 0 l) else k0_pay2 (ix2 j l) := by
  refine Eq.trans (b := VS0_0.read (Elt F) (VS0_0.writes (Elt F) VS0_0.junk [⟨Rect.unit (s := S32x1024) (k0_off1 i) ![1, 1024] (k0_off1_inb i), k0_pay1 (meanV (kV x1 x4))⟩,
    ⟨Rect.unit ![0, 0] ![32, 1024] inb_S32x1024_S32x1024_0_0, k0_pay2⟩]) (ix2 j l)) ?_ ?_
  · frame_out
    rfl
  · rcases Nat.lt_trichotomy j.val (i 1).val with h | h | h
    · rw [if_neg (by omega), row_not_mem _ _ _ _ _ _ _ j l (off1 i) (.inl h)]
      exact congrFun (View.read_writes_full _ _ _ _ _) _
    · rw [if_pos h]
      exact (row_mem _ _ _ _ _ _ _ j l (off1 i) h).trans (congrFun (pay1_id _) _)
    · rw [if_neg (by omega), row_not_mem _ _ _ _ _ _ _ j l (off1 i) (.inr h)]
      exact congrFun (View.read_writes_full _ _ _ _ _) _

/-- The means kept, at a later block: the block's own row besides the rows before. -/
theorem keepB (c : Dev nD) (i : grid0.Coords) (arg2 : Memref sig .tc .vmem S1x256x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x16x1x32x256 .f32) (harg9 : arg9.IsWhole) (arg10 : Memref sig .tc .vmem S1x8x1x128x256 .bf16) (harg10 : arg10.IsWhole) (arg11 : Memref sig .tc .vmem S32x1024 .f32) (harg11 : arg11.IsWhole) (hc0 : ¬cond0_0 i)
    (x0 : Vec F S1x256x1024 .bf16) (x1 : Vec F S1x256x1024 .bf16) (x2 : Vec F S1x256x1024 .bf16) (x3 : Vec F S1x1024 .f32) (x4 : Vec F S1x1024 .f32) (xs0 : Vec F S32x1024 .f32) (j : Fin 32) (l : Fin 1024) :
    sout0_B_0 c i arg2 harg2 arg3 harg3 arg4 harg4 arg5 harg5 arg6 harg6 arg7 harg7 arg8 harg8 arg9 harg9 arg10 harg10 arg11 harg11 hc0 x0 x1 x2 x3 x4 xs0 (ix2 j l) = if j.val = (i 1).val then meanV (kV x1 x4) (ix2 0 l) else xs0 (ix2 j l) := by
  refine Eq.trans (b := arg11.view.read (Elt F) (arg11.view.writes (Elt F) (harg11.unread xs0) [⟨Rect.unit (s := S32x1024) (k0_off1 i) ![1, 1024] (k0_off1_inb i), k0_pay1 (meanV (kV x1 x4))⟩]) (ix2 j l)) ?_ ?_
  · frame_out
    rfl
  · rcases Nat.lt_trichotomy j.val (i 1).val with h | h | h
    · rw [if_neg (by omega), row_not_mem _ _ _ _ _ _ _ j l (off1 i) (.inl h)]
      exact congrFun (harg11.read_unread xs0) _
    · rw [if_pos h]
      exact (row_mem _ _ _ _ _ _ _ j l (off1 i) h).trans (congrFun (pay1_id _) _)
    · rw [if_neg (by omega), row_not_mem _ _ _ _ _ _ _ j l (off1 i) (.inr h)]
      exact congrFun (harg11.read_unread xs0) _

end Cert.PrepIdeal.Block

end
-- ==== Proof.PrepValue.lean ====
/- What the attention preparation's result arrays hold after the run: the normalised queries and keys, the chosen blocks, the
   values. -/
module

public import proofs.«01_k».proof.Proof.PrepPoint
public import proofs.«01_k».proof.Proof.PrepOut
public import proofs.«01_k».proof.Proof.Gen.PrepIdeal.Value
public import Idealize.ShloMosaic.Lib.Pipeline.ValueKit
public import Idealize.ShloMosaic.Lib.Claim

@[expose] public section

set_option maxRecDepth 16384

noncomputable section

namespace Cert.PrepIdeal.Whole

open Idealize.ShloMosaic Idealize.ShloMosaic.TcCoe Idealize.SL.Sem Cert.PrepIdeal Cert.PrepIdeal.Gen Cert.PrepIdeal.Block
open Cert.PrepMath Cert.PrepSel Cert.Scan
open Idealize.ShloMosaic.Pipeline (Dat)

/-- Which block every window takes at every point. -/
theorem idx : ∀ t : Fin cfg0.N, win0_0.index t = ![t.val / 32, t.val % 32, 0] ∧ win0_1.index t = ![t.val / 32, t.val % 32, 1] ∧ win0_2.index t = ![t.val / 32, t.val % 32, 2]
    ∧ win0_3.index t = ![0, 0] ∧ win0_4.index t = ![0, 0] ∧ win0_5.index t = ![t.val / 32, t.val % 32, 0] ∧ win0_6.index t = ![t.val / 32, t.val % 32, 0]
    ∧ win0_7.index t = ![t.val / 32, 0, t.val % 32, 0, 0] ∧ win0_8.index t = ![t.val / 32, 0, t.val % 32, 0, 0] :=
  (by decide +kernel : ∀ t : Fin grid0.N, _)

/-- A point's second coordinate. -/
theorem coord1 : ∀ t : Fin cfg0.N, ((grid0.coords t) 1).val = t.val % 32 := (by decide +kernel : ∀ t : Fin grid0.N, _)

/-- The batch a point works on. -/
abbrev bOf (n : ℕ) (hn : n < cfg0.N) : Fin 2 := ⟨n / 32, by have h : cfg0.N = 64 := rfl; omega⟩
/-- The block a point works on. -/
abbrev iOf (n : ℕ) : Fin 32 := ⟨n % 32, by omega⟩

variable (m : (ℓ : Loc nD τ sig) → Buf (Elt Ideal) ℓ) (c : Dev nD)

/-- The argument arrays. -/
abbrev X : FVec Ideal S2x8192x10240 .bf16 := m ((c : Thread nD τ).loc main_arg0)
abbrev gQ (e : Fin 64) : EReal := (show FVec Ideal S64 .f32 from m ((c : Thread nD τ).loc main_arg1)) (ix1 e)
abbrev gK (e : Fin 64) : EReal := (show FVec Ideal S64 .f32 from m ((c : Thread nD τ).loc main_arg2)) (ix1 e)

theorem blk0 (t : Fin cfg0.N) (r : Fin 256) (k : Fin 1024) :
    (show FVec Ideal S1x256x1024 .bf16 from iblk m c 0 t) (ix3 0 r k) = X m c (ix3 (bOf t.val t.isLt) (tokn (iOf t.val) r) ⟨k.val, by omega⟩) := by
  blk_point [iblk, V, idx t, tokn]

theorem blk1 (t : Fin cfg0.N) (r : Fin 256) (k : Fin 1024) :
    (show FVec Ideal S1x256x1024 .bf16 from iblk m c 1 t) (ix3 0 r k) = X m c (ix3 (bOf t.val t.isLt) (tokn (iOf t.val) r) ⟨1024 + k.val, by omega⟩) := by
  blk_point [iblk, V, idx t, tokn]

theorem blk2 (t : Fin cfg0.N) (r : Fin 256) (k : Fin 1024) :
    (show FVec Ideal S1x256x1024 .bf16 from iblk m c 2 t) (ix3 0 r k) = X m c (ix3 (bOf t.val t.isLt) (tokn (iOf t.val) r) ⟨2048 + k.val, by omega⟩) := by
  blk_point [iblk, V, idx t, tokn]

theorem blk3 (t : Fin cfg0.N) (k : Fin 1024) :
    (show FVec Ideal S1x1024 .f32 from iblk m c 3 t) (ix2 0 k) = gQ m c ⟨k.val % 64, by omega⟩ := by
  blk_point [iblk, V, idx t]

theorem blk4 (t : Fin cfg0.N) (k : Fin 1024) :
    (show FVec Ideal S1x1024 .f32 from iblk m c 4 t) (ix2 0 k) = gK m c ⟨k.val % 64, by omega⟩ := by
  blk_point [iblk, V, idx t]

/-- The block's keys. -/
theorem kV_blk (t : Fin cfg0.N) (r : Fin 256) (k : Fin 1024) :
    kV (F := Ideal) (iblk m c 1 t) (iblk m c 4 t) (ix2 r k) = key (X m c) (gK m c) (bOf t.val t.isLt) (tokn (iOf t.val) r) ⟨k.val / 64, by omega⟩ ⟨k.val % 64, by omega⟩ := by
  refine (kV_at _ _ r k).trans ?_
  unfold key
  refine congrFun (congrArg₂ hn ?_ ?_) _
  · funext e
    exact (blk1 m c t r _)
  · funext e
    refine (blk4 m c t _).trans (congrArg (gK m c) (Fin.ext ?_))
    show (k.val / 64 * 64 + e.val) % 64 = e.val
    omega

/-- The block's queries. -/
theorem qV_blk (t : Fin cfg0.N) (r : Fin 256) (k : Fin 1024) :
    qV (F := Ideal) (iblk m c 0 t) (iblk m c 3 t) (ix2 r k) = qry (X m c) (gQ m c) (bOf t.val t.isLt) (tokn (iOf t.val) r) ⟨k.val / 64, by omega⟩ ⟨k.val % 64, by omega⟩ := by
  refine (qV_at _ _ r k).trans ?_
  rw [kV_at]
  unfold qry
  refine congrArg (· * Ideal.ofBits .f32 0x3E38AA3B#32) (congrFun (congrArg₂ hn ?_ ?_) _)
  · funext e
    refine (blk0 m c t r _).trans (congrArg (X m c) (congrArg (ix3 _ _) (Fin.ext ?_)))
    exact (Nat.zero_add _).symm
  · funext e
    refine (blk3 m c t _).trans (congrArg (gQ m c) (Fin.ext ?_))
    show (k.val / 64 * 64 + e.val) % 64 = e.val
    omega

/-- The block's mean of keys. -/
theorem mean_blk (t : Fin cfg0.N) (k : Fin 1024) :
    meanV (F := Ideal) (kV (iblk m c 1 t) (iblk m c 4 t)) (ix2 0 k) = mean (X m c) (gK m c) (bOf t.val t.isLt) (iOf t.val) ⟨k.val / 64, by omega⟩ ⟨k.val % 64, by omega⟩ := by
  rw [meanV_at]
  unfold mean
  exact congrArg (fun s => Ideal.div s _) (Finset.sum_congr rfl fun r _ => kV_blk m c t r k)

/-- After a point the kept rows up to its block are the means of the batch's blocks. -/
theorem kept : ∀ (n : ℕ) (hn : n < cfg0.N) (j : Fin 32), j.val ≤ n % 32 → ∀ k : Fin 1024,
    (outsAt0 m c n hn).2.2.2.2 (ix2 j k) = mean (X m c) (gK m c) (bOf n hn) j ⟨k.val / 64, by omega⟩ ⟨k.val % 64, by omega⟩ := by
  intro n
  induction n with
  | zero =>
    intro hn j hj k
    rw [outsAt0_A m c ⟨0, hn⟩ rfl]
    dsimp only
    refine (keepA (F := Ideal) c _ _ _ _ _ _ _ _ _ _ _ _ _ _ _ _ _ _ _ _ _ _ _ _ _ _ _ j k).trans ?_
    have hj0 : j.val = 0 := by omega
    rw [if_pos (by rw [coord1]; exact hj0)]
    refine (mean_blk m c ⟨0, hn⟩ k).trans ?_
    rw [show iOf (⟨0, hn⟩ : Fin cfg0.N).val = j from Fin.ext hj0.symm]
  | succ n ih =>
    intro hn j hj k
    by_cases h0 : (n + 1) % 32 = 0
    · rw [outsAt0_A m c ⟨n + 1, hn⟩ h0]
      dsimp only
      refine (keepA (F := Ideal) c _ _ _ _ _ _ _ _ _ _ _ _ _ _ _ _ _ _ _ _ _ _ _ _ _ _ _ j k).trans ?_
      have hj0 : j.val = (n + 1) % 32 := by omega
      rw [if_pos (by rw [coord1]; exact hj0)]
      refine (mean_blk m c ⟨n + 1, hn⟩ k).trans ?_
      rw [show iOf (⟨n + 1, hn⟩ : Fin cfg0.N).val = j from Fin.ext hj0.symm]
    · rw [outsAt0_B m c ⟨n + 1, hn⟩ h0]
      dsimp only
      refine (keepB (F := Ideal) c _ _ _ _ _ _ _ _ _ _ _ _ _ _ _ _ _ _ _ _ _ _ _ _ _ _ _ _ j k).trans ?_
      by_cases hji : j.val = (n + 1) % 32
      · rw [if_pos (by rw [coord1]; exact hji)]
        refine (mean_blk m c ⟨n + 1, hn⟩ k).trans ?_
        rw [show iOf (⟨n + 1, hn⟩ : Fin cfg0.N).val = j from Fin.ext hji.symm]
      · rw [if_neg (by rw [coord1]; exact hji)]
        refine (ih (by omega) j (by omega) k).trans ?_
        rw [show bOf n (by omega) = bOf (n + 1) hn from Fin.ext (by show n / 32 = (n + 1) / 32; omega)]

/-- A head's chosen blocks: the first head of a pair. -/
theorem selA_at (o : ℕ) (hs : S32x1024.Slices ![0, o] S32x128) (hqs : S256x1024.Slices ![0, o] S256x128) (ho : o + 128 ≤ 1024) (hd : Fin 16) (e : o = hd.val * 64)
    (km : FVec Ideal S32x1024 .f32) (q : FVec Ideal S256x1024 .f32) (x : FVec Ideal S2x8192x10240 .bf16) (gq gk : Fin 64 → EReal) (b : Fin 2) (i j : Fin 32) (r : Fin 256)
    (hgq : ∀ e, Fin' (gq e)) (hgk : ∀ e, Fin' (gk e))
    (hq : ∀ k : Fin 1024, q (ix2 r k) = qry x gq b (tokn i r) ⟨k.val / 64, by omega⟩ ⟨k.val % 64, by omega⟩)
    (hk : ∀ j : Fin 32, j < i → ∀ k : Fin 1024, km (ix2 j k) = mean x gk b j ⟨k.val / 64, by omega⟩ ⟨k.val % 64, by omega⟩) :
    selA (F := Ideal) o hs hqs (BitVec.ofNat 32 i.val) km q (ix5 0 0 0 j r) = sel x gq gk b hd i j r := by
  classical
  have eg : (fun k => gateA (F := Ideal) (BitVec.ofNat 32 i.val) (gHi o hs hqs km q) (gLo o hs hqs km q) (ix2 k r)) = gates x gq gk b hd i r := by
    funext k
    rw [gateA_at o hs hqs ho km q i k r (fun h c => by rw [hk k h]; exact mean_real x hgk ..) (fun c => by rw [hq]; exact qry_real x hgq ..)]
    unfold gates
    split_ifs with h
    · refine Finset.sum_congr rfl fun d _ => ?_
      rw [hq, hk k h]
      have e1 : (⟨(o + d.val) / 64, by omega⟩ : Fin 16) = hd := Fin.ext (by show (o + d.val) / 64 = hd.val; omega)
      have e2 : (⟨(o + d.val) % 64, by omega⟩ : Fin 64) = d := Fin.ext (by show (o + d.val) % 64 = d.val; omega)
      simp only [e1, e2]
    · rfl
  have eh : selA (F := Ideal) o hs hqs (BitVec.ofNat 32 i.val) km q (ix5 0 0 0 j r) = chosen (BitVec.ofNat 32 i.val) (gateA (BitVec.ofNat 32 i.val) (gHi o hs hqs km q) (gLo o hs hqs km q)) (ix2 j r) := by
    pointwise [selA, head]
  rw [eh, chosen_at i _ j r (fun h => by rw [congrFun eg j]; exact gates_pos x hgq hgk b hd i r h), eg]
  unfold sel
  exact if_congr Iff.rfl rfl rfl

/-- A head's chosen blocks: the second head of a pair. -/
theorem selB_at (o : ℕ) (hs : S32x1024.Slices ![0, o] S32x128) (hqs : S256x1024.Slices ![0, o] S256x128) (ho : o + 128 ≤ 1024) (hd : Fin 16) (e : o + 64 = hd.val * 64)
    (km : FVec Ideal S32x1024 .f32) (q : FVec Ideal S256x1024 .f32) (x : FVec Ideal S2x8192x10240 .bf16) (gq gk : Fin 64 → EReal) (b : Fin 2) (i j : Fin 32) (r : Fin 256)
    (hgq : ∀ e, Fin' (gq e)) (hgk : ∀ e, Fin' (gk e))
    (hq : ∀ k : Fin 1024, q (ix2 r k) = qry x gq b (tokn i r) ⟨k.val / 64, by omega⟩ ⟨k.val % 64, by omega⟩)
    (hk : ∀ j : Fin 32, j < i → ∀ k : Fin 1024, km (ix2 j k) = mean x gk b j ⟨k.val / 64, by omega⟩ ⟨k.val % 64, by omega⟩) :
    selB (F := Ideal) o hs hqs (BitVec.ofNat 32 i.val) km q (ix5 0 0 0 j r) = sel x gq gk b hd i j r := by
  classical
  have eg : (fun k => gateB (F := Ideal) (BitVec.ofNat 32 i.val) (gHi o hs hqs km q) (gLo o hs hqs km q) (ix2 k r)) = gates x gq gk b hd i r := by
    funext k
    rw [gateB_at o hs hqs ho km q i k r (fun h c => by rw [hk k h]; exact mean_real x hgk ..) (fun c => by rw [hq]; exact qry_real x hgq ..)]
    unfold gates
    split_ifs with h
    · refine Finset.sum_congr rfl fun d _ => ?_
      rw [hq, hk k h]
      have e1 : (⟨(o + (64 + d.val)) / 64, by omega⟩ : Fin 16) = hd := Fin.ext (by show (o + (64 + d.val)) / 64 = hd.val; omega)
      have e2 : (⟨(o + (64 + d.val)) % 64, by omega⟩ : Fin 64) = d := Fin.ext (by show (o + (64 + d.val)) % 64 = d.val; omega)
      simp only [e1, e2]
    · rfl
  have eh : selB (F := Ideal) o hs hqs (BitVec.ofNat 32 i.val) km q (ix5 0 0 0 j r) = chosen (BitVec.ofNat 32 i.val) (gateB (BitVec.ofNat 32 i.val) (gHi o hs hqs km q) (gLo o hs hqs km q)) (ix2 j r) := by
    pointwise [selB, head]
  rw [eh, chosen_at i _ j r (fun h => by rw [congrFun eg j]; exact gates_pos x hgq hgk b hd i r h), eg]
  unfold sel
  exact if_congr Iff.rfl rfl rfl

/-- Every head's chosen blocks. -/
theorem selH_at (km : FVec Ideal S32x1024 .f32) (q : FVec Ideal S256x1024 .f32) (x : FVec Ideal S2x8192x10240 .bf16) (gq gk : Fin 64 → EReal) (b : Fin 2) (i j : Fin 32) (r : Fin 256)
    (hgq : ∀ e, Fin' (gq e)) (hgk : ∀ e, Fin' (gk e))
    (hq : ∀ k : Fin 1024, q (ix2 r k) = qry x gq b (tokn i r) ⟨k.val / 64, by omega⟩ ⟨k.val % 64, by omega⟩)
    (hk : ∀ j : Fin 32, j < i → ∀ k : Fin 1024, km (ix2 j k) = mean x gk b j ⟨k.val / 64, by omega⟩ ⟨k.val % 64, by omega⟩) :
    ∀ hd : Fin 16, selH (F := Ideal) (BitVec.ofNat 32 i.val) km q hd (ix5 0 0 0 j r) = sel x gq gk b hd i j r := by
    intro hd
    fin_cases hd
    exacts [selA_at 0 _ _ (by omega) 0 rfl km q x gq gk b i j r hgq hgk hq hk,
      selB_at 0 _ _ (by omega) 1 rfl km q x gq gk b i j r hgq hgk hq hk,
      selA_at 128 _ _ (by omega) 2 rfl km q x gq gk b i j r hgq hgk hq hk,
      selB_at 128 _ _ (by omega) 3 rfl km q x gq gk b i j r hgq hgk hq hk,
      selA_at 256 _ _ (by omega) 4 rfl km q x gq gk b i j r hgq hgk hq hk,
      selB_at 256 _ _ (by omega) 5 rfl km q x gq gk b i j r hgq hgk hq hk,
      selA_at 384 _ _ (by omega) 6 rfl km q x gq gk b i j r hgq hgk hq hk,
      selB_at 384 _ _ (by omega) 7 rfl km q x gq gk b i j r hgq hgk hq hk,
      selA_at 512 _ _ (by omega) 8 rfl km q x gq gk b i j r hgq hgk hq hk,
      selB_at 512 _ _ (by omega) 9 rfl km q x gq gk b i j r hgq hgk hq hk,
      selA_at 640 _ _ (by omega) 10 rfl km q x gq gk b i j r hgq hgk hq hk,
      selB_at 640 _ _ (by omega) 11 rfl km q x gq gk b i j r hgq hgk hq hk,
      selA_at 768 _ _ (by omega) 12 rfl km q x gq gk b i j r hgq hgk hq hk,
      selB_at 768 _ _ (by omega) 13 rfl km q x gq gk b i j r hgq hgk hq hk,
      selA_at 896 _ _ (by omega) 14 rfl km q x gq gk b i j r hgq hgk hq hk,
      selB_at 896 _ _ (by omega) 15 rfl km q x gq gk b i j r hgq hgk hq hk]

/-! ## What a point leaves -/

theorem left5 (t : Fin cfg0.N) : (outsAt0 m c t.val t.isLt).1 = pack (F := Ideal) (qV (iblk m c 0 t) (iblk m c 3 t)) := by
  by_cases h0 : t.val % 32 = 0
  · rw [outsAt0_A m c t h0]; dsimp only; rw [outA5]
  · rw [outsAt0_B m c t h0]; dsimp only; rw [outB5]

theorem left6 (t : Fin cfg0.N) : (outsAt0 m c t.val t.isLt).2.1 = pack (F := Ideal) (kV (iblk m c 1 t) (iblk m c 4 t)) := by
  by_cases h0 : t.val % 32 = 0
  · rw [outsAt0_A m c t h0]; dsimp only; rw [outA6]
  · rw [outsAt0_B m c t h0]; dsimp only; rw [outB6]

theorem left8 (t : Fin cfg0.N) : (outsAt0 m c t.val t.isLt).2.2.2.1 = k0_pay50 (F := Ideal) (iblk m c 2 t) := by
  by_cases h0 : t.val % 32 = 0
  · rw [outsAt0_A m c t h0]; dsimp only; rw [outA8]
  · rw [outsAt0_B m c t h0]; dsimp only; rw [outB8]

theorem left7 (hgq : ∀ e, Fin' (gQ m c e)) (hgk : ∀ e, Fin' (gK m c e)) (t : Fin cfg0.N) (hd : Fin 16) (j : Fin 32) (r : Fin 256) :
    (outsAt0 m c t.val t.isLt).2.2.1 (ix5 0 hd 0 j r) = sel (X m c) (gQ m c) (gK m c) (bOf t.val t.isLt) hd (iOf t.val) j r := by
  by_cases h0 : t.val % 32 = 0
  · rw [outsAt0_A m c t h0]
    dsimp only
    refine (outA7 (F := Ideal) c _ _ _ _ _ _ _ _ _ _ _ _ _ _ _ _ _ _ _ _ _ _ _ _ _ _ _ (ix5 0 hd 0 j r)).trans ?_
    rw [coord1]
    refine selH_at _ _ (X m c) (gQ m c) (gK m c) (bOf t.val t.isLt) (iOf t.val) j r hgq hgk (fun k => qV_blk m c t r k) (fun j' hj' => ?_) hd
    exact absurd (show j'.val < t.val % 32 from hj') (by omega)
  · rw [outsAt0_B m c t h0]
    dsimp only
    refine (outB7 (F := Ideal) c _ _ _ _ _ _ _ _ _ _ _ _ _ _ _ _ _ _ _ _ _ _ _ _ _ _ _ _ (ix5 0 hd 0 j r)).trans ?_
    rw [coord1]
    refine selH_at _ _ (X m c) (gQ m c) (gK m c) (bOf t.val t.isLt) (iOf t.val) j r hgq hgk (fun k => qV_blk m c t r k) (fun j' hj' k => ?_) hd
    have hj : j'.val < t.val % 32 := hj'
    refine (kept m c (t.val - 1) (Nat.lt_of_le_of_lt (Nat.sub_le _ _) t.isLt) j' (by omega) k).trans ?_
    rw [show bOf (t.val - 1) (Nat.lt_of_le_of_lt (Nat.sub_le _ _) t.isLt) = bOf t.val t.isLt from Fin.ext (by show (t.val - 1) / 32 = t.val / 32; omega)]

/-! ## The arrays after the run -/

/-- The queries. -/
abbrev G5 : FVec Ideal S2x8192x1024 .bf16 := fun y => qry (X m c) (gQ m c) (y 0) (y 1) ⟨(y 2).val / 64, by have : (y 2).val < 1024 := (y 2).isLt; omega⟩ ⟨(y 2).val % 64, by omega⟩
/-- The keys. -/
abbrev G6 : FVec Ideal S2x8192x1024 .bf16 := fun y => key (X m c) (gK m c) (y 0) (y 1) ⟨(y 2).val / 64, by have : (y 2).val < 1024 := (y 2).isLt; omega⟩ ⟨(y 2).val % 64, by omega⟩
/-- The chosen blocks. -/
abbrev G7 : FVec Ideal S2x16x32x32x256 .f32 := fun y => sel (X m c) (gQ m c) (gK m c) (y 0) (y 1) (y 2) (y 3) (y 4)
/-- The values, a head pair's columns as rows. -/
abbrev G8 : FVec Ideal S2x8x32x128x256 .bf16 := fun y => X m c (ix3 (y 0) (tokn (y 2) (y 4)) ⟨2048 + ((y 1).val * 128 + (y 3).val), by have h1 : (y 1).val < 8 := (y 1).isLt; have h3 : (y 3).val < 128 := (y 3).isLt; omega⟩)

/-- The packed result of a block. -/
theorem pack_at (v : FVec Ideal S256x1024 .f32) (u : Fin 1) (r : Fin 256) (k : Fin 1024) : pack (F := Ideal) v (ix3 u r k) = v (ix2 r k) := by
  pointwise [pack]

/-- The values' block. -/
theorem pay50 (v : FVec Ideal S1x256x1024 .bf16) (u w : Fin 1) (p : Fin 8) (l : Fin 128) (r : Fin 256) :
    k0_pay50 (F := Ideal) v (ix5 u p w l r) = v (ix3 0 r ⟨p.val * 128 + l.val, by omega⟩) := by
  pointwise [k0_pay50]

theorem point5 (t : Fin cfg0.N) (u : Fin 1) (r : Fin 256) (k : Fin 1024) :
    pack (F := Ideal) (qV (iblk m c 0 t) (iblk m c 3 t)) (ix3 u r k) = G5 m c (ix3 (bOf t.val t.isLt) (tokn (iOf t.val) r) k) :=
  (pack_at _ u r k).trans (qV_blk m c t r k)

theorem point6 (t : Fin cfg0.N) (u : Fin 1) (r : Fin 256) (k : Fin 1024) :
    pack (F := Ideal) (kV (iblk m c 1 t) (iblk m c 4 t)) (ix3 u r k) = G6 m c (ix3 (bOf t.val t.isLt) (tokn (iOf t.val) r) k) :=
  (pack_at _ u r k).trans (kV_blk m c t r k)

theorem point7 (hgq : ∀ e, Fin' (gQ m c e)) (hgk : ∀ e, Fin' (gK m c e)) (t : Fin cfg0.N) (u w : Fin 1) (hd : Fin 16) (j : Fin 32) (r : Fin 256) :
    (outsAt0 m c t.val t.isLt).2.2.1 (ix5 u hd w j r) = G7 m c (ix5 (bOf t.val t.isLt) hd (iOf t.val) j r) := by
  rw [Subsingleton.elim u 0, Subsingleton.elim w 0]
  exact left7 m c hgq hgk t hd j r

theorem point8 (t : Fin cfg0.N) (u w : Fin 1) (p : Fin 8) (l : Fin 128) (r : Fin 256) :
    k0_pay50 (F := Ideal) (iblk m c 2 t) (ix5 u p w l r) = G8 m c (ix5 (bOf t.val t.isLt) p (iOf t.val) l r) :=
  (pay50 _ u w p l r).trans (blk2 m c t r _)

/-- The queries' array after the run. -/
theorem final5 : (dats m 0 c).arrAt 5 (cfgs 0).N = G5 m c := by
  refine (dats m 0 c).arrAt_eq_of_covers 5 _ (by decide +kernel) fun t hf y => ?_
  blk_simp; rw [after0_5, left5]
  rw [eq_ix3 y]
  refine (point5 m c t (y 0) (y 1) (y 2)).trans (congrArg (G5 m c) ?_)
  blk_ext [idx t, tokn]

/-- The keys' array after the run. -/
theorem final6 : (dats m 0 c).arrAt 6 (cfgs 0).N = G6 m c := by
  refine (dats m 0 c).arrAt_eq_of_covers 6 _ (by decide +kernel) fun t hf y => ?_
  blk_simp; rw [after0_6, left6]
  rw [eq_ix3 y]
  refine (point6 m c t (y 0) (y 1) (y 2)).trans (congrArg (G6 m c) ?_)
  blk_ext [idx t, tokn]

/-- The chosen blocks' array after the run. -/
theorem final7 (hgq : ∀ e, Fin' (gQ m c e)) (hgk : ∀ e, Fin' (gK m c e)) : (dats m 0 c).arrAt 7 (cfgs 0).N = G7 m c := by
  refine (dats m 0 c).arrAt_eq_of_covers 7 _ (by decide +kernel) fun t hf y => ?_
  blk_simp; rw [after0_7]
  rw [eq_ix5 y]
  refine (point7 m c hgq hgk t (y 0) (y 2) (y 1) (y 3) (y 4)).trans (congrArg (G7 m c) ?_)
  blk_ext [idx t, tokn]

/-- The values' array after the run. -/
theorem final8 : (dats m 0 c).arrAt 8 (cfgs 0).N = G8 m c := by
  refine (dats m 0 c).arrAt_eq_of_covers 8 _ (by decide +kernel) fun t hf y => ?_
  blk_simp; rw [after0_8, left8]
  rw [eq_ix5 y]
  refine (point8 m c t (y 0) (y 2) (y 1) (y 3) (y 4)).trans (congrArg (G8 m c) ?_)
  blk_ext [idx t, tokn]

end Cert.PrepIdeal.Whole

end
-- ==== Proof.PrepRef.lean ====
/- What the attention preparation's reference computes, stage by stage, entry by entry. -/
module

public import proofs.«01_k».proof.Proof.PrepMath
public import proofs.«01_k».proof.Proof.Gen.PrepRefIdeal.Run
public import Idealize.ShloMosaic.Lib.WordCmp
public import Idealize.ShloMosaic.Lib.ValueIdxRank6

@[expose] public section

set_option maxRecDepth 16384

noncomputable section

namespace Cert.PrepRefIdeal.Stages

open Idealize.ShloMosaic Idealize.ShloMosaic.TcCoe Idealize.SL.Sem Cert.PrepRefIdeal Cert.PrepRefIdeal.Gen Cert.PrepMath Cert.PrepSel

/-- Rows split into heads, each head's normalised with the gain. -/
def nrmV (x : FVec Ideal S2x8192x1024 .bf16) (g : FVec Ideal S64 .f32) : FVec Ideal S2x8192x16x64 .f32 :=
  mulf (mulf (shapeCast S2x8192x16x64 (extf .f32 x bitsLt_bf16_f32) shapeCasts_S2x8192x1024_S2x8192x16x64) (broadcastInDim S2x8192x16x64 ![0, 1, 2, 3] bcast_S2x8192x16x1_S2x8192x16x64_0_1_2_3 (Host.rsqrt (addf (Host.divf (broadcastInDim S2x8192x16x1 ![0, 1, 2] bcast_S2x8192x16_S2x8192x16x1_0_1_2
      (Host.reduceAdd (mulf (shapeCast S2x8192x16x64 (extf .f32 x bitsLt_bf16_f32) shapeCasts_S2x8192x1024_S2x8192x16x64) (shapeCast S2x8192x16x64 (extf .f32 x bitsLt_bf16_f32) shapeCasts_S2x8192x1024_S2x8192x16x64)) (constant S_ .f32 0x00000000#32) reducesTo_S2x8192x16x64_S2x8192x16_d3 h_S_))
      (broadcastInDim S2x8192x16x1 ![] bcast_S_S2x8192x16x1 (constant S_ .f32 0x42800000#32))) (broadcastInDim S2x8192x16x1 ![] bcast_S_S2x8192x16x1 (constant S_ .f32 0x358637BD#32))))))
    (broadcastInDim S2x8192x16x64 ![0, 1, 2, 3] bcast_S1x1x1x64_S2x8192x16x64_0_1_2_3 (broadcastInDim S1x1x1x64 ![3] bcast_S64_S1x1x1x64_3 g))

/-- The queries. -/
def qryV (X : FVec Ideal S2x8192x10240 .bf16) (g : FVec Ideal S64 .f32) : FVec Ideal S2x8192x16x64 .f32 :=
  mulf (nrmV (extractStridedSlice S2x8192x1024 ![0, 0, 0] X slices_S2x8192x10240_S2x8192x1024_0_0_0) g) (broadcastInDim S2x8192x16x64 ![] bcast_S_S2x8192x16x64 (constant S_ .f32 0x3E38AA3B#32))

/-- The keys. -/
def keyV (X : FVec Ideal S2x8192x10240 .bf16) (g : FVec Ideal S64 .f32) : FVec Ideal S2x8192x16x64 .f32 :=
  nrmV (extractStridedSlice S2x8192x1024 ![0, 0, 1024] X slices_S2x8192x10240_S2x8192x1024_0_0_1024) g

/-- The means of the blocks' keys. -/
def meansV (k : FVec Ideal S2x8192x16x64 .f32) : FVec Ideal S2x32x16x64 .f32 :=
  Host.divf (Host.reduceAdd (shapeCast S2x32x256x16x64 k shapeCasts_S2x8192x16x64_S2x32x256x16x64) (constant S_ .f32 0x00000000#32) reducesTo_S2x32x256x16x64_S2x32x16x64_d2 h_S_)
    (broadcastInDim S2x32x16x64 ![] bcast_S_S2x32x16x64 (constant S_ .f32 0x43800000#32))

/-- Which block lies before which. -/
def pastV : IVec S32x32 1 :=
  cmpi .slt (broadcastInDim S32x32 ![0, 1] bcast_S1x32_S32x32_0_1 (broadcastInDim S1x32 ![1] bcast_S32_S1x32_1 (iotaInDim S32 32 0)))
    (broadcastInDim S32x32 ![0, 1] bcast_S32x1_S32x32_0_1 (broadcastInDim S32x1 ![0] bcast_S32_S32x1_0 (iotaInDim S32 32 0)))

/-- The same over all gates. -/
def past5 : IVec S2x16x32x32x256 1 :=
  broadcastInDim S2x16x32x32x256 ![0, 1, 2, 3, 4] bcast_S1x1x32x32x1_S2x16x32x32x256_0_1_2_3_4 (broadcastInDim S1x1x32x32x1 ![2, 3] bcast_S32x32_S1x1x32x32x1_2_3 pastV)

/-- The gates, the blocks not before the query's at minus infinity. -/
def gateV (q : FVec Ideal S2x8192x16x64 .f32) (km : FVec Ideal S2x32x16x64 .f32) : FVec Ideal S2x16x32x32x256 .f32 :=
  select past5 (transpose S2x16x32x32x256 [0, 1, 2, 4, 3] (Host.dotGeneral dot_S2x32x256x16x64_S2x32x16x64_S2x16x32x256x32_4_3_12_1_03_02 none (shapeCast S2x32x256x16x64 q shapeCasts_S2x8192x16x64_S2x32x256x16x64) km) transposes_S2x16x32x256x32_S2x16x32x32x256_0_1_2_4_3)
    (broadcastInDim S2x16x32x32x256 ![] bcast_S_S2x16x32x32x256 (id (constant S_ .f32 0xFF800000#32)))

/-- The gates repeated along the blocks asked about. -/
def over4 (g : FVec Ideal S2x16x32x32x256 .f32) : FVec Ideal S2x16x32x32x32x256 .f32 :=
  broadcastInDim S2x16x32x32x32x256 ![0, 1, 2, 3, 4, 5] bcast_S2x16x32x1x32x256_S2x16x32x32x32x256_0_1_2_3_4_5 (broadcastInDim S2x16x32x1x32x256 ![0, 1, 2, 4, 5] bcast_S2x16x32x32x256_S2x16x32x1x32x256_0_1_2_4_5 g)
/-- The gates repeated along the blocks compared with. -/
def over5 (g : FVec Ideal S2x16x32x32x256 .f32) : FVec Ideal S2x16x32x32x32x256 .f32 :=
  broadcastInDim S2x16x32x32x32x256 ![0, 1, 2, 3, 4, 5] bcast_S2x16x32x32x1x256_S2x16x32x32x32x256_0_1_2_3_4_5 (broadcastInDim S2x16x32x32x1x256 ![0, 1, 2, 3, 5] bcast_S2x16x32x32x256_S2x16x32x32x1x256_0_1_2_3_5 g)

/-- Which gate goes before which. -/
def beforeV (g : FVec Ideal S2x16x32x32x256 .f32) : IVec S2x16x32x32x32x256 1 :=
  ori (cmpf .ogt (over4 g) (over5 g)) (andi (cmpf .oeq (over4 g) (over5 g))
    (broadcastInDim S2x16x32x32x32x256 ![0, 1, 2, 3, 4, 5] bcast_S1x1x1x32x32x1_S2x16x32x32x32x256_0_1_2_3_4_5 (broadcastInDim S1x1x1x32x32x1 ![3, 4] bcast_S32x32_S1x1x1x32x32x1_3_4 pastV)))

/-- How many go before. -/
def rankV (g : FVec Ideal S2x16x32x32x256 .f32) : FVec Ideal S2x16x32x32x256 .f32 :=
  Host.reduceAdd (uitofp .f32 (beforeV g)) (constant S_ .f32 0x00000000#32) reducesTo_S2x16x32x32x32x256_S2x16x32x32x256_d4 h_S_

/-- The chosen blocks. -/
def selV (g : FVec Ideal S2x16x32x32x256 .f32) : FVec Ideal S2x16x32x32x256 .f32 :=
  uitofp .f32 (andi past5 (cmpf .olt (rankV g) (broadcastInDim S2x16x32x32x256 ![] bcast_S_S2x16x32x32x256 (constant S_ .f32 0x40400000#32))))

theorem nrmV_at (x : FVec Ideal S2x8192x1024 .bf16) (g : FVec Ideal S64 .f32) (b : Fin 2) (t : Fin 8192) (h : Fin 16) (d : Fin 64) :
    nrmV x g (ix4 b t h d) = hn (fun e => x (ix3 b t ⟨h.val * 64 + e.val, by omega⟩)) (fun e => g (ix1 e)) d := by
  pointwise [nrmV]
  rfl

theorem row_cut (X : FVec Ideal S2x8192x10240 .bf16) (o : ℕ) (ho : o + 1024 ≤ 10240) (hs : S2x8192x10240.Slices ![0, 0, o] S2x8192x1024) (b : Fin 2) (t : Fin 8192) (h : Fin 16) (e : Fin 64) :
    (extractStridedSlice S2x8192x1024 ![0, 0, o] X hs) (ix3 b t ⟨h.val * 64 + e.val, by omega⟩) = row X o ho b t h e := by
  refine congrArg X ?_
  funext a
  match a with
  | ⟨0, _⟩ => exact Fin.ext (Nat.zero_add _)
  | ⟨1, _⟩ => exact Fin.ext (Nat.zero_add _)
  | ⟨2, _⟩ => rfl

theorem qryV_at (X : FVec Ideal S2x8192x10240 .bf16) (g : FVec Ideal S64 .f32) (b : Fin 2) (t : Fin 8192) (h : Fin 16) (d : Fin 64) :
    qryV X g (ix4 b t h d) = qry X (fun e => g (ix1 e)) b t h d := by
  refine congrArg₂ (· * ·) (nrmV_at _ g b t h d) rfl |>.trans ?_
  unfold qry
  rw [show (fun e => extractStridedSlice S2x8192x1024 ![0, 0, 0] X slices_S2x8192x10240_S2x8192x1024_0_0_0 (ix3 b t ⟨h.val * 64 + e.val, by omega⟩)) = row X 0 (by omega) b t h from funext fun e => row_cut X 0 (by omega) _ b t h e]
  rfl

theorem keyV_at (X : FVec Ideal S2x8192x10240 .bf16) (g : FVec Ideal S64 .f32) (b : Fin 2) (t : Fin 8192) (h : Fin 16) (d : Fin 64) :
    keyV X g (ix4 b t h d) = key X (fun e => g (ix1 e)) b t h d := by
  refine (nrmV_at _ g b t h d).trans ?_
  unfold key
  rw [show (fun e => extractStridedSlice S2x8192x1024 ![0, 0, 1024] X slices_S2x8192x10240_S2x8192x1024_0_0_1024 (ix3 b t ⟨h.val * 64 + e.val, by omega⟩)) = row X 1024 (by omega) b t h from funext fun e => row_cut X 1024 (by omega) _ b t h e]

theorem meansV_at (k : FVec Ideal S2x8192x16x64 .f32) (b : Fin 2) (j : Fin 32) (h : Fin 16) (d : Fin 64) :
    meansV k (ix4 b j h d) = Ideal.div (∑ r : Fin 256, k (ix4 b (tokn j r) h d)) (Ideal.ofBits .f32 0x43800000#32) := by
  pointwise [meansV]
  rfl

/-- One block's index below another's, as a choice. -/
theorem sel_lt {α : Type} (i j : Fin 32) (x y : α) : Scalar.select (IntOp.cmpi .slt (BitVec.ofNat 32 j.val) (BitVec.ofNat 32 i.val)) x y = if j < i then x else y := by
  have h : IntOp.cmpi .slt (BitVec.ofNat 32 j.val) (BitVec.ofNat 32 i.val) = BitVec.ofBool (decide (j.val < i.val)) := by
    have := i.isLt
    have := j.isLt
    word_cmp
  rw [h]; by_cases hab : j < i
  · rw [if_pos hab, decide_eq_true (show j.val < i.val from hab)]; rfl
  · rw [if_neg hab, decide_eq_false (show ¬j.val < i.val from hab)]; rfl

theorem cmp_lt (i j : Fin 32) : IntOp.cmpi .slt (BitVec.ofNat 32 j.val) (BitVec.ofNat 32 i.val) = BitVec.ofBool (decide (j < i)) := by
  have h : IntOp.cmpi .slt (BitVec.ofNat 32 j.val) (BitVec.ofNat 32 i.val) = BitVec.ofBool (decide (j.val < i.val)) := by
    have := i.isLt
    have := j.isLt
    word_cmp
  exact h

theorem negInf : Ideal.ofBits .f32 0xFF800000#32 = (⊥ : EReal) := by simp [Ideal.ofBits, Ideal.ieee]

theorem gateV_at (q : FVec Ideal S2x8192x16x64 .f32) (km : FVec Ideal S2x32x16x64 .f32) (b : Fin 2) (h : Fin 16) (i j : Fin 32) (r : Fin 256) :
    gateV q km (ix5 b h i j r) = if j < i then ∑ d, q (ix4 b (tokn i r) h d) * km (ix4 b j h d) else ⊥ := by
  pointwise [gateV, past5, pastV]
  rw [sel_lt]
  exact if_congr Iff.rfl rfl negInf

theorem over4_at (g : FVec Ideal S2x16x32x32x256 .f32) (b : Fin 2) (h : Fin 16) (i j a : Fin 32) (r : Fin 256) :
    over4 g (ValueIdx.ix6 b h i j a r) = g (ix5 b h i a r) := by
  refine congrArg g ?_
  funext x
  match x with | ⟨0, _⟩ => rfl | ⟨1, _⟩ => rfl | ⟨2, _⟩ => rfl | ⟨3, _⟩ => rfl | ⟨4, _⟩ => rfl

theorem over5_at (g : FVec Ideal S2x16x32x32x256 .f32) (b : Fin 2) (h : Fin 16) (i j a : Fin 32) (r : Fin 256) :
    over5 g (ValueIdx.ix6 b h i j a r) = g (ix5 b h i j r) := by
  refine congrArg g ?_
  funext x
  match x with | ⟨0, _⟩ => rfl | ⟨1, _⟩ => rfl | ⟨2, _⟩ => rfl | ⟨3, _⟩ => rfl | ⟨4, _⟩ => rfl

theorem past_at (j a : Fin 32) : pastV (ix2 j a) = BitVec.ofBool (decide (a < j)) := by
  pointwise [pastV]
  exact cmp_lt j a

theorem uitofp_bool (p : Prop) [Decidable p] : (FloatOps.uitofp .f32 (BitVec.ofBool (decide p)) : Ideal .f32) = if p then (1 : EReal) else 0 := by
  show ((((BitVec.ofBool (decide p)).toNat : ℝ)) : EReal) = _
  by_cases h : p <;> simp [h]

theorem bool_and (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]
theorem bool_or (p q : Prop) [Decidable p] [Decidable q] : IntOp.ori (BitVec.ofBool (decide p)) (BitVec.ofBool (decide q)) = BitVec.ofBool (decide (p ∨ q)) := by
  by_cases hp : p <;> by_cases hq : q <;> simp [hp, hq, IntOp.ori]

theorem before_at (g : FVec Ideal S2x16x32x32x256 .f32) (b : Fin 2) (h : Fin 16) (i j a : Fin 32) (r : Fin 256) [Decidable (Before (fun k => g (ix5 b h i k r)) a j)] :
    beforeV g (ValueIdx.ix6 b h i j a r) = BitVec.ofBool (decide (Before (fun k => g (ix5 b h i k r)) a j)) := by
  classical
  have e : beforeV g (ValueIdx.ix6 b h i j a r) = IntOp.ori (BitVec.ofBool (decide (over5 g (ValueIdx.ix6 b h i j a r) < over4 g (ValueIdx.ix6 b h i j a r))))
      (IntOp.andi (BitVec.ofBool (decide (over4 g (ValueIdx.ix6 b h i j a r) = over5 g (ValueIdx.ix6 b h i j a r)))) (pastV (ix2 j a))) := by
    refine congrArg₂ IntOp.ori ?_ (congrArg₂ IntOp.andi ?_ ?_)
    · rfl
    · rfl
    · refine congrArg pastV ?_
      funext x
      match x with | ⟨0, _⟩ => rfl | ⟨1, _⟩ => rfl
  rw [e, over4_at, over5_at, past_at, bool_and, bool_or]
  refine congrArg BitVec.ofBool (decide_eq_decide.mpr ?_)
  rfl

theorem rankV_at (g : FVec Ideal S2x16x32x32x256 .f32) (b : Fin 2) (h : Fin 16) (i j : Fin 32) (r : Fin 256) :
    rankV g (ix5 b h i j r) = ((rank (fun k => g (ix5 b h i k r)) j : ℝ) : EReal) := by
  classical
  have hr : S2x16x32x32x32x256.Reduces [4] S2x16x32x32x256 := by decide
  refine (Ideal.hostReduceAdd_single reducesTo_S2x16x32x32x32x256_S2x16x32x32x256_d4 hr _ _ _).trans ?_
  rw [show (constant (F := Ideal) S_ .f32 0x00000000#32) (Shape.Idx.first h_S_) = 0 from Ideal.ofBits_zero_f32, zero_add]
  have e : ∀ a : Fin 32, (uitofp .f32 (beforeV g) : FVec Ideal S2x16x32x32x32x256 .f32) (hr.lift (ix5 b h i j r) a) = if Before (fun k => g (ix5 b h i k r)) a j then (1 : EReal) else 0 := by
    intro a
    have el : hr.lift (ix5 b h i j r) a = ValueIdx.ix6 b h i j a r := by
      funext x
      match x with | ⟨0, _⟩ => rfl | ⟨1, _⟩ => rfl | ⟨2, _⟩ => rfl | ⟨3, _⟩ => rfl | ⟨4, _⟩ => rfl | ⟨5, _⟩ => rfl
    rw [el]
    show (FloatOps.uitofp .f32 (beforeV g (ValueIdx.ix6 b h i j a r)) : Ideal .f32) = _
    rw [before_at, uitofp_bool]
  exact rank_sum _ _ _ (fun a ha => (e a).trans (if_pos ha)) (fun a ha => (e a).trans (if_neg ha))

theorem selV_at (g : FVec Ideal S2x16x32x32x256 .f32) (b : Fin 2) (h : Fin 16) (i j : Fin 32) (r : Fin 256) [Decidable (j < i ∧ rank (fun k => g (ix5 b h i k r)) j < 3)] :
    selV g (ix5 b h i j r) = if j < i ∧ rank (fun k => g (ix5 b h i k r)) j < 3 then (1 : EReal) else 0 := by
  classical
  have e : selV g (ix5 b h i j r) = FloatOps.uitofp .f32 (IntOp.andi (past5 (ix5 b h i j r)) (BitVec.ofBool (decide (rankV g (ix5 b h i j r) < Ideal.ofBits .f32 0x40400000#32)))) := rfl
  have ep : past5 (ix5 b h i j r) = pastV (ix2 i j) := by
    refine congrArg pastV ?_
    funext x
    match x with | ⟨0, _⟩ => rfl | ⟨1, _⟩ => rfl
  have e3 : (((rank (fun k => g (ix5 b h i k r)) j : ℝ) : EReal) < Ideal.ofBits .f32 0x40400000#32) ↔ rank (fun k => g (ix5 b h i k r)) j < 3 := by
    rw [show Ideal.ofBits .f32 0x40400000#32 = ((3 : ℝ) : EReal) from by simp [Ideal.ofBits, Ideal.ieee, -EReal.coe_mul]; norm_num, EReal.coe_lt_coe_iff]
    exact_mod_cast Iff.rfl
  rw [e, ep, past_at, rankV_at, bool_and, uitofp_bool]
  exact if_congr (and_congr_right fun _ => e3) rfl rfl

variable (m : (ℓ : Loc nD τ sig) → Buf (Elt Ideal) ℓ)

/-- The reference's chosen blocks are its stages. -/
theorem res_eq (c : Dev nD) : Value.res_main_v74 m c
    = selV (gateV (qryV (m ((c.tc : Thread nD τ).loc main_arg0)) (m ((c.tc : Thread nD τ).loc main_arg1))) (meansV (keyV (m ((c.tc : Thread nD τ).loc main_arg0)) (m ((c.tc : Thread nD τ).loc main_arg2))))) := by
  rfl

/-- The reference's chosen blocks, entry by entry. -/
theorem sel_at (c : Dev nD) (b : Fin 2) (h : Fin 16) (i j : Fin 32) (r : Fin 256) :
    Value.res_main_v74 m c (ix5 b h i j r)
      = sel (m ((c.tc : Thread nD τ).loc main_arg0)) (fun e => m ((c.tc : Thread nD τ).loc main_arg1) (ix1 e)) (fun e => m ((c.tc : Thread nD τ).loc main_arg2) (ix1 e)) b h i j r := by
  classical
  rw [res_eq, selV_at]
  have eg : (fun k => gateV (qryV (m ((c.tc : Thread nD τ).loc main_arg0)) (m ((c.tc : Thread nD τ).loc main_arg1))) (meansV (keyV (m ((c.tc : Thread nD τ).loc main_arg0)) (m ((c.tc : Thread nD τ).loc main_arg2)))) (ix5 b h i k r))
      = gates (m ((c.tc : Thread nD τ).loc main_arg0)) (fun e => m ((c.tc : Thread nD τ).loc main_arg1) (ix1 e)) (fun e => m ((c.tc : Thread nD τ).loc main_arg2) (ix1 e)) b h i r := by
    funext k
    rw [gateV_at]
    unfold gates mean
    simp only [qryV_at, meansV_at, keyV_at]
  rw [eg]
  unfold sel
  exact if_congr Iff.rfl rfl rfl

end Cert.PrepRefIdeal.Stages

end
-- ==== Proof.PrepClaims.lean ====
/- The claims about the attention's preparation. -/
module

public import proofs.«01_k».proof.Defs
public import proofs.«01_k».proof.Proof.Gen.Prep.Frame
public import proofs.«01_k».proof.Proof.Gen.PrepIdeal.Frame
public import proofs.«01_k».proof.Proof.Gen.PrepRefIdeal.Run
public import proofs.«01_k».proof.Proof.PrepValue
public import proofs.«01_k».proof.Proof.PrepRef
public import proofs.«01_k».proof.Proof.SsdPre
public import proofs.«01_k».proof.Proof.Gen.Pre_gains
public import Idealize.ShloMosaic.Lib.Quiescent

@[expose] public section

noncomputable section

open Idealize.ShloMosaic Idealize.ShloMosaic.TcCoe Idealize.SL.Sem

namespace Cert.PrepPre

open Cert.Pre_gains Cert.Scan

/-- The arrays of no axes have one index. -/
instance : Subsingleton S_.Idx := ⟨fun a b => funext fun i => i.elim0⟩

/-- The precondition makes both gains real. -/
theorem real [Facts] {x0 : FVec Ideal S2x8192x10240 .bf16} {x1 x2 : FVec Ideal S64 .f32} (h : fn (F := Ideal) x0 x1 x2 = fun _ => 1#1) :
    (∀ i, Fin' (x1 i)) ∧ (∀ i, Fin' (x2 i)) := by
  have e := congrFun h ix0
  unfold fn at e
  obtain ⟨e0, e1⟩ := Cert.SsdPre.andi_one e
  exact ⟨fun i => Cert.SsdPre.real_of_cmp x1 _ i (Host.reduce_andi_all _ _ _ _ _ e0 i),
    fun i => Cert.SsdPre.real_of_cmp x2 _ i (Host.reduce_andi_all _ _ _ _ _ e1 i)⟩

end Cert.PrepPre

namespace Cert.PrepRefIdeal.Stages

open Cert.PrepRefIdeal Cert.PrepRefIdeal.Gen Cert.PrepMath

/-- The reference's queries laid out flat. -/
theorem flatQ (x : FVec Ideal S2x8192x10240 .bf16) (g : FVec Ideal S64 .f32) (b : Fin 2) (t : Fin 8192) (k : Fin 1024) :
    (truncf .bf16 (shapeCast S2x8192x1024 (qryV x g) shapeCasts_S2x8192x16x64_S2x8192x1024) bitsLt_bf16_f32 : FVec Ideal S2x8192x1024 .bf16) (ix3 b t k)
      = qry x (fun e => g (ix1 e)) b t ⟨k.val / 64, by omega⟩ ⟨k.val % 64, by omega⟩ := by
  refine Eq.trans ?_ (qryV_at x g b t _ _)
  pointwise []

/-- The reference's keys laid out flat. -/
theorem flatK (x : FVec Ideal S2x8192x10240 .bf16) (g : FVec Ideal S64 .f32) (b : Fin 2) (t : Fin 8192) (k : Fin 1024) :
    (truncf .bf16 (shapeCast S2x8192x1024 (keyV x g) shapeCasts_S2x8192x16x64_S2x8192x1024) bitsLt_bf16_f32 : FVec Ideal S2x8192x1024 .bf16) (ix3 b t k)
      = key x (fun e => g (ix1 e)) b t ⟨k.val / 64, by omega⟩ ⟨k.val % 64, by omega⟩ := by
  refine Eq.trans ?_ (keyV_at x g b t _ _)
  pointwise []

/-- The reference's values. -/
theorem flatV (x : FVec Ideal S2x8192x10240 .bf16) (b : Fin 2) (p : Fin 8) (i : Fin 32) (l : Fin 128) (r : Fin 256) :
    (transpose S2x8x32x128x256 [0, 3, 1, 4, 2] (shapeCast S2x32x256x8x128 (extractStridedSlice S2x8192x1024 ![0, 0, 2048] x slices_S2x8192x10240_S2x8192x1024_0_0_2048) shapeCasts_S2x8192x1024_S2x32x256x8x128) transposes_S2x32x256x8x128_S2x8x32x128x256_0_3_1_4_2 : FVec Ideal S2x8x32x128x256 .bf16) (ix5 b p i l r)
      = x (ix3 b (tokn i r) ⟨2048 + (p.val * 128 + l.val), by omega⟩) := by
  pointwise [tokn]

end Cert.PrepRefIdeal.Stages

namespace Cert.Proof.PrepClaims

/-- The call runs, ends and leaves its arguments alone. -/
theorem frame_p : Cert.quiescent_Prep := fun m ρ _ => Cert.Prep.Gen.frame m ρ
/-- The same of the call over the extended reals. -/
theorem frame_pi : Cert.quiescent_PrepIdeal := fun m ρ _ => Cert.PrepIdeal.Gen.frame m ρ
/-- The same of the reference. -/
theorem frame_ri : Cert.quiescent_PrepRefIdeal := fun m ρ _ =>
  (θ_run Cert.PrepRefIdeal.defs _ _).mono (fun r h => ⟨fun c => (h c).2.2.2.2,
      Idealize.ShloMosaic.sem_eq_zero_of_no_sems (by decide) r.2⟩)
    (Cert.PrepRefIdeal.Value.run (F := Ideal) m ρ)
/-- The call's frame where the gains are finite. -/
theorem frame_pi_pre : Cert.quiescent_PrepIdeal_pre_gains := fun m ρ _ => Cert.PrepIdeal.Gen.frame m ρ
/-- The reference's frame where the gains are finite. -/
theorem frame_ri_pre : Cert.quiescent_PrepRefIdeal_pre_gains := fun m ρ _ => frame_ri m ρ trivial

open Cert.PrepRefIdeal.Stages Cert.PrepIdeal.Whole in
/-- Call and reference end with the same four arrays wherever the two gains are finite: the normalised queries and keys, every
row's chosen blocks of every head, and the values. -/
theorem algebraic : Cert.algebraic_PrepIdeal_PrepRefIdeal_pre_gains := by
  intro m ρ m' ρ' hpre hagree
  have hr := fun c => Cert.PrepPre.real (hpre c)
  refine ⟨_, _, _, _, Cert.PrepIdeal.Value.run_blocks (F := Ideal) m ρ, ?_⟩
  refine (θ_run Cert.PrepRefIdeal.defs _ _).mono (fun _ h c => ⟨(h c).1.trans ?_, (h c).2.1.trans ?_, (h c).2.2.1.trans ?_, (h c).2.2.2.1.trans ?_, (h c).2.2.2.2⟩)
    (Cert.PrepRefIdeal.Value.run (F := Ideal) m' ρ')
  · obtain ⟨h0, h1, h2⟩ := hagree c
    refine Eq.trans ?_ (final5 m c).symm
    rw [h0, h1]
    funext y
    rw [eq_ix3 y]
    exact flatQ _ _ (y 0) (y 1) (y 2)
  · obtain ⟨h0, h1, h2⟩ := hagree c
    refine Eq.trans ?_ (final6 m c).symm
    rw [h0, h2]
    funext y
    rw [eq_ix3 y]
    exact flatK _ _ (y 0) (y 1) (y 2)
  · obtain ⟨h0, h1, h2⟩ := hagree c
    refine Eq.trans ?_ (final7 m c (fun e => (hr c).1 (ix1 e)) (fun e => (hr c).2 (ix1 e))).symm
    funext y
    rw [eq_ix5 y]
    refine (sel_at m' c (y 0) (y 1) (y 2) (y 3) (y 4)).trans ?_
    rw [h0, h1, h2]
    rfl
  · obtain ⟨h0, h1, h2⟩ := hagree c
    refine Eq.trans ?_ (final8 m c).symm
    rw [h0]
    funext y
    rw [eq_ix5 y]
    exact flatV _ (y 0) (y 1) (y 2) (y 3) (y 4)

end Cert.Proof.PrepClaims

end
-- ==== Proof.lean ====
module

public import proofs.«01_k».proof.Defs
public import proofs.«01_k».proof.Proof.Gen.Ssd
public import proofs.«01_k».proof.Proof.Gen.SsdIdeal
public import proofs.«01_k».proof.Proof.Gen.SsdRefIdeal
public import proofs.«01_k».proof.Proof.Gen.Pre_finite
public import proofs.«01_k».proof.Proof.Gen.SsdIdeal.Value
public import proofs.«01_k».proof.Proof.Gen.SsdRefIdeal.Run
public import proofs.«01_k».proof.Proof.Gen.InProjRefIdeal.Run
public import proofs.«01_k».proof.Proof.Gen.TailIdeal.Value
public import proofs.«01_k».proof.Proof.Gen.TailRefIdeal.Run
public import proofs.«01_k».proof.Proof.Gen.Prep
public import proofs.«01_k».proof.Proof.Gen.PrepIdeal
public import proofs.«01_k».proof.Proof.Gen.PrepRefIdeal
public import proofs.«01_k».proof.Proof.Gen.Prep.Frame
public import proofs.«01_k».proof.Proof.Gen.PrepIdeal.Value
public import proofs.«01_k».proof.Proof.Gen.PrepRefIdeal.Run
public import proofs.«01_k».proof.Proof.Gen.Pre_gains
public import proofs.«01_k».proof.Proof.SsdClaims
public import proofs.«01_k».proof.Proof.InProjClaims
public import proofs.«01_k».proof.Proof.TailClaims
public import proofs.«01_k».proof.Proof.PrepClaims

@[expose] public section

noncomputable section

namespace Cert.Proof

open Idealize.ShloMosaic Idealize.SL.Sem

/-- Everything the certificate claims. -/
theorem claim : Cert.Claim :=
  ⟨Cert.Ssd.Gen.facts, Cert.SsdIdeal.Gen.facts, Cert.SsdRefIdeal.Gen.facts,
    Cert.InProj.Gen.facts, Cert.InProjIdeal.Gen.facts, Cert.InProjRefIdeal.Gen.facts,
    Cert.Tail.Gen.facts, Cert.TailIdeal.Gen.facts, Cert.TailRefIdeal.Gen.facts,
    Cert.Prep.Gen.facts, Cert.PrepIdeal.Gen.facts, Cert.PrepRefIdeal.Gen.facts, Cert.Pre_finite.Gen.facts, Cert.Pre_gains.Gen.facts,
    SsdClaims.frame_p, SsdClaims.frame_pi, SsdClaims.frame_pi_pre, SsdClaims.frame_ri, SsdClaims.frame_ri_pre,
    InProjClaims.frame_p, InProjClaims.frame_pi, InProjClaims.frame_ri,
    TailClaims.frame_p, TailClaims.frame_pi, TailClaims.frame_ri,
    PrepClaims.frame_p, PrepClaims.frame_pi, PrepClaims.frame_pi_pre, PrepClaims.frame_ri, PrepClaims.frame_ri_pre,
    SsdClaims.preserves, SsdClaims.algebraic, trivial, InProjClaims.algebraic, trivial, TailClaims.algebraic,
    trivial, PrepClaims.algebraic⟩

end Cert.Proof

end
